-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_KernelInA (m : (ℓ : Loc Cert.KernelInA.nD Cert.KernelInA.τ Cert.KernelInA.sig) → Buf (Elt Bits) ℓ) : Prop :=
  True

def Pre_KernelInAIdeal (m : (ℓ : Loc Cert.KernelInAIdeal.nD Cert.KernelInAIdeal.τ Cert.KernelInAIdeal.sig) → Buf (Elt Ideal) ℓ) : Prop :=
  True

def Pre_ReferenceInAIdeal (m : (ℓ : Loc Cert.ReferenceInAIdeal.nD Cert.ReferenceInAIdeal.τ Cert.ReferenceInAIdeal.sig) → Buf (Elt Ideal) ℓ) : Prop :=
  True

def Pre_KernelInZ (m : (ℓ : Loc Cert.KernelInZ.nD Cert.KernelInZ.τ Cert.KernelInZ.sig) → Buf (Elt Bits) ℓ) : Prop :=
  True

def Pre_KernelInZIdeal (m : (ℓ : Loc Cert.KernelInZIdeal.nD Cert.KernelInZIdeal.τ Cert.KernelInZIdeal.sig) → Buf (Elt Ideal) ℓ) : Prop :=
  True

def Pre_ReferenceInZIdeal (m : (ℓ : Loc Cert.ReferenceInZIdeal.nD Cert.ReferenceInZIdeal.τ Cert.ReferenceInZIdeal.sig) → Buf (Elt Ideal) ℓ) : Prop :=
  True

def Pre_KernelInG (m : (ℓ : Loc Cert.KernelInG.nD Cert.KernelInG.τ Cert.KernelInG.sig) → Buf (Elt Bits) ℓ) : Prop :=
  True

def Pre_KernelInGIdeal (m : (ℓ : Loc Cert.KernelInGIdeal.nD Cert.KernelInGIdeal.τ Cert.KernelInGIdeal.sig) → Buf (Elt Ideal) ℓ) : Prop :=
  True

def Pre_ReferenceInGIdeal (m : (ℓ : Loc Cert.ReferenceInGIdeal.nD Cert.ReferenceInGIdeal.τ Cert.ReferenceInGIdeal.sig) → Buf (Elt Ideal) ℓ) : Prop :=
  True

def Pre_KernelSsdO (m : (ℓ : Loc Cert.KernelSsdO.nD Cert.KernelSsdO.τ Cert.KernelSsdO.sig) → Buf (Elt Bits) ℓ) : Prop :=
  True

def Pre_KernelSsdOIdeal (m : (ℓ : Loc Cert.KernelSsdOIdeal.nD Cert.KernelSsdOIdeal.τ Cert.KernelSsdOIdeal.sig) → Buf (Elt Ideal) ℓ) : Prop :=
  True

def Pre_ReferenceSsdOIdeal (m : (ℓ : Loc Cert.ReferenceSsdOIdeal.nD Cert.ReferenceSsdOIdeal.τ Cert.ReferenceSsdOIdeal.sig) → Buf (Elt Ideal) ℓ) : Prop :=
  True

def Pre_KernelMlaO (m : (ℓ : Loc Cert.KernelMlaO.nD Cert.KernelMlaO.τ Cert.KernelMlaO.sig) → Buf (Elt Bits) ℓ) : Prop :=
  True

def Pre_KernelMlaOIdeal (m : (ℓ : Loc Cert.KernelMlaOIdeal.nD Cert.KernelMlaOIdeal.τ Cert.KernelMlaOIdeal.sig) → Buf (Elt Ideal) ℓ) : Prop :=
  True

def Pre_ReferenceMlaOIdeal (m : (ℓ : Loc Cert.ReferenceMlaOIdeal.nD Cert.ReferenceMlaOIdeal.τ Cert.ReferenceMlaOIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGelu (m : (ℓ : Loc Cert.KernelGelu.nD Cert.KernelGelu.τ Cert.KernelGelu.sig) → Buf (Elt Bits) ℓ) : Prop :=
  True

def Pre_KernelGeluIdeal (m : (ℓ : Loc Cert.KernelGeluIdeal.nD Cert.KernelGeluIdeal.τ Cert.KernelGeluIdeal.sig) → Buf (Elt Ideal) ℓ) : Prop :=
  True

def Pre_ReferenceGeluIdeal (m : (ℓ : Loc Cert.ReferenceGeluIdeal.nD Cert.ReferenceGeluIdeal.τ Cert.ReferenceGeluIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelKcat (m : (ℓ : Loc Cert.KernelKcat.nD Cert.KernelKcat.τ Cert.KernelKcat.sig) → Buf (Elt Bits) ℓ) : Prop :=
  True

def Pre_KernelKcatIdeal (m : (ℓ : Loc Cert.KernelKcatIdeal.nD Cert.KernelKcatIdeal.τ Cert.KernelKcatIdeal.sig) → Buf (Elt Ideal) ℓ) : Prop :=
  True

def Pre_ReferenceKcatIdeal (m : (ℓ : Loc Cert.ReferenceKcatIdeal.nD Cert.ReferenceKcatIdeal.τ Cert.ReferenceKcatIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelFinalS (m : (ℓ : Loc Cert.KernelFinalS.nD Cert.KernelFinalS.τ Cert.KernelFinalS.sig) → Buf (Elt Bits) ℓ) : Prop :=
  True

def Pre_KernelFinalSIdeal (m : (ℓ : Loc Cert.KernelFinalSIdeal.nD Cert.KernelFinalSIdeal.τ Cert.KernelFinalSIdeal.sig) → Buf (Elt Ideal) ℓ) : Prop :=
  True

def Pre_ReferenceFinalSIdeal (m : (ℓ : Loc Cert.ReferenceFinalSIdeal.nD Cert.ReferenceFinalSIdeal.τ Cert.ReferenceFinalSIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_KernelMidS (m : (ℓ : Loc Cert.KernelMidS.nD Cert.KernelMidS.τ Cert.KernelMidS.sig) → Buf (Elt Bits) ℓ) : Prop :=
  True

def Pre_KernelMidSIdeal (m : (ℓ : Loc Cert.KernelMidSIdeal.nD Cert.KernelMidSIdeal.τ Cert.KernelMidSIdeal.sig) → Buf (Elt Ideal) ℓ) : Prop :=
  True

def Pre_ReferenceMidSIdeal (m : (ℓ : Loc Cert.ReferenceMidSIdeal.nD Cert.ReferenceMidSIdeal.τ Cert.ReferenceMidSIdeal.sig) → Buf (Elt Ideal) ℓ) : Prop :=
  True

def Pre_KernelStep (m : (ℓ : Loc Cert.KernelStep.nD Cert.KernelStep.τ Cert.KernelStep.sig) → Buf (Elt Bits) ℓ) : Prop :=
  True

def Pre_KernelStepIdeal (m : (ℓ : Loc Cert.KernelStepIdeal.nD Cert.KernelStepIdeal.τ Cert.KernelStepIdeal.sig) → Buf (Elt Ideal) ℓ) : Prop :=
  True

def Pre_ReferenceStepIdeal (m : (ℓ : Loc Cert.ReferenceStepIdeal.nD Cert.ReferenceStepIdeal.τ Cert.ReferenceStepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelInA [hKernelInA : Cert.KernelInA.Facts] : Prop :=
  ∀ (m : (ℓ : Loc Cert.KernelInA.nD Cert.KernelInA.τ Cert.KernelInA.sig) → Buf (Elt Bits) ℓ) (g : Dev Cert.KernelInA.nD → PrngReg), Pre_KernelInA m →
    θ_run (Cert.KernelInA.defs (F := Bits)) (onTc (τ := Cert.KernelInA.τ) (Cert.KernelInA.main (F := Bits))) ⟨m, fun _ => 0, g⟩ (fun r => (∀ c : Dev Cert.KernelInA.nD,
      r.2.mem ((c.tc : Thread Cert.KernelInA.nD Cert.KernelInA.τ).loc Cert.KernelInA.main_arg0) = m ((c.tc : Thread Cert.KernelInA.nD Cert.KernelInA.τ).loc Cert.KernelInA.main_arg0)
      ∧ r.2.mem ((c.tc : Thread Cert.KernelInA.nD Cert.KernelInA.τ).loc Cert.KernelInA.main_arg1) = m ((c.tc : Thread Cert.KernelInA.nD Cert.KernelInA.τ).loc Cert.KernelInA.main_arg1))
      ∧ r.2.sem = fun _ => 0)

def quiescent_KernelInAIdeal [hKernelInAIdeal : Cert.KernelInAIdeal.Facts] : Prop :=
  ∀ (m : (ℓ : Loc Cert.KernelInAIdeal.nD Cert.KernelInAIdeal.τ Cert.KernelInAIdeal.sig) → Buf (Elt Ideal) ℓ) (g : Dev Cert.KernelInAIdeal.nD → PrngReg), Pre_KernelInAIdeal m →
    θ_run (Cert.KernelInAIdeal.defs (F := Ideal)) (onTc (τ := Cert.KernelInAIdeal.τ) (Cert.KernelInAIdeal.main (F := Ideal))) ⟨m, fun _ => 0, g⟩ (fun r => (∀ c : Dev Cert.KernelInAIdeal.nD,
      r.2.mem ((c.tc : Thread Cert.KernelInAIdeal.nD Cert.KernelInAIdeal.τ).loc Cert.KernelInAIdeal.main_arg0) = m ((c.tc : Thread Cert.KernelInAIdeal.nD Cert.KernelInAIdeal.τ).loc Cert.KernelInAIdeal.main_arg0)
      ∧ r.2.mem ((c.tc : Thread Cert.KernelInAIdeal.nD Cert.KernelInAIdeal.τ).loc Cert.KernelInAIdeal.main_arg1) = m ((c.tc : Thread Cert.KernelInAIdeal.nD Cert.KernelInAIdeal.τ).loc Cert.KernelInAIdeal.main_arg1))
      ∧ r.2.sem = fun _ => 0)

def quiescent_ReferenceInAIdeal [hReferenceInAIdeal : Cert.ReferenceInAIdeal.Facts] : Prop :=
  ∀ (m : (ℓ : Loc Cert.ReferenceInAIdeal.nD Cert.ReferenceInAIdeal.τ Cert.ReferenceInAIdeal.sig) → Buf (Elt Ideal) ℓ) (g : Dev Cert.ReferenceInAIdeal.nD → PrngReg), Pre_ReferenceInAIdeal m →
    θ_run (Cert.ReferenceInAIdeal.defs (F := Ideal)) (onTc (τ := Cert.ReferenceInAIdeal.τ) (Cert.ReferenceInAIdeal.main (F := Ideal))) ⟨m, fun _ => 0, g⟩ (fun r => (∀ c : Dev Cert.ReferenceInAIdeal.nD,
      r.2.mem ((c.tc : Thread Cert.ReferenceInAIdeal.nD Cert.ReferenceInAIdeal.τ).loc Cert.ReferenceInAIdeal.main_arg0) = m ((c.tc : Thread Cert.ReferenceInAIdeal.nD Cert.ReferenceInAIdeal.τ).loc Cert.ReferenceInAIdeal.main_arg0)
      ∧ r.2.mem ((c.tc : Thread Cert.ReferenceInAIdeal.nD Cert.ReferenceInAIdeal.τ).loc Cert.ReferenceInAIdeal.main_arg1) = m ((c.tc : Thread Cert.ReferenceInAIdeal.nD Cert.ReferenceInAIdeal.τ).loc Cert.ReferenceInAIdeal.main_arg1))
      ∧ r.2.sem = fun _ => 0)

def quiescent_KernelInZ [hKernelInZ : Cert.KernelInZ.Facts] : Prop :=
  ∀ (m : (ℓ : Loc Cert.KernelInZ.nD Cert.KernelInZ.τ Cert.KernelInZ.sig) → Buf (Elt Bits) ℓ) (g : Dev Cert.KernelInZ.nD → PrngReg), Pre_KernelInZ m →
    θ_run (Cert.KernelInZ.defs (F := Bits)) (onTc (τ := Cert.KernelInZ.τ) (Cert.KernelInZ.main (F := Bits))) ⟨m, fun _ => 0, g⟩ (fun r => (∀ c : Dev Cert.KernelInZ.nD,
      r.2.mem ((c.tc : Thread Cert.KernelInZ.nD Cert.KernelInZ.τ).loc Cert.KernelInZ.main_arg0) = m ((c.tc : Thread Cert.KernelInZ.nD Cert.KernelInZ.τ).loc Cert.KernelInZ.main_arg0)
      ∧ r.2.mem ((c.tc : Thread Cert.KernelInZ.nD Cert.KernelInZ.τ).loc Cert.KernelInZ.main_arg1) = m ((c.tc : Thread Cert.KernelInZ.nD Cert.KernelInZ.τ).loc Cert.KernelInZ.main_arg1))
      ∧ r.2.sem = fun _ => 0)

def quiescent_KernelInZIdeal [hKernelInZIdeal : Cert.KernelInZIdeal.Facts] : Prop :=
  ∀ (m : (ℓ : Loc Cert.KernelInZIdeal.nD Cert.KernelInZIdeal.τ Cert.KernelInZIdeal.sig) → Buf (Elt Ideal) ℓ) (g : Dev Cert.KernelInZIdeal.nD → PrngReg), Pre_KernelInZIdeal m →
    θ_run (Cert.KernelInZIdeal.defs (F := Ideal)) (onTc (τ := Cert.KernelInZIdeal.τ) (Cert.KernelInZIdeal.main (F := Ideal))) ⟨m, fun _ => 0, g⟩ (fun r => (∀ c : Dev Cert.KernelInZIdeal.nD,
      r.2.mem ((c.tc : Thread Cert.KernelInZIdeal.nD Cert.KernelInZIdeal.τ).loc Cert.KernelInZIdeal.main_arg0) = m ((c.tc : Thread Cert.KernelInZIdeal.nD Cert.KernelInZIdeal.τ).loc Cert.KernelInZIdeal.main_arg0)
      ∧ r.2.mem ((c.tc : Thread Cert.KernelInZIdeal.nD Cert.KernelInZIdeal.τ).loc Cert.KernelInZIdeal.main_arg1) = m ((c.tc : Thread Cert.KernelInZIdeal.nD Cert.KernelInZIdeal.τ).loc Cert.KernelInZIdeal.main_arg1))
      ∧ r.2.sem = fun _ => 0)

def quiescent_ReferenceInZIdeal [hReferenceInZIdeal : Cert.ReferenceInZIdeal.Facts] : Prop :=
  ∀ (m : (ℓ : Loc Cert.ReferenceInZIdeal.nD Cert.ReferenceInZIdeal.τ Cert.ReferenceInZIdeal.sig) → Buf (Elt Ideal) ℓ) (g : Dev Cert.ReferenceInZIdeal.nD → PrngReg), Pre_ReferenceInZIdeal m →
    θ_run (Cert.ReferenceInZIdeal.defs (F := Ideal)) (onTc (τ := Cert.ReferenceInZIdeal.τ) (Cert.ReferenceInZIdeal.main (F := Ideal))) ⟨m, fun _ => 0, g⟩ (fun r => (∀ c : Dev Cert.ReferenceInZIdeal.nD,
      r.2.mem ((c.tc : Thread Cert.ReferenceInZIdeal.nD Cert.ReferenceInZIdeal.τ).loc Cert.ReferenceInZIdeal.main_arg0) = m ((c.tc : Thread Cert.ReferenceInZIdeal.nD Cert.ReferenceInZIdeal.τ).loc Cert.ReferenceInZIdeal.main_arg0)
      ∧ r.2.mem ((c.tc : Thread Cert.ReferenceInZIdeal.nD Cert.ReferenceInZIdeal.τ).loc Cert.ReferenceInZIdeal.main_arg1) = m ((c.tc : Thread Cert.ReferenceInZIdeal.nD Cert.ReferenceInZIdeal.τ).loc Cert.ReferenceInZIdeal.main_arg1))
      ∧ r.2.sem = fun _ => 0)

def quiescent_KernelInG [hKernelInG : Cert.KernelInG.Facts] : Prop :=
  ∀ (m : (ℓ : Loc Cert.KernelInG.nD Cert.KernelInG.τ Cert.KernelInG.sig) → Buf (Elt Bits) ℓ) (g : Dev Cert.KernelInG.nD → PrngReg), Pre_KernelInG m →
    θ_run (Cert.KernelInG.defs (F := Bits)) (onTc (τ := Cert.KernelInG.τ) (Cert.KernelInG.main (F := Bits))) ⟨m, fun _ => 0, g⟩ (fun r => (∀ c : Dev Cert.KernelInG.nD,
      r.2.mem ((c.tc : Thread Cert.KernelInG.nD Cert.KernelInG.τ).loc Cert.KernelInG.main_arg0) = m ((c.tc : Thread Cert.KernelInG.nD Cert.KernelInG.τ).loc Cert.KernelInG.main_arg0)
      ∧ r.2.mem ((c.tc : Thread Cert.KernelInG.nD Cert.KernelInG.τ).loc Cert.KernelInG.main_arg1) = m ((c.tc : Thread Cert.KernelInG.nD Cert.KernelInG.τ).loc Cert.KernelInG.main_arg1))
      ∧ r.2.sem = fun _ => 0)

def quiescent_KernelInGIdeal [hKernelInGIdeal : Cert.KernelInGIdeal.Facts] : Prop :=
  ∀ (m : (ℓ : Loc Cert.KernelInGIdeal.nD Cert.KernelInGIdeal.τ Cert.KernelInGIdeal.sig) → Buf (Elt Ideal) ℓ) (g : Dev Cert.KernelInGIdeal.nD → PrngReg), Pre_KernelInGIdeal m →
    θ_run (Cert.KernelInGIdeal.defs (F := Ideal)) (onTc (τ := Cert.KernelInGIdeal.τ) (Cert.KernelInGIdeal.main (F := Ideal))) ⟨m, fun _ => 0, g⟩ (fun r => (∀ c : Dev Cert.KernelInGIdeal.nD,
      r.2.mem ((c.tc : Thread Cert.KernelInGIdeal.nD Cert.KernelInGIdeal.τ).loc Cert.KernelInGIdeal.main_arg0) = m ((c.tc : Thread Cert.KernelInGIdeal.nD Cert.KernelInGIdeal.τ).loc Cert.KernelInGIdeal.main_arg0)
      ∧ r.2.mem ((c.tc : Thread Cert.KernelInGIdeal.nD Cert.KernelInGIdeal.τ).loc Cert.KernelInGIdeal.main_arg1) = m ((c.tc : Thread Cert.KernelInGIdeal.nD Cert.KernelInGIdeal.τ).loc Cert.KernelInGIdeal.main_arg1))
      ∧ r.2.sem = fun _ => 0)

def quiescent_ReferenceInGIdeal [hReferenceInGIdeal : Cert.ReferenceInGIdeal.Facts] : Prop :=
  ∀ (m : (ℓ : Loc Cert.ReferenceInGIdeal.nD Cert.ReferenceInGIdeal.τ Cert.ReferenceInGIdeal.sig) → Buf (Elt Ideal) ℓ) (g : Dev Cert.ReferenceInGIdeal.nD → PrngReg), Pre_ReferenceInGIdeal m →
    θ_run (Cert.ReferenceInGIdeal.defs (F := Ideal)) (onTc (τ := Cert.ReferenceInGIdeal.τ) (Cert.ReferenceInGIdeal.main (F := Ideal))) ⟨m, fun _ => 0, g⟩ (fun r => (∀ c : Dev Cert.ReferenceInGIdeal.nD,
      r.2.mem ((c.tc : Thread Cert.ReferenceInGIdeal.nD Cert.ReferenceInGIdeal.τ).loc Cert.ReferenceInGIdeal.main_arg0) = m ((c.tc : Thread Cert.ReferenceInGIdeal.nD Cert.ReferenceInGIdeal.τ).loc Cert.ReferenceInGIdeal.main_arg0)
      ∧ r.2.mem ((c.tc : Thread Cert.ReferenceInGIdeal.nD Cert.ReferenceInGIdeal.τ).loc Cert.ReferenceInGIdeal.main_arg1) = m ((c.tc : Thread Cert.ReferenceInGIdeal.nD Cert.ReferenceInGIdeal.τ).loc Cert.ReferenceInGIdeal.main_arg1))
      ∧ r.2.sem = fun _ => 0)

def quiescent_KernelSsdO [hKernelSsdO : Cert.KernelSsdO.Facts] : Prop :=
  ∀ (m : (ℓ : Loc Cert.KernelSsdO.nD Cert.KernelSsdO.τ Cert.KernelSsdO.sig) → Buf (Elt Bits) ℓ) (g : Dev Cert.KernelSsdO.nD → PrngReg), Pre_KernelSsdO m →
    θ_run (Cert.KernelSsdO.defs (F := Bits)) (onTc (τ := Cert.KernelSsdO.τ) (Cert.KernelSsdO.main (F := Bits))) ⟨m, fun _ => 0, g⟩ (fun r => (∀ c : Dev Cert.KernelSsdO.nD,
      r.2.mem ((c.tc : Thread Cert.KernelSsdO.nD Cert.KernelSsdO.τ).loc Cert.KernelSsdO.main_arg0) = m ((c.tc : Thread Cert.KernelSsdO.nD Cert.KernelSsdO.τ).loc Cert.KernelSsdO.main_arg0)
      ∧ r.2.mem ((c.tc : Thread Cert.KernelSsdO.nD Cert.KernelSsdO.τ).loc Cert.KernelSsdO.main_arg1) = m ((c.tc : Thread Cert.KernelSsdO.nD Cert.KernelSsdO.τ).loc Cert.KernelSsdO.main_arg1)
      ∧ r.2.mem ((c.tc : Thread Cert.KernelSsdO.nD Cert.KernelSsdO.τ).loc Cert.KernelSsdO.main_arg2) = m ((c.tc : Thread Cert.KernelSsdO.nD Cert.KernelSsdO.τ).loc Cert.KernelSsdO.main_arg2))
      ∧ r.2.sem = fun _ => 0)

def quiescent_KernelSsdOIdeal [hKernelSsdOIdeal : Cert.KernelSsdOIdeal.Facts] : Prop :=
  ∀ (m : (ℓ : Loc Cert.KernelSsdOIdeal.nD Cert.KernelSsdOIdeal.τ Cert.KernelSsdOIdeal.sig) → Buf (Elt Ideal) ℓ) (g : Dev Cert.KernelSsdOIdeal.nD → PrngReg), Pre_KernelSsdOIdeal m →
    θ_run (Cert.KernelSsdOIdeal.defs (F := Ideal)) (onTc (τ := Cert.KernelSsdOIdeal.τ) (Cert.KernelSsdOIdeal.main (F := Ideal))) ⟨m, fun _ => 0, g⟩ (fun r => (∀ c : Dev Cert.KernelSsdOIdeal.nD,
      r.2.mem ((c.tc : Thread Cert.KernelSsdOIdeal.nD Cert.KernelSsdOIdeal.τ).loc Cert.KernelSsdOIdeal.main_arg0) = m ((c.tc : Thread Cert.KernelSsdOIdeal.nD Cert.KernelSsdOIdeal.τ).loc Cert.KernelSsdOIdeal.main_arg0)
      ∧ r.2.mem ((c.tc : Thread Cert.KernelSsdOIdeal.nD Cert.KernelSsdOIdeal.τ).loc Cert.KernelSsdOIdeal.main_arg1) = m ((c.tc : Thread Cert.KernelSsdOIdeal.nD Cert.KernelSsdOIdeal.τ).loc Cert.KernelSsdOIdeal.main_arg1)
      ∧ r.2.mem ((c.tc : Thread Cert.KernelSsdOIdeal.nD Cert.KernelSsdOIdeal.τ).loc Cert.KernelSsdOIdeal.main_arg2) = m ((c.tc : Thread Cert.KernelSsdOIdeal.nD Cert.KernelSsdOIdeal.τ).loc Cert.KernelSsdOIdeal.main_arg2))
      ∧ r.2.sem = fun _ => 0)

def quiescent_ReferenceSsdOIdeal [hReferenceSsdOIdeal : Cert.ReferenceSsdOIdeal.Facts] : Prop :=
  ∀ (m : (ℓ : Loc Cert.ReferenceSsdOIdeal.nD Cert.ReferenceSsdOIdeal.τ Cert.ReferenceSsdOIdeal.sig) → Buf (Elt Ideal) ℓ) (g : Dev Cert.ReferenceSsdOIdeal.nD → PrngReg), Pre_ReferenceSsdOIdeal m →
    θ_run (Cert.ReferenceSsdOIdeal.defs (F := Ideal)) (onTc (τ := Cert.ReferenceSsdOIdeal.τ) (Cert.ReferenceSsdOIdeal.main (F := Ideal))) ⟨m, fun _ => 0, g⟩ (fun r => (∀ c : Dev Cert.ReferenceSsdOIdeal.nD,
      r.2.mem ((c.tc : Thread Cert.ReferenceSsdOIdeal.nD Cert.ReferenceSsdOIdeal.τ).loc Cert.ReferenceSsdOIdeal.main_arg0) = m ((c.tc : Thread Cert.ReferenceSsdOIdeal.nD Cert.ReferenceSsdOIdeal.τ).loc Cert.ReferenceSsdOIdeal.main_arg0)
      ∧ r.2.mem ((c.tc : Thread Cert.ReferenceSsdOIdeal.nD Cert.ReferenceSsdOIdeal.τ).loc Cert.ReferenceSsdOIdeal.main_arg1) = m ((c.tc : Thread Cert.ReferenceSsdOIdeal.nD Cert.ReferenceSsdOIdeal.τ).loc Cert.ReferenceSsdOIdeal.main_arg1)
      ∧ r.2.mem ((c.tc : Thread Cert.ReferenceSsdOIdeal.nD Cert.ReferenceSsdOIdeal.τ).loc Cert.ReferenceSsdOIdeal.main_arg2) = m ((c.tc : Thread Cert.ReferenceSsdOIdeal.nD Cert.ReferenceSsdOIdeal.τ).loc Cert.ReferenceSsdOIdeal.main_arg2))
      ∧ r.2.sem = fun _ => 0)

def quiescent_KernelMlaO [hKernelMlaO : Cert.KernelMlaO.Facts] : Prop :=
  ∀ (m : (ℓ : Loc Cert.KernelMlaO.nD Cert.KernelMlaO.τ Cert.KernelMlaO.sig) → Buf (Elt Bits) ℓ) (g : Dev Cert.KernelMlaO.nD → PrngReg), Pre_KernelMlaO m →
    θ_run (Cert.KernelMlaO.defs (F := Bits)) (onTc (τ := Cert.KernelMlaO.τ) (Cert.KernelMlaO.main (F := Bits))) ⟨m, fun _ => 0, g⟩ (fun r => (∀ c : Dev Cert.KernelMlaO.nD,
      r.2.mem ((c.tc : Thread Cert.KernelMlaO.nD Cert.KernelMlaO.τ).loc Cert.KernelMlaO.main_arg0) = m ((c.tc : Thread Cert.KernelMlaO.nD Cert.KernelMlaO.τ).loc Cert.KernelMlaO.main_arg0)
      ∧ r.2.mem ((c.tc : Thread Cert.KernelMlaO.nD Cert.KernelMlaO.τ).loc Cert.KernelMlaO.main_arg1) = m ((c.tc : Thread Cert.KernelMlaO.nD Cert.KernelMlaO.τ).loc Cert.KernelMlaO.main_arg1)
      ∧ r.2.mem ((c.tc : Thread Cert.KernelMlaO.nD Cert.KernelMlaO.τ).loc Cert.KernelMlaO.main_arg2) = m ((c.tc : Thread Cert.KernelMlaO.nD Cert.KernelMlaO.τ).loc Cert.KernelMlaO.main_arg2)
      ∧ r.2.mem ((c.tc : Thread Cert.KernelMlaO.nD Cert.KernelMlaO.τ).loc Cert.KernelMlaO.main_arg3) = m ((c.tc : Thread Cert.KernelMlaO.nD Cert.KernelMlaO.τ).loc Cert.KernelMlaO.main_arg3))
      ∧ r.2.sem = fun _ => 0)

def quiescent_KernelMlaOIdeal [hKernelMlaOIdeal : Cert.KernelMlaOIdeal.Facts] : Prop :=
  ∀ (m : (ℓ : Loc Cert.KernelMlaOIdeal.nD Cert.KernelMlaOIdeal.τ Cert.KernelMlaOIdeal.sig) → Buf (Elt Ideal) ℓ) (g : Dev Cert.KernelMlaOIdeal.nD → PrngReg), Pre_KernelMlaOIdeal m →
    θ_run (Cert.KernelMlaOIdeal.defs (F := Ideal)) (onTc (τ := Cert.KernelMlaOIdeal.τ) (Cert.KernelMlaOIdeal.main (F := Ideal))) ⟨m, fun _ => 0, g⟩ (fun r => (∀ c : Dev Cert.KernelMlaOIdeal.nD,
      r.2.mem ((c.tc : Thread Cert.KernelMlaOIdeal.nD Cert.KernelMlaOIdeal.τ).loc Cert.KernelMlaOIdeal.main_arg0) = m ((c.tc : Thread Cert.KernelMlaOIdeal.nD Cert.KernelMlaOIdeal.τ).loc Cert.KernelMlaOIdeal.main_arg0)
      ∧ r.2.mem ((c.tc : Thread Cert.KernelMlaOIdeal.nD Cert.KernelMlaOIdeal.τ).loc Cert.KernelMlaOIdeal.main_arg1) = m ((c.tc : Thread Cert.KernelMlaOIdeal.nD Cert.KernelMlaOIdeal.τ).loc Cert.KernelMlaOIdeal.main_arg1)
      ∧ r.2.mem ((c.tc : Thread Cert.KernelMlaOIdeal.nD Cert.KernelMlaOIdeal.τ).loc Cert.KernelMlaOIdeal.main_arg2) = m ((c.tc : Thread Cert.KernelMlaOIdeal.nD Cert.KernelMlaOIdeal.τ).loc Cert.KernelMlaOIdeal.main_arg2)
      ∧ r.2.mem ((c.tc : Thread Cert.KernelMlaOIdeal.nD Cert.KernelMlaOIdeal.τ).loc Cert.KernelMlaOIdeal.main_arg3) = m ((c.tc : Thread Cert.KernelMlaOIdeal.nD Cert.KernelMlaOIdeal.τ).loc Cert.KernelMlaOIdeal.main_arg3))
      ∧ r.2.sem = fun _ => 0)

def quiescent_ReferenceMlaOIdeal [hReferenceMlaOIdeal : Cert.ReferenceMlaOIdeal.Facts] : Prop :=
  ∀ (m : (ℓ : Loc Cert.ReferenceMlaOIdeal.nD Cert.ReferenceMlaOIdeal.τ Cert.ReferenceMlaOIdeal.sig) → Buf (Elt Ideal) ℓ) (g : Dev Cert.ReferenceMlaOIdeal.nD → PrngReg), Pre_ReferenceMlaOIdeal m →
    θ_run (Cert.ReferenceMlaOIdeal.defs (F := Ideal)) (onTc (τ := Cert.ReferenceMlaOIdeal.τ) (Cert.ReferenceMlaOIdeal.main (F := Ideal))) ⟨m, fun _ => 0, g⟩ (fun r => (∀ c : Dev Cert.ReferenceMlaOIdeal.nD,
      r.2.mem ((c.tc : Thread Cert.ReferenceMlaOIdeal.nD Cert.ReferenceMlaOIdeal.τ).loc Cert.ReferenceMlaOIdeal.main_arg0) = m ((c.tc : Thread Cert.ReferenceMlaOIdeal.nD Cert.ReferenceMlaOIdeal.τ).loc Cert.ReferenceMlaOIdeal.main_arg0)
      ∧ r.2.mem ((c.tc : Thread Cert.ReferenceMlaOIdeal.nD Cert.ReferenceMlaOIdeal.τ).loc Cert.ReferenceMlaOIdeal.main_arg1) = m ((c.tc : Thread Cert.ReferenceMlaOIdeal.nD Cert.ReferenceMlaOIdeal.τ).loc Cert.ReferenceMlaOIdeal.main_arg1)
      ∧ r.2.mem ((c.tc : Thread Cert.ReferenceMlaOIdeal.nD Cert.ReferenceMlaOIdeal.τ).loc Cert.ReferenceMlaOIdeal.main_arg2) = m ((c.tc : Thread Cert.ReferenceMlaOIdeal.nD Cert.ReferenceMlaOIdeal.τ).loc Cert.ReferenceMlaOIdeal.main_arg2)
      ∧ r.2.mem ((c.tc : Thread Cert.ReferenceMlaOIdeal.nD Cert.ReferenceMlaOIdeal.τ).loc Cert.ReferenceMlaOIdeal.main_arg3) = m ((c.tc : Thread Cert.ReferenceMlaOIdeal.nD Cert.ReferenceMlaOIdeal.τ).loc Cert.ReferenceMlaOIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelGelu [hKernelGelu : Cert.KernelGelu.Facts] : Prop :=
  ∀ (m : (ℓ : Loc Cert.KernelGelu.nD Cert.KernelGelu.τ Cert.KernelGelu.sig) → Buf (Elt Bits) ℓ) (g : Dev Cert.KernelGelu.nD → PrngReg), Pre_KernelGelu m →
    θ_run (Cert.KernelGelu.defs (F := Bits)) (onTc (τ := Cert.KernelGelu.τ) (Cert.KernelGelu.main (F := Bits))) ⟨m, fun _ => 0, g⟩ (fun r => (∀ c : Dev Cert.KernelGelu.nD,
      r.2.mem ((c.tc : Thread Cert.KernelGelu.nD Cert.KernelGelu.τ).loc Cert.KernelGelu.main_arg0) = m ((c.tc : Thread Cert.KernelGelu.nD Cert.KernelGelu.τ).loc Cert.KernelGelu.main_arg0)
      ∧ r.2.mem ((c.tc : Thread Cert.KernelGelu.nD Cert.KernelGelu.τ).loc Cert.KernelGelu.main_arg1) = m ((c.tc : Thread Cert.KernelGelu.nD Cert.KernelGelu.τ).loc Cert.KernelGelu.main_arg1))
      ∧ r.2.sem = fun _ => 0)

def quiescent_KernelGeluIdeal [hKernelGeluIdeal : Cert.KernelGeluIdeal.Facts] : Prop :=
  ∀ (m : (ℓ : Loc Cert.KernelGeluIdeal.nD Cert.KernelGeluIdeal.τ Cert.KernelGeluIdeal.sig) → Buf (Elt Ideal) ℓ) (g : Dev Cert.KernelGeluIdeal.nD → PrngReg), Pre_KernelGeluIdeal m →
    θ_run (Cert.KernelGeluIdeal.defs (F := Ideal)) (onTc (τ := Cert.KernelGeluIdeal.τ) (Cert.KernelGeluIdeal.main (F := Ideal))) ⟨m, fun _ => 0, g⟩ (fun r => (∀ c : Dev Cert.KernelGeluIdeal.nD,
      r.2.mem ((c.tc : Thread Cert.KernelGeluIdeal.nD Cert.KernelGeluIdeal.τ).loc Cert.KernelGeluIdeal.main_arg0) = m ((c.tc : Thread Cert.KernelGeluIdeal.nD Cert.KernelGeluIdeal.τ).loc Cert.KernelGeluIdeal.main_arg0)
      ∧ r.2.mem ((c.tc : Thread Cert.KernelGeluIdeal.nD Cert.KernelGeluIdeal.τ).loc Cert.KernelGeluIdeal.main_arg1) = m ((c.tc : Thread Cert.KernelGeluIdeal.nD Cert.KernelGeluIdeal.τ).loc Cert.KernelGeluIdeal.main_arg1))
      ∧ r.2.sem = fun _ => 0)

def quiescent_ReferenceGeluIdeal [hReferenceGeluIdeal : Cert.ReferenceGeluIdeal.Facts] : Prop :=
  ∀ (m : (ℓ : Loc Cert.ReferenceGeluIdeal.nD Cert.ReferenceGeluIdeal.τ Cert.ReferenceGeluIdeal.sig) → Buf (Elt Ideal) ℓ) (g : Dev Cert.ReferenceGeluIdeal.nD → PrngReg), Pre_ReferenceGeluIdeal m →
    θ_run (Cert.ReferenceGeluIdeal.defs (F := Ideal)) (onTc (τ := Cert.ReferenceGeluIdeal.τ) (Cert.ReferenceGeluIdeal.main (F := Ideal))) ⟨m, fun _ => 0, g⟩ (fun r => (∀ c : Dev Cert.ReferenceGeluIdeal.nD,
      r.2.mem ((c.tc : Thread Cert.ReferenceGeluIdeal.nD Cert.ReferenceGeluIdeal.τ).loc Cert.ReferenceGeluIdeal.main_arg0) = m ((c.tc : Thread Cert.ReferenceGeluIdeal.nD Cert.ReferenceGeluIdeal.τ).loc Cert.ReferenceGeluIdeal.main_arg0)
      ∧ r.2.mem ((c.tc : Thread Cert.ReferenceGeluIdeal.nD Cert.ReferenceGeluIdeal.τ).loc Cert.ReferenceGeluIdeal.main_arg1) = m ((c.tc : Thread Cert.ReferenceGeluIdeal.nD Cert.ReferenceGeluIdeal.τ).loc Cert.ReferenceGeluIdeal.main_arg1))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2)
      ∧ r.2.mem ((c.tc : Thread Cert.KernelQ.nD Cert.KernelQ.τ).loc Cert.KernelQ.main_arg3) = m ((c.tc : Thread Cert.KernelQ.nD Cert.KernelQ.τ).loc Cert.KernelQ.main_arg3))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
      ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2)
      ∧ r.2.mem ((c.tc : Thread Cert.ReferenceQIdeal.nD Cert.ReferenceQIdeal.τ).loc Cert.ReferenceQIdeal.main_arg3) = m ((c.tc : Thread Cert.ReferenceQIdeal.nD Cert.ReferenceQIdeal.τ).loc Cert.ReferenceQIdeal.main_arg3))
      ∧ r.2.sem = fun _ => 0)

def quiescent_KernelKcat [hKernelKcat : Cert.KernelKcat.Facts] : Prop :=
  ∀ (m : (ℓ : Loc Cert.KernelKcat.nD Cert.KernelKcat.τ Cert.KernelKcat.sig) → Buf (Elt Bits) ℓ) (g : Dev Cert.KernelKcat.nD → PrngReg), Pre_KernelKcat m →
    θ_run (Cert.KernelKcat.defs (F := Bits)) (onTc (τ := Cert.KernelKcat.τ) (Cert.KernelKcat.main (F := Bits))) ⟨m, fun _ => 0, g⟩ (fun r => (∀ c : Dev Cert.KernelKcat.nD,
      r.2.mem ((c.tc : Thread Cert.KernelKcat.nD Cert.KernelKcat.τ).loc Cert.KernelKcat.main_arg0) = m ((c.tc : Thread Cert.KernelKcat.nD Cert.KernelKcat.τ).loc Cert.KernelKcat.main_arg0)
      ∧ r.2.mem ((c.tc : Thread Cert.KernelKcat.nD Cert.KernelKcat.τ).loc Cert.KernelKcat.main_arg1) = m ((c.tc : Thread Cert.KernelKcat.nD Cert.KernelKcat.τ).loc Cert.KernelKcat.main_arg1)
      ∧ r.2.mem ((c.tc : Thread Cert.KernelKcat.nD Cert.KernelKcat.τ).loc Cert.KernelKcat.main_arg2) = m ((c.tc : Thread Cert.KernelKcat.nD Cert.KernelKcat.τ).loc Cert.KernelKcat.main_arg2))
      ∧ r.2.sem = fun _ => 0)

def quiescent_KernelKcatIdeal [hKernelKcatIdeal : Cert.KernelKcatIdeal.Facts] : Prop :=
  ∀ (m : (ℓ : Loc Cert.KernelKcatIdeal.nD Cert.KernelKcatIdeal.τ Cert.KernelKcatIdeal.sig) → Buf (Elt Ideal) ℓ) (g : Dev Cert.KernelKcatIdeal.nD → PrngReg), Pre_KernelKcatIdeal m →
    θ_run (Cert.KernelKcatIdeal.defs (F := Ideal)) (onTc (τ := Cert.KernelKcatIdeal.τ) (Cert.KernelKcatIdeal.main (F := Ideal))) ⟨m, fun _ => 0, g⟩ (fun r => (∀ c : Dev Cert.KernelKcatIdeal.nD,
      r.2.mem ((c.tc : Thread Cert.KernelKcatIdeal.nD Cert.KernelKcatIdeal.τ).loc Cert.KernelKcatIdeal.main_arg0) = m ((c.tc : Thread Cert.KernelKcatIdeal.nD Cert.KernelKcatIdeal.τ).loc Cert.KernelKcatIdeal.main_arg0)
      ∧ r.2.mem ((c.tc : Thread Cert.KernelKcatIdeal.nD Cert.KernelKcatIdeal.τ).loc Cert.KernelKcatIdeal.main_arg1) = m ((c.tc : Thread Cert.KernelKcatIdeal.nD Cert.KernelKcatIdeal.τ).loc Cert.KernelKcatIdeal.main_arg1)
      ∧ r.2.mem ((c.tc : Thread Cert.KernelKcatIdeal.nD Cert.KernelKcatIdeal.τ).loc Cert.KernelKcatIdeal.main_arg2) = m ((c.tc : Thread Cert.KernelKcatIdeal.nD Cert.KernelKcatIdeal.τ).loc Cert.KernelKcatIdeal.main_arg2))
      ∧ r.2.sem = fun _ => 0)

def quiescent_ReferenceKcatIdeal [hReferenceKcatIdeal : Cert.ReferenceKcatIdeal.Facts] : Prop :=
  ∀ (m : (ℓ : Loc Cert.ReferenceKcatIdeal.nD Cert.ReferenceKcatIdeal.τ Cert.ReferenceKcatIdeal.sig) → Buf (Elt Ideal) ℓ) (g : Dev Cert.ReferenceKcatIdeal.nD → PrngReg), Pre_ReferenceKcatIdeal m →
    θ_run (Cert.ReferenceKcatIdeal.defs (F := Ideal)) (onTc (τ := Cert.ReferenceKcatIdeal.τ) (Cert.ReferenceKcatIdeal.main (F := Ideal))) ⟨m, fun _ => 0, g⟩ (fun r => (∀ c : Dev Cert.ReferenceKcatIdeal.nD,
      r.2.mem ((c.tc : Thread Cert.ReferenceKcatIdeal.nD Cert.ReferenceKcatIdeal.τ).loc Cert.ReferenceKcatIdeal.main_arg0) = m ((c.tc : Thread Cert.ReferenceKcatIdeal.nD Cert.ReferenceKcatIdeal.τ).loc Cert.ReferenceKcatIdeal.main_arg0)
      ∧ r.2.mem ((c.tc : Thread Cert.ReferenceKcatIdeal.nD Cert.ReferenceKcatIdeal.τ).loc Cert.ReferenceKcatIdeal.main_arg1) = m ((c.tc : Thread Cert.ReferenceKcatIdeal.nD Cert.ReferenceKcatIdeal.τ).loc Cert.ReferenceKcatIdeal.main_arg1)
      ∧ r.2.mem ((c.tc : Thread Cert.ReferenceKcatIdeal.nD Cert.ReferenceKcatIdeal.τ).loc Cert.ReferenceKcatIdeal.main_arg2) = m ((c.tc : Thread Cert.ReferenceKcatIdeal.nD Cert.ReferenceKcatIdeal.τ).loc Cert.ReferenceKcatIdeal.main_arg2))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1))
      ∧ r.2.sem = fun _ => 0)

def quiescent_KernelFinalS [hKernelFinalS : Cert.KernelFinalS.Facts] : Prop :=
  ∀ (m : (ℓ : Loc Cert.KernelFinalS.nD Cert.KernelFinalS.τ Cert.KernelFinalS.sig) → Buf (Elt Bits) ℓ) (g : Dev Cert.KernelFinalS.nD → PrngReg), Pre_KernelFinalS m →
    θ_run (Cert.KernelFinalS.defs (F := Bits)) (onTc (τ := Cert.KernelFinalS.τ) (Cert.KernelFinalS.main (F := Bits))) ⟨m, fun _ => 0, g⟩ (fun r => (∀ c : Dev Cert.KernelFinalS.nD,
      r.2.mem ((c.tc : Thread Cert.KernelFinalS.nD Cert.KernelFinalS.τ).loc Cert.KernelFinalS.main_arg0) = m ((c.tc : Thread Cert.KernelFinalS.nD Cert.KernelFinalS.τ).loc Cert.KernelFinalS.main_arg0)
      ∧ r.2.mem ((c.tc : Thread Cert.KernelFinalS.nD Cert.KernelFinalS.τ).loc Cert.KernelFinalS.main_arg1) = m ((c.tc : Thread Cert.KernelFinalS.nD Cert.KernelFinalS.τ).loc Cert.KernelFinalS.main_arg1))
      ∧ r.2.sem = fun _ => 0)

def quiescent_KernelFinalSIdeal [hKernelFinalSIdeal : Cert.KernelFinalSIdeal.Facts] : Prop :=
  ∀ (m : (ℓ : Loc Cert.KernelFinalSIdeal.nD Cert.KernelFinalSIdeal.τ Cert.KernelFinalSIdeal.sig) → Buf (Elt Ideal) ℓ) (g : Dev Cert.KernelFinalSIdeal.nD → PrngReg), Pre_KernelFinalSIdeal m →
    θ_run (Cert.KernelFinalSIdeal.defs (F := Ideal)) (onTc (τ := Cert.KernelFinalSIdeal.τ) (Cert.KernelFinalSIdeal.main (F := Ideal))) ⟨m, fun _ => 0, g⟩ (fun r => (∀ c : Dev Cert.KernelFinalSIdeal.nD,
      r.2.mem ((c.tc : Thread Cert.KernelFinalSIdeal.nD Cert.KernelFinalSIdeal.τ).loc Cert.KernelFinalSIdeal.main_arg0) = m ((c.tc : Thread Cert.KernelFinalSIdeal.nD Cert.KernelFinalSIdeal.τ).loc Cert.KernelFinalSIdeal.main_arg0)
      ∧ r.2.mem ((c.tc : Thread Cert.KernelFinalSIdeal.nD Cert.KernelFinalSIdeal.τ).loc Cert.KernelFinalSIdeal.main_arg1) = m ((c.tc : Thread Cert.KernelFinalSIdeal.nD Cert.KernelFinalSIdeal.τ).loc Cert.KernelFinalSIdeal.main_arg1))
      ∧ r.2.sem = fun _ => 0)

def quiescent_ReferenceFinalSIdeal [hReferenceFinalSIdeal : Cert.ReferenceFinalSIdeal.Facts] : Prop :=
  ∀ (m : (ℓ : Loc Cert.ReferenceFinalSIdeal.nD Cert.ReferenceFinalSIdeal.τ Cert.ReferenceFinalSIdeal.sig) → Buf (Elt Ideal) ℓ) (g : Dev Cert.ReferenceFinalSIdeal.nD → PrngReg), Pre_ReferenceFinalSIdeal m →
    θ_run (Cert.ReferenceFinalSIdeal.defs (F := Ideal)) (onTc (τ := Cert.ReferenceFinalSIdeal.τ) (Cert.ReferenceFinalSIdeal.main (F := Ideal))) ⟨m, fun _ => 0, g⟩ (fun r => (∀ c : Dev Cert.ReferenceFinalSIdeal.nD,
      r.2.mem ((c.tc : Thread Cert.ReferenceFinalSIdeal.nD Cert.ReferenceFinalSIdeal.τ).loc Cert.ReferenceFinalSIdeal.main_arg0) = m ((c.tc : Thread Cert.ReferenceFinalSIdeal.nD Cert.ReferenceFinalSIdeal.τ).loc Cert.ReferenceFinalSIdeal.main_arg0)
      ∧ r.2.mem ((c.tc : Thread Cert.ReferenceFinalSIdeal.nD Cert.ReferenceFinalSIdeal.τ).loc Cert.ReferenceFinalSIdeal.main_arg1) = m ((c.tc : Thread Cert.ReferenceFinalSIdeal.nD Cert.ReferenceFinalSIdeal.τ).loc Cert.ReferenceFinalSIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4))
      ∧ r.2.sem = fun _ => 0)

def quiescent_KernelMidS [hKernelMidS : Cert.KernelMidS.Facts] : Prop :=
  ∀ (m : (ℓ : Loc Cert.KernelMidS.nD Cert.KernelMidS.τ Cert.KernelMidS.sig) → Buf (Elt Bits) ℓ) (g : Dev Cert.KernelMidS.nD → PrngReg), Pre_KernelMidS m →
    θ_run (Cert.KernelMidS.defs (F := Bits)) (onTc (τ := Cert.KernelMidS.τ) (Cert.KernelMidS.main (F := Bits))) ⟨m, fun _ => 0, g⟩ (fun r => (∀ c : Dev Cert.KernelMidS.nD,
      r.2.mem ((c.tc : Thread Cert.KernelMidS.nD Cert.KernelMidS.τ).loc Cert.KernelMidS.main_arg0) = m ((c.tc : Thread Cert.KernelMidS.nD Cert.KernelMidS.τ).loc Cert.KernelMidS.main_arg0)
      ∧ r.2.mem ((c.tc : Thread Cert.KernelMidS.nD Cert.KernelMidS.τ).loc Cert.KernelMidS.main_arg1) = m ((c.tc : Thread Cert.KernelMidS.nD Cert.KernelMidS.τ).loc Cert.KernelMidS.main_arg1)
      ∧ r.2.mem ((c.tc : Thread Cert.KernelMidS.nD Cert.KernelMidS.τ).loc Cert.KernelMidS.main_arg2) = m ((c.tc : Thread Cert.KernelMidS.nD Cert.KernelMidS.τ).loc Cert.KernelMidS.main_arg2)
      ∧ r.2.mem ((c.tc : Thread Cert.KernelMidS.nD Cert.KernelMidS.τ).loc Cert.KernelMidS.main_arg3) = m ((c.tc : Thread Cert.KernelMidS.nD Cert.KernelMidS.τ).loc Cert.KernelMidS.main_arg3)
      ∧ r.2.mem ((c.tc : Thread Cert.KernelMidS.nD Cert.KernelMidS.τ).loc Cert.KernelMidS.main_arg4) = m ((c.tc : Thread Cert.KernelMidS.nD Cert.KernelMidS.τ).loc Cert.KernelMidS.main_arg4))
      ∧ r.2.sem = fun _ => 0)

def quiescent_KernelMidSIdeal [hKernelMidSIdeal : Cert.KernelMidSIdeal.Facts] : Prop :=
  ∀ (m : (ℓ : Loc Cert.KernelMidSIdeal.nD Cert.KernelMidSIdeal.τ Cert.KernelMidSIdeal.sig) → Buf (Elt Ideal) ℓ) (g : Dev Cert.KernelMidSIdeal.nD → PrngReg), Pre_KernelMidSIdeal m →
    θ_run (Cert.KernelMidSIdeal.defs (F := Ideal)) (onTc (τ := Cert.KernelMidSIdeal.τ) (Cert.KernelMidSIdeal.main (F := Ideal))) ⟨m, fun _ => 0, g⟩ (fun r => (∀ c : Dev Cert.KernelMidSIdeal.nD,
      r.2.mem ((c.tc : Thread Cert.KernelMidSIdeal.nD Cert.KernelMidSIdeal.τ).loc Cert.KernelMidSIdeal.main_arg0) = m ((c.tc : Thread Cert.KernelMidSIdeal.nD Cert.KernelMidSIdeal.τ).loc Cert.KernelMidSIdeal.main_arg0)
      ∧ r.2.mem ((c.tc : Thread Cert.KernelMidSIdeal.nD Cert.KernelMidSIdeal.τ).loc Cert.KernelMidSIdeal.main_arg1) = m ((c.tc : Thread Cert.KernelMidSIdeal.nD Cert.KernelMidSIdeal.τ).loc Cert.KernelMidSIdeal.main_arg1)
      ∧ r.2.mem ((c.tc : Thread Cert.KernelMidSIdeal.nD Cert.KernelMidSIdeal.τ).loc Cert.KernelMidSIdeal.main_arg2) = m ((c.tc : Thread Cert.KernelMidSIdeal.nD Cert.KernelMidSIdeal.τ).loc Cert.KernelMidSIdeal.main_arg2)
      ∧ r.2.mem ((c.tc : Thread Cert.KernelMidSIdeal.nD Cert.KernelMidSIdeal.τ).loc Cert.KernelMidSIdeal.main_arg3) = m ((c.tc : Thread Cert.KernelMidSIdeal.nD Cert.KernelMidSIdeal.τ).loc Cert.KernelMidSIdeal.main_arg3)
      ∧ r.2.mem ((c.tc : Thread Cert.KernelMidSIdeal.nD Cert.KernelMidSIdeal.τ).loc Cert.KernelMidSIdeal.main_arg4) = m ((c.tc : Thread Cert.KernelMidSIdeal.nD Cert.KernelMidSIdeal.τ).loc Cert.KernelMidSIdeal.main_arg4))
      ∧ r.2.sem = fun _ => 0)

def quiescent_ReferenceMidSIdeal [hReferenceMidSIdeal : Cert.ReferenceMidSIdeal.Facts] : Prop :=
  ∀ (m : (ℓ : Loc Cert.ReferenceMidSIdeal.nD Cert.ReferenceMidSIdeal.τ Cert.ReferenceMidSIdeal.sig) → Buf (Elt Ideal) ℓ) (g : Dev Cert.ReferenceMidSIdeal.nD → PrngReg), Pre_ReferenceMidSIdeal m →
    θ_run (Cert.ReferenceMidSIdeal.defs (F := Ideal)) (onTc (τ := Cert.ReferenceMidSIdeal.τ) (Cert.ReferenceMidSIdeal.main (F := Ideal))) ⟨m, fun _ => 0, g⟩ (fun r => (∀ c : Dev Cert.ReferenceMidSIdeal.nD,
      r.2.mem ((c.tc : Thread Cert.ReferenceMidSIdeal.nD Cert.ReferenceMidSIdeal.τ).loc Cert.ReferenceMidSIdeal.main_arg0) = m ((c.tc : Thread Cert.ReferenceMidSIdeal.nD Cert.ReferenceMidSIdeal.τ).loc Cert.ReferenceMidSIdeal.main_arg0)
      ∧ r.2.mem ((c.tc : Thread Cert.ReferenceMidSIdeal.nD Cert.ReferenceMidSIdeal.τ).loc Cert.ReferenceMidSIdeal.main_arg1) = m ((c.tc : Thread Cert.ReferenceMidSIdeal.nD Cert.ReferenceMidSIdeal.τ).loc Cert.ReferenceMidSIdeal.main_arg1)
      ∧ r.2.mem ((c.tc : Thread Cert.ReferenceMidSIdeal.nD Cert.ReferenceMidSIdeal.τ).loc Cert.ReferenceMidSIdeal.main_arg2) = m ((c.tc : Thread Cert.ReferenceMidSIdeal.nD Cert.ReferenceMidSIdeal.τ).loc Cert.ReferenceMidSIdeal.main_arg2)
      ∧ r.2.mem ((c.tc : Thread Cert.ReferenceMidSIdeal.nD Cert.ReferenceMidSIdeal.τ).loc Cert.ReferenceMidSIdeal.main_arg3) = m ((c.tc : Thread Cert.ReferenceMidSIdeal.nD Cert.ReferenceMidSIdeal.τ).loc Cert.ReferenceMidSIdeal.main_arg3)
      ∧ r.2.mem ((c.tc : Thread Cert.ReferenceMidSIdeal.nD Cert.ReferenceMidSIdeal.τ).loc Cert.ReferenceMidSIdeal.main_arg4) = m ((c.tc : Thread Cert.ReferenceMidSIdeal.nD Cert.ReferenceMidSIdeal.τ).loc Cert.ReferenceMidSIdeal.main_arg4))
      ∧ r.2.sem = fun _ => 0)

def quiescent_KernelStep [hKernelStep : Cert.KernelStep.Facts] : Prop :=
  ∀ (m : (ℓ : Loc Cert.KernelStep.nD Cert.KernelStep.τ Cert.KernelStep.sig) → Buf (Elt Bits) ℓ) (g : Dev Cert.KernelStep.nD → PrngReg), Pre_KernelStep m →
    θ_run (Cert.KernelStep.defs (F := Bits)) (onTc (τ := Cert.KernelStep.τ) (Cert.KernelStep.main (F := Bits))) ⟨m, fun _ => 0, g⟩ (fun r => (∀ c : Dev Cert.KernelStep.nD,
      r.2.mem ((c.tc : Thread Cert.KernelStep.nD Cert.KernelStep.τ).loc Cert.KernelStep.main_arg0) = m ((c.tc : Thread Cert.KernelStep.nD Cert.KernelStep.τ).loc Cert.KernelStep.main_arg0)
      ∧ r.2.mem ((c.tc : Thread Cert.KernelStep.nD Cert.KernelStep.τ).loc Cert.KernelStep.main_arg1) = m ((c.tc : Thread Cert.KernelStep.nD Cert.KernelStep.τ).loc Cert.KernelStep.main_arg1)
      ∧ r.2.mem ((c.tc : Thread Cert.KernelStep.nD Cert.KernelStep.τ).loc Cert.KernelStep.main_arg2) = m ((c.tc : Thread Cert.KernelStep.nD Cert.KernelStep.τ).loc Cert.KernelStep.main_arg2)
      ∧ r.2.mem ((c.tc : Thread Cert.KernelStep.nD Cert.KernelStep.τ).loc Cert.KernelStep.main_arg3) = m ((c.tc : Thread Cert.KernelStep.nD Cert.KernelStep.τ).loc Cert.KernelStep.main_arg3)
      ∧ r.2.mem ((c.tc : Thread Cert.KernelStep.nD Cert.KernelStep.τ).loc Cert.KernelStep.main_arg4) = m ((c.tc : Thread Cert.KernelStep.nD Cert.KernelStep.τ).loc Cert.KernelStep.main_arg4)
      ∧ r.2.mem ((c.tc : Thread Cert.KernelStep.nD Cert.KernelStep.τ).loc Cert.KernelStep.main_arg5) = m ((c.tc : Thread Cert.KernelStep.nD Cert.KernelStep.τ).loc Cert.KernelStep.main_arg5)
      ∧ r.2.mem ((c.tc : Thread Cert.KernelStep.nD Cert.KernelStep.τ).loc Cert.KernelStep.main_arg6) = m ((c.tc : Thread Cert.KernelStep.nD Cert.KernelStep.τ).loc Cert.KernelStep.main_arg6)
      ∧ r.2.mem ((c.tc : Thread Cert.KernelStep.nD Cert.KernelStep.τ).loc Cert.KernelStep.main_arg7) = m ((c.tc : Thread Cert.KernelStep.nD Cert.KernelStep.τ).loc Cert.KernelStep.main_arg7)
      ∧ r.2.mem ((c.tc : Thread Cert.KernelStep.nD Cert.KernelStep.τ).loc Cert.KernelStep.main_arg8) = m ((c.tc : Thread Cert.KernelStep.nD Cert.KernelStep.τ).loc Cert.KernelStep.main_arg8)
      ∧ r.2.mem ((c.tc : Thread Cert.KernelStep.nD Cert.KernelStep.τ).loc Cert.KernelStep.main_arg9) = m ((c.tc : Thread Cert.KernelStep.nD Cert.KernelStep.τ).loc Cert.KernelStep.main_arg9)
      ∧ r.2.mem ((c.tc : Thread Cert.KernelStep.nD Cert.KernelStep.τ).loc Cert.KernelStep.main_arg10) = m ((c.tc : Thread Cert.KernelStep.nD Cert.KernelStep.τ).loc Cert.KernelStep.main_arg10)
      ∧ r.2.mem ((c.tc : Thread Cert.KernelStep.nD Cert.KernelStep.τ).loc Cert.KernelStep.main_arg11) = m ((c.tc : Thread Cert.KernelStep.nD Cert.KernelStep.τ).loc Cert.KernelStep.main_arg11))
      ∧ r.2.sem = fun _ => 0)

def quiescent_KernelStepIdeal [hKernelStepIdeal : Cert.KernelStepIdeal.Facts] : Prop :=
  ∀ (m : (ℓ : Loc Cert.KernelStepIdeal.nD Cert.KernelStepIdeal.τ Cert.KernelStepIdeal.sig) → Buf (Elt Ideal) ℓ) (g : Dev Cert.KernelStepIdeal.nD → PrngReg), Pre_KernelStepIdeal m →
    θ_run (Cert.KernelStepIdeal.defs (F := Ideal)) (onTc (τ := Cert.KernelStepIdeal.τ) (Cert.KernelStepIdeal.main (F := Ideal))) ⟨m, fun _ => 0, g⟩ (fun r => (∀ c : Dev Cert.KernelStepIdeal.nD,
      r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
      ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
      ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
      ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3)
      ∧ r.2.mem ((c.tc : Thread Cert.KernelStepIdeal.nD Cert.KernelStepIdeal.τ).loc Cert.KernelStepIdeal.main_arg4) = m ((c.tc : Thread Cert.KernelStepIdeal.nD Cert.KernelStepIdeal.τ).loc Cert.KernelStepIdeal.main_arg4)
      ∧ r.2.mem ((c.tc : Thread Cert.KernelStepIdeal.nD Cert.KernelStepIdeal.τ).loc Cert.KernelStepIdeal.main_arg5) = m ((c.tc : Thread Cert.KernelStepIdeal.nD Cert.KernelStepIdeal.τ).loc Cert.KernelStepIdeal.main_arg5)
      ∧ r.2.mem ((c.tc : Thread Cert.KernelStepIdeal.nD Cert.KernelStepIdeal.τ).loc Cert.KernelStepIdeal.main_arg6) = m ((c.tc : Thread Cert.KernelStepIdeal.nD Cert.KernelStepIdeal.τ).loc Cert.KernelStepIdeal.main_arg6)
      ∧ r.2.mem ((c.tc : Thread Cert.KernelStepIdeal.nD Cert.KernelStepIdeal.τ).loc Cert.KernelStepIdeal.main_arg7) = m ((c.tc : Thread Cert.KernelStepIdeal.nD Cert.KernelStepIdeal.τ).loc Cert.KernelStepIdeal.main_arg7)
      ∧ r.2.mem ((c.tc : Thread Cert.KernelStepIdeal.nD Cert.KernelStepIdeal.τ).loc Cert.KernelStepIdeal.main_arg8) = m ((c.tc : Thread Cert.KernelStepIdeal.nD Cert.KernelStepIdeal.τ).loc Cert.KernelStepIdeal.main_arg8)
      ∧ r.2.mem ((c.tc : Thread Cert.KernelStepIdeal.nD Cert.KernelStepIdeal.τ).loc Cert.KernelStepIdeal.main_arg9) = m ((c.tc : Thread Cert.KernelStepIdeal.nD Cert.KernelStepIdeal.τ).loc Cert.KernelStepIdeal.main_arg9)
      ∧ r.2.mem ((c.tc : Thread Cert.KernelStepIdeal.nD Cert.KernelStepIdeal.τ).loc Cert.KernelStepIdeal.main_arg10) = m ((c.tc : Thread Cert.KernelStepIdeal.nD Cert.KernelStepIdeal.τ).loc Cert.KernelStepIdeal.main_arg10)
      ∧ r.2.mem ((c.tc : Thread Cert.KernelStepIdeal.nD Cert.KernelStepIdeal.τ).loc Cert.KernelStepIdeal.main_arg11) = m ((c.tc : Thread Cert.KernelStepIdeal.nD Cert.KernelStepIdeal.τ).loc Cert.KernelStepIdeal.main_arg11))
      ∧ r.2.sem = fun _ => 0)

def quiescent_ReferenceStepIdeal [hReferenceStepIdeal : Cert.ReferenceStepIdeal.Facts] : Prop :=
  ∀ (m : (ℓ : Loc Cert.ReferenceStepIdeal.nD Cert.ReferenceStepIdeal.τ Cert.ReferenceStepIdeal.sig) → Buf (Elt Ideal) ℓ) (g : Dev Cert.ReferenceStepIdeal.nD → PrngReg), Pre_ReferenceStepIdeal m →
    θ_run (Cert.ReferenceStepIdeal.defs (F := Ideal)) (onTc (τ := Cert.ReferenceStepIdeal.τ) (Cert.ReferenceStepIdeal.main (F := Ideal))) ⟨m, fun _ => 0, g⟩ (fun r => (∀ c : Dev Cert.ReferenceStepIdeal.nD,
      r.2.mem ((c.tc : Thread Cert.ReferenceStepIdeal.nD Cert.ReferenceStepIdeal.τ).loc Cert.ReferenceStepIdeal.main_arg0) = m ((c.tc : Thread Cert.ReferenceStepIdeal.nD Cert.ReferenceStepIdeal.τ).loc Cert.ReferenceStepIdeal.main_arg0)
      ∧ r.2.mem ((c.tc : Thread Cert.ReferenceStepIdeal.nD Cert.ReferenceStepIdeal.τ).loc Cert.ReferenceStepIdeal.main_arg1) = m ((c.tc : Thread Cert.ReferenceStepIdeal.nD Cert.ReferenceStepIdeal.τ).loc Cert.ReferenceStepIdeal.main_arg1)
      ∧ r.2.mem ((c.tc : Thread Cert.ReferenceStepIdeal.nD Cert.ReferenceStepIdeal.τ).loc Cert.ReferenceStepIdeal.main_arg2) = m ((c.tc : Thread Cert.ReferenceStepIdeal.nD Cert.ReferenceStepIdeal.τ).loc Cert.ReferenceStepIdeal.main_arg2)
      ∧ r.2.mem ((c.tc : Thread Cert.ReferenceStepIdeal.nD Cert.ReferenceStepIdeal.τ).loc Cert.ReferenceStepIdeal.main_arg3) = m ((c.tc : Thread Cert.ReferenceStepIdeal.nD Cert.ReferenceStepIdeal.τ).loc Cert.ReferenceStepIdeal.main_arg3)
      ∧ r.2.mem ((c.tc : Thread Cert.ReferenceStepIdeal.nD Cert.ReferenceStepIdeal.τ).loc Cert.ReferenceStepIdeal.main_arg4) = m ((c.tc : Thread Cert.ReferenceStepIdeal.nD Cert.ReferenceStepIdeal.τ).loc Cert.ReferenceStepIdeal.main_arg4)
      ∧ r.2.mem ((c.tc : Thread Cert.ReferenceStepIdeal.nD Cert.ReferenceStepIdeal.τ).loc Cert.ReferenceStepIdeal.main_arg5) = m ((c.tc : Thread Cert.ReferenceStepIdeal.nD Cert.ReferenceStepIdeal.τ).loc Cert.ReferenceStepIdeal.main_arg5)
      ∧ r.2.mem ((c.tc : Thread Cert.ReferenceStepIdeal.nD Cert.ReferenceStepIdeal.τ).loc Cert.ReferenceStepIdeal.main_arg6) = m ((c.tc : Thread Cert.ReferenceStepIdeal.nD Cert.ReferenceStepIdeal.τ).loc Cert.ReferenceStepIdeal.main_arg6)
      ∧ r.2.mem ((c.tc : Thread Cert.ReferenceStepIdeal.nD Cert.ReferenceStepIdeal.τ).loc Cert.ReferenceStepIdeal.main_arg7) = m ((c.tc : Thread Cert.ReferenceStepIdeal.nD Cert.ReferenceStepIdeal.τ).loc Cert.ReferenceStepIdeal.main_arg7)
      ∧ r.2.mem ((c.tc : Thread Cert.ReferenceStepIdeal.nD Cert.ReferenceStepIdeal.τ).loc Cert.ReferenceStepIdeal.main_arg8) = m ((c.tc : Thread Cert.ReferenceStepIdeal.nD Cert.ReferenceStepIdeal.τ).loc Cert.ReferenceStepIdeal.main_arg8)
      ∧ r.2.mem ((c.tc : Thread Cert.ReferenceStepIdeal.nD Cert.ReferenceStepIdeal.τ).loc Cert.ReferenceStepIdeal.main_arg9) = m ((c.tc : Thread Cert.ReferenceStepIdeal.nD Cert.ReferenceStepIdeal.τ).loc Cert.ReferenceStepIdeal.main_arg9)
      ∧ r.2.mem ((c.tc : Thread Cert.ReferenceStepIdeal.nD Cert.ReferenceStepIdeal.τ).loc Cert.ReferenceStepIdeal.main_arg10) = m ((c.tc : Thread Cert.ReferenceStepIdeal.nD Cert.ReferenceStepIdeal.τ).loc Cert.ReferenceStepIdeal.main_arg10)
      ∧ r.2.mem ((c.tc : Thread Cert.ReferenceStepIdeal.nD Cert.ReferenceStepIdeal.τ).loc Cert.ReferenceStepIdeal.main_arg11) = m ((c.tc : Thread Cert.ReferenceStepIdeal.nD Cert.ReferenceStepIdeal.τ).loc Cert.ReferenceStepIdeal.main_arg11))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelInA_KernelInAIdeal : Prop :=
  True

def algebraic_KernelInAIdeal_ReferenceInAIdeal [hKernelInAIdeal : Cert.KernelInAIdeal.Facts] [hReferenceInAIdeal : Cert.ReferenceInAIdeal.Facts] : Prop :=
  ∀ (m : (ℓ : Loc Cert.KernelInAIdeal.nD Cert.KernelInAIdeal.τ Cert.KernelInAIdeal.sig) → Buf (Elt Ideal) ℓ) (g : Dev Cert.KernelInAIdeal.nD → PrngReg)
    (m' : (ℓ : Loc Cert.ReferenceInAIdeal.nD Cert.ReferenceInAIdeal.τ Cert.ReferenceInAIdeal.sig) → Buf (Elt Ideal) ℓ) (g' : Dev Cert.ReferenceInAIdeal.nD → PrngReg), Pre_KernelInAIdeal m →
    (∀ c : Dev Cert.KernelInAIdeal.nD,
      m' ((c.tc : Thread Cert.ReferenceInAIdeal.nD Cert.ReferenceInAIdeal.τ).loc Cert.ReferenceInAIdeal.main_arg0) = m ((c.tc : Thread Cert.KernelInAIdeal.nD Cert.KernelInAIdeal.τ).loc Cert.KernelInAIdeal.main_arg0)
      ∧ m' ((c.tc : Thread Cert.ReferenceInAIdeal.nD Cert.ReferenceInAIdeal.τ).loc Cert.ReferenceInAIdeal.main_arg1) = m ((c.tc : Thread Cert.KernelInAIdeal.nD Cert.KernelInAIdeal.τ).loc Cert.KernelInAIdeal.main_arg1)) →
    ∃ (v0 : (c : Dev Cert.KernelInAIdeal.nD) → Buf (Elt Ideal) ((c.tc : Thread Cert.KernelInAIdeal.nD Cert.KernelInAIdeal.τ).loc Cert.KernelInAIdeal.main_v1)),
      θ_run (Cert.KernelInAIdeal.defs (F := Ideal)) (onTc (τ := Cert.KernelInAIdeal.τ) (Cert.KernelInAIdeal.main (F := Ideal))) ⟨m, fun _ => 0, g⟩ (fun r => ∀ c : Dev Cert.KernelInAIdeal.nD,
          r.2.mem ((c.tc : Thread Cert.KernelInAIdeal.nD Cert.KernelInAIdeal.τ).loc Cert.KernelInAIdeal.main_v1) = v0 c
          ∧ r.2.mem ((c.tc : Thread Cert.KernelInAIdeal.nD Cert.KernelInAIdeal.τ).loc Cert.KernelInAIdeal.main_arg0) = m ((c.tc : Thread Cert.KernelInAIdeal.nD Cert.KernelInAIdeal.τ).loc Cert.KernelInAIdeal.main_arg0)
          ∧ r.2.mem ((c.tc : Thread Cert.KernelInAIdeal.nD Cert.KernelInAIdeal.τ).loc Cert.KernelInAIdeal.main_arg1) = m ((c.tc : Thread Cert.KernelInAIdeal.nD Cert.KernelInAIdeal.τ).loc Cert.KernelInAIdeal.main_arg1))
      ∧ θ_run (Cert.ReferenceInAIdeal.defs (F := Ideal)) (onTc (τ := Cert.ReferenceInAIdeal.τ) (Cert.ReferenceInAIdeal.main (F := Ideal))) ⟨m', fun _ => 0, g'⟩ (fun r => ∀ c : Dev Cert.ReferenceInAIdeal.nD,
          r.2.mem ((c.tc : Thread Cert.ReferenceInAIdeal.nD Cert.ReferenceInAIdeal.τ).loc Cert.ReferenceInAIdeal.main_v3) = v0 c
          ∧ r.2.mem ((c.tc : Thread Cert.ReferenceInAIdeal.nD Cert.ReferenceInAIdeal.τ).loc Cert.ReferenceInAIdeal.main_arg0) = m' ((c.tc : Thread Cert.ReferenceInAIdeal.nD Cert.ReferenceInAIdeal.τ).loc Cert.ReferenceInAIdeal.main_arg0)
          ∧ r.2.mem ((c.tc : Thread Cert.ReferenceInAIdeal.nD Cert.ReferenceInAIdeal.τ).loc Cert.ReferenceInAIdeal.main_arg1) = m' ((c.tc : Thread Cert.ReferenceInAIdeal.nD Cert.ReferenceInAIdeal.τ).loc Cert.ReferenceInAIdeal.main_arg1))

def preserves_KernelInZ_KernelInZIdeal : Prop :=
  True

def algebraic_KernelInZIdeal_ReferenceInZIdeal [hKernelInZIdeal : Cert.KernelInZIdeal.Facts] [hReferenceInZIdeal : Cert.ReferenceInZIdeal.Facts] : Prop :=
  ∀ (m : (ℓ : Loc Cert.KernelInZIdeal.nD Cert.KernelInZIdeal.τ Cert.KernelInZIdeal.sig) → Buf (Elt Ideal) ℓ) (g : Dev Cert.KernelInZIdeal.nD → PrngReg)
    (m' : (ℓ : Loc Cert.ReferenceInZIdeal.nD Cert.ReferenceInZIdeal.τ Cert.ReferenceInZIdeal.sig) → Buf (Elt Ideal) ℓ) (g' : Dev Cert.ReferenceInZIdeal.nD → PrngReg), Pre_KernelInZIdeal m →
    (∀ c : Dev Cert.KernelInZIdeal.nD,
      m' ((c.tc : Thread Cert.ReferenceInZIdeal.nD Cert.ReferenceInZIdeal.τ).loc Cert.ReferenceInZIdeal.main_arg0) = m ((c.tc : Thread Cert.KernelInZIdeal.nD Cert.KernelInZIdeal.τ).loc Cert.KernelInZIdeal.main_arg0)
      ∧ m' ((c.tc : Thread Cert.ReferenceInZIdeal.nD Cert.ReferenceInZIdeal.τ).loc Cert.ReferenceInZIdeal.main_arg1) = m ((c.tc : Thread Cert.KernelInZIdeal.nD Cert.KernelInZIdeal.τ).loc Cert.KernelInZIdeal.main_arg1)) →
    ∃ (v0 : (c : Dev Cert.KernelInZIdeal.nD) → Buf (Elt Ideal) ((c.tc : Thread Cert.KernelInZIdeal.nD Cert.KernelInZIdeal.τ).loc Cert.KernelInZIdeal.main_v2)),
      θ_run (Cert.KernelInZIdeal.defs (F := Ideal)) (onTc (τ := Cert.KernelInZIdeal.τ) (Cert.KernelInZIdeal.main (F := Ideal))) ⟨m, fun _ => 0, g⟩ (fun r => ∀ c : Dev Cert.KernelInZIdeal.nD,
          r.2.mem ((c.tc : Thread Cert.KernelInZIdeal.nD Cert.KernelInZIdeal.τ).loc Cert.KernelInZIdeal.main_v2) = v0 c
          ∧ r.2.mem ((c.tc : Thread Cert.KernelInZIdeal.nD Cert.KernelInZIdeal.τ).loc Cert.KernelInZIdeal.main_arg0) = m ((c.tc : Thread Cert.KernelInZIdeal.nD Cert.KernelInZIdeal.τ).loc Cert.KernelInZIdeal.main_arg0)
          ∧ r.2.mem ((c.tc : Thread Cert.KernelInZIdeal.nD Cert.KernelInZIdeal.τ).loc Cert.KernelInZIdeal.main_arg1) = m ((c.tc : Thread Cert.KernelInZIdeal.nD Cert.KernelInZIdeal.τ).loc Cert.KernelInZIdeal.main_arg1))
      ∧ θ_run (Cert.ReferenceInZIdeal.defs (F := Ideal)) (onTc (τ := Cert.ReferenceInZIdeal.τ) (Cert.ReferenceInZIdeal.main (F := Ideal))) ⟨m', fun _ => 0, g'⟩ (fun r => ∀ c : Dev Cert.ReferenceInZIdeal.nD,
          r.2.mem ((c.tc : Thread Cert.ReferenceInZIdeal.nD Cert.ReferenceInZIdeal.τ).loc Cert.ReferenceInZIdeal.main_v4) = v0 c
          ∧ r.2.mem ((c.tc : Thread Cert.ReferenceInZIdeal.nD Cert.ReferenceInZIdeal.τ).loc Cert.ReferenceInZIdeal.main_arg0) = m' ((c.tc : Thread Cert.ReferenceInZIdeal.nD Cert.ReferenceInZIdeal.τ).loc Cert.ReferenceInZIdeal.main_arg0)
          ∧ r.2.mem ((c.tc : Thread Cert.ReferenceInZIdeal.nD Cert.ReferenceInZIdeal.τ).loc Cert.ReferenceInZIdeal.main_arg1) = m' ((c.tc : Thread Cert.ReferenceInZIdeal.nD Cert.ReferenceInZIdeal.τ).loc Cert.ReferenceInZIdeal.main_arg1))

def preserves_KernelInG_KernelInGIdeal : Prop :=
  True

def algebraic_KernelInGIdeal_ReferenceInGIdeal [hKernelInGIdeal : Cert.KernelInGIdeal.Facts] [hReferenceInGIdeal : Cert.ReferenceInGIdeal.Facts] : Prop :=
  ∀ (m : (ℓ : Loc Cert.KernelInGIdeal.nD Cert.KernelInGIdeal.τ Cert.KernelInGIdeal.sig) → Buf (Elt Ideal) ℓ) (g : Dev Cert.KernelInGIdeal.nD → PrngReg)
    (m' : (ℓ : Loc Cert.ReferenceInGIdeal.nD Cert.ReferenceInGIdeal.τ Cert.ReferenceInGIdeal.sig) → Buf (Elt Ideal) ℓ) (g' : Dev Cert.ReferenceInGIdeal.nD → PrngReg), Pre_KernelInGIdeal m →
    (∀ c : Dev Cert.KernelInGIdeal.nD,
      m' ((c.tc : Thread Cert.ReferenceInGIdeal.nD Cert.ReferenceInGIdeal.τ).loc Cert.ReferenceInGIdeal.main_arg0) = m ((c.tc : Thread Cert.KernelInGIdeal.nD Cert.KernelInGIdeal.τ).loc Cert.KernelInGIdeal.main_arg0)
      ∧ m' ((c.tc : Thread Cert.ReferenceInGIdeal.nD Cert.ReferenceInGIdeal.τ).loc Cert.ReferenceInGIdeal.main_arg1) = m ((c.tc : Thread Cert.KernelInGIdeal.nD Cert.KernelInGIdeal.τ).loc Cert.KernelInGIdeal.main_arg1)) →
    ∃ (v0 : (c : Dev Cert.KernelInGIdeal.nD) → Buf (Elt Ideal) ((c.tc : Thread Cert.KernelInGIdeal.nD Cert.KernelInGIdeal.τ).loc Cert.KernelInGIdeal.main_v2)),
      θ_run (Cert.KernelInGIdeal.defs (F := Ideal)) (onTc (τ := Cert.KernelInGIdeal.τ) (Cert.KernelInGIdeal.main (F := Ideal))) ⟨m, fun _ => 0, g⟩ (fun r => ∀ c : Dev Cert.KernelInGIdeal.nD,
          r.2.mem ((c.tc : Thread Cert.KernelInGIdeal.nD Cert.KernelInGIdeal.τ).loc Cert.KernelInGIdeal.main_v2) = v0 c
          ∧ r.2.mem ((c.tc : Thread Cert.KernelInGIdeal.nD Cert.KernelInGIdeal.τ).loc Cert.KernelInGIdeal.main_arg0) = m ((c.tc : Thread Cert.KernelInGIdeal.nD Cert.KernelInGIdeal.τ).loc Cert.KernelInGIdeal.main_arg0)
          ∧ r.2.mem ((c.tc : Thread Cert.KernelInGIdeal.nD Cert.KernelInGIdeal.τ).loc Cert.KernelInGIdeal.main_arg1) = m ((c.tc : Thread Cert.KernelInGIdeal.nD Cert.KernelInGIdeal.τ).loc Cert.KernelInGIdeal.main_arg1))
      ∧ θ_run (Cert.ReferenceInGIdeal.defs (F := Ideal)) (onTc (τ := Cert.ReferenceInGIdeal.τ) (Cert.ReferenceInGIdeal.main (F := Ideal))) ⟨m', fun _ => 0, g'⟩ (fun r => ∀ c : Dev Cert.ReferenceInGIdeal.nD,
          r.2.mem ((c.tc : Thread Cert.ReferenceInGIdeal.nD Cert.ReferenceInGIdeal.τ).loc Cert.ReferenceInGIdeal.main_v4) = v0 c
          ∧ r.2.mem ((c.tc : Thread Cert.ReferenceInGIdeal.nD Cert.ReferenceInGIdeal.τ).loc Cert.ReferenceInGIdeal.main_arg0) = m' ((c.tc : Thread Cert.ReferenceInGIdeal.nD Cert.ReferenceInGIdeal.τ).loc Cert.ReferenceInGIdeal.main_arg0)
          ∧ r.2.mem ((c.tc : Thread Cert.ReferenceInGIdeal.nD Cert.ReferenceInGIdeal.τ).loc Cert.ReferenceInGIdeal.main_arg1) = m' ((c.tc : Thread Cert.ReferenceInGIdeal.nD Cert.ReferenceInGIdeal.τ).loc Cert.ReferenceInGIdeal.main_arg1))

def preserves_KernelSsdO_KernelSsdOIdeal : Prop :=
  True

def algebraic_KernelSsdOIdeal_ReferenceSsdOIdeal [hKernelSsdOIdeal : Cert.KernelSsdOIdeal.Facts] [hReferenceSsdOIdeal : Cert.ReferenceSsdOIdeal.Facts] : Prop :=
  ∀ (m : (ℓ : Loc Cert.KernelSsdOIdeal.nD Cert.KernelSsdOIdeal.τ Cert.KernelSsdOIdeal.sig) → Buf (Elt Ideal) ℓ) (g : Dev Cert.KernelSsdOIdeal.nD → PrngReg)
    (m' : (ℓ : Loc Cert.ReferenceSsdOIdeal.nD Cert.ReferenceSsdOIdeal.τ Cert.ReferenceSsdOIdeal.sig) → Buf (Elt Ideal) ℓ) (g' : Dev Cert.ReferenceSsdOIdeal.nD → PrngReg), Pre_KernelSsdOIdeal m →
    (∀ c : Dev Cert.KernelSsdOIdeal.nD,
      m' ((c.tc : Thread Cert.ReferenceSsdOIdeal.nD Cert.ReferenceSsdOIdeal.τ).loc Cert.ReferenceSsdOIdeal.main_arg0) = m ((c.tc : Thread Cert.KernelSsdOIdeal.nD Cert.KernelSsdOIdeal.τ).loc Cert.KernelSsdOIdeal.main_arg0)
      ∧ m' ((c.tc : Thread Cert.ReferenceSsdOIdeal.nD Cert.ReferenceSsdOIdeal.τ).loc Cert.ReferenceSsdOIdeal.main_arg1) = m ((c.tc : Thread Cert.KernelSsdOIdeal.nD Cert.KernelSsdOIdeal.τ).loc Cert.KernelSsdOIdeal.main_arg1)
      ∧ m' ((c.tc : Thread Cert.ReferenceSsdOIdeal.nD Cert.ReferenceSsdOIdeal.τ).loc Cert.ReferenceSsdOIdeal.main_arg2) = m ((c.tc : Thread Cert.KernelSsdOIdeal.nD Cert.KernelSsdOIdeal.τ).loc Cert.KernelSsdOIdeal.main_arg2)) →
    ∃ (v0 : (c : Dev Cert.KernelSsdOIdeal.nD) → Buf (Elt Ideal) ((c.tc : Thread Cert.KernelSsdOIdeal.nD Cert.KernelSsdOIdeal.τ).loc Cert.KernelSsdOIdeal.main_v1)),
      θ_run (Cert.KernelSsdOIdeal.defs (F := Ideal)) (onTc (τ := Cert.KernelSsdOIdeal.τ) (Cert.KernelSsdOIdeal.main (F := Ideal))) ⟨m, fun _ => 0, g⟩ (fun r => ∀ c : Dev Cert.KernelSsdOIdeal.nD,
          r.2.mem ((c.tc : Thread Cert.KernelSsdOIdeal.nD Cert.KernelSsdOIdeal.τ).loc Cert.KernelSsdOIdeal.main_v1) = v0 c
          ∧ r.2.mem ((c.tc : Thread Cert.KernelSsdOIdeal.nD Cert.KernelSsdOIdeal.τ).loc Cert.KernelSsdOIdeal.main_arg0) = m ((c.tc : Thread Cert.KernelSsdOIdeal.nD Cert.KernelSsdOIdeal.τ).loc Cert.KernelSsdOIdeal.main_arg0)
          ∧ r.2.mem ((c.tc : Thread Cert.KernelSsdOIdeal.nD Cert.KernelSsdOIdeal.τ).loc Cert.KernelSsdOIdeal.main_arg1) = m ((c.tc : Thread Cert.KernelSsdOIdeal.nD Cert.KernelSsdOIdeal.τ).loc Cert.KernelSsdOIdeal.main_arg1)
          ∧ r.2.mem ((c.tc : Thread Cert.KernelSsdOIdeal.nD Cert.KernelSsdOIdeal.τ).loc Cert.KernelSsdOIdeal.main_arg2) = m ((c.tc : Thread Cert.KernelSsdOIdeal.nD Cert.KernelSsdOIdeal.τ).loc Cert.KernelSsdOIdeal.main_arg2))
      ∧ θ_run (Cert.ReferenceSsdOIdeal.defs (F := Ideal)) (onTc (τ := Cert.ReferenceSsdOIdeal.τ) (Cert.ReferenceSsdOIdeal.main (F := Ideal))) ⟨m', fun _ => 0, g'⟩ (fun r => ∀ c : Dev Cert.ReferenceSsdOIdeal.nD,
          r.2.mem ((c.tc : Thread Cert.ReferenceSsdOIdeal.nD Cert.ReferenceSsdOIdeal.τ).loc Cert.ReferenceSsdOIdeal.main_v13) = v0 c
          ∧ r.2.mem ((c.tc : Thread Cert.ReferenceSsdOIdeal.nD Cert.ReferenceSsdOIdeal.τ).loc Cert.ReferenceSsdOIdeal.main_arg0) = m' ((c.tc : Thread Cert.ReferenceSsdOIdeal.nD Cert.ReferenceSsdOIdeal.τ).loc Cert.ReferenceSsdOIdeal.main_arg0)
          ∧ r.2.mem ((c.tc : Thread Cert.ReferenceSsdOIdeal.nD Cert.ReferenceSsdOIdeal.τ).loc Cert.ReferenceSsdOIdeal.main_arg1) = m' ((c.tc : Thread Cert.ReferenceSsdOIdeal.nD Cert.ReferenceSsdOIdeal.τ).loc Cert.ReferenceSsdOIdeal.main_arg1)
          ∧ r.2.mem ((c.tc : Thread Cert.ReferenceSsdOIdeal.nD Cert.ReferenceSsdOIdeal.τ).loc Cert.ReferenceSsdOIdeal.main_arg2) = m' ((c.tc : Thread Cert.ReferenceSsdOIdeal.nD Cert.ReferenceSsdOIdeal.τ).loc Cert.ReferenceSsdOIdeal.main_arg2))

def preserves_KernelMlaO_KernelMlaOIdeal : Prop :=
  True

def algebraic_KernelMlaOIdeal_ReferenceMlaOIdeal [hKernelMlaOIdeal : Cert.KernelMlaOIdeal.Facts] [hReferenceMlaOIdeal : Cert.ReferenceMlaOIdeal.Facts] : Prop :=
  ∀ (m : (ℓ : Loc Cert.KernelMlaOIdeal.nD Cert.KernelMlaOIdeal.τ Cert.KernelMlaOIdeal.sig) → Buf (Elt Ideal) ℓ) (g : Dev Cert.KernelMlaOIdeal.nD → PrngReg)
    (m' : (ℓ : Loc Cert.ReferenceMlaOIdeal.nD Cert.ReferenceMlaOIdeal.τ Cert.ReferenceMlaOIdeal.sig) → Buf (Elt Ideal) ℓ) (g' : Dev Cert.ReferenceMlaOIdeal.nD → PrngReg), Pre_KernelMlaOIdeal m →
    (∀ c : Dev Cert.KernelMlaOIdeal.nD,
      m' ((c.tc : Thread Cert.ReferenceMlaOIdeal.nD Cert.ReferenceMlaOIdeal.τ).loc Cert.ReferenceMlaOIdeal.main_arg0) = m ((c.tc : Thread Cert.KernelMlaOIdeal.nD Cert.KernelMlaOIdeal.τ).loc Cert.KernelMlaOIdeal.main_arg0)
      ∧ m' ((c.tc : Thread Cert.ReferenceMlaOIdeal.nD Cert.ReferenceMlaOIdeal.τ).loc Cert.ReferenceMlaOIdeal.main_arg1) = m ((c.tc : Thread Cert.KernelMlaOIdeal.nD Cert.KernelMlaOIdeal.τ).loc Cert.KernelMlaOIdeal.main_arg1)
      ∧ m' ((c.tc : Thread Cert.ReferenceMlaOIdeal.nD Cert.ReferenceMlaOIdeal.τ).loc Cert.ReferenceMlaOIdeal.main_arg2) = m ((c.tc : Thread Cert.KernelMlaOIdeal.nD Cert.KernelMlaOIdeal.τ).loc Cert.KernelMlaOIdeal.main_arg2)
      ∧ m' ((c.tc : Thread Cert.ReferenceMlaOIdeal.nD Cert.ReferenceMlaOIdeal.τ).loc Cert.ReferenceMlaOIdeal.main_arg3) = m ((c.tc : Thread Cert.KernelMlaOIdeal.nD Cert.KernelMlaOIdeal.τ).loc Cert.KernelMlaOIdeal.main_arg3)) →
    ∃ (v0 : (c : Dev Cert.KernelMlaOIdeal.nD) → Buf (Elt Ideal) ((c.tc : Thread Cert.KernelMlaOIdeal.nD Cert.KernelMlaOIdeal.τ).loc Cert.KernelMlaOIdeal.main_v1)),
      θ_run (Cert.KernelMlaOIdeal.defs (F := Ideal)) (onTc (τ := Cert.KernelMlaOIdeal.τ) (Cert.KernelMlaOIdeal.main (F := Ideal))) ⟨m, fun _ => 0, g⟩ (fun r => ∀ c : Dev Cert.KernelMlaOIdeal.nD,
          r.2.mem ((c.tc : Thread Cert.KernelMlaOIdeal.nD Cert.KernelMlaOIdeal.τ).loc Cert.KernelMlaOIdeal.main_v1) = v0 c
          ∧ r.2.mem ((c.tc : Thread Cert.KernelMlaOIdeal.nD Cert.KernelMlaOIdeal.τ).loc Cert.KernelMlaOIdeal.main_arg0) = m ((c.tc : Thread Cert.KernelMlaOIdeal.nD Cert.KernelMlaOIdeal.τ).loc Cert.KernelMlaOIdeal.main_arg0)
          ∧ r.2.mem ((c.tc : Thread Cert.KernelMlaOIdeal.nD Cert.KernelMlaOIdeal.τ).loc Cert.KernelMlaOIdeal.main_arg1) = m ((c.tc : Thread Cert.KernelMlaOIdeal.nD Cert.KernelMlaOIdeal.τ).loc Cert.KernelMlaOIdeal.main_arg1)
          ∧ r.2.mem ((c.tc : Thread Cert.KernelMlaOIdeal.nD Cert.KernelMlaOIdeal.τ).loc Cert.KernelMlaOIdeal.main_arg2) = m ((c.tc : Thread Cert.KernelMlaOIdeal.nD Cert.KernelMlaOIdeal.τ).loc Cert.KernelMlaOIdeal.main_arg2)
          ∧ r.2.mem ((c.tc : Thread Cert.KernelMlaOIdeal.nD Cert.KernelMlaOIdeal.τ).loc Cert.KernelMlaOIdeal.main_arg3) = m ((c.tc : Thread Cert.KernelMlaOIdeal.nD Cert.KernelMlaOIdeal.τ).loc Cert.KernelMlaOIdeal.main_arg3))
      ∧ θ_run (Cert.ReferenceMlaOIdeal.defs (F := Ideal)) (onTc (τ := Cert.ReferenceMlaOIdeal.τ) (Cert.ReferenceMlaOIdeal.main (F := Ideal))) ⟨m', fun _ => 0, g'⟩ (fun r => ∀ c : Dev Cert.ReferenceMlaOIdeal.nD,
          r.2.mem ((c.tc : Thread Cert.ReferenceMlaOIdeal.nD Cert.ReferenceMlaOIdeal.τ).loc Cert.ReferenceMlaOIdeal.main_v15) = v0 c
          ∧ r.2.mem ((c.tc : Thread Cert.ReferenceMlaOIdeal.nD Cert.ReferenceMlaOIdeal.τ).loc Cert.ReferenceMlaOIdeal.main_arg0) = m' ((c.tc : Thread Cert.ReferenceMlaOIdeal.nD Cert.ReferenceMlaOIdeal.τ).loc Cert.ReferenceMlaOIdeal.main_arg0)
          ∧ r.2.mem ((c.tc : Thread Cert.ReferenceMlaOIdeal.nD Cert.ReferenceMlaOIdeal.τ).loc Cert.ReferenceMlaOIdeal.main_arg1) = m' ((c.tc : Thread Cert.ReferenceMlaOIdeal.nD Cert.ReferenceMlaOIdeal.τ).loc Cert.ReferenceMlaOIdeal.main_arg1)
          ∧ r.2.mem ((c.tc : Thread Cert.ReferenceMlaOIdeal.nD Cert.ReferenceMlaOIdeal.τ).loc Cert.ReferenceMlaOIdeal.main_arg2) = m' ((c.tc : Thread Cert.ReferenceMlaOIdeal.nD Cert.ReferenceMlaOIdeal.τ).loc Cert.ReferenceMlaOIdeal.main_arg2)
          ∧ r.2.mem ((c.tc : Thread Cert.ReferenceMlaOIdeal.nD Cert.ReferenceMlaOIdeal.τ).loc Cert.ReferenceMlaOIdeal.main_arg3) = m' ((c.tc : Thread Cert.ReferenceMlaOIdeal.nD Cert.ReferenceMlaOIdeal.τ).loc Cert.ReferenceMlaOIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelGelu_KernelGeluIdeal : Prop :=
  True

def algebraic_KernelGeluIdeal_ReferenceGeluIdeal [hKernelGeluIdeal : Cert.KernelGeluIdeal.Facts] [hReferenceGeluIdeal : Cert.ReferenceGeluIdeal.Facts] : Prop :=
  ∀ (m : (ℓ : Loc Cert.KernelGeluIdeal.nD Cert.KernelGeluIdeal.τ Cert.KernelGeluIdeal.sig) → Buf (Elt Ideal) ℓ) (g : Dev Cert.KernelGeluIdeal.nD → PrngReg)
    (m' : (ℓ : Loc Cert.ReferenceGeluIdeal.nD Cert.ReferenceGeluIdeal.τ Cert.ReferenceGeluIdeal.sig) → Buf (Elt Ideal) ℓ) (g' : Dev Cert.ReferenceGeluIdeal.nD → PrngReg), Pre_KernelGeluIdeal m →
    (∀ c : Dev Cert.KernelGeluIdeal.nD,
      m' ((c.tc : Thread Cert.ReferenceGeluIdeal.nD Cert.ReferenceGeluIdeal.τ).loc Cert.ReferenceGeluIdeal.main_arg0) = m ((c.tc : Thread Cert.KernelGeluIdeal.nD Cert.KernelGeluIdeal.τ).loc Cert.KernelGeluIdeal.main_arg0)
      ∧ m' ((c.tc : Thread Cert.ReferenceGeluIdeal.nD Cert.ReferenceGeluIdeal.τ).loc Cert.ReferenceGeluIdeal.main_arg1) = m ((c.tc : Thread Cert.KernelGeluIdeal.nD Cert.KernelGeluIdeal.τ).loc Cert.KernelGeluIdeal.main_arg1)) →
    ∃ (v0 : (c : Dev Cert.KernelGeluIdeal.nD) → Buf (Elt Ideal) ((c.tc : Thread Cert.KernelGeluIdeal.nD Cert.KernelGeluIdeal.τ).loc Cert.KernelGeluIdeal.main_v1)),
      θ_run (Cert.KernelGeluIdeal.defs (F := Ideal)) (onTc (τ := Cert.KernelGeluIdeal.τ) (Cert.KernelGeluIdeal.main (F := Ideal))) ⟨m, fun _ => 0, g⟩ (fun r => ∀ c : Dev Cert.KernelGeluIdeal.nD,
          r.2.mem ((c.tc : Thread Cert.KernelGeluIdeal.nD Cert.KernelGeluIdeal.τ).loc Cert.KernelGeluIdeal.main_v1) = v0 c
          ∧ r.2.mem ((c.tc : Thread Cert.KernelGeluIdeal.nD Cert.KernelGeluIdeal.τ).loc Cert.KernelGeluIdeal.main_arg0) = m ((c.tc : Thread Cert.KernelGeluIdeal.nD Cert.KernelGeluIdeal.τ).loc Cert.KernelGeluIdeal.main_arg0)
          ∧ r.2.mem ((c.tc : Thread Cert.KernelGeluIdeal.nD Cert.KernelGeluIdeal.τ).loc Cert.KernelGeluIdeal.main_arg1) = m ((c.tc : Thread Cert.KernelGeluIdeal.nD Cert.KernelGeluIdeal.τ).loc Cert.KernelGeluIdeal.main_arg1))
      ∧ θ_run (Cert.ReferenceGeluIdeal.defs (F := Ideal)) (onTc (τ := Cert.ReferenceGeluIdeal.τ) (Cert.ReferenceGeluIdeal.main (F := Ideal))) ⟨m', fun _ => 0, g'⟩ (fun r => ∀ c : Dev Cert.ReferenceGeluIdeal.nD,
          r.2.mem ((c.tc : Thread Cert.ReferenceGeluIdeal.nD Cert.ReferenceGeluIdeal.τ).loc Cert.ReferenceGeluIdeal.main_v17) = v0 c
          ∧ r.2.mem ((c.tc : Thread Cert.ReferenceGeluIdeal.nD Cert.ReferenceGeluIdeal.τ).loc Cert.ReferenceGeluIdeal.main_arg0) = m' ((c.tc : Thread Cert.ReferenceGeluIdeal.nD Cert.ReferenceGeluIdeal.τ).loc Cert.ReferenceGeluIdeal.main_arg0)
          ∧ r.2.mem ((c.tc : Thread Cert.ReferenceGeluIdeal.nD Cert.ReferenceGeluIdeal.τ).loc Cert.ReferenceGeluIdeal.main_arg1) = m' ((c.tc : Thread Cert.ReferenceGeluIdeal.nD Cert.ReferenceGeluIdeal.τ).loc Cert.ReferenceGeluIdeal.main_arg1))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)) →
    ∃ (v0 : (c : Dev Cert.KernelPleIdeal.nD) → Buf (Elt Ideal) ((c.tc : Thread Cert.KernelPleIdeal.nD Cert.KernelPleIdeal.τ).loc Cert.KernelPleIdeal.main_v2)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v2) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v14) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)
      ∧ m' ((c.tc : Thread Cert.ReferenceQIdeal.nD Cert.ReferenceQIdeal.τ).loc Cert.ReferenceQIdeal.main_arg3) = m ((c.tc : Thread Cert.KernelQIdeal.nD Cert.KernelQIdeal.τ).loc Cert.KernelQIdeal.main_arg3)) →
    ∃ (v0 : (c : Dev Cert.KernelQIdeal.nD) → Buf (Elt Ideal) ((c.tc : Thread Cert.KernelQIdeal.nD Cert.KernelQIdeal.τ).loc Cert.KernelQIdeal.main_v7)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v7) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
          ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v31) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2)
          ∧ r.2.mem ((c.tc : Thread Cert.ReferenceQIdeal.nD Cert.ReferenceQIdeal.τ).loc Cert.ReferenceQIdeal.main_arg3) = m' ((c.tc : Thread Cert.ReferenceQIdeal.nD Cert.ReferenceQIdeal.τ).loc Cert.ReferenceQIdeal.main_arg3))

def preserves_KernelKcat_KernelKcatIdeal : Prop :=
  True

def algebraic_KernelKcatIdeal_ReferenceKcatIdeal [hKernelKcatIdeal : Cert.KernelKcatIdeal.Facts] [hReferenceKcatIdeal : Cert.ReferenceKcatIdeal.Facts] : Prop :=
  ∀ (m : (ℓ : Loc Cert.KernelKcatIdeal.nD Cert.KernelKcatIdeal.τ Cert.KernelKcatIdeal.sig) → Buf (Elt Ideal) ℓ) (g : Dev Cert.KernelKcatIdeal.nD → PrngReg)
    (m' : (ℓ : Loc Cert.ReferenceKcatIdeal.nD Cert.ReferenceKcatIdeal.τ Cert.ReferenceKcatIdeal.sig) → Buf (Elt Ideal) ℓ) (g' : Dev Cert.ReferenceKcatIdeal.nD → PrngReg), Pre_KernelKcatIdeal m →
    (∀ c : Dev Cert.KernelKcatIdeal.nD,
      m' ((c.tc : Thread Cert.ReferenceKcatIdeal.nD Cert.ReferenceKcatIdeal.τ).loc Cert.ReferenceKcatIdeal.main_arg0) = m ((c.tc : Thread Cert.KernelKcatIdeal.nD Cert.KernelKcatIdeal.τ).loc Cert.KernelKcatIdeal.main_arg0)
      ∧ m' ((c.tc : Thread Cert.ReferenceKcatIdeal.nD Cert.ReferenceKcatIdeal.τ).loc Cert.ReferenceKcatIdeal.main_arg1) = m ((c.tc : Thread Cert.KernelKcatIdeal.nD Cert.KernelKcatIdeal.τ).loc Cert.KernelKcatIdeal.main_arg1)
      ∧ m' ((c.tc : Thread Cert.ReferenceKcatIdeal.nD Cert.ReferenceKcatIdeal.τ).loc Cert.ReferenceKcatIdeal.main_arg2) = m ((c.tc : Thread Cert.KernelKcatIdeal.nD Cert.KernelKcatIdeal.τ).loc Cert.KernelKcatIdeal.main_arg2)) →
    ∃ (v0 : (c : Dev Cert.KernelKcatIdeal.nD) → Buf (Elt Ideal) ((c.tc : Thread Cert.KernelKcatIdeal.nD Cert.KernelKcatIdeal.τ).loc Cert.KernelKcatIdeal.main_v4)),
      θ_run (Cert.KernelKcatIdeal.defs (F := Ideal)) (onTc (τ := Cert.KernelKcatIdeal.τ) (Cert.KernelKcatIdeal.main (F := Ideal))) ⟨m, fun _ => 0, g⟩ (fun r => ∀ c : Dev Cert.KernelKcatIdeal.nD,
          r.2.mem ((c.tc : Thread Cert.KernelKcatIdeal.nD Cert.KernelKcatIdeal.τ).loc Cert.KernelKcatIdeal.main_v4) = v0 c
          ∧ r.2.mem ((c.tc : Thread Cert.KernelKcatIdeal.nD Cert.KernelKcatIdeal.τ).loc Cert.KernelKcatIdeal.main_arg0) = m ((c.tc : Thread Cert.KernelKcatIdeal.nD Cert.KernelKcatIdeal.τ).loc Cert.KernelKcatIdeal.main_arg0)
          ∧ r.2.mem ((c.tc : Thread Cert.KernelKcatIdeal.nD Cert.KernelKcatIdeal.τ).loc Cert.KernelKcatIdeal.main_arg1) = m ((c.tc : Thread Cert.KernelKcatIdeal.nD Cert.KernelKcatIdeal.τ).loc Cert.KernelKcatIdeal.main_arg1)
          ∧ r.2.mem ((c.tc : Thread Cert.KernelKcatIdeal.nD Cert.KernelKcatIdeal.τ).loc Cert.KernelKcatIdeal.main_arg2) = m ((c.tc : Thread Cert.KernelKcatIdeal.nD Cert.KernelKcatIdeal.τ).loc Cert.KernelKcatIdeal.main_arg2))
      ∧ θ_run (Cert.ReferenceKcatIdeal.defs (F := Ideal)) (onTc (τ := Cert.ReferenceKcatIdeal.τ) (Cert.ReferenceKcatIdeal.main (F := Ideal))) ⟨m', fun _ => 0, g'⟩ (fun r => ∀ c : Dev Cert.ReferenceKcatIdeal.nD,
          r.2.mem ((c.tc : Thread Cert.ReferenceKcatIdeal.nD Cert.ReferenceKcatIdeal.τ).loc Cert.ReferenceKcatIdeal.main_v10) = v0 c
          ∧ r.2.mem ((c.tc : Thread Cert.ReferenceKcatIdeal.nD Cert.ReferenceKcatIdeal.τ).loc Cert.ReferenceKcatIdeal.main_arg0) = m' ((c.tc : Thread Cert.ReferenceKcatIdeal.nD Cert.ReferenceKcatIdeal.τ).loc Cert.ReferenceKcatIdeal.main_arg0)
          ∧ r.2.mem ((c.tc : Thread Cert.ReferenceKcatIdeal.nD Cert.ReferenceKcatIdeal.τ).loc Cert.ReferenceKcatIdeal.main_arg1) = m' ((c.tc : Thread Cert.ReferenceKcatIdeal.nD Cert.ReferenceKcatIdeal.τ).loc Cert.ReferenceKcatIdeal.main_arg1)
          ∧ r.2.mem ((c.tc : Thread Cert.ReferenceKcatIdeal.nD Cert.ReferenceKcatIdeal.τ).loc Cert.ReferenceKcatIdeal.main_arg2) = m' ((c.tc : Thread Cert.ReferenceKcatIdeal.nD Cert.ReferenceKcatIdeal.τ).loc Cert.ReferenceKcatIdeal.main_arg2))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)) →
    ∃ (v0 : (c : Dev Cert.KernelVIdeal.nD) → Buf (Elt Ideal) ((c.tc : Thread Cert.KernelVIdeal.nD Cert.KernelVIdeal.τ).loc Cert.KernelVIdeal.main_v4)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v4) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v7) = v0 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)) →
    ∃ (v0 : (c : Dev Cert.KernelFinalIdeal.nD) → Buf (Elt Ideal) ((c.tc : Thread Cert.KernelFinalIdeal.nD Cert.KernelFinalIdeal.τ).loc Cert.KernelFinalIdeal.main_v1)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v1) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v12) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1))

def preserves_KernelFinalS_KernelFinalSIdeal : Prop :=
  True

def algebraic_KernelFinalSIdeal_ReferenceFinalSIdeal [hKernelFinalSIdeal : Cert.KernelFinalSIdeal.Facts] [hReferenceFinalSIdeal : Cert.ReferenceFinalSIdeal.Facts] : Prop :=
  ∀ (m : (ℓ : Loc Cert.KernelFinalSIdeal.nD Cert.KernelFinalSIdeal.τ Cert.KernelFinalSIdeal.sig) → Buf (Elt Ideal) ℓ) (g : Dev Cert.KernelFinalSIdeal.nD → PrngReg)
    (m' : (ℓ : Loc Cert.ReferenceFinalSIdeal.nD Cert.ReferenceFinalSIdeal.τ Cert.ReferenceFinalSIdeal.sig) → Buf (Elt Ideal) ℓ) (g' : Dev Cert.ReferenceFinalSIdeal.nD → PrngReg), Pre_KernelFinalSIdeal m →
    (∀ c : Dev Cert.KernelFinalSIdeal.nD,
      m' ((c.tc : Thread Cert.ReferenceFinalSIdeal.nD Cert.ReferenceFinalSIdeal.τ).loc Cert.ReferenceFinalSIdeal.main_arg0) = m ((c.tc : Thread Cert.KernelFinalSIdeal.nD Cert.KernelFinalSIdeal.τ).loc Cert.KernelFinalSIdeal.main_arg0)
      ∧ m' ((c.tc : Thread Cert.ReferenceFinalSIdeal.nD Cert.ReferenceFinalSIdeal.τ).loc Cert.ReferenceFinalSIdeal.main_arg1) = m ((c.tc : Thread Cert.KernelFinalSIdeal.nD Cert.KernelFinalSIdeal.τ).loc Cert.KernelFinalSIdeal.main_arg1)) →
    ∃ (v0 : (c : Dev Cert.KernelFinalSIdeal.nD) → Buf (Elt Ideal) ((c.tc : Thread Cert.KernelFinalSIdeal.nD Cert.KernelFinalSIdeal.τ).loc Cert.KernelFinalSIdeal.main_v1)),
      θ_run (Cert.KernelFinalSIdeal.defs (F := Ideal)) (onTc (τ := Cert.KernelFinalSIdeal.τ) (Cert.KernelFinalSIdeal.main (F := Ideal))) ⟨m, fun _ => 0, g⟩ (fun r => ∀ c : Dev Cert.KernelFinalSIdeal.nD,
          r.2.mem ((c.tc : Thread Cert.KernelFinalSIdeal.nD Cert.KernelFinalSIdeal.τ).loc Cert.KernelFinalSIdeal.main_v1) = v0 c
          ∧ r.2.mem ((c.tc : Thread Cert.KernelFinalSIdeal.nD Cert.KernelFinalSIdeal.τ).loc Cert.KernelFinalSIdeal.main_arg0) = m ((c.tc : Thread Cert.KernelFinalSIdeal.nD Cert.KernelFinalSIdeal.τ).loc Cert.KernelFinalSIdeal.main_arg0)
          ∧ r.2.mem ((c.tc : Thread Cert.KernelFinalSIdeal.nD Cert.KernelFinalSIdeal.τ).loc Cert.KernelFinalSIdeal.main_arg1) = m ((c.tc : Thread Cert.KernelFinalSIdeal.nD Cert.KernelFinalSIdeal.τ).loc Cert.KernelFinalSIdeal.main_arg1))
      ∧ θ_run (Cert.ReferenceFinalSIdeal.defs (F := Ideal)) (onTc (τ := Cert.ReferenceFinalSIdeal.τ) (Cert.ReferenceFinalSIdeal.main (F := Ideal))) ⟨m', fun _ => 0, g'⟩ (fun r => ∀ c : Dev Cert.ReferenceFinalSIdeal.nD,
          r.2.mem ((c.tc : Thread Cert.ReferenceFinalSIdeal.nD Cert.ReferenceFinalSIdeal.τ).loc Cert.ReferenceFinalSIdeal.main_v12) = v0 c
          ∧ r.2.mem ((c.tc : Thread Cert.ReferenceFinalSIdeal.nD Cert.ReferenceFinalSIdeal.τ).loc Cert.ReferenceFinalSIdeal.main_arg0) = m' ((c.tc : Thread Cert.ReferenceFinalSIdeal.nD Cert.ReferenceFinalSIdeal.τ).loc Cert.ReferenceFinalSIdeal.main_arg0)
          ∧ r.2.mem ((c.tc : Thread Cert.ReferenceFinalSIdeal.nD Cert.ReferenceFinalSIdeal.τ).loc Cert.ReferenceFinalSIdeal.main_arg1) = m' ((c.tc : Thread Cert.ReferenceFinalSIdeal.nD Cert.ReferenceFinalSIdeal.τ).loc Cert.ReferenceFinalSIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)) →
    ∃ (v0 : (c : Dev Cert.KernelMidIdeal.nD) → Buf (Elt Ideal) ((c.tc : Thread Cert.KernelMidIdeal.nD Cert.KernelMidIdeal.τ).loc Cert.KernelMidIdeal.main_v5_0)) (v1 : (c : Dev Cert.KernelMidIdeal.nD) → Buf (Elt Ideal) ((c.tc : Thread Cert.KernelMidIdeal.nD Cert.KernelMidIdeal.τ).loc Cert.KernelMidIdeal.main_v5_1)) (v2 : (c : Dev Cert.KernelMidIdeal.nD) → Buf (Elt Ideal) ((c.tc : Thread Cert.KernelMidIdeal.nD Cert.KernelMidIdeal.τ).loc Cert.KernelMidIdeal.main_v5_2)) (v3 : (c : Dev Cert.KernelMidIdeal.nD) → Buf (Elt Ideal) ((c.tc : Thread Cert.KernelMidIdeal.nD Cert.KernelMidIdeal.τ).loc Cert.KernelMidIdeal.main_v5_3)) (v4 : (c : Dev Cert.KernelMidIdeal.nD) → Buf (Elt Ideal) ((c.tc : Thread Cert.KernelMidIdeal.nD Cert.KernelMidIdeal.τ).loc Cert.KernelMidIdeal.main_v5_4)) (v5 : (c : Dev Cert.KernelMidIdeal.nD) → Buf (Elt Ideal) ((c.tc : Thread Cert.KernelMidIdeal.nD Cert.KernelMidIdeal.τ).loc Cert.KernelMidIdeal.main_v5_5)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v5_0) = v0 c
          ∧ r.2.mem ((c.tc : Thread Cert.KernelMidIdeal.nD Cert.KernelMidIdeal.τ).loc Cert.KernelMidIdeal.main_v5_1) = v1 c
          ∧ r.2.mem ((c.tc : Thread Cert.KernelMidIdeal.nD Cert.KernelMidIdeal.τ).loc Cert.KernelMidIdeal.main_v5_2) = v2 c
          ∧ r.2.mem ((c.tc : Thread Cert.KernelMidIdeal.nD Cert.KernelMidIdeal.τ).loc Cert.KernelMidIdeal.main_v5_3) = v3 c
          ∧ r.2.mem ((c.tc : Thread Cert.KernelMidIdeal.nD Cert.KernelMidIdeal.τ).loc Cert.KernelMidIdeal.main_v5_4) = v4 c
          ∧ r.2.mem ((c.tc : Thread Cert.KernelMidIdeal.nD Cert.KernelMidIdeal.τ).loc Cert.KernelMidIdeal.main_v5_5) = v5 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v50) = v0 c
          ∧ r.2.mem ((c.tc : Thread Cert.ReferenceMidIdeal.nD Cert.ReferenceMidIdeal.τ).loc Cert.ReferenceMidIdeal.main_v27) = v1 c
          ∧ r.2.mem ((c.tc : Thread Cert.ReferenceMidIdeal.nD Cert.ReferenceMidIdeal.τ).loc Cert.ReferenceMidIdeal.main_v51) = v2 c
          ∧ r.2.mem ((c.tc : Thread Cert.ReferenceMidIdeal.nD Cert.ReferenceMidIdeal.τ).loc Cert.ReferenceMidIdeal.main_v47) = v3 c
          ∧ r.2.mem ((c.tc : Thread Cert.ReferenceMidIdeal.nD Cert.ReferenceMidIdeal.τ).loc Cert.ReferenceMidIdeal.main_v52) = v4 c
          ∧ r.2.mem ((c.tc : Thread Cert.ReferenceMidIdeal.nD Cert.ReferenceMidIdeal.τ).loc Cert.ReferenceMidIdeal.main_v53) = v5 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4))

def preserves_KernelMidS_KernelMidSIdeal : Prop :=
  True

def algebraic_KernelMidSIdeal_ReferenceMidSIdeal [hKernelMidSIdeal : Cert.KernelMidSIdeal.Facts] [hReferenceMidSIdeal : Cert.ReferenceMidSIdeal.Facts] : Prop :=
  ∀ (m : (ℓ : Loc Cert.KernelMidSIdeal.nD Cert.KernelMidSIdeal.τ Cert.KernelMidSIdeal.sig) → Buf (Elt Ideal) ℓ) (g : Dev Cert.KernelMidSIdeal.nD → PrngReg)
    (m' : (ℓ : Loc Cert.ReferenceMidSIdeal.nD Cert.ReferenceMidSIdeal.τ Cert.ReferenceMidSIdeal.sig) → Buf (Elt Ideal) ℓ) (g' : Dev Cert.ReferenceMidSIdeal.nD → PrngReg), Pre_KernelMidSIdeal m →
    (∀ c : Dev Cert.KernelMidSIdeal.nD,
      m' ((c.tc : Thread Cert.ReferenceMidSIdeal.nD Cert.ReferenceMidSIdeal.τ).loc Cert.ReferenceMidSIdeal.main_arg0) = m ((c.tc : Thread Cert.KernelMidSIdeal.nD Cert.KernelMidSIdeal.τ).loc Cert.KernelMidSIdeal.main_arg0)
      ∧ m' ((c.tc : Thread Cert.ReferenceMidSIdeal.nD Cert.ReferenceMidSIdeal.τ).loc Cert.ReferenceMidSIdeal.main_arg1) = m ((c.tc : Thread Cert.KernelMidSIdeal.nD Cert.KernelMidSIdeal.τ).loc Cert.KernelMidSIdeal.main_arg1)
      ∧ m' ((c.tc : Thread Cert.ReferenceMidSIdeal.nD Cert.ReferenceMidSIdeal.τ).loc Cert.ReferenceMidSIdeal.main_arg2) = m ((c.tc : Thread Cert.KernelMidSIdeal.nD Cert.KernelMidSIdeal.τ).loc Cert.KernelMidSIdeal.main_arg2)
      ∧ m' ((c.tc : Thread Cert.ReferenceMidSIdeal.nD Cert.ReferenceMidSIdeal.τ).loc Cert.ReferenceMidSIdeal.main_arg3) = m ((c.tc : Thread Cert.KernelMidSIdeal.nD Cert.KernelMidSIdeal.τ).loc Cert.KernelMidSIdeal.main_arg3)
      ∧ m' ((c.tc : Thread Cert.ReferenceMidSIdeal.nD Cert.ReferenceMidSIdeal.τ).loc Cert.ReferenceMidSIdeal.main_arg4) = m ((c.tc : Thread Cert.KernelMidSIdeal.nD Cert.KernelMidSIdeal.τ).loc Cert.KernelMidSIdeal.main_arg4)) →
    ∃ (v0 : (c : Dev Cert.KernelMidSIdeal.nD) → Buf (Elt Ideal) ((c.tc : Thread Cert.KernelMidSIdeal.nD Cert.KernelMidSIdeal.τ).loc Cert.KernelMidSIdeal.main_v9_0)) (v1 : (c : Dev Cert.KernelMidSIdeal.nD) → Buf (Elt Ideal) ((c.tc : Thread Cert.KernelMidSIdeal.nD Cert.KernelMidSIdeal.τ).loc Cert.KernelMidSIdeal.main_v9_1)) (v2 : (c : Dev Cert.KernelMidSIdeal.nD) → Buf (Elt Ideal) ((c.tc : Thread Cert.KernelMidSIdeal.nD Cert.KernelMidSIdeal.τ).loc Cert.KernelMidSIdeal.main_v9_2)) (v3 : (c : Dev Cert.KernelMidSIdeal.nD) → Buf (Elt Ideal) ((c.tc : Thread Cert.KernelMidSIdeal.nD Cert.KernelMidSIdeal.τ).loc Cert.KernelMidSIdeal.main_v9_3)) (v4 : (c : Dev Cert.KernelMidSIdeal.nD) → Buf (Elt Ideal) ((c.tc : Thread Cert.KernelMidSIdeal.nD Cert.KernelMidSIdeal.τ).loc Cert.KernelMidSIdeal.main_v9_4)) (v5 : (c : Dev Cert.KernelMidSIdeal.nD) → Buf (Elt Ideal) ((c.tc : Thread Cert.KernelMidSIdeal.nD Cert.KernelMidSIdeal.τ).loc Cert.KernelMidSIdeal.main_v9_5)),
      θ_run (Cert.KernelMidSIdeal.defs (F := Ideal)) (onTc (τ := Cert.KernelMidSIdeal.τ) (Cert.KernelMidSIdeal.main (F := Ideal))) ⟨m, fun _ => 0, g⟩ (fun r => ∀ c : Dev Cert.KernelMidSIdeal.nD,
          r.2.mem ((c.tc : Thread Cert.KernelMidSIdeal.nD Cert.KernelMidSIdeal.τ).loc Cert.KernelMidSIdeal.main_v9_0) = v0 c
          ∧ r.2.mem ((c.tc : Thread Cert.KernelMidSIdeal.nD Cert.KernelMidSIdeal.τ).loc Cert.KernelMidSIdeal.main_v9_1) = v1 c
          ∧ r.2.mem ((c.tc : Thread Cert.KernelMidSIdeal.nD Cert.KernelMidSIdeal.τ).loc Cert.KernelMidSIdeal.main_v9_2) = v2 c
          ∧ r.2.mem ((c.tc : Thread Cert.KernelMidSIdeal.nD Cert.KernelMidSIdeal.τ).loc Cert.KernelMidSIdeal.main_v9_3) = v3 c
          ∧ r.2.mem ((c.tc : Thread Cert.KernelMidSIdeal.nD Cert.KernelMidSIdeal.τ).loc Cert.KernelMidSIdeal.main_v9_4) = v4 c
          ∧ r.2.mem ((c.tc : Thread Cert.KernelMidSIdeal.nD Cert.KernelMidSIdeal.τ).loc Cert.KernelMidSIdeal.main_v9_5) = v5 c
          ∧ r.2.mem ((c.tc : Thread Cert.KernelMidSIdeal.nD Cert.KernelMidSIdeal.τ).loc Cert.KernelMidSIdeal.main_arg0) = m ((c.tc : Thread Cert.KernelMidSIdeal.nD Cert.KernelMidSIdeal.τ).loc Cert.KernelMidSIdeal.main_arg0)
          ∧ r.2.mem ((c.tc : Thread Cert.KernelMidSIdeal.nD Cert.KernelMidSIdeal.τ).loc Cert.KernelMidSIdeal.main_arg1) = m ((c.tc : Thread Cert.KernelMidSIdeal.nD Cert.KernelMidSIdeal.τ).loc Cert.KernelMidSIdeal.main_arg1)
          ∧ r.2.mem ((c.tc : Thread Cert.KernelMidSIdeal.nD Cert.KernelMidSIdeal.τ).loc Cert.KernelMidSIdeal.main_arg2) = m ((c.tc : Thread Cert.KernelMidSIdeal.nD Cert.KernelMidSIdeal.τ).loc Cert.KernelMidSIdeal.main_arg2)
          ∧ r.2.mem ((c.tc : Thread Cert.KernelMidSIdeal.nD Cert.KernelMidSIdeal.τ).loc Cert.KernelMidSIdeal.main_arg3) = m ((c.tc : Thread Cert.KernelMidSIdeal.nD Cert.KernelMidSIdeal.τ).loc Cert.KernelMidSIdeal.main_arg3)
          ∧ r.2.mem ((c.tc : Thread Cert.KernelMidSIdeal.nD Cert.KernelMidSIdeal.τ).loc Cert.KernelMidSIdeal.main_arg4) = m ((c.tc : Thread Cert.KernelMidSIdeal.nD Cert.KernelMidSIdeal.τ).loc Cert.KernelMidSIdeal.main_arg4))
      ∧ θ_run (Cert.ReferenceMidSIdeal.defs (F := Ideal)) (onTc (τ := Cert.ReferenceMidSIdeal.τ) (Cert.ReferenceMidSIdeal.main (F := Ideal))) ⟨m', fun _ => 0, g'⟩ (fun r => ∀ c : Dev Cert.ReferenceMidSIdeal.nD,
          r.2.mem ((c.tc : Thread Cert.ReferenceMidSIdeal.nD Cert.ReferenceMidSIdeal.τ).loc Cert.ReferenceMidSIdeal.main_v50) = v0 c
          ∧ r.2.mem ((c.tc : Thread Cert.ReferenceMidSIdeal.nD Cert.ReferenceMidSIdeal.τ).loc Cert.ReferenceMidSIdeal.main_v27) = v1 c
          ∧ r.2.mem ((c.tc : Thread Cert.ReferenceMidSIdeal.nD Cert.ReferenceMidSIdeal.τ).loc Cert.ReferenceMidSIdeal.main_v51) = v2 c
          ∧ r.2.mem ((c.tc : Thread Cert.ReferenceMidSIdeal.nD Cert.ReferenceMidSIdeal.τ).loc Cert.ReferenceMidSIdeal.main_v47) = v3 c
          ∧ r.2.mem ((c.tc : Thread Cert.ReferenceMidSIdeal.nD Cert.ReferenceMidSIdeal.τ).loc Cert.ReferenceMidSIdeal.main_v52) = v4 c
          ∧ r.2.mem ((c.tc : Thread Cert.ReferenceMidSIdeal.nD Cert.ReferenceMidSIdeal.τ).loc Cert.ReferenceMidSIdeal.main_v53) = v5 c
          ∧ r.2.mem ((c.tc : Thread Cert.ReferenceMidSIdeal.nD Cert.ReferenceMidSIdeal.τ).loc Cert.ReferenceMidSIdeal.main_arg0) = m' ((c.tc : Thread Cert.ReferenceMidSIdeal.nD Cert.ReferenceMidSIdeal.τ).loc Cert.ReferenceMidSIdeal.main_arg0)
          ∧ r.2.mem ((c.tc : Thread Cert.ReferenceMidSIdeal.nD Cert.ReferenceMidSIdeal.τ).loc Cert.ReferenceMidSIdeal.main_arg1) = m' ((c.tc : Thread Cert.ReferenceMidSIdeal.nD Cert.ReferenceMidSIdeal.τ).loc Cert.ReferenceMidSIdeal.main_arg1)
          ∧ r.2.mem ((c.tc : Thread Cert.ReferenceMidSIdeal.nD Cert.ReferenceMidSIdeal.τ).loc Cert.ReferenceMidSIdeal.main_arg2) = m' ((c.tc : Thread Cert.ReferenceMidSIdeal.nD Cert.ReferenceMidSIdeal.τ).loc Cert.ReferenceMidSIdeal.main_arg2)
          ∧ r.2.mem ((c.tc : Thread Cert.ReferenceMidSIdeal.nD Cert.ReferenceMidSIdeal.τ).loc Cert.ReferenceMidSIdeal.main_arg3) = m' ((c.tc : Thread Cert.ReferenceMidSIdeal.nD Cert.ReferenceMidSIdeal.τ).loc Cert.ReferenceMidSIdeal.main_arg3)
          ∧ r.2.mem ((c.tc : Thread Cert.ReferenceMidSIdeal.nD Cert.ReferenceMidSIdeal.τ).loc Cert.ReferenceMidSIdeal.main_arg4) = m' ((c.tc : Thread Cert.ReferenceMidSIdeal.nD Cert.ReferenceMidSIdeal.τ).loc Cert.ReferenceMidSIdeal.main_arg4))

def preserves_KernelStep_KernelStepIdeal : Prop :=
  True

def algebraic_KernelStepIdeal_ReferenceStepIdeal [hKernelStepIdeal : Cert.KernelStepIdeal.Facts] [hReferenceStepIdeal : Cert.ReferenceStepIdeal.Facts] : Prop :=
  ∀ (m : (ℓ : Loc Cert.KernelStepIdeal.nD Cert.KernelStepIdeal.τ Cert.KernelStepIdeal.sig) → Buf (Elt Ideal) ℓ) (g : Dev Cert.KernelStepIdeal.nD → PrngReg)
    (m' : (ℓ : Loc Cert.ReferenceStepIdeal.nD Cert.ReferenceStepIdeal.τ Cert.ReferenceStepIdeal.sig) → Buf (Elt Ideal) ℓ) (g' : Dev Cert.ReferenceStepIdeal.nD → PrngReg), Pre_KernelStepIdeal m →
    (∀ c : Dev Cert.KernelStepIdeal.nD,
      m' ((c.tc : Thread Cert.ReferenceStepIdeal.nD Cert.ReferenceStepIdeal.τ).loc Cert.ReferenceStepIdeal.main_arg0) = m ((c.tc : Thread Cert.KernelStepIdeal.nD Cert.KernelStepIdeal.τ).loc Cert.KernelStepIdeal.main_arg0)
      ∧ m' ((c.tc : Thread Cert.ReferenceStepIdeal.nD Cert.ReferenceStepIdeal.τ).loc Cert.ReferenceStepIdeal.main_arg1) = m ((c.tc : Thread Cert.KernelStepIdeal.nD Cert.KernelStepIdeal.τ).loc Cert.KernelStepIdeal.main_arg1)
      ∧ m' ((c.tc : Thread Cert.ReferenceStepIdeal.nD Cert.ReferenceStepIdeal.τ).loc Cert.ReferenceStepIdeal.main_arg2) = m ((c.tc : Thread Cert.KernelStepIdeal.nD Cert.KernelStepIdeal.τ).loc Cert.KernelStepIdeal.main_arg2)
      ∧ m' ((c.tc : Thread Cert.ReferenceStepIdeal.nD Cert.ReferenceStepIdeal.τ).loc Cert.ReferenceStepIdeal.main_arg3) = m ((c.tc : Thread Cert.KernelStepIdeal.nD Cert.KernelStepIdeal.τ).loc Cert.KernelStepIdeal.main_arg3)
      ∧ m' ((c.tc : Thread Cert.ReferenceStepIdeal.nD Cert.ReferenceStepIdeal.τ).loc Cert.ReferenceStepIdeal.main_arg4) = m ((c.tc : Thread Cert.KernelStepIdeal.nD Cert.KernelStepIdeal.τ).loc Cert.KernelStepIdeal.main_arg4)
      ∧ m' ((c.tc : Thread Cert.ReferenceStepIdeal.nD Cert.ReferenceStepIdeal.τ).loc Cert.ReferenceStepIdeal.main_arg5) = m ((c.tc : Thread Cert.KernelStepIdeal.nD Cert.KernelStepIdeal.τ).loc Cert.KernelStepIdeal.main_arg5)
      ∧ m' ((c.tc : Thread Cert.ReferenceStepIdeal.nD Cert.ReferenceStepIdeal.τ).loc Cert.ReferenceStepIdeal.main_arg6) = m ((c.tc : Thread Cert.KernelStepIdeal.nD Cert.KernelStepIdeal.τ).loc Cert.KernelStepIdeal.main_arg6)
      ∧ m' ((c.tc : Thread Cert.ReferenceStepIdeal.nD Cert.ReferenceStepIdeal.τ).loc Cert.ReferenceStepIdeal.main_arg7) = m ((c.tc : Thread Cert.KernelStepIdeal.nD Cert.KernelStepIdeal.τ).loc Cert.KernelStepIdeal.main_arg7)
      ∧ m' ((c.tc : Thread Cert.ReferenceStepIdeal.nD Cert.ReferenceStepIdeal.τ).loc Cert.ReferenceStepIdeal.main_arg8) = m ((c.tc : Thread Cert.KernelStepIdeal.nD Cert.KernelStepIdeal.τ).loc Cert.KernelStepIdeal.main_arg8)
      ∧ m' ((c.tc : Thread Cert.ReferenceStepIdeal.nD Cert.ReferenceStepIdeal.τ).loc Cert.ReferenceStepIdeal.main_arg9) = m ((c.tc : Thread Cert.KernelStepIdeal.nD Cert.KernelStepIdeal.τ).loc Cert.KernelStepIdeal.main_arg9)
      ∧ m' ((c.tc : Thread Cert.ReferenceStepIdeal.nD Cert.ReferenceStepIdeal.τ).loc Cert.ReferenceStepIdeal.main_arg10) = m ((c.tc : Thread Cert.KernelStepIdeal.nD Cert.KernelStepIdeal.τ).loc Cert.KernelStepIdeal.main_arg10)
      ∧ m' ((c.tc : Thread Cert.ReferenceStepIdeal.nD Cert.ReferenceStepIdeal.τ).loc Cert.ReferenceStepIdeal.main_arg11) = m ((c.tc : Thread Cert.KernelStepIdeal.nD Cert.KernelStepIdeal.τ).loc Cert.KernelStepIdeal.main_arg11)) →
    ∃ (v0 : (c : Dev Cert.KernelStepIdeal.nD) → Buf (Elt Ideal) ((c.tc : Thread Cert.KernelStepIdeal.nD Cert.KernelStepIdeal.τ).loc Cert.KernelStepIdeal.main_v28_1)) (v1 : (c : Dev Cert.KernelStepIdeal.nD) → Buf (Elt Ideal) ((c.tc : Thread Cert.KernelStepIdeal.nD Cert.KernelStepIdeal.τ).loc Cert.KernelStepIdeal.main_v28_0)),
      θ_run (Cert.KernelStepIdeal.defs (F := Ideal)) (onTc (τ := Cert.KernelStepIdeal.τ) (Cert.KernelStepIdeal.main (F := Ideal))) ⟨m, fun _ => 0, g⟩ (fun r => ∀ c : Dev Cert.KernelStepIdeal.nD,
          r.2.mem ((c.tc : Thread Cert.KernelStepIdeal.nD Cert.KernelStepIdeal.τ).loc Cert.KernelStepIdeal.main_v28_1) = v0 c
          ∧ r.2.mem ((c.tc : Thread Cert.KernelStepIdeal.nD Cert.KernelStepIdeal.τ).loc Cert.KernelStepIdeal.main_v28_0) = v1 c
          ∧ r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
          ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
          ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
          ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3)
          ∧ r.2.mem ((c.tc : Thread Cert.KernelStepIdeal.nD Cert.KernelStepIdeal.τ).loc Cert.KernelStepIdeal.main_arg4) = m ((c.tc : Thread Cert.KernelStepIdeal.nD Cert.KernelStepIdeal.τ).loc Cert.KernelStepIdeal.main_arg4)
          ∧ r.2.mem ((c.tc : Thread Cert.KernelStepIdeal.nD Cert.KernelStepIdeal.τ).loc Cert.KernelStepIdeal.main_arg5) = m ((c.tc : Thread Cert.KernelStepIdeal.nD Cert.KernelStepIdeal.τ).loc Cert.KernelStepIdeal.main_arg5)
          ∧ r.2.mem ((c.tc : Thread Cert.KernelStepIdeal.nD Cert.KernelStepIdeal.τ).loc Cert.KernelStepIdeal.main_arg6) = m ((c.tc : Thread Cert.KernelStepIdeal.nD Cert.KernelStepIdeal.τ).loc Cert.KernelStepIdeal.main_arg6)
          ∧ r.2.mem ((c.tc : Thread Cert.KernelStepIdeal.nD Cert.KernelStepIdeal.τ).loc Cert.KernelStepIdeal.main_arg7) = m ((c.tc : Thread Cert.KernelStepIdeal.nD Cert.KernelStepIdeal.τ).loc Cert.KernelStepIdeal.main_arg7)
          ∧ r.2.mem ((c.tc : Thread Cert.KernelStepIdeal.nD Cert.KernelStepIdeal.τ).loc Cert.KernelStepIdeal.main_arg8) = m ((c.tc : Thread Cert.KernelStepIdeal.nD Cert.KernelStepIdeal.τ).loc Cert.KernelStepIdeal.main_arg8)
          ∧ r.2.mem ((c.tc : Thread Cert.KernelStepIdeal.nD Cert.KernelStepIdeal.τ).loc Cert.KernelStepIdeal.main_arg9) = m ((c.tc : Thread Cert.KernelStepIdeal.nD Cert.KernelStepIdeal.τ).loc Cert.KernelStepIdeal.main_arg9)
          ∧ r.2.mem ((c.tc : Thread Cert.KernelStepIdeal.nD Cert.KernelStepIdeal.τ).loc Cert.KernelStepIdeal.main_arg10) = m ((c.tc : Thread Cert.KernelStepIdeal.nD Cert.KernelStepIdeal.τ).loc Cert.KernelStepIdeal.main_arg10)
          ∧ r.2.mem ((c.tc : Thread Cert.KernelStepIdeal.nD Cert.KernelStepIdeal.τ).loc Cert.KernelStepIdeal.main_arg11) = m ((c.tc : Thread Cert.KernelStepIdeal.nD Cert.KernelStepIdeal.τ).loc Cert.KernelStepIdeal.main_arg11))
      ∧ θ_run (Cert.ReferenceStepIdeal.defs (F := Ideal)) (onTc (τ := Cert.ReferenceStepIdeal.τ) (Cert.ReferenceStepIdeal.main (F := Ideal))) ⟨m', fun _ => 0, g'⟩ (fun r => ∀ c : Dev Cert.ReferenceStepIdeal.nD,
          r.2.mem ((c.tc : Thread Cert.ReferenceStepIdeal.nD Cert.ReferenceStepIdeal.τ).loc Cert.ReferenceStepIdeal.main_v43) = v0 c
          ∧ r.2.mem ((c.tc : Thread Cert.ReferenceStepIdeal.nD Cert.ReferenceStepIdeal.τ).loc Cert.ReferenceStepIdeal.main_v44) = v1 c
          ∧ r.2.mem ((c.tc : Thread Cert.ReferenceStepIdeal.nD Cert.ReferenceStepIdeal.τ).loc Cert.ReferenceStepIdeal.main_arg0) = m' ((c.tc : Thread Cert.ReferenceStepIdeal.nD Cert.ReferenceStepIdeal.τ).loc Cert.ReferenceStepIdeal.main_arg0)
          ∧ r.2.mem ((c.tc : Thread Cert.ReferenceStepIdeal.nD Cert.ReferenceStepIdeal.τ).loc Cert.ReferenceStepIdeal.main_arg1) = m' ((c.tc : Thread Cert.ReferenceStepIdeal.nD Cert.ReferenceStepIdeal.τ).loc Cert.ReferenceStepIdeal.main_arg1)
          ∧ r.2.mem ((c.tc : Thread Cert.ReferenceStepIdeal.nD Cert.ReferenceStepIdeal.τ).loc Cert.ReferenceStepIdeal.main_arg2) = m' ((c.tc : Thread Cert.ReferenceStepIdeal.nD Cert.ReferenceStepIdeal.τ).loc Cert.ReferenceStepIdeal.main_arg2)
          ∧ r.2.mem ((c.tc : Thread Cert.ReferenceStepIdeal.nD Cert.ReferenceStepIdeal.τ).loc Cert.ReferenceStepIdeal.main_arg3) = m' ((c.tc : Thread Cert.ReferenceStepIdeal.nD Cert.ReferenceStepIdeal.τ).loc Cert.ReferenceStepIdeal.main_arg3)
          ∧ r.2.mem ((c.tc : Thread Cert.ReferenceStepIdeal.nD Cert.ReferenceStepIdeal.τ).loc Cert.ReferenceStepIdeal.main_arg4) = m' ((c.tc : Thread Cert.ReferenceStepIdeal.nD Cert.ReferenceStepIdeal.τ).loc Cert.ReferenceStepIdeal.main_arg4)
          ∧ r.2.mem ((c.tc : Thread Cert.ReferenceStepIdeal.nD Cert.ReferenceStepIdeal.τ).loc Cert.ReferenceStepIdeal.main_arg5) = m' ((c.tc : Thread Cert.ReferenceStepIdeal.nD Cert.ReferenceStepIdeal.τ).loc Cert.ReferenceStepIdeal.main_arg5)
          ∧ r.2.mem ((c.tc : Thread Cert.ReferenceStepIdeal.nD Cert.ReferenceStepIdeal.τ).loc Cert.ReferenceStepIdeal.main_arg6) = m' ((c.tc : Thread Cert.ReferenceStepIdeal.nD Cert.ReferenceStepIdeal.τ).loc Cert.ReferenceStepIdeal.main_arg6)
          ∧ r.2.mem ((c.tc : Thread Cert.ReferenceStepIdeal.nD Cert.ReferenceStepIdeal.τ).loc Cert.ReferenceStepIdeal.main_arg7) = m' ((c.tc : Thread Cert.ReferenceStepIdeal.nD Cert.ReferenceStepIdeal.τ).loc Cert.ReferenceStepIdeal.main_arg7)
          ∧ r.2.mem ((c.tc : Thread Cert.ReferenceStepIdeal.nD Cert.ReferenceStepIdeal.τ).loc Cert.ReferenceStepIdeal.main_arg8) = m' ((c.tc : Thread Cert.ReferenceStepIdeal.nD Cert.ReferenceStepIdeal.τ).loc Cert.ReferenceStepIdeal.main_arg8)
          ∧ r.2.mem ((c.tc : Thread Cert.ReferenceStepIdeal.nD Cert.ReferenceStepIdeal.τ).loc Cert.ReferenceStepIdeal.main_arg9) = m' ((c.tc : Thread Cert.ReferenceStepIdeal.nD Cert.ReferenceStepIdeal.τ).loc Cert.ReferenceStepIdeal.main_arg9)
          ∧ r.2.mem ((c.tc : Thread Cert.ReferenceStepIdeal.nD Cert.ReferenceStepIdeal.τ).loc Cert.ReferenceStepIdeal.main_arg10) = m' ((c.tc : Thread Cert.ReferenceStepIdeal.nD Cert.ReferenceStepIdeal.τ).loc Cert.ReferenceStepIdeal.main_arg10)
          ∧ r.2.mem ((c.tc : Thread Cert.ReferenceStepIdeal.nD Cert.ReferenceStepIdeal.τ).loc Cert.ReferenceStepIdeal.main_arg11) = m' ((c.tc : Thread Cert.ReferenceStepIdeal.nD Cert.ReferenceStepIdeal.τ).loc Cert.ReferenceStepIdeal.main_arg11))

def Claim : Prop :=
  ∃ (hKernel : Cert.Kernel.Facts) (hKernelIdeal : Cert.KernelIdeal.Facts) (hReferenceIdeal : Cert.ReferenceIdeal.Facts) (hKernelInA : Cert.KernelInA.Facts) (hKernelInAIdeal : Cert.KernelInAIdeal.Facts) (hReferenceInAIdeal : Cert.ReferenceInAIdeal.Facts) (hKernelInZ : Cert.KernelInZ.Facts) (hKernelInZIdeal : Cert.KernelInZIdeal.Facts) (hReferenceInZIdeal : Cert.ReferenceInZIdeal.Facts) (hKernelInG : Cert.KernelInG.Facts) (hKernelInGIdeal : Cert.KernelInGIdeal.Facts) (hReferenceInGIdeal : Cert.ReferenceInGIdeal.Facts) (hKernelSsdO : Cert.KernelSsdO.Facts) (hKernelSsdOIdeal : Cert.KernelSsdOIdeal.Facts) (hReferenceSsdOIdeal : Cert.ReferenceSsdOIdeal.Facts) (hKernelMlaO : Cert.KernelMlaO.Facts) (hKernelMlaOIdeal : Cert.KernelMlaOIdeal.Facts) (hReferenceMlaOIdeal : Cert.ReferenceMlaOIdeal.Facts) (hKernelOut : Cert.KernelOut.Facts) (hKernelOutIdeal : Cert.KernelOutIdeal.Facts) (hReferenceOutIdeal : Cert.ReferenceOutIdeal.Facts) (hKernelGelu : Cert.KernelGelu.Facts) (hKernelGeluIdeal : Cert.KernelGeluIdeal.Facts) (hReferenceGeluIdeal : Cert.ReferenceGeluIdeal.Facts) (hKernelPle : Cert.KernelPle.Facts) (hKernelPleIdeal : Cert.KernelPleIdeal.Facts) (hReferencePleIdeal : Cert.ReferencePleIdeal.Facts) (hKernelQ : Cert.KernelQ.Facts) (hKernelQIdeal : Cert.KernelQIdeal.Facts) (hReferenceQIdeal : Cert.ReferenceQIdeal.Facts) (hKernelKcat : Cert.KernelKcat.Facts) (hKernelKcatIdeal : Cert.KernelKcatIdeal.Facts) (hReferenceKcatIdeal : Cert.ReferenceKcatIdeal.Facts) (hKernelV : Cert.KernelV.Facts) (hKernelVIdeal : Cert.KernelVIdeal.Facts) (hReferenceVIdeal : Cert.ReferenceVIdeal.Facts) (hKernelFinal : Cert.KernelFinal.Facts) (hKernelFinalIdeal : Cert.KernelFinalIdeal.Facts) (hReferenceFinalIdeal : Cert.ReferenceFinalIdeal.Facts) (hKernelFinalS : Cert.KernelFinalS.Facts) (hKernelFinalSIdeal : Cert.KernelFinalSIdeal.Facts) (hReferenceFinalSIdeal : Cert.ReferenceFinalSIdeal.Facts) (hKernelNorm : Cert.KernelNorm.Facts) (hKernelNormIdeal : Cert.KernelNormIdeal.Facts) (hReferenceNormIdeal : Cert.ReferenceNormIdeal.Facts) (hKernelMid : Cert.KernelMid.Facts) (hKernelMidIdeal : Cert.KernelMidIdeal.Facts) (hReferenceMidIdeal : Cert.ReferenceMidIdeal.Facts) (hKernelMidS : Cert.KernelMidS.Facts) (hKernelMidSIdeal : Cert.KernelMidSIdeal.Facts) (hReferenceMidSIdeal : Cert.ReferenceMidSIdeal.Facts) (hKernelStep : Cert.KernelStep.Facts) (hKernelStepIdeal : Cert.KernelStepIdeal.Facts) (hReferenceStepIdeal : Cert.ReferenceStepIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelInA (hKernelInA := hKernelInA)
    ∧ quiescent_KernelInAIdeal (hKernelInAIdeal := hKernelInAIdeal)
    ∧ quiescent_ReferenceInAIdeal (hReferenceInAIdeal := hReferenceInAIdeal)
    ∧ quiescent_KernelInZ (hKernelInZ := hKernelInZ)
    ∧ quiescent_KernelInZIdeal (hKernelInZIdeal := hKernelInZIdeal)
    ∧ quiescent_ReferenceInZIdeal (hReferenceInZIdeal := hReferenceInZIdeal)
    ∧ quiescent_KernelInG (hKernelInG := hKernelInG)
    ∧ quiescent_KernelInGIdeal (hKernelInGIdeal := hKernelInGIdeal)
    ∧ quiescent_ReferenceInGIdeal (hReferenceInGIdeal := hReferenceInGIdeal)
    ∧ quiescent_KernelSsdO (hKernelSsdO := hKernelSsdO)
    ∧ quiescent_KernelSsdOIdeal (hKernelSsdOIdeal := hKernelSsdOIdeal)
    ∧ quiescent_ReferenceSsdOIdeal (hReferenceSsdOIdeal := hReferenceSsdOIdeal)
    ∧ quiescent_KernelMlaO (hKernelMlaO := hKernelMlaO)
    ∧ quiescent_KernelMlaOIdeal (hKernelMlaOIdeal := hKernelMlaOIdeal)
    ∧ quiescent_ReferenceMlaOIdeal (hReferenceMlaOIdeal := hReferenceMlaOIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGelu (hKernelGelu := hKernelGelu)
    ∧ quiescent_KernelGeluIdeal (hKernelGeluIdeal := hKernelGeluIdeal)
    ∧ quiescent_ReferenceGeluIdeal (hReferenceGeluIdeal := hReferenceGeluIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelKcat (hKernelKcat := hKernelKcat)
    ∧ quiescent_KernelKcatIdeal (hKernelKcatIdeal := hKernelKcatIdeal)
    ∧ quiescent_ReferenceKcatIdeal (hReferenceKcatIdeal := hReferenceKcatIdeal)
    ∧ quiescent_KernelV (hKernelV := hKernelV)
    ∧ quiescent_KernelVIdeal (hKernelVIdeal := hKernelVIdeal)
    ∧ quiescent_ReferenceVIdeal (hReferenceVIdeal := hReferenceVIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelFinalS (hKernelFinalS := hKernelFinalS)
    ∧ quiescent_KernelFinalSIdeal (hKernelFinalSIdeal := hKernelFinalSIdeal)
    ∧ quiescent_ReferenceFinalSIdeal (hReferenceFinalSIdeal := hReferenceFinalSIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ quiescent_KernelMidS (hKernelMidS := hKernelMidS)
    ∧ quiescent_KernelMidSIdeal (hKernelMidSIdeal := hKernelMidSIdeal)
    ∧ quiescent_ReferenceMidSIdeal (hReferenceMidSIdeal := hReferenceMidSIdeal)
    ∧ quiescent_KernelStep (hKernelStep := hKernelStep)
    ∧ quiescent_KernelStepIdeal (hKernelStepIdeal := hKernelStepIdeal)
    ∧ quiescent_ReferenceStepIdeal (hReferenceStepIdeal := hReferenceStepIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelInA_KernelInAIdeal
    ∧ algebraic_KernelInAIdeal_ReferenceInAIdeal (hKernelInAIdeal := hKernelInAIdeal) (hReferenceInAIdeal := hReferenceInAIdeal)
    ∧ preserves_KernelInZ_KernelInZIdeal
    ∧ algebraic_KernelInZIdeal_ReferenceInZIdeal (hKernelInZIdeal := hKernelInZIdeal) (hReferenceInZIdeal := hReferenceInZIdeal)
    ∧ preserves_KernelInG_KernelInGIdeal
    ∧ algebraic_KernelInGIdeal_ReferenceInGIdeal (hKernelInGIdeal := hKernelInGIdeal) (hReferenceInGIdeal := hReferenceInGIdeal)
    ∧ preserves_KernelSsdO_KernelSsdOIdeal
    ∧ algebraic_KernelSsdOIdeal_ReferenceSsdOIdeal (hKernelSsdOIdeal := hKernelSsdOIdeal) (hReferenceSsdOIdeal := hReferenceSsdOIdeal)
    ∧ preserves_KernelMlaO_KernelMlaOIdeal
    ∧ algebraic_KernelMlaOIdeal_ReferenceMlaOIdeal (hKernelMlaOIdeal := hKernelMlaOIdeal) (hReferenceMlaOIdeal := hReferenceMlaOIdeal)
    ∧ preserves_KernelOut_KernelOutIdeal
    ∧ algebraic_KernelOutIdeal_ReferenceOutIdeal (hKernelOutIdeal := hKernelOutIdeal) (hReferenceOutIdeal := hReferenceOutIdeal)
    ∧ preserves_KernelGelu_KernelGeluIdeal
    ∧ algebraic_KernelGeluIdeal_ReferenceGeluIdeal (hKernelGeluIdeal := hKernelGeluIdeal) (hReferenceGeluIdeal := hReferenceGeluIdeal)
    ∧ preserves_KernelPle_KernelPleIdeal
    ∧ algebraic_KernelPleIdeal_ReferencePleIdeal (hKernelPleIdeal := hKernelPleIdeal) (hReferencePleIdeal := hReferencePleIdeal)
    ∧ preserves_KernelQ_KernelQIdeal
    ∧ algebraic_KernelQIdeal_ReferenceQIdeal (hKernelQIdeal := hKernelQIdeal) (hReferenceQIdeal := hReferenceQIdeal)
    ∧ preserves_KernelKcat_KernelKcatIdeal
    ∧ algebraic_KernelKcatIdeal_ReferenceKcatIdeal (hKernelKcatIdeal := hKernelKcatIdeal) (hReferenceKcatIdeal := hReferenceKcatIdeal)
    ∧ preserves_KernelV_KernelVIdeal
    ∧ algebraic_KernelVIdeal_ReferenceVIdeal (hKernelVIdeal := hKernelVIdeal) (hReferenceVIdeal := hReferenceVIdeal)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelFinalS_KernelFinalSIdeal
    ∧ algebraic_KernelFinalSIdeal_ReferenceFinalSIdeal (hKernelFinalSIdeal := hKernelFinalSIdeal) (hReferenceFinalSIdeal := hReferenceFinalSIdeal)
    ∧ preserves_KernelNorm_KernelNormIdeal
    ∧ algebraic_KernelNormIdeal_ReferenceNormIdeal (hKernelNormIdeal := hKernelNormIdeal) (hReferenceNormIdeal := hReferenceNormIdeal)
    ∧ preserves_KernelMid_KernelMidIdeal
    ∧ algebraic_KernelMidIdeal_ReferenceMidIdeal (hKernelMidIdeal := hKernelMidIdeal) (hReferenceMidIdeal := hReferenceMidIdeal)
    ∧ preserves_KernelMidS_KernelMidSIdeal
    ∧ algebraic_KernelMidSIdeal_ReferenceMidSIdeal (hKernelMidSIdeal := hKernelMidSIdeal) (hReferenceMidSIdeal := hReferenceMidSIdeal)
    ∧ preserves_KernelStep_KernelStepIdeal
    ∧ algebraic_KernelStepIdeal_ReferenceStepIdeal (hKernelStepIdeal := hKernelStepIdeal) (hReferenceStepIdeal := hReferenceStepIdeal)
-- ==== Pre_finite_scores.lean ====
abbrev S8192x8192 : Shape := ⟨2, ![8192, 8192]⟩
abbrev S8192x4096 : Shape := ⟨2, ![8192, 4096]⟩
abbrev S_ : Shape := ⟨0, ![]⟩

class Facts : Prop where
  bitsLt_bf16_f32 : FTy.bits .bf16 < FTy.bits .f32
  bcast_S_S8192x8192 : S_.BroadcastsInDim S8192x8192 (![] : Fin 0 → Fin S8192x8192.rank)

variable [Facts]

def fn {F : FTy → Type} [FloatOps F] (main_arg0 : FVec F S8192x8192 .bf16) (main_arg1 : FVec F S8192x8192 .bf16) (main_arg2 : FVec F S8192x4096 .bf16) (main_arg3 : FVec F S8192x4096 .bf16) : IVec S8192x8192 1 × IVec S8192x8192 1 :=
  let main_v0 : FVec F S8192x8192 .f32 := (extf .f32 · bitsLt_bf16_f32) main_arg0
  let main_v1 : FVec F S8192x8192 .f32 := Host.absf main_v0
  let main_cst : FVec F S_ .f32 := constant S_ .f32 0x7F800000#32
  let main_v2 : FVec F S8192x8192 .f32 := broadcastInDim S8192x8192 ![] bcast_S_S8192x8192 main_cst
  let main_v3 : IVec S8192x8192 1 := cmpf .olt main_v1 main_v2
  let main_v4 : FVec F S8192x8192 .f32 := (extf .f32 · bitsLt_bf16_f32) main_arg1
  let main_v5 : FVec F S8192x8192 .f32 := Host.absf main_v4
  let main_cst_0 : FVec F S_ .f32 := constant S_ .f32 0x7F800000#32
  let main_v6 : FVec F S8192x8192 .f32 := broadcastInDim S8192x8192 ![] bcast_S_S8192x8192 main_cst_0
  let main_v7 : IVec S8192x8192 1 := cmpf .olt main_v5 main_v6
  (main_v3, main_v7)
-- ==== Kernel.lean ====
abbrev S8192x8192 : Shape := ⟨2, ![8192, 8192]⟩
abbrev S8192x4096 : Shape := ⟨2, ![8192, 4096]⟩
abbrev S2048x256 : Shape := ⟨2, ![2048, 256]⟩
abbrev S2048x128 : Shape := ⟨2, ![2048, 128]⟩
abbrev S512x2048 : Shape := ⟨2, ![512, 2048]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x128 : Shape := ⟨2, ![512, 128]⟩

abbrev nBuf : Space → Nat
  | .hbm => 5
  | .vmem => 12
  | .smem => 0
  | _ => 0

abbrev bufTy : (tb : Table) → Fin (tcTables nBuf tb) → BufTy
  | .hbm, ⟨0, _⟩ => ⟨S8192x8192, .bf16⟩
  | .hbm, ⟨1, _⟩ => ⟨S8192x8192, .bf16⟩
  | .hbm, ⟨2, _⟩ => ⟨S8192x4096, .bf16⟩
  | .hbm, ⟨3, _⟩ => ⟨S8192x4096, .bf16⟩
  | .hbm, ⟨4, _⟩ => ⟨S8192x4096, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S512x2048, .f32⟩
  | .local _ .vmem, ⟨11, _⟩ => ⟨S512x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x8192 : Shape := ⟨2, ![8192, 8192]⟩
abbrev S8192x4096 : Shape := ⟨2, ![8192, 4096]⟩
abbrev S4x2048x32x256 : Shape := ⟨4, ![4, 2048, 32, 256]⟩
abbrev S4x2048x32x128 : Shape := ⟨4, ![4, 2048, 32, 128]⟩
abbrev S4x32x2048x2048 : Shape := ⟨4, ![4, 32, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x32x2048 : Shape := ⟨3, ![4, 32, 2048]⟩
abbrev S4x32x2048x1 : Shape := ⟨4, ![4, 32, 2048, 1]⟩
abbrev S4x32x128x2048 : Shape := ⟨4, ![4, 32, 128, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x8192, .bf16⟩
  | .hbm, ⟨2, _⟩ => ⟨S8192x4096, .bf16⟩
  | .hbm, ⟨3, _⟩ => ⟨S8192x4096, .bf16⟩
  | .hbm, ⟨4, _⟩ => ⟨S8192x8192, .f32⟩
  | .hbm, ⟨5, _⟩ => ⟨S4x2048x32x256, .f32⟩
  | .hbm, ⟨6, _⟩ => ⟨S8192x8192, .f32⟩
  | .hbm, ⟨7, _⟩ => ⟨S4x2048x32x256, .f32⟩
  | .hbm, ⟨8, _⟩ => ⟨S8192x4096, .f32⟩
  | .hbm, ⟨9, _⟩ => ⟨S4x2048x32x128, .f32⟩
  | .hbm, ⟨10, _⟩ => ⟨S4x32x2048x2048, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S4x32x2048x2048, .i1⟩
  | .hbm, ⟨20, _⟩ => ⟨S4x32x2048x2048, .f32⟩
  | .hbm, ⟨21, _⟩ => ⟨S4x32x2048x2048, .f32⟩
  | .hbm, ⟨22, _⟩ => ⟨S_, .f32⟩
  | .hbm, ⟨23, _⟩ => ⟨S4x32x2048, .f32⟩
  | .hbm, ⟨24, _⟩ => ⟨S_, .f32⟩
  | .hbm, ⟨25, _⟩ => ⟨S4x32x2048, .f32⟩
  | .hbm, ⟨26, _⟩ => ⟨S4x32x2048, .f32⟩
  | .hbm, ⟨27, _⟩ => ⟨S4x32x2048x1, .f32⟩
  | .hbm, ⟨28, _⟩ => ⟨S4x32x2048x2048, .f32⟩
  | .hbm, ⟨29, _⟩ => ⟨S4x32x2048x2048, .f32⟩
  | .hbm, ⟨30, _⟩ => ⟨S4x32x2048x2048, .f32⟩
  | .hbm, ⟨31, _⟩ => ⟨S_, .f32⟩
  | .hbm, ⟨32, _⟩ => ⟨S4x32x2048, .f32⟩
  | .hbm, ⟨33, _⟩ => ⟨S4x32x2048x1, .f32⟩
  | .hbm, ⟨34, _⟩ => ⟨S4x32x2048x2048, .f32⟩
  | .hbm, ⟨35, _⟩ => ⟨S4x32x2048x2048, .f32⟩
  | .hbm, ⟨36, _⟩ => ⟨S4x32x128x2048, .f32⟩
  | .hbm, ⟨37, _⟩ => ⟨S4x2048x32x128, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S8192x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== KernelInA.lean ====
abbrev S8192x4096 : Shape := ⟨2, ![8192, 4096]⟩
abbrev S4x4096x23936 : Shape := ⟨3, ![4, 4096, 23936]⟩
abbrev S8192x10240 : Shape := ⟨2, ![8192, 10240]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x23936, .f32⟩
  | .hbm, ⟨2, _⟩ => ⟨S4x4096x23936, .bf16⟩
  | .hbm, ⟨3, _⟩ => ⟨S8192x10240, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInAIdeal.lean ====
abbrev S8192x4096 : Shape := ⟨2, ![8192, 4096]⟩
abbrev S4x4096x23936 : Shape := ⟨3, ![4, 4096, 23936]⟩
abbrev S1x4096x10240 : Shape := ⟨3, ![1, 4096, 10240]⟩
abbrev S4096x10240 : Shape := ⟨2, ![4096, 10240]⟩
abbrev S8192x10240 : Shape := ⟨2, ![8192, 10240]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x23936, .f32⟩
  | .hbm, ⟨2, _⟩ => ⟨S8192x4096, .f32⟩
  | .hbm, ⟨3, _⟩ => ⟨S1x4096x10240, .f32⟩
  | .hbm, ⟨4, _⟩ => ⟨S4096x10240, .f32⟩
  | .hbm, ⟨5, _⟩ => ⟨S8192x10240, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelInZ.lean ====
abbrev S8192x4096 : Shape := ⟨2, ![8192, 4096]⟩
abbrev S4x4096x23936 : Shape := ⟨3, ![4, 4096, 23936]⟩
abbrev S4x4096x4096 : Shape := ⟨3, ![4, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x23936, .f32⟩
  | .hbm, ⟨2, _⟩ => ⟨S4x4096x23936, .bf16⟩
  | .hbm, ⟨3, _⟩ => ⟨S4x4096x4096, .bf16⟩
  | .hbm, ⟨4, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInZIdeal.lean ====
abbrev S8192x4096 : Shape := ⟨2, ![8192, 4096]⟩
abbrev S4x4096x23936 : Shape := ⟨3, ![4, 4096, 23936]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x23936, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | .hbm, ⟨6, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelInG.lean ====
abbrev S8192x4096 : Shape := ⟨2, ![8192, 4096]⟩
abbrev S4x4096x23936 : Shape := ⟨3, ![4, 4096, 23936]⟩
abbrev S4x4096x8192 : Shape := ⟨3, ![4, 4096, 8192]⟩
abbrev S8192x8192 : Shape := ⟨2, ![8192, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x23936, .f32⟩
  | .hbm, ⟨2, _⟩ => ⟨S4x4096x23936, .bf16⟩
  | .hbm, ⟨3, _⟩ => ⟨S4x4096x8192, .bf16⟩
  | .hbm, ⟨4, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInGIdeal.lean ====
abbrev S8192x4096 : Shape := ⟨2, ![8192, 4096]⟩
abbrev S4x4096x23936 : Shape := ⟨3, ![4, 4096, 23936]⟩
abbrev S1x4096x8192 : Shape := ⟨3, ![1, 4096, 8192]⟩
abbrev S4096x8192 : Shape := ⟨2, ![4096, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x23936, .f32⟩
  | .hbm, ⟨2, _⟩ => ⟨S8192x4096, .f32⟩
  | .hbm, ⟨3, _⟩ => ⟨S1x4096x8192, .f32⟩
  | .hbm, ⟨4, _⟩ => ⟨S4096x8192, .f32⟩
  | .hbm, ⟨5, _⟩ => ⟨S8192x8192, .f32⟩
  | .hbm, ⟨6, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelSsdO.lean ====
abbrev S8192x4096 : Shape := ⟨2, ![8192, 4096]⟩
abbrev S4x4096x4096 : Shape := ⟨3, ![4, 4096, 4096]⟩
abbrev S8192x8192 : Shape := ⟨2, ![8192, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x8192, .bf16⟩
  | .hbm, ⟨3, _⟩ => ⟨S4x4096x4096, .bf16⟩
  | .hbm, ⟨4, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceSsdOIdeal.lean ====
abbrev S8192x4096 : Shape := ⟨2, ![8192, 4096]⟩
abbrev S4x4096x4096 : Shape := ⟨3, ![4, 4096, 4096]⟩
abbrev S8192x8192 : Shape := ⟨2, ![8192, 8192]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x8192, .bf16⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | .hbm, ⟨7, _⟩ => ⟨S8192x4096, .bf16⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelMlaO.lean ====
abbrev S8192x4096 : Shape := ⟨2, ![8192, 4096]⟩
abbrev S4x4096x4096 : Shape := ⟨3, ![4, 4096, 4096]⟩
abbrev S8192x8192 : Shape := ⟨2, ![8192, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x8192, .bf16⟩
  | .hbm, ⟨3, _⟩ => ⟨S8192x4096, .bf16⟩
  | .hbm, ⟨4, _⟩ => ⟨S4x4096x4096, .bf16⟩
  | .hbm, ⟨5, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMlaOIdeal.lean ====
abbrev S8192x4096 : Shape := ⟨2, ![8192, 4096]⟩
abbrev S4x4096x4096 : Shape := ⟨3, ![4, 4096, 4096]⟩
abbrev S8192x8192 : Shape := ⟨2, ![8192, 8192]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x8192, .bf16⟩
  | .hbm, ⟨3, _⟩ => ⟨S8192x4096, .bf16⟩
  | .hbm, ⟨4, _⟩ => ⟨S8192x4096, .f32⟩
  | .hbm, ⟨5, _⟩ => ⟨S1x4096x4096, .f32⟩
  | .hbm, ⟨6, _⟩ => ⟨S4096x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelOut.lean ====
abbrev S8192x4096 : Shape := ⟨2, ![8192, 4096]⟩
abbrev S4x4096x4096 : Shape := ⟨3, ![4, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x4096, .f32⟩
  | .hbm, ⟨3, _⟩ => ⟨S4x4096x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S8192x4096 : Shape := ⟨2, ![8192, 4096]⟩
abbrev S4x4096x4096 : Shape := ⟨3, ![4, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x4096, .f32⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | .hbm, ⟨7, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGelu.lean ====
abbrev S8192x4096 : Shape := ⟨2, ![8192, 4096]⟩
abbrev S4x4096x256 : Shape := ⟨3, ![4, 4096, 256]⟩
abbrev S8192x256 : Shape := ⟨2, ![8192, 256]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4x4096x256, .f32⟩
  | .hbm, ⟨2, _⟩ => ⟨S4x4096x256, .bf16⟩
  | .hbm, ⟨3, _⟩ => ⟨S8192x256, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .bf16⟩
  | .local _ .vmem, ⟨3, _⟩ => ⟨S1024x256, .bf16⟩
  | .local _ .vmem, ⟨4, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGeluIdeal.lean ====
abbrev S8192x4096 : Shape := ⟨2, ![8192, 4096]⟩
abbrev S4x4096x256 : Shape := ⟨3, ![4, 4096, 256]⟩
abbrev S1x4096x256 : Shape := ⟨3, ![1, 4096, 256]⟩
abbrev S4096x256 : Shape := ⟨2, ![4096, 256]⟩
abbrev S8192x256 : Shape := ⟨2, ![8192, 256]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x256, .f32⟩
  | .hbm, ⟨2, _⟩ => ⟨S8192x4096, .f32⟩
  | .hbm, ⟨3, _⟩ => ⟨S1x4096x256, .f32⟩
  | .hbm, ⟨4, _⟩ => ⟨S4096x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S_, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192x256, .f32⟩
  | .hbm, ⟨18, _⟩ => ⟨S8192x256, .f32⟩
  | .hbm, ⟨19, _⟩ => ⟨S_, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KernelPle.lean ====
abbrev S8192x256 : Shape := ⟨2, ![8192, 256]⟩
abbrev S4x256x4096 : Shape := ⟨3, ![4, 256, 4096]⟩
abbrev S8192x4096 : Shape := ⟨2, ![8192, 4096]⟩
abbrev S512x256 : Shape := ⟨2, ![512, 256]⟩
abbrev S1x256x1024 : Shape := ⟨3, ![1, 256, 1024]⟩
abbrev S512x1024 : Shape := ⟨2, ![512, 1024]⟩
abbrev S256x1024 : Shape := ⟨2, ![256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x256, .bf16⟩
  | .hbm, ⟨1, _⟩ => ⟨S8192x256, .f32⟩
  | .hbm, ⟨2, _⟩ => ⟨S4x256x4096, .f32⟩
  | .hbm, ⟨3, _⟩ => ⟨S4x256x4096, .f32⟩
  | .hbm, ⟨4, _⟩ => ⟨S8192x4096, .f32⟩
  | .hbm, ⟨5, _⟩ => ⟨S4x256x4096, .bf16⟩
  | .hbm, ⟨6, _⟩ => ⟨S4x256x4096, .bf16⟩
  | .hbm, ⟨7, _⟩ => ⟨S8192x4096, .f32⟩
  | .local _ .vmem, ⟨0, _⟩ => ⟨S512x256, .bf16⟩
  | .local _ .vmem, ⟨1, _⟩ => ⟨S512x256, .bf16⟩
  | .local _ .vmem, ⟨2, _⟩ => ⟨S512x256, .f32⟩
  | .local _ .vmem, ⟨3, _⟩ => ⟨S512x256, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferencePleIdeal.lean ====
abbrev S8192x256 : Shape := ⟨2, ![8192, 256]⟩
abbrev S4x256x4096 : Shape := ⟨3, ![4, 256, 4096]⟩
abbrev S8192x4096 : Shape := ⟨2, ![8192, 4096]⟩
abbrev S1x256x4096 : Shape := ⟨3, ![1, 256, 4096]⟩
abbrev S256x4096 : Shape := ⟨2, ![256, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .f32⟩
  | .hbm, ⟨2, _⟩ => ⟨S4x256x4096, .f32⟩
  | .hbm, ⟨3, _⟩ => ⟨S4x256x4096, .f32⟩
  | .hbm, ⟨4, _⟩ => ⟨S8192x4096, .f32⟩
  | .hbm, ⟨5, _⟩ => ⟨S8192x256, .f32⟩
  | .hbm, ⟨6, _⟩ => ⟨S1x256x4096, .f32⟩
  | .hbm, ⟨7, _⟩ => ⟨S256x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S1x256x4096, .f32⟩
  | .hbm, ⟨18, _⟩ => ⟨S256x4096, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== KernelQ.lean ====
abbrev S8192x768 : Shape := ⟨2, ![8192, 768]⟩
abbrev S4x768x6144 : Shape := ⟨3, ![4, 768, 6144]⟩
abbrev S2048x32 : Shape := ⟨2, ![2048, 32]⟩
abbrev S_ : Shape := ⟨0, ![]⟩
abbrev S2048x64 : Shape := ⟨2, ![2048, 64]⟩
abbrev S2048x128 : Shape := ⟨2, ![2048, 128]⟩
abbrev S4x768x32x192 : Shape := ⟨4, ![4, 768, 32, 192]⟩
abbrev S4x768x32x256 : Shape := ⟨4, ![4, 768, 32, 256]⟩
abbrev S4x768x8192 : Shape := ⟨3, ![4, 768, 8192]⟩
abbrev S8192x8192 : Shape := ⟨2, ![8192, 8192]⟩
abbrev S1024x768 : Shape := ⟨2, ![1024, 768]⟩
abbrev S1x768x512 : Shape := ⟨3, ![1, 768, 512]⟩
abbrev S1024x128 : Shape := ⟨2, ![1024, 128]⟩
abbrev S1024x512 : Shape := ⟨2, ![1024, 512]⟩
abbrev S768x512 : Shape := ⟨2, ![768, 512]⟩

abbrev nBuf : Space → Nat
  | .hbm => 15
  | .vmem => 10
  | .smem => 0
  | _ => 0

abbrev bufTy : (tb : Table) → Fin (tcTables nBuf tb) → BufTy
  | .hbm, ⟨0, _⟩ => ⟨S8192x768, .bf16⟩
  | .hbm, ⟨1, _⟩ => ⟨S4x768x6144, .f32⟩
  | .hbm, ⟨2, _⟩ => ⟨S2048x32, .f32⟩
  | .hbm, ⟨3, _⟩ => ⟨S2048x32, .f32⟩
  | .hbm, ⟨4, _⟩ => ⟨S_, .f32⟩
  | .hbm, ⟨5, _⟩ => ⟨S2048x64, .f32⟩
  | .hbm, ⟨6, _⟩ => ⟨S2048x128, .f32⟩
  | .hbm, ⟨7, _⟩ => ⟨S2048x128, .f32⟩
  | .hbm, ⟨8, _⟩ => ⟨S4x768x32x192, .f32⟩
  | .hbm, ⟨9, _⟩ => ⟨S_, .i32⟩
  | .hbm, ⟨10, _⟩ => ⟨S_, .f32⟩
  | .hbm, ⟨11, _⟩ => ⟨S4x768x32x256, .f32⟩
  | .hbm, ⟨12, _⟩ => ⟨S4x768x8192, .f32⟩
  | .hbm, ⟨13, _⟩ => ⟨S4x768x8192, .bf16⟩
  | .hbm, ⟨14, _⟩ => ⟨S8192x8192, .bf16⟩
  | .local _ .vmem, ⟨0, _⟩ => ⟨S1024x768, .bf16⟩
  | .local _ .vmem, ⟨1, _⟩ => ⟨S1024x768, .bf16⟩
  | .local _ .vmem, ⟨2, _⟩ => ⟨S1x768x512, .bf16⟩
  | .local _ .vmem, ⟨3, _⟩ => ⟨S1x768x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQIdeal.lean ====
abbrev S8192x768 : Shape := ⟨2, ![8192, 768]⟩
abbrev S4x768x6144 : Shape := ⟨3, ![4, 768, 6144]⟩
abbrev S2048x32 : Shape := ⟨2, ![2048, 32]⟩
abbrev S1x768x6144 : Shape := ⟨3, ![1, 768, 6144]⟩
abbrev S768x6144 : Shape := ⟨2, ![768, 6144]⟩
abbrev S8192x6144 : Shape := ⟨2, ![8192, 6144]⟩
abbrev S4x2048x32x192 : Shape := ⟨4, ![4, 2048, 32, 192]⟩
abbrev S_ : Shape := ⟨0, ![]⟩
abbrev S4x2048x32x64 : Shape := ⟨4, ![4, 2048, 32, 64]⟩
abbrev S2048x1x32 : Shape := ⟨3, ![2048, 1, 32]⟩
abbrev S4x2048x32x32 : Shape := ⟨4, ![4, 2048, 32, 32]⟩
abbrev S1x2048x1x32 : Shape := ⟨4, ![1, 2048, 1, 32]⟩
abbrev S4x2048x32x128 : Shape := ⟨4, ![4, 2048, 32, 128]⟩
abbrev S4x2048x32x256 : Shape := ⟨4, ![4, 2048, 32, 256]⟩
abbrev S8192x8192 : Shape := ⟨2, ![8192, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S4x768x6144, .f32⟩
  | .hbm, ⟨2, _⟩ => ⟨S2048x32, .f32⟩
  | .hbm, ⟨3, _⟩ => ⟨S2048x32, .f32⟩
  | .hbm, ⟨4, _⟩ => ⟨S8192x768, .f32⟩
  | .hbm, ⟨5, _⟩ => ⟨S1x768x6144, .f32⟩
  | .hbm, ⟨6, _⟩ => ⟨S768x6144, .f32⟩
  | .hbm, ⟨7, _⟩ => ⟨S8192x6144, .f32⟩
  | .hbm, ⟨8, _⟩ => ⟨S4x2048x32x192, .f32⟩
  | .hbm, ⟨9, _⟩ => ⟨S_, .f32⟩
  | .hbm, ⟨10, _⟩ => ⟨S4x2048x32x192, .f32⟩
  | .hbm, ⟨11, _⟩ => ⟨S4x2048x32x192, .f32⟩
  | .hbm, ⟨12, _⟩ => ⟨S4x2048x32x64, .f32⟩
  | .hbm, ⟨13, _⟩ => ⟨S2048x1x32, .f32⟩
  | .hbm, ⟨14, _⟩ => ⟨S2048x1x32, .f32⟩
  | .hbm, ⟨15, _⟩ => ⟨S4x2048x32x32, .f32⟩
  | .hbm, ⟨16, _⟩ => ⟨S4x2048x32x32, .f32⟩
  | .hbm, ⟨17, _⟩ => ⟨S1x2048x1x32, .f32⟩
  | .hbm, ⟨18, _⟩ => ⟨S4x2048x32x32, .f32⟩
  | .hbm, ⟨19, _⟩ => ⟨S4x2048x32x32, .f32⟩
  | .hbm, ⟨20, _⟩ => ⟨S1x2048x1x32, .f32⟩
  | .hbm, ⟨21, _⟩ => ⟨S4x2048x32x32, .f32⟩
  | .hbm, ⟨22, _⟩ => ⟨S4x2048x32x32, .f32⟩
  | .hbm, ⟨23, _⟩ => ⟨S4x2048x32x32, .f32⟩
  | .hbm, ⟨24, _⟩ => ⟨S1x2048x1x32, .f32⟩
  | .hbm, ⟨25, _⟩ => ⟨S4x2048x32x32, .f32⟩
  | .hbm, ⟨26, _⟩ => ⟨S4x2048x32x32, .f32⟩
  | .hbm, ⟨27, _⟩ => ⟨S1x2048x1x32, .f32⟩
  | .hbm, ⟨28, _⟩ => ⟨S4x2048x32x32, .f32⟩
  | .hbm, ⟨29, _⟩ => ⟨S4x2048x32x32, .f32⟩
  | .hbm, ⟨30, _⟩ => ⟨S4x2048x32x32, .f32⟩
  | .hbm, ⟨31, _⟩ => ⟨S4x2048x32x64, .f32⟩
  | .hbm, ⟨32, _⟩ => ⟨S_, .f32⟩
  | .hbm, ⟨33, _⟩ => ⟨S4x2048x32x64, .f32⟩
  | .hbm, ⟨34, _⟩ => ⟨S4x2048x32x128, .f32⟩
  | .hbm, ⟨35, _⟩ => ⟨S4x2048x32x256, .f32⟩
  | .hbm, ⟨36, _⟩ => ⟨S8192x8192, .f32⟩
  | .hbm, ⟨37, _⟩ => ⟨S8192x8192, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== KernelKcat.lean ====
abbrev S8192x512 : Shape := ⟨2, ![8192, 512]⟩
abbrev S4x512x8192 : Shape := ⟨3, ![4, 512, 8192]⟩
abbrev S8192x128 : Shape := ⟨2, ![8192, 128]⟩
abbrev S4x512x32x256 : Shape := ⟨4, ![4, 512, 32, 256]⟩
abbrev S4x512x32x128 : Shape := ⟨4, ![4, 512, 32, 128]⟩
abbrev S4x512x4096 : Shape := ⟨3, ![4, 512, 4096]⟩
abbrev S8192x8192 : Shape := ⟨2, ![8192, 8192]⟩
abbrev S1024x512 : Shape := ⟨2, ![1024, 512]⟩
abbrev S1x512x512 : Shape := ⟨3, ![1, 512, 512]⟩
abbrev S1024x128 : Shape := ⟨2, ![1024, 128]⟩
abbrev S1024x1024 : Shape := ⟨2, ![1024, 1024]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S4x512x8192, .f32⟩
  | .hbm, ⟨2, _⟩ => ⟨S8192x128, .bf16⟩
  | .hbm, ⟨3, _⟩ => ⟨S4x512x32x256, .f32⟩
  | .hbm, ⟨4, _⟩ => ⟨S4x512x32x128, .f32⟩
  | .hbm, ⟨5, _⟩ => ⟨S4x512x4096, .f32⟩
  | .hbm, ⟨6, _⟩ => ⟨S4x512x4096, .bf16⟩
  | .hbm, ⟨7, _⟩ => ⟨S8192x8192, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x128, .bf16⟩
  | .local _ .vmem, ⟨5, _⟩ => ⟨S1024x128, .bf16⟩
  | .local _ .vmem, ⟨6, _⟩ => ⟨S1024x1024, .bf16⟩
  | .local _ .vmem, ⟨7, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceKcatIdeal.lean ====
abbrev S8192x512 : Shape := ⟨2, ![8192, 512]⟩
abbrev S4x512x8192 : Shape := ⟨3, ![4, 512, 8192]⟩
abbrev S8192x128 : Shape := ⟨2, ![8192, 128]⟩
abbrev S1x512x8192 : Shape := ⟨3, ![1, 512, 8192]⟩
abbrev S512x8192 : Shape := ⟨2, ![512, 8192]⟩
abbrev S512x32x256 : Shape := ⟨3, ![512, 32, 256]⟩
abbrev S512x32x128 : Shape := ⟨3, ![512, 32, 128]⟩
abbrev S8192x32x128 : Shape := ⟨3, ![8192, 32, 128]⟩
abbrev S8192x1x128 : Shape := ⟨3, ![8192, 1, 128]⟩
abbrev S8192x32x256 : Shape := ⟨3, ![8192, 32, 256]⟩
abbrev S8192x8192 : Shape := ⟨2, ![8192, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x512x8192, .f32⟩
  | .hbm, ⟨2, _⟩ => ⟨S8192x128, .bf16⟩
  | .hbm, ⟨3, _⟩ => ⟨S1x512x8192, .f32⟩
  | .hbm, ⟨4, _⟩ => ⟨S512x8192, .f32⟩
  | .hbm, ⟨5, _⟩ => ⟨S512x32x256, .f32⟩
  | .hbm, ⟨6, _⟩ => ⟨S8192x512, .f32⟩
  | .hbm, ⟨7, _⟩ => ⟨S512x32x128, .f32⟩
  | .hbm, ⟨8, _⟩ => ⟨S8192x32x128, .f32⟩
  | .hbm, ⟨9, _⟩ => ⟨S8192x32x128, .bf16⟩
  | .hbm, ⟨10, _⟩ => ⟨S8192x1x128, .bf16⟩
  | .hbm, ⟨11, _⟩ => ⟨S8192x32x128, .bf16⟩
  | .hbm, ⟨12, _⟩ => ⟨S8192x32x256, .bf16⟩
  | .hbm, ⟨13, _⟩ => ⟨S8192x8192, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelV.lean ====
abbrev S8192x512 : Shape := ⟨2, ![8192, 512]⟩
abbrev S4x512x8192 : Shape := ⟨3, ![4, 512, 8192]⟩
abbrev S4x512x32x256 : Shape := ⟨4, ![4, 512, 32, 256]⟩
abbrev S4x512x32x128 : Shape := ⟨4, ![4, 512, 32, 128]⟩
abbrev S4x512x4096 : Shape := ⟨3, ![4, 512, 4096]⟩
abbrev S8192x4096 : Shape := ⟨2, ![8192, 4096]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S4x512x8192, .f32⟩
  | .hbm, ⟨2, _⟩ => ⟨S4x512x32x256, .f32⟩
  | .hbm, ⟨3, _⟩ => ⟨S4x512x32x128, .f32⟩
  | .hbm, ⟨4, _⟩ => ⟨S4x512x4096, .f32⟩
  | .hbm, ⟨5, _⟩ => ⟨S4x512x4096, .bf16⟩
  | .hbm, ⟨6, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .bf16⟩
  | .local _ .vmem, ⟨5, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceVIdeal.lean ====
abbrev S8192x512 : Shape := ⟨2, ![8192, 512]⟩
abbrev S4x512x8192 : Shape := ⟨3, ![4, 512, 8192]⟩
abbrev S1x512x8192 : Shape := ⟨3, ![1, 512, 8192]⟩
abbrev S512x8192 : Shape := ⟨2, ![512, 8192]⟩
abbrev S512x32x256 : Shape := ⟨3, ![512, 32, 256]⟩
abbrev S512x32x128 : Shape := ⟨3, ![512, 32, 128]⟩
abbrev S8192x32x128 : Shape := ⟨3, ![8192, 32, 128]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x512x8192, .f32⟩
  | .hbm, ⟨2, _⟩ => ⟨S1x512x8192, .f32⟩
  | .hbm, ⟨3, _⟩ => ⟨S512x8192, .f32⟩
  | .hbm, ⟨4, _⟩ => ⟨S512x32x256, .f32⟩
  | .hbm, ⟨5, _⟩ => ⟨S8192x512, .f32⟩
  | .hbm, ⟨6, _⟩ => ⟨S512x32x128, .f32⟩
  | .hbm, ⟨7, _⟩ => ⟨S8192x32x128, .f32⟩
  | .hbm, ⟨8, _⟩ => ⟨S8192x4096, .f32⟩
  | .hbm, ⟨9, _⟩ => ⟨S8192x4096, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelFinal.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelFinalIdeal.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceFinalIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelFinalS.lean ====
abbrev S128x4096 : Shape := ⟨2, ![128, 4096]⟩
abbrev S4096 : Shape := ⟨1, ![4096]⟩
abbrev S1x4096 : Shape := ⟨2, ![1, 4096]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S1x4096, .f32⟩
  | .hbm, ⟨3, _⟩ => ⟨S128x4096, .f32⟩
  | .local _ .vmem, ⟨0, _⟩ => ⟨S128x4096, .f32⟩
  | .local _ .vmem, ⟨1, _⟩ => ⟨S1x4096, .f32⟩
  | .local _ .vmem, ⟨2, _⟩ => ⟨S128x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceFinalSIdeal.lean ====
abbrev S128x4096 : Shape := ⟨2, ![128, 4096]⟩
abbrev S4096 : Shape := ⟨1, ![4096]⟩
abbrev S_ : Shape := ⟨0, ![]⟩
abbrev S128 : Shape := ⟨1, ![128]⟩
abbrev S128x1 : Shape := ⟨2, ![128, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S128x4096, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x4096, .f32⟩
  | .hbm, ⟨14, _⟩ => ⟨S128x4096, .f32⟩
  | .hbm, ⟨15, _⟩ => ⟨S1x4096, .f32⟩
  | .hbm, ⟨16, _⟩ => ⟨S128x4096, .f32⟩
  | .hbm, ⟨17, _⟩ => ⟨S128x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelNorm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelMid.lean ====
abbrev S8192x1408 : Shape := ⟨2, ![8192, 1408]⟩
abbrev S768 : Shape := ⟨1, ![768]⟩
abbrev S512 : Shape := ⟨1, ![512]⟩
abbrev S2048x32 : Shape := ⟨2, ![2048, 32]⟩
abbrev S_ : Shape := ⟨0, ![]⟩
abbrev S2048x64 : Shape := ⟨2, ![2048, 64]⟩
abbrev S2048x128 : Shape := ⟨2, ![2048, 128]⟩
abbrev S1x768 : Shape := ⟨2, ![1, 768]⟩
abbrev S1x512 : Shape := ⟨2, ![1, 512]⟩
abbrev S8192x768 : Shape := ⟨2, ![8192, 768]⟩
abbrev S8192x512 : Shape := ⟨2, ![8192, 512]⟩
abbrev S8192x64 : Shape := ⟨2, ![8192, 64]⟩
abbrev S8192x128 : Shape := ⟨2, ![8192, 128]⟩
abbrev S256x1408 : Shape := ⟨2, ![256, 1408]⟩
abbrev S256x128 : Shape := ⟨2, ![256, 128]⟩
abbrev S256x768 : Shape := ⟨2, ![256, 768]⟩
abbrev S256x512 : Shape := ⟨2, ![256, 512]⟩
abbrev S256x64 : Shape := ⟨2, ![256, 64]⟩
abbrev S256 : Shape := ⟨1, ![256]⟩
abbrev S256x1 : Shape := ⟨2, ![256, 1]⟩

abbrev nBuf : Space → Nat
  | .hbm => 17
  | .vmem => 20
  | .smem => 0
  | _ => 0

abbrev bufTy : (tb : Table) → Fin (tcTables nBuf tb) → BufTy
  | .hbm, ⟨0, _⟩ => ⟨S8192x1408, .f32⟩
  | .hbm, ⟨1, _⟩ => ⟨S768, .f32⟩
  | .hbm, ⟨2, _⟩ => ⟨S512, .f32⟩
  | .hbm, ⟨3, _⟩ => ⟨S2048x32, .f32⟩
  | .hbm, ⟨4, _⟩ => ⟨S2048x32, .f32⟩
  | .hbm, ⟨5, _⟩ => ⟨S_, .f32⟩
  | .hbm, ⟨6, _⟩ => ⟨S2048x64, .f32⟩
  | .hbm, ⟨7, _⟩ => ⟨S2048x128, .f32⟩
  | .hbm, ⟨8, _⟩ => ⟨S2048x128, .f32⟩
  | .hbm, ⟨9, _⟩ => ⟨S1x768, .f32⟩
  | .hbm, ⟨10, _⟩ => ⟨S1x512, .f32⟩
  | .hbm, ⟨11, _⟩ => ⟨S8192x768, .bf16⟩
  | .hbm, ⟨12, _⟩ => ⟨S8192x512, .f32⟩
  | .hbm, ⟨13, _⟩ => ⟨S8192x512, .bf16⟩
  | .hbm, ⟨14, _⟩ => ⟨S8192x64, .f32⟩
  | .hbm, ⟨15, _⟩ => ⟨S8192x128, .bf16⟩
  | .hbm, ⟨16, _⟩ => ⟨S8192x64, .f32⟩
  | .local _ .vmem, ⟨0, _⟩ => ⟨S256x1408, .f32⟩
  | .local _ .vmem, ⟨1, _⟩ => ⟨S256x1408, .f32⟩
  | .local _ .vmem, ⟨2, _⟩ => ⟨S1x768, .f32⟩
  | .local _ .vmem, ⟨3, _⟩ => ⟨S1x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x768, .bf16⟩
  | .local _ .vmem, ⟨9, _⟩ => ⟨S256x768, .bf16⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x64, .f32⟩
  | .local _ .vmem, ⟨15, _⟩ => ⟨S256x64, .f32⟩
  | .local _ .vmem, ⟨16, _⟩ => ⟨S256x128, .bf16⟩
  | .local _ .vmem, ⟨17, _⟩ => ⟨S256x128, .bf16⟩
  | .local _ .vmem, ⟨18, _⟩ => ⟨S256x64, .f32⟩
  | .local _ .vmem, ⟨19, _⟩ => ⟨S256x64, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMidIdeal.lean ====
abbrev S8192x1408 : Shape := ⟨2, ![8192, 1408]⟩
abbrev S768 : Shape := ⟨1, ![768]⟩
abbrev S512 : Shape := ⟨1, ![512]⟩
abbrev S2048x32 : Shape := ⟨2, ![2048, 32]⟩
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S1x768 : Shape := ⟨2, ![1, 768]⟩
abbrev S8192x512 : Shape := ⟨2, ![8192, 512]⟩
abbrev S1x512 : Shape := ⟨2, ![1, 512]⟩
abbrev S8192x64 : Shape := ⟨2, ![8192, 64]⟩
abbrev S4x2048x64 : Shape := ⟨3, ![4, 2048, 64]⟩
abbrev S4x2048x32 : Shape := ⟨3, ![4, 2048, 32]⟩
abbrev S1x2048x32 : Shape := ⟨3, ![1, 2048, 32]⟩
abbrev S8192x128 : Shape := ⟨2, ![8192, 128]⟩

abbrev nBuf : Space → Nat
  | .hbm => 66
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S768, .f32⟩
  | .hbm, ⟨2, _⟩ => ⟨S512, .f32⟩
  | .hbm, ⟨3, _⟩ => ⟨S2048x32, .f32⟩
  | .hbm, ⟨4, _⟩ => ⟨S2048x32, .f32⟩
  | .hbm, ⟨5, _⟩ => ⟨S8192x768, .f32⟩
  | .hbm, ⟨6, _⟩ => ⟨S8192x768, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x768, .f32⟩
  | .hbm, ⟨18, _⟩ => ⟨S8192x768, .f32⟩
  | .hbm, ⟨19, _⟩ => ⟨S1x768, .f32⟩
  | .hbm, ⟨20, _⟩ => ⟨S8192x768, .f32⟩
  | .hbm, ⟨21, _⟩ => ⟨S8192x768, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S8192x64, .f32⟩
  | .hbm, ⟨40, _⟩ => ⟨S4x2048x64, .f32⟩
  | .hbm, ⟨41, _⟩ => ⟨S4x2048x32, .f32⟩
  | .hbm, ⟨42, _⟩ => ⟨S4x2048x32, .f32⟩
  | .hbm, ⟨43, _⟩ => ⟨S1x2048x32, .f32⟩
  | .hbm, ⟨44, _⟩ => ⟨S4x2048x32, .f32⟩
  | .hbm, ⟨45, _⟩ => ⟨S4x2048x32, .f32⟩
  | .hbm, ⟨46, _⟩ => ⟨S1x2048x32, .f32⟩
  | .hbm, ⟨47, _⟩ => ⟨S4x2048x32, .f32⟩
  | .hbm, ⟨48, _⟩ => ⟨S4x2048x32, .f32⟩
  | .hbm, ⟨49, _⟩ => ⟨S4x2048x32, .f32⟩
  | .hbm, ⟨50, _⟩ => ⟨S1x2048x32, .f32⟩
  | .hbm, ⟨51, _⟩ => ⟨S4x2048x32, .f32⟩
  | .hbm, ⟨52, _⟩ => ⟨S4x2048x32, .f32⟩
  | .hbm, ⟨53, _⟩ => ⟨S1x2048x32, .f32⟩
  | .hbm, ⟨54, _⟩ => ⟨S4x2048x32, .f32⟩
  | .hbm, ⟨55, _⟩ => ⟨S4x2048x32, .f32⟩
  | .hbm, ⟨56, _⟩ => ⟨S4x2048x32, .f32⟩
  | .hbm, ⟨57, _⟩ => ⟨S4x2048x64, .f32⟩
  | .hbm, ⟨58, _⟩ => ⟨S8192x64, .f32⟩
  | .hbm, ⟨59, _⟩ => ⟨S_, .f32⟩
  | .hbm, ⟨60, _⟩ => ⟨S8192x64, .f32⟩
  | .hbm, ⟨61, _⟩ => ⟨S8192x128, .f32⟩
  | .hbm, ⟨62, _⟩ => ⟨S8192x768, .bf16⟩
  | .hbm, ⟨63, _⟩ => ⟨S8192x512, .bf16⟩
  | .hbm, ⟨64, _⟩ => ⟨S8192x128, .bf16⟩
  | .hbm, ⟨65, _⟩ => ⟨S8192x64, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== KernelMidS.lean ====
abbrev S128x1408 : Shape := ⟨2, ![128, 1408]⟩
abbrev S768 : Shape := ⟨1, ![768]⟩
abbrev S512 : Shape := ⟨1, ![512]⟩
abbrev S1x32 : Shape := ⟨2, ![1, 32]⟩
abbrev S1x128x32 : Shape := ⟨3, ![1, 128, 32]⟩
abbrev S128x32 : Shape := ⟨2, ![128, 32]⟩
abbrev S_ : Shape := ⟨0, ![]⟩
abbrev S128x64 : Shape := ⟨2, ![128, 64]⟩
abbrev S128x128 : Shape := ⟨2, ![128, 128]⟩
abbrev S1x768 : Shape := ⟨2, ![1, 768]⟩
abbrev S1x512 : Shape := ⟨2, ![1, 512]⟩
abbrev S128x768 : Shape := ⟨2, ![128, 768]⟩
abbrev S128x512 : Shape := ⟨2, ![128, 512]⟩
abbrev S128 : Shape := ⟨1, ![128]⟩
abbrev S128x1 : Shape := ⟨2, ![128, 1]⟩

abbrev nBuf : Space → Nat
  | .hbm => 21
  | .vmem => 11
  | .smem => 0
  | _ => 0

abbrev bufTy : (tb : Table) → Fin (tcTables nBuf tb) → BufTy
  | .hbm, ⟨0, _⟩ => ⟨S128x1408, .f32⟩
  | .hbm, ⟨1, _⟩ => ⟨S768, .f32⟩
  | .hbm, ⟨2, _⟩ => ⟨S512, .f32⟩
  | .hbm, ⟨3, _⟩ => ⟨S1x32, .f32⟩
  | .hbm, ⟨4, _⟩ => ⟨S1x32, .f32⟩
  | .hbm, ⟨5, _⟩ => ⟨S1x128x32, .f32⟩
  | .hbm, ⟨6, _⟩ => ⟨S128x32, .f32⟩
  | .hbm, ⟨7, _⟩ => ⟨S1x128x32, .f32⟩
  | .hbm, ⟨8, _⟩ => ⟨S128x32, .f32⟩
  | .hbm, ⟨9, _⟩ => ⟨S_, .f32⟩
  | .hbm, ⟨10, _⟩ => ⟨S128x64, .f32⟩
  | .hbm, ⟨11, _⟩ => ⟨S128x128, .f32⟩
  | .hbm, ⟨12, _⟩ => ⟨S128x128, .f32⟩
  | .hbm, ⟨13, _⟩ => ⟨S1x768, .f32⟩
  | .hbm, ⟨14, _⟩ => ⟨S1x512, .f32⟩
  | .hbm, ⟨15, _⟩ => ⟨S128x768, .bf16⟩
  | .hbm, ⟨16, _⟩ => ⟨S128x512, .f32⟩
  | .hbm, ⟨17, _⟩ => ⟨S128x512, .bf16⟩
  | .hbm, ⟨18, _⟩ => ⟨S128x64, .f32⟩
  | .hbm, ⟨19, _⟩ => ⟨S128x128, .bf16⟩
  | .hbm, ⟨20, _⟩ => ⟨S128x64, .f32⟩
  | .local _ .vmem, ⟨0, _⟩ => ⟨S128x1408, .f32⟩
  | .local _ .vmem, ⟨1, _⟩ => ⟨S1x768, .f32⟩
  | .local _ .vmem, ⟨2, _⟩ => ⟨S1x512, .f32⟩
  | .local _ .vmem, ⟨3, _⟩ => ⟨S128x128, .f32⟩
  | .local _ .vmem, ⟨4, _⟩ => ⟨S128x128, .f32⟩
  | .local _ .vmem, ⟨5, _⟩ => ⟨S128x768, .bf16⟩
  | .local _ .vmem, ⟨6, _⟩ => ⟨S128x512, .f32⟩
  | .local _ .vmem, ⟨7, _⟩ => ⟨S128x512, .bf16⟩
  | .local _ .vmem, ⟨8, _⟩ => ⟨S128x64, .f32⟩
  | .local _ .vmem, ⟨9, _⟩ => ⟨S128x128, .bf16⟩
  | .local _ .vmem, ⟨10, _⟩ => ⟨S128x64, .f32⟩
  | _, _ => ⟨S128x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== ReferenceMidSIdeal.lean ====
abbrev S128x1408 : Shape := ⟨2, ![128, 1408]⟩
abbrev S768 : Shape := ⟨1, ![768]⟩
abbrev S512 : Shape := ⟨1, ![512]⟩
abbrev S1x32 : Shape := ⟨2, ![1, 32]⟩
abbrev S128x768 : Shape := ⟨2, ![128, 768]⟩
abbrev S_ : Shape := ⟨0, ![]⟩
abbrev S128 : Shape := ⟨1, ![128]⟩
abbrev S128x1 : Shape := ⟨2, ![128, 1]⟩
abbrev S1x768 : Shape := ⟨2, ![1, 768]⟩
abbrev S128x512 : Shape := ⟨2, ![128, 512]⟩
abbrev S1x512 : Shape := ⟨2, ![1, 512]⟩
abbrev S128x64 : Shape := ⟨2, ![128, 64]⟩
abbrev S128x1x64 : Shape := ⟨3, ![128, 1, 64]⟩
abbrev S128x1x32 : Shape := ⟨3, ![128, 1, 32]⟩
abbrev S1x1x32 : Shape := ⟨3, ![1, 1, 32]⟩
abbrev S128x128 : Shape := ⟨2, ![128, 128]⟩

abbrev nBuf : Space → Nat
  | .hbm => 66
  | .vmem => 0
  | .smem => 0
  | _ => 0

abbrev bufTy : (tb : Table) → Fin (tcTables nBuf tb) → BufTy
  | .hbm, ⟨0, _⟩ => ⟨S128x1408, .f32⟩
  | .hbm, ⟨1, _⟩ => ⟨S768, .f32⟩
  | .hbm, ⟨2, _⟩ => ⟨S512, .f32⟩
  | .hbm, ⟨3, _⟩ => ⟨S1x32, .f32⟩
  | .hbm, ⟨4, _⟩ => ⟨S1x32, .f32⟩
  | .hbm, ⟨5, _⟩ => ⟨S128x768, .f32⟩
  | .hbm, ⟨6, _⟩ => ⟨S128x768, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x768, .f32⟩
  | .hbm, ⟨18, _⟩ => ⟨S128x768, .f32⟩
  | .hbm, ⟨19, _⟩ => ⟨S1x768, .f32⟩
  | .hbm, ⟨20, _⟩ => ⟨S128x768, .f32⟩
  | .hbm, ⟨21, _⟩ => ⟨S128x768, .f32⟩
  | .hbm, ⟨22, _⟩ => ⟨S128x512, .f32⟩
  | .hbm, ⟨23, _⟩ => ⟨S128x512, .f32⟩
  | .hbm, ⟨24, _⟩ => ⟨S_, .f32⟩
  | .hbm, ⟨25, _⟩ => ⟨S128, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x512, .f32⟩
  | .hbm, ⟨35, _⟩ => ⟨S128x512, .f32⟩
  | .hbm, ⟨36, _⟩ => ⟨S1x512, .f32⟩
  | .hbm, ⟨37, _⟩ => ⟨S128x512, .f32⟩
  | .hbm, ⟨38, _⟩ => ⟨S128x512, .f32⟩
  | .hbm, ⟨39, _⟩ => ⟨S128x64, .f32⟩
  | .hbm, ⟨40, _⟩ => ⟨S128x1x64, .f32⟩
  | .hbm, ⟨41, _⟩ => ⟨S128x1x32, .f32⟩
  | .hbm, ⟨42, _⟩ => ⟨S128x1x32, .f32⟩
  | .hbm, ⟨43, _⟩ => ⟨S1x1x32, .f32⟩
  | .hbm, ⟨44, _⟩ => ⟨S128x1x32, .f32⟩
  | .hbm, ⟨45, _⟩ => ⟨S128x1x32, .f32⟩
  | .hbm, ⟨46, _⟩ => ⟨S1x1x32, .f32⟩
  | .hbm, ⟨47, _⟩ => ⟨S128x1x32, .f32⟩
  | .hbm, ⟨48, _⟩ => ⟨S128x1x32, .f32⟩
  | .hbm, ⟨49, _⟩ => ⟨S128x1x32, .f32⟩
  | .hbm, ⟨50, _⟩ => ⟨S1x1x32, .f32⟩
  | .hbm, ⟨51, _⟩ => ⟨S128x1x32, .f32⟩
  | .hbm, ⟨52, _⟩ => ⟨S128x1x32, .f32⟩
  | .hbm, ⟨53, _⟩ => ⟨S1x1x32, .f32⟩
  | .hbm, ⟨54, _⟩ => ⟨S128x1x32, .f32⟩
  | .hbm, ⟨55, _⟩ => ⟨S128x1x32, .f32⟩
  | .hbm, ⟨56, _⟩ => ⟨S128x1x32, .f32⟩
  | .hbm, ⟨57, _⟩ => ⟨S128x1x64, .f32⟩
  | .hbm, ⟨58, _⟩ => ⟨S128x64, .f32⟩
  | .hbm, ⟨59, _⟩ => ⟨S_, .f32⟩
  | .hbm, ⟨60, _⟩ => ⟨S128x64, .f32⟩
  | .hbm, ⟨61, _⟩ => ⟨S128x128, .f32⟩
  | .hbm, ⟨62, _⟩ => ⟨S128x768, .bf16⟩
  | .hbm, ⟨63, _⟩ => ⟨S128x512, .bf16⟩
  | .hbm, ⟨64, _⟩ => ⟨S128x128, .bf16⟩
  | .hbm, ⟨65, _⟩ => ⟨S128x64, .f32⟩
  | _, _ => ⟨S128x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== KernelStep.lean ====
abbrev S128x6144 : Shape := ⟨2, ![128, 6144]⟩
abbrev S128x3x6144 : Shape := ⟨3, ![128, 3, 6144]⟩
abbrev S4x128x4096x128 : Shape := ⟨4, ![4, 128, 4096, 128]⟩
abbrev S128x4096 : Shape := ⟨2, ![128, 4096]⟩
abbrev S128x64 : Shape := ⟨2, ![128, 64]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S64x64 : Shape := ⟨2, ![64, 64]⟩
abbrev S128x1x6144 : Shape := ⟨3, ![128, 1, 6144]⟩
abbrev S128x64x64 : Shape := ⟨3, ![128, 64, 64]⟩
abbrev S128x3x4096 : Shape := ⟨3, ![128, 3, 4096]⟩
abbrev S128x3x64x64 : Shape := ⟨4, ![128, 3, 64, 64]⟩
abbrev S128x1x64 : Shape := ⟨3, ![128, 1, 64]⟩
abbrev S128x1x4096 : Shape := ⟨3, ![128, 1, 4096]⟩
abbrev S1x6144 : Shape := ⟨2, ![1, 6144]⟩
abbrev S4x4096 : Shape := ⟨2, ![4, 4096]⟩
abbrev S4x64x64 : Shape := ⟨3, ![4, 64, 64]⟩
abbrev S1x64 : Shape := ⟨2, ![1, 64]⟩
abbrev S1x4096 : Shape := ⟨2, ![1, 4096]⟩
abbrev S1x1x6144 : Shape := ⟨3, ![1, 1, 6144]⟩
abbrev S1x3x6144 : Shape := ⟨3, ![1, 3, 6144]⟩
abbrev S1x64x64 : Shape := ⟨3, ![1, 64, 64]⟩
abbrev S1x3x64x64 : Shape := ⟨4, ![1, 3, 64, 64]⟩
abbrev S1x1x4096x128 : Shape := ⟨4, ![1, 1, 4096, 128]⟩
abbrev S1x1x64 : Shape := ⟨3, ![1, 1, 64]⟩
abbrev S1x1x4096 : Shape := ⟨3, ![1, 1, 4096]⟩
abbrev S3x6144 : Shape := ⟨2, ![3, 6144]⟩
abbrev S1x1x64x64 : Shape := ⟨4, ![1, 1, 64, 64]⟩
abbrev S64x128 : Shape := ⟨2, ![64, 128]⟩
abbrev S1x128 : Shape := ⟨2, ![1, 128]⟩
abbrev S128x128 : Shape := ⟨2, ![128, 128]⟩
abbrev S512x128 : Shape := ⟨2, ![512, 128]⟩
abbrev S1x1x512x128 : Shape := ⟨4, ![1, 1, 512, 128]⟩
abbrev S8x64 : Shape := ⟨2, ![8, 64]⟩

abbrev nBuf : Space → Nat
  | .hbm => 44
  | .vmem => 32
  | .smem => 0
  | _ => 0

abbrev bufTy : (tb : Table) → Fin (tcTables nBuf tb) → BufTy
  | .hbm, ⟨0, _⟩ => ⟨S128x6144, .f32⟩
  | .hbm, ⟨1, _⟩ => ⟨S128x3x6144, .f32⟩
  | .hbm, ⟨2, _⟩ => ⟨S4x128x4096x128, .f32⟩
  | .hbm, ⟨3, _⟩ => ⟨S4x128x4096x128, .f32⟩
  | .hbm, ⟨4, _⟩ => ⟨S128x4096, .f32⟩
  | .hbm, ⟨5, _⟩ => ⟨S128x64, .f32⟩
  | .hbm, ⟨6, _⟩ => ⟨S4x6144, .f32⟩
  | .hbm, ⟨7, _⟩ => ⟨S6144, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S4096, .f32⟩
  | .hbm, ⟨12, _⟩ => ⟨S64x64, .f32⟩
  | .hbm, ⟨13, _⟩ => ⟨S128x1x6144, .f32⟩
  | .hbm, ⟨14, _⟩ => ⟨S128x4096, .f32⟩
  | .hbm, ⟨15, _⟩ => ⟨S128x64x64, .f32⟩
  | .hbm, ⟨16, _⟩ => ⟨S128x64x64, .f32⟩
  | .hbm, ⟨17, _⟩ => ⟨S128x3x4096, .f32⟩
  | .hbm, ⟨18, _⟩ => ⟨S128x3x64x64, .f32⟩
  | .hbm, ⟨19, _⟩ => ⟨S128x3x64x64, .f32⟩
  | .hbm, ⟨20, _⟩ => ⟨S128x64x64, .f32⟩
  | .hbm, ⟨21, _⟩ => ⟨S128x64x64, .f32⟩
  | .hbm, ⟨22, _⟩ => ⟨S128x1x64, .f32⟩
  | .hbm, ⟨23, _⟩ => ⟨S128x64x64, .f32⟩
  | .hbm, ⟨24, _⟩ => ⟨S128x4096, .f32⟩
  | .hbm, ⟨25, _⟩ => ⟨S128x1x4096, .f32⟩
  | .hbm, ⟨26, _⟩ => ⟨S1x6144, .f32⟩
  | .hbm, ⟨27, _⟩ => ⟨S4x4096, .f32⟩
  | .hbm, ⟨28, _⟩ => ⟨S4x64x64, .f32⟩
  | .hbm, ⟨29, _⟩ => ⟨S4x64x64, .f32⟩
  | .hbm, ⟨30, _⟩ => ⟨S4096, .f32⟩
  | .hbm, ⟨31, _⟩ => ⟨S64x64, .f32⟩
  | .hbm, ⟨32, _⟩ => ⟨S64x64, .f32⟩
  | .hbm, ⟨33, _⟩ => ⟨S1x64, .f32⟩
  | .hbm, ⟨34, _⟩ => ⟨S64x64, .f32⟩
  | .hbm, ⟨35, _⟩ => ⟨S4096, .f32⟩
  | .hbm, ⟨36, _⟩ => ⟨S1x4096, .f32⟩
  | .hbm, ⟨37, _⟩ => ⟨S1x64, .f32⟩
  | .hbm, ⟨38, _⟩ => ⟨S1x64, .f32⟩
  | .hbm, ⟨39, _⟩ => ⟨S64x64, .f32⟩
  | .hbm, ⟨40, _⟩ => ⟨S64x64, .f32⟩
  | .hbm, ⟨41, _⟩ => ⟨S128x3x6144, .f32⟩
  | .hbm, ⟨42, _⟩ => ⟨S4x128x4096x128, .f32⟩
  | .hbm, ⟨43, _⟩ => ⟨S128x64x64, .bf16⟩
  | .local _ .vmem, ⟨0, _⟩ => ⟨S1x1x6144, .f32⟩
  | .local _ .vmem, ⟨1, _⟩ => ⟨S1x1x6144, .f32⟩
  | .local _ .vmem, ⟨2, _⟩ => ⟨S1x3x6144, .f32⟩
  | .local _ .vmem, ⟨3, _⟩ => ⟨S1x3x6144, .f32⟩
  | .local _ .vmem, ⟨4, _⟩ => ⟨S1x64x64, .f32⟩
  | .local _ .vmem, ⟨5, _⟩ => ⟨S1x64x64, .f32⟩
  | .local _ .vmem, ⟨6, _⟩ => ⟨S1x3x64x64, .f32⟩
  | .local _ .vmem, ⟨7, _⟩ => ⟨S1x3x64x64, .f32⟩
  | .local _ .vmem, ⟨8, _⟩ => ⟨S1x1x4096x128, .f32⟩
  | .local _ .vmem, ⟨9, _⟩ => ⟨S1x1x4096x128, .f32⟩
  | .local _ .vmem, ⟨10, _⟩ => ⟨S1x64x64, .f32⟩
  | .local _ .vmem, ⟨11, _⟩ => ⟨S1x64x64, .f32⟩
  | .local _ .vmem, ⟨12, _⟩ => ⟨S1x1x64, .f32⟩
  | .local _ .vmem, ⟨13, _⟩ => ⟨S1x1x64, .f32⟩
  | .local _ .vmem, ⟨14, _⟩ => ⟨S1x1x4096, .f32⟩
  | .local _ .vmem, ⟨15, _⟩ => ⟨S1x1x4096, .f32⟩
  | .local _ .vmem, ⟨16, _⟩ => ⟨S4x6144, .f32⟩
  | .local _ .vmem, ⟨17, _⟩ => ⟨S1x6144, .f32⟩
  | .local _ .vmem, ⟨18, _⟩ => ⟨S4x64x64, .f32⟩
  | .local _ .vmem, ⟨19, _⟩ => ⟨S64x64, .f32⟩
  | .local _ .vmem, ⟨20, _⟩ => ⟨S1x64, .f32⟩
  | .local _ .vmem, ⟨21, _⟩ => ⟨S1x4096, .f32⟩
  | .local _ .vmem, ⟨22, _⟩ => ⟨S1x64, .f32⟩
  | .local _ .vmem, ⟨23, _⟩ => ⟨S1x64, .f32⟩
  | .local _ .vmem, ⟨24, _⟩ => ⟨S64x64, .f32⟩
  | .local _ .vmem, ⟨25, _⟩ => ⟨S64x64, .f32⟩
  | .local _ .vmem, ⟨26, _⟩ => ⟨S1x3x6144, .f32⟩
  | .local _ .vmem, ⟨27, _⟩ => ⟨S1x3x6144, .f32⟩
  | .local _ .vmem, ⟨28, _⟩ => ⟨S1x1x4096x128, .f32⟩
  | .local _ .vmem, ⟨29, _⟩ => ⟨S1x1x4096x128, .f32⟩
  | .local _ .vmem, ⟨30, _⟩ => ⟨S1x64x64, .bf16⟩
  | .local _ .vmem, ⟨31, _⟩ => ⟨S1x64x64, .bf16⟩
  | _, _ => ⟨S128x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x3x6144 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x4096x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x64x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceStepIdeal.lean ====
abbrev S128x6144 : Shape := ⟨2, ![128, 6144]⟩
abbrev S128x3x6144 : Shape := ⟨3, ![128, 3, 6144]⟩
abbrev S4x128x4096x128 : Shape := ⟨4, ![4, 128, 4096, 128]⟩
abbrev S128x4096 : Shape := ⟨2, ![128, 4096]⟩
abbrev S128x64 : Shape := ⟨2, ![128, 64]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S128x1x6144 : Shape := ⟨3, ![128, 1, 6144]⟩
abbrev S128x4x6144 : Shape := ⟨3, ![128, 4, 6144]⟩
abbrev S1x4x6144 : Shape := ⟨3, ![1, 4, 6144]⟩
abbrev S_ : Shape := ⟨0, ![]⟩
abbrev S1x6144 : Shape := ⟨2, ![1, 6144]⟩
abbrev S128x64x64 : Shape := ⟨3, ![128, 64, 64]⟩
abbrev S128x1024 : Shape := ⟨2, ![128, 1024]⟩
abbrev S128x8x128 : Shape := ⟨3, ![128, 8, 128]⟩
abbrev S128x8x8x128 : Shape := ⟨4, ![128, 8, 8, 128]⟩
abbrev S128x64x128 : Shape := ⟨3, ![128, 64, 128]⟩
abbrev S1x64 : Shape := ⟨2, ![1, 64]⟩
abbrev S1x128x4096x128 : Shape := ⟨4, ![1, 128, 4096, 128]⟩
abbrev S128x4096x128 : Shape := ⟨3, ![128, 4096, 128]⟩
abbrev S128x64x64x128 : Shape := ⟨4, ![128, 64, 64, 128]⟩
abbrev S128x64x1x1 : Shape := ⟨4, ![128, 64, 1, 1]⟩
abbrev S128x64x1 : Shape := ⟨3, ![128, 64, 1]⟩
abbrev S128x64x64x1 : Shape := ⟨4, ![128, 64, 64, 1]⟩
abbrev S128x64x1x128 : Shape := ⟨4, ![128, 64, 1, 128]⟩
abbrev S3x128x4096x128 : Shape := ⟨4, ![3, 128, 4096, 128]⟩

abbrev nBuf : Space → Nat
  | .hbm => 79
  | .vmem => 0
  | .smem => 0
  | _ => 0

abbrev bufTy : (tb : Table) → Fin (tcTables nBuf tb) → BufTy
  | .hbm, ⟨0, _⟩ => ⟨S128x6144, .f32⟩
  | .hbm, ⟨1, _⟩ => ⟨S128x3x6144, .f32⟩
  | .hbm, ⟨2, _⟩ => ⟨S4x128x4096x128, .f32⟩
  | .hbm, ⟨3, _⟩ => ⟨S4x128x4096x128, .f32⟩
  | .hbm, ⟨4, _⟩ => ⟨S128x4096, .f32⟩
  | .hbm, ⟨5, _⟩ => ⟨S128x64, .f32⟩
  | .hbm, ⟨6, _⟩ => ⟨S4x6144, .f32⟩
  | .hbm, ⟨7, _⟩ => ⟨S6144, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S4096, .f32⟩
  | .hbm, ⟨12, _⟩ => ⟨S128x1x6144, .f32⟩
  | .hbm, ⟨13, _⟩ => ⟨S128x4x6144, .f32⟩
  | .hbm, ⟨14, _⟩ => ⟨S1x4x6144, .f32⟩
  | .hbm, ⟨15, _⟩ => ⟨S128x4x6144, .f32⟩
  | .hbm, ⟨16, _⟩ => ⟨S128x4x6144, .f32⟩
  | .hbm, ⟨17, _⟩ => ⟨S_, .f32⟩
  | .hbm, ⟨18, _⟩ => ⟨S128x6144, .f32⟩
  | .hbm, ⟨19, _⟩ => ⟨S1x6144, .f32⟩
  | .hbm, ⟨20, _⟩ => ⟨S128x6144, .f32⟩
  | .hbm, ⟨21, _⟩ => ⟨S128x6144, .f32⟩
  | .hbm, ⟨22, _⟩ => ⟨S128x6144, .f32⟩
  | .hbm, ⟨23, _⟩ => ⟨S128x6144, .f32⟩
  | .hbm, ⟨24, _⟩ => ⟨S_, .f32⟩
  | .hbm, ⟨25, _⟩ => ⟨S128x6144, .f32⟩
  | .hbm, ⟨26, _⟩ => ⟨S128x6144, .f32⟩
  | .hbm, ⟨27, _⟩ => ⟨S_, .f32⟩
  | .hbm, ⟨28, _⟩ => ⟨S128x6144, .f32⟩
  | .hbm, ⟨29, _⟩ => ⟨S128x6144, .f32⟩
  | .hbm, ⟨30, _⟩ => ⟨S128x6144, .f32⟩
  | .hbm, ⟨31, _⟩ => ⟨S128x4096, .f32⟩
  | .hbm, ⟨32, _⟩ => ⟨S128x64x64, .f32⟩
  | .hbm, ⟨33, _⟩ => ⟨S128x1024, .f32⟩
  | .hbm, ⟨34, _⟩ => ⟨S128x8x128, .f32⟩
  | .hbm, ⟨35, _⟩ => ⟨S128x8x8x128, .f32⟩
  | .hbm, ⟨36, _⟩ => ⟨S128x64x128, .f32⟩
  | .hbm, ⟨37, _⟩ => ⟨S1x64, .f32⟩
  | .hbm, ⟨38, _⟩ => ⟨S128x64, .f32⟩
  | .hbm, ⟨39, _⟩ => ⟨S128x64, .f32⟩
  | .hbm, ⟨40, _⟩ => ⟨S_, .f32⟩
  | .hbm, ⟨41, _⟩ => ⟨S128x64, .f32⟩
  | .hbm, ⟨42, _⟩ => ⟨S128x64, .f32⟩
  | .hbm, ⟨43, _⟩ => ⟨S128x64, .f32⟩
  | .hbm, ⟨44, _⟩ => ⟨S128x64, .f32⟩
  | .hbm, ⟨45, _⟩ => ⟨S128x64, .i1⟩
  | .hbm, ⟨46, _⟩ => ⟨S128x64, .f32⟩
  | .hbm, ⟨47, _⟩ => ⟨S128x64, .f32⟩
  | .hbm, ⟨48, _⟩ => ⟨S128x64, .f32⟩
  | .hbm, ⟨49, _⟩ => ⟨S128x64, .f32⟩
  | .hbm, ⟨50, _⟩ => ⟨S128x64, .f32⟩
  | .hbm, ⟨51, _⟩ => ⟨S128x64, .f32⟩
  | .hbm, ⟨52, _⟩ => ⟨S128x64, .f32⟩
  | .hbm, ⟨53, _⟩ => ⟨S128x64, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S128x64, .f32⟩
  | .hbm, ⟨58, _⟩ => ⟨S128x64, .f32⟩
  | .hbm, ⟨59, _⟩ => ⟨S128x64, .f32⟩
  | .hbm, ⟨60, _⟩ => ⟨S1x128x4096x128, .f32⟩
  | .hbm, ⟨61, _⟩ => ⟨S128x4096x128, .f32⟩
  | .hbm, ⟨62, _⟩ => ⟨S128x64x64x128, .f32⟩
  | .hbm, ⟨63, _⟩ => ⟨S128x64x1x1, .f32⟩
  | .hbm, ⟨64, _⟩ => ⟨S128x64x64x128, .f32⟩
  | .hbm, ⟨65, _⟩ => ⟨S128x64x64x128, .f32⟩
  | .hbm, ⟨66, _⟩ => ⟨S128x64x1, .f32⟩
  | .hbm, ⟨67, _⟩ => ⟨S128x64x64, .f32⟩
  | .hbm, ⟨68, _⟩ => ⟨S128x64x64, .f32⟩
  | .hbm, ⟨69, _⟩ => ⟨S128x64x64x1, .f32⟩
  | .hbm, ⟨70, _⟩ => ⟨S128x64x1x128, .f32⟩
  | .hbm, ⟨71, _⟩ => ⟨S128x64x64x128, .f32⟩
  | .hbm, ⟨72, _⟩ => ⟨S128x64x64x128, .f32⟩
  | .hbm, ⟨73, _⟩ => ⟨S128x64x64x128, .f32⟩
  | .hbm, ⟨74, _⟩ => ⟨S128x64x64x128, .f32⟩
  | .hbm, ⟨75, _⟩ => ⟨S1x128x4096x128, .f32⟩
  | .hbm, ⟨76, _⟩ => ⟨S3x128x4096x128, .f32⟩
  | .hbm, ⟨77, _⟩ => ⟨S4x128x4096x128, .f32⟩
  | .hbm, ⟨78, _⟩ => ⟨S128x3x6144, .f32⟩
  | _, _ => ⟨S128x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩

abbrev nD : Nat := 1
abbrev τ : Topo := Topo.v7x

variable {F : FTy → Type} [FloatOps F]
-- ==== Proof.Softmax.lean ====
/- One row of causal attention over the extended reals: a softmax whose division is put off until the weighted sum
   is complete, against one whose weights are divided first; keys that are masked contribute nothing. -/
module

public import Idealize.ShloMosaic.Lib.Pointwise
public import Idealize.ShloMosaic.Lib.WordCmp

@[expose] public section

noncomputable section

namespace Cert.Attn

open Idealize.ShloMosaic

/-- The gate `z * (1 / (1 + exp (-z)))`. -/
def gate (z : EReal) : EReal := z * Ideal.div 1 (1 + Ideal.exp (0 - z))

/-- The gate, with the exponent spelt as a negation. -/
theorem gate_neg (z : EReal) : gate z = z * Ideal.div 1 (1 + Ideal.exp (-z)) := by
  rw [gate, sub_eq_add_neg, zero_add]

/-- The pattern of −∞ denotes −∞. -/
theorem ofBits_neg_inf : Ideal.ofBits FTy.f32 0xFF800000#32 = ⊥ := by
  simp [Ideal.ofBits, Ideal.ieee]

/-- The comparison of two positions, as the programs spell it. -/
theorem select_sle {n : ℕ} (hn : n < 2 ^ 31) (a c : Fin n) (x y : EReal) :
    Scalar.select (IntOp.cmpi CmpIPredicate.sle (BitVec.ofNat 32 c) (BitVec.ofNat 32 a)) x y = if c ≤ a then x else y := by
  rw [WordCmp.cmpi_sle_ofNat (by have := c.isLt; omega) (by have := a.isLt; omega)]
  by_cases h : c ≤ a
  · rw [if_pos h, decide_eq_true (show (c : ℕ) ≤ a from h)]; rfl
  · rw [if_neg h, decide_eq_false (show ¬(c : ℕ) ≤ a from h)]; rfl

/-- The row's attention over the first `N` keys, divided after the weighted sum: `sc` holds the scores of the keys and
    `v` one column of the values. -/
def attnRow (sc v : ℕ → EReal) (N : ℕ) : EReal :=
  Ideal.div (∑ c ∈ Finset.range N, Ideal.exp (sc c - (Finset.range N).sup sc) * v c)
    (∑ c ∈ Finset.range N, Ideal.exp (sc c - (Finset.range N).sup sc))

/-- The supremum over a run of keys is that of its first part and that of the rest. -/
theorem sup_range_add (f : ℕ → EReal) (n k : ℕ) :
    (Finset.range (n + k)).sup f = max ((Finset.range n).sup f) ((Finset.range k).sup fun c => f (n + c)) := by
  apply le_antisymm
  · refine Finset.sup_le fun c hc => ?_
    rcases lt_or_ge c n with h | h
    · exact le_max_of_le_left (Finset.le_sup (Finset.mem_range.2 h))
    · have hk : c - n ∈ Finset.range k := Finset.mem_range.2 (by have := Finset.mem_range.1 hc; omega)
      have := Finset.le_sup (f := fun c => f (n + c)) hk
      simp only [Nat.add_sub_cancel' h] at this
      exact le_max_of_le_right this
  · refine max_le (Finset.sup_le fun c hc => Finset.le_sup ?_) (Finset.sup_le fun c hc => ?_)
    · exact Finset.mem_range.2 (by have := Finset.mem_range.1 hc; omega)
    · exact Finset.le_sup (f := f) (Finset.mem_range.2 (by have := Finset.mem_range.1 hc; omega))

/-- A row's attention over one block of keys. -/
theorem attnRow_one (sc v : ℕ → EReal) (n : ℕ) :
    attnRow sc v n =
      Ideal.div (∑ x : Fin n, Ideal.exp (sc x - (Finset.range n).sup sc) * v x)
        (∑ x : Fin n, Ideal.exp (sc x - (Finset.range n).sup sc)) := by
  simp only [attnRow, Finset.sum_range]

/-- A row's attention over two blocks of keys, block by block. -/
theorem attnRow_two (sc v : ℕ → EReal) (n : ℕ) (m : EReal)
    (hm : m = max ((Finset.range n).sup sc) ((Finset.range n).sup fun c => sc (n + c))) :
    attnRow sc v (n + n) =
      Ideal.div (∑ x : Fin n, Ideal.exp (sc x - m) * v x + ∑ x : Fin n, Ideal.exp (sc (n + x) - m) * v (n + x))
        (∑ x : Fin n, Ideal.exp (sc x - m) + ∑ x : Fin n, Ideal.exp (sc (n + x) - m)) := by
  simp only [attnRow, Finset.sum_range_add, sup_range_add, ← hm]
  simp only [Finset.sum_range]

/-- A row's attention over three blocks of keys, block by block. -/
theorem attnRow_three (sc v : ℕ → EReal) (n : ℕ) (m : EReal)
    (hm : m = max (max ((Finset.range n).sup sc) ((Finset.range n).sup fun c => sc (n + c)))
      ((Finset.range n).sup fun c => sc (n + n + c))) :
    attnRow sc v (n + n + n) =
      Ideal.div (∑ x : Fin n, Ideal.exp (sc x - m) * v x + ∑ x : Fin n, Ideal.exp (sc (n + x) - m) * v (n + x)
          + ∑ x : Fin n, Ideal.exp (sc (n + n + x) - m) * v (n + n + x))
        (∑ x : Fin n, Ideal.exp (sc x - m) + ∑ x : Fin n, Ideal.exp (sc (n + x) - m)
          + ∑ x : Fin n, Ideal.exp (sc (n + n + x) - m)) := by
  simp only [attnRow, Finset.sum_range_add, sup_range_add, ← hm]
  simp only [Finset.sum_range]

/-- A row's attention over four blocks of keys, block by block. -/
theorem attnRow_four (sc v : ℕ → EReal) (n : ℕ) (m : EReal)
    (hm : m = max (max (max ((Finset.range n).sup sc) ((Finset.range n).sup fun c => sc (n + c)))
      ((Finset.range n).sup fun c => sc (n + n + c))) ((Finset.range n).sup fun c => sc (n + n + n + c))) :
    attnRow sc v (n + n + n + n) =
      Ideal.div (∑ x : Fin n, Ideal.exp (sc x - m) * v x + ∑ x : Fin n, Ideal.exp (sc (n + x) - m) * v (n + x)
          + ∑ x : Fin n, Ideal.exp (sc (n + n + x) - m) * v (n + n + x)
          + ∑ x : Fin n, Ideal.exp (sc (n + n + n + x) - m) * v (n + n + n + x))
        (∑ x : Fin n, Ideal.exp (sc x - m) + ∑ x : Fin n, Ideal.exp (sc (n + x) - m)
          + ∑ x : Fin n, Ideal.exp (sc (n + n + x) - m) + ∑ x : Fin n, Ideal.exp (sc (n + n + n + x) - m)) := by
  simp only [attnRow, Finset.sum_range_add, sup_range_add, ← hm]
  simp only [Finset.sum_range]

/-- A fold of the maximum from −∞ over the positions of a block is the supremum over the block. -/
theorem fold_max_eq_sup {n : ℕ} (f : ℕ → EReal) :
    (Finset.univ : Finset (Fin n)).fold max ⊥ (fun x : Fin n => f x) = (Finset.range n).sup f := by
  change (Finset.univ : Finset (Fin n)).sup (fun x : Fin n => f x) = _
  apply le_antisymm
  · exact Finset.sup_le fun x _ => Finset.le_sup (f := f) (Finset.mem_range.2 x.isLt)
  · exact Finset.sup_le fun c hc =>
      Finset.le_sup (f := fun x : Fin n => f x) (Finset.mem_univ ⟨c, Finset.mem_range.1 hc⟩)

/-- A finite sum of extended reals times a nonnegative real is the sum of the products. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum of reals is a real. -/
theorem exists_sum_coe {ι : Type*} (s : Finset ι) (f : ι → EReal) (h : ∀ i ∈ s, ∃ r : ℝ, f i = r) :
    ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- A sum of nonnegative reals with a positive term is a positive real. -/
theorem exists_sum_pos {ι : Type*} (s : Finset ι) (f : ι → EReal) (h : ∀ i ∈ s, ∃ r : ℝ, 0 ≤ r ∧ f i = r)
    (i₀ : ι) (hi₀ : i₀ ∈ s) (r₀ : ℝ) (hr₀ : 0 < r₀) (h₀ : f i₀ = r₀) : ∃ r : ℝ, 0 < r ∧ ∑ i ∈ s, f i = r := by
  classical
  obtain ⟨y, hy⟩ := exists_sum_coe s f fun i hi => let ⟨r, _, hr⟩ := h i hi; ⟨r, hr⟩
  refine ⟨y, ?_, hy⟩
  have hle : f i₀ ≤ ∑ i ∈ s, f i :=
    Finset.single_le_sum (fun i hi => by obtain ⟨r, hr0, hr⟩ := h i hi; rw [hr]; exact_mod_cast hr0) hi₀
  rw [hy, h₀] at hle
  have : r₀ ≤ y := by exact_mod_cast hle
  linarith

/-- Divided after the weighted sum over the keys that are not masked, or each weight divided first and summed over all
    the keys: the same, once some score is not −∞ and none is +∞. -/
theorem attnRow_eq (sc v : ℕ → EReal) (N T : ℕ) (hNT : N ≤ T) (hN : 0 < N) (hmask : ∀ c, N ≤ c → sc c = ⊥)
    (h0 : sc 0 ≠ ⊥) (htop : ∀ c, sc c ≠ ⊤) :
    attnRow sc v N = ∑ c ∈ Finset.range T, v c * Ideal.div (Ideal.exp (sc c - (Finset.range T).sup sc))
      (∑ c ∈ Finset.range T, Ideal.exp (sc c - (Finset.range T).sup sc)) := by
  obtain ⟨k, rfl⟩ := Nat.exists_eq_add_of_le hNT
  have hsup : (Finset.range (N + k)).sup sc = (Finset.range N).sup sc := by
    rw [sup_range_add]
    refine max_eq_left ((Finset.sup_le fun c _ => ?_).trans bot_le)
    rw [hmask _ (Nat.le_add_right N c)]
  obtain ⟨c₀, hc₀, hmax⟩ := Finset.exists_mem_eq_sup (Finset.range N) ⟨0, Finset.mem_range.2 hN⟩ sc
  have hbot : (Finset.range N).sup sc ≠ ⊥ := fun h =>
    h0 (le_bot_iff.1 (h ▸ Finset.le_sup (f := sc) (Finset.mem_range.2 hN)))
  obtain ⟨μ, hμ⟩ : ∃ μ : ℝ, (Finset.range N).sup sc = μ :=
    ⟨_, (EReal.coe_toReal (hmax ▸ htop c₀) hbot).symm⟩
  have hp : ∀ c ∈ Finset.range N, ∃ r : ℝ, 0 ≤ r ∧ Ideal.exp (sc c - (μ : EReal)) = r := by
    intro c _
    by_cases hb : sc c = ⊥
    · exact ⟨0, le_refl _, by rw [hb, EReal.bot_sub]; simp⟩
    · obtain ⟨x, hx⟩ : ∃ x : ℝ, sc c = x := ⟨_, (EReal.coe_toReal (htop c) hb).symm⟩
      exact ⟨Real.exp (x - μ), (Real.exp_pos _).le, by rw [hx, ← EReal.coe_sub, Ideal.exp_coe]⟩
  obtain ⟨l, hl, hL⟩ := exists_sum_pos (Finset.range N) (fun c => Ideal.exp (sc c - (μ : EReal))) hp c₀ hc₀ 1 one_pos
    (by rw [← hmax, hμ, ← EReal.coe_sub, Ideal.exp_coe]; simp)
  have hrest : ∀ c, Ideal.exp (sc (N + c) - (μ : EReal)) = 0 := fun c => by
    rw [hmask _ (Nat.le_add_right N c), EReal.bot_sub]; simp
  have hdiv : ∀ x : EReal, Ideal.div x (l : EReal) = x * ((1 / l : ℝ) : EReal) := Ideal.div_coe hl.ne'
  unfold attnRow
  rw [hsup, hμ, Finset.sum_range_add (fun c => v c * _), Finset.sum_range_add (fun c => Ideal.exp _)]
  simp only [hrest, Finset.sum_const_zero, add_zero]
  rw [hL]
  simp only [hdiv, zero_mul, mul_zero, Finset.sum_const_zero, add_zero]
  rw [sum_mul_coe _ _ _ (by positivity)]
  refine Finset.sum_congr rfl fun c _ => ?_
  rw [mul_comm (Ideal.exp _) (v c), mul_assoc]

end Cert.Attn

end
-- ==== Proof.Tiles.lean ====
/- What each of the four query tiles stores, at one row and one column: the row's attention over the keys that the
   tile reads, times the gate. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.Attn

open Cert.KernelIdeal Cert.KernelIdeal.Gen Idealize.ShloMosaic

/-- The scores of one query tile against one key tile. -/
def dotQK (Q K : Vec Ideal S512x256 .bf16) (a c : Fin 512) : EReal := ∑ k : Fin 256, Q (ix2 a k) * K (ix2 c k)

/-- The row numbers of a tile. -/
abbrev I0 : IVec S512x512 32 := iota .tc S512x512 32 [0] iota_S512x512_d0_w32
/-- The column numbers of a tile. -/
abbrev I1 : IVec S512x512 32 := iota .tc S512x512 32 [1] iota_S512x512_d1_w32

theorem pay2_apply (Q K : Vec Ideal S512x256 .bf16) (a c : Fin 512) :
    k0_pay2 Q K (ix2 a c) = if c ≤ a then dotQK Q K a c else ⊥ := by
  pointwise [k0_pay2]
  rw [select_sle (by decide), ofBits_neg_inf]; rfl

theorem pay7_apply (Q K : Vec Ideal S512x256 .bf16) (a c : Fin 512) :
    k0_pay7 I0 I1 Q K (ix2 a c) = if c ≤ a then dotQK Q K a c else ⊥ := by
  pointwise [k0_pay7]
  rw [select_sle (by decide), ofBits_neg_inf]; rfl

theorem pay20_apply (Q K : Vec Ideal S512x256 .bf16) (a c : Fin 512) :
    k0_pay20 I0 I1 Q K (ix2 a c) = if c ≤ a then dotQK Q K a c else ⊥ := by
  pointwise [k0_pay20]
  rw [select_sle (by decide), ofBits_neg_inf]; rfl

theorem pay35_apply (Q K : Vec Ideal S512x256 .bf16) (a c : Fin 512) :
    k0_pay35 I0 I1 Q K (ix2 a c) = if c ≤ a then dotQK Q K a c else ⊥ := by
  pointwise [k0_pay35]
  rw [select_sle (by decide), ofBits_neg_inf]; rfl

section Rows
variable (Q : Vec Ideal S512x256 .bf16) (K0 K1 K2 K3 : Vec Ideal S512x256 .bf16)
  (V0 V1 V2 V3 Z : Vec Ideal S512x128 .bf16) (a : Fin 512) (d : Fin 128) (sc v : ℕ → EReal)

/-- The first query tile. -/
theorem tile0 (h0 : ∀ x : Fin 512, (if x ≤ a then dotQK Q K0 a x else ⊥) = sc x) (g0 : ∀ x : Fin 512, V0 (ix2 x d) = v x) :
    k0_pay4 Q K0 (k0_pay3 Q K0) V0 Z (ix2 a d) = attnRow sc v 512 * gate (Z (ix2 a d)) := by
  pointwise [k0_pay4, k0_pay3]
  simp only [pay2_apply, h0, g0, ofBits_neg_inf]
  rw [fold_max_eq_sup sc]
  rw [attnRow_one]; rfl

/-- The second query tile. -/
theorem tile1 (h0 : ∀ x : Fin 512, dotQK Q K0 a x = sc x) (h1 : ∀ x : Fin 512, (if x ≤ a then dotQK Q K1 a x else ⊥) = sc (512 + x))
    (g0 : ∀ x : Fin 512, V0 (ix2 x d) = v x) (g1 : ∀ x : Fin 512, V1 (ix2 x d) = v (512 + x)) :
    k0_pay14 (k0_pay11 I0 I1 Q K0 K1 (k0_pay6 Q K0)) (k0_pay12 I0 I1 Q K0 K1 (k0_pay6 Q K0) V0)
      (k0_pay13 I0 I1 Q K0 K1 (k0_pay8 I0 I1 Q K1)) V1 Z (ix2 a d) = attnRow sc v (512 + 512) * gate (Z (ix2 a d)) := by
  have e0 : ∀ x : Fin 512, ∑ k : Fin 256, Q (ix2 a k) * K0 (ix2 x k) = sc x := h0
  pointwise [k0_pay14, k0_pay11, k0_pay12, k0_pay13, k0_pay10, k0_pay9, k0_pay6, k0_pay8, k0_pay5]
  simp only [pay7_apply, e0, h1, g0, g1, ofBits_neg_inf]
  rw [fold_max_eq_sup sc, fold_max_eq_sup fun c => sc (512 + c)]
  rw [attnRow_two sc v 512 _ rfl]; rfl

/-- The third query tile. -/
theorem tile2 (h0 : ∀ x : Fin 512, dotQK Q K0 a x = sc x) (h1 : ∀ x : Fin 512, dotQK Q K1 a x = sc (512 + x))
    (h2 : ∀ x : Fin 512, (if x ≤ a then dotQK Q K2 a x else ⊥) = sc (512 + 512 + x))
    (g0 : ∀ x : Fin 512, V0 (ix2 x d) = v x) (g1 : ∀ x : Fin 512, V1 (ix2 x d) = v (512 + x))
    (g2 : ∀ x : Fin 512, V2 (ix2 x d) = v (512 + 512 + x)) :
    k0_pay27 (k0_pay22 I0 I1 Q (k0_pay17 Q K0) (k0_pay18 Q K1) K2)
      (k0_pay25 I0 I1 Q (k0_pay17 Q K0) (k0_pay18 Q K1) K2 (k0_pay16 Q K0) (k0_pay19 (k0_pay18 Q K1)))
      (k0_pay26 I0 I1 Q (k0_pay17 Q K0) (k0_pay18 Q K1) K2 (k0_pay16 Q K0) V0 (k0_pay19 (k0_pay18 Q K1)) V1)
      (k0_pay21 I0 I1 Q K2) V2 Z (ix2 a d) = attnRow sc v (512 + 512 + 512) * gate (Z (ix2 a d)) := by
  have e0 : ∀ x : Fin 512, ∑ k : Fin 256, Q (ix2 a k) * K0 (ix2 x k) = sc x := h0
  have e1 : ∀ x : Fin 512, ∑ k : Fin 256, Q (ix2 a k) * K1 (ix2 x k) = sc (512 + x) := h1
  pointwise [k0_pay27, k0_pay22, k0_pay25, k0_pay26, k0_pay23, k0_pay24, k0_pay21, k0_pay19, k0_pay18, k0_pay17, k0_pay16, k0_pay15]
  simp only [pay20_apply, e0, e1, h2, g0, g1, g2, ofBits_neg_inf]
  rw [fold_max_eq_sup sc, fold_max_eq_sup fun c => sc (512 + c), fold_max_eq_sup fun c => sc (512 + 512 + c)]
  rw [attnRow_three sc v 512 _ rfl]; rfl

/-- The fourth query tile. -/
theorem tile3 (h0 : ∀ x : Fin 512, dotQK Q K0 a x = sc x) (h1 : ∀ x : Fin 512, dotQK Q K1 a x = sc (512 + x))
    (h2 : ∀ x : Fin 512, dotQK Q K2 a x = sc (512 + 512 + x))
    (h3 : ∀ x : Fin 512, (if x ≤ a then dotQK Q K3 a x else ⊥) = sc (512 + 512 + 512 + x))
    (g0 : ∀ x : Fin 512, V0 (ix2 x d) = v x) (g1 : ∀ x : Fin 512, V1 (ix2 x d) = v (512 + x))
    (g2 : ∀ x : Fin 512, V2 (ix2 x d) = v (512 + 512 + x)) (g3 : ∀ x : Fin 512, V3 (ix2 x d) = v (512 + 512 + 512 + x)) :
    k0_pay1 (k0_pay41 (k0_pay37 I0 I1 Q (k0_pay30 Q K0) (k0_pay31 Q K1) K2 K3)
        (k0_pay39 I0 I1 Q (k0_pay30 Q K0) (k0_pay31 Q K1) K2 K3 (k0_pay29 Q K0))
        (k0_pay40 I0 I1 Q (k0_pay30 Q K0) (k0_pay31 Q K1) K2 K3 (k0_pay29 Q K0) V0)
        (k0_pay32 (k0_pay31 Q K1)) V1 (k0_pay34 Q K2) V2 (k0_pay36 I0 I1 Q K3) V3)
      (k0_pay42 Z) (k0_pay43 Z) (Scalar.ofBits .f32 0x3F800000#32) (ix2 a d)
      = attnRow sc v (512 + 512 + 512 + 512) * gate (Z (ix2 a d)) := by
  have e0 : ∀ x : Fin 512, ∑ k : Fin 256, Q (ix2 a k) * K0 (ix2 x k) = sc x := h0
  have e1 : ∀ x : Fin 512, ∑ k : Fin 256, Q (ix2 a k) * K1 (ix2 x k) = sc (512 + x) := h1
  have e2 : ∀ x : Fin 512, ∑ k : Fin 256, Q (ix2 a k) * K2 (ix2 x k) = sc (512 + 512 + x) := h2
  pointwise [k0_pay1, k0_pay41, k0_pay37, k0_pay39, k0_pay40, k0_pay38, k0_pay42, k0_pay43, k0_pay36, k0_pay34, k0_pay33, k0_pay32, k0_pay31, k0_pay30, k0_pay29, k0_pay28]
  simp only [pay35_apply, e0, e1, e2, h3, g0, g1, g2, g3, ofBits_neg_inf]
  rw [fold_max_eq_sup sc, fold_max_eq_sup fun c => sc (512 + c), fold_max_eq_sup fun c => sc (512 + 512 + c),
    fold_max_eq_sup fun c => sc (512 + 512 + 512 + c)]
  rw [attnRow_four sc v 512 _ rfl]; rfl

end Rows

end Cert.Attn

end
-- ==== Proof.Block.lean ====
/- What one grid point leaves in the output block: its four stores are the four query tiles, and each row of them is
   that row's causal attention over the staged block, times the gate. -/
module

public import proofs.«01_k».proof.Proof.Gen.KernelIdeal.Value
public import proofs.«01_k».proof.Proof.Tiles

@[expose] public section

set_option maxRecDepth 16384

noncomputable section

namespace Cert.Attn

open Cert.KernelIdeal Cert.KernelIdeal.Gen Idealize.ShloMosaic Idealize.ShloMosaic.TcCoe Idealize.SL.Sem

/-- The masked score of key `c` in row `r`: the product of the query and the key, −∞ after the row's own position. -/
def blockScore (Q K : Vec Ideal S2048x256 .bf16) (r : Fin 2048) (c : ℕ) : EReal :=
  if h : c < 2048 then (if c ≤ r then ∑ k : Fin 256, Q (ix2 r k) * K (ix2 ⟨c, h⟩ k) else ⊥) else ⊥

/-- One column of the values, by key. -/
def blockCol (V : Vec Ideal S2048x128 .bf16) (d : Fin 128) (c : ℕ) : EReal :=
  if h : c < 2048 then V (ix2 ⟨c, h⟩ d) else 0

/-- The block's result at row `r` and column `d`: the row reads the keys of its own tile and of the tiles before. -/
def blockVal (Q K : Vec Ideal S2048x256 .bf16) (V Z : Vec Ideal S2048x128 .bf16) (r : Fin 2048) (d : Fin 128) : EReal :=
  attnRow (blockScore Q K r) (blockCol V d) (512 * (r / 512 + 1)) * gate (Z (ix2 r d))

/-- The place of a score tile in the scratch buffer: a load at another tile passes over the store. -/
theorem scratch_skip (v : View sig .tc .vmem S512x2048 .f32) (o o' : ℕ) (inb : ∀ a, (![0, o] : Fin 2 → ℕ) a + S512x512.size a ≤ S512x2048.size a)
    (inb' : ∀ a, (![0, o'] : Fin 2 → ℕ) a + S512x512.size a ≤ S512x2048.size a) (w : S512x512.Idx → Elt Ideal .f32)
    (L : List (View.Piece (Elt Ideal) S512x2048 .f32)) (h : o + 512 ≤ o' ∨ o' + 512 ≤ o) :
    v.readCov (⟨Rect.unit ![0, o] ![512, 512] inb, w⟩ :: L) (Rect.unit ![0, o'] ![512, 512] inb').toLoadRect
      = v.readCov L (Rect.unit ![0, o'] ![512, 512] inb').toLoadRect :=
  View.readCov_cons_of_disjoint v (⟨Rect.unit ![0, o] ![512, 512] inb, w⟩ : View.Piece (Elt Ideal) S512x2048 .f32) L _
    (Rect.unit_disjoint (inb := inb) (inb' := inb') 1 h)

/-- Rows of four tiles stored one after another make up the block. -/
theorem canon_tiles (w0 w1 w2 w3 : S512x128.Idx → Elt Ideal .bf16)
    (inb0 : ∀ a, (![0, 0] : Fin 2 → ℕ) a + S512x128.size a ≤ S2048x128.size a)
    (inb1 : ∀ a, (![512, 0] : Fin 2 → ℕ) a + S512x128.size a ≤ S2048x128.size a)
    (inb2 : ∀ a, (![1024, 0] : Fin 2 → ℕ) a + S512x128.size a ≤ S2048x128.size a)
    (inb3 : ∀ a, (![1536, 0] : Fin 2 → ℕ) a + S512x128.size a ≤ S2048x128.size a)
    (f : Fin 2048 → Fin 128 → EReal)
    (h0 : ∀ (a : Fin 512) d, w0 (ix2 a d) = f ⟨0 + a, by omega⟩ d) (h1 : ∀ (a : Fin 512) d, w1 (ix2 a d) = f ⟨512 + a, by omega⟩ d)
    (h2 : ∀ (a : Fin 512) d, w2 (ix2 a d) = f ⟨1024 + a, by omega⟩ d) (h3 : ∀ (a : Fin 512) d, w3 (ix2 a d) = f ⟨1536 + a, by omega⟩ d)
    (r : Fin 2048) (d : Fin 128) :
    View.canon (Val := Elt Ideal) (s := S2048x128) (e := .bf16) [⟨Rect.unit ![1536, 0] ![512, 128] inb3, w3⟩, ⟨Rect.unit ![1024, 0] ![512, 128] inb2, w2⟩,
      ⟨Rect.unit ![512, 0] ![512, 128] inb1, w1⟩, ⟨Rect.unit ![0, 0] ![512, 128] inb0, w0⟩] (ix2 r d) = f r d := by
  have hit : ∀ (o : ℕ) (inb : ∀ a, (![o, 0] : Fin 2 → ℕ) a + S512x128.size a ≤ S2048x128.size a) (w : S512x128.Idx → Elt Ideal .bf16)
      (L : List (View.Piece (Elt Ideal) S2048x128 .bf16)) (ho : o + 512 ≤ 2048) (_ : ∀ (a : Fin 512) d, w (ix2 a d) = f ⟨o + a, by omega⟩ d)
      (_ : o ≤ r) (_ : (r : ℕ) < o + 512),
      View.canon (Val := Elt Ideal) (⟨Rect.unit ![o, 0] ![512, 128] inb, w⟩ :: L) (ix2 r d) = f r d := by
    intro o inb w L ho hw hlo hhi
    have e : (ix2 r d : S2048x128.Idx) = (Rect.unit (s := S2048x128) ![o, 0] ![512, 128] inb).emb (ix2 (⟨r - o, by omega⟩ : Fin 512) d) := by
      funext a
      apply Fin.ext
      rw [Rect.emb_apply]
      match a with
      | ⟨0, _⟩ => show (r : ℕ) = o + 1 * (r - o); omega
      | ⟨1, _⟩ => show (d : ℕ) = 0 + 1 * d; omega
    rw [e, View.canon_cons_emb (Rect.unit (s := S2048x128) ![o, 0] ![512, 128] inb), hw]
    congr 1
    exact Fin.ext (by simp; omega)
  have skip : ∀ (o : ℕ) (inb : ∀ a, (![o, 0] : Fin 2 → ℕ) a + S512x128.size a ≤ S2048x128.size a) (w : S512x128.Idx → Elt Ideal .bf16)
      (L : List (View.Piece (Elt Ideal) S2048x128 .bf16)) (_ : (r : ℕ) < o),
      View.canon (Val := Elt Ideal) (⟨Rect.unit ![o, 0] ![512, 128] inb, w⟩ :: L) (ix2 r d) = View.canon (Val := Elt Ideal) L (ix2 r d) := by
    intro o inb w L ho
    refine View.canon_cons_of_not_mem (⟨Rect.unit (s := S2048x128) ![o, 0] ![512, 128] inb, w⟩ : View.Piece (Elt Ideal) S2048x128 .bf16) L fun hm => ?_
    have h1 : ∀ a, (![o, 0] : Fin 2 → ℕ) a ≤ (ix2 r d : S2048x128.Idx) a ∧ _ := (Rect.mem_set_unit (s := S2048x128) (off := ![o, 0]) (size := ![512, 128]) (inb := inb)).1 hm
    exact absurd (show o ≤ r from (h1 0).1) (by omega)
  by_cases c3 : 1536 ≤ (r : ℕ)
  · exact hit 1536 inb3 w3 _ (by omega) h3 c3 (by omega)
  rw [skip 1536 _ _ _ (by omega)]
  by_cases c2 : 1024 ≤ (r : ℕ)
  · exact hit 1024 inb2 w2 _ (by omega) h2 c2 (by omega)
  rw [skip 1024 _ _ _ (by omega)]
  by_cases c1 : 512 ≤ (r : ℕ)
  · exact hit 512 inb1 w1 _ (by omega) h1 c1 (by omega)
  rw [skip 512 _ _ _ (by omega)]
  exact hit 0 inb0 w0 _ (by omega) h0 (by omega) (by omega)

section Reads
variable (Q K : Vec Ideal S2048x256 .bf16) (V Z : Vec Ideal S2048x128 .bf16)

/-- A tile's scores against a key tile before it are the block's scores. -/
theorem dot_before (o p : ℕ) (inb : ∀ a, (![o, 0] : Fin 2 → ℕ) a + S512x256.size a ≤ S2048x256.size a)
    (inb' : ∀ a, (![p, 0] : Fin 2 → ℕ) a + S512x256.size a ≤ S2048x256.size a) (ho : o + 512 ≤ 2048) (hp : p + 512 ≤ o) (q : ℕ) (hq : q = p) (a x : Fin 512) :
    dotQK (View.ld Q (Rect.unit ![o, 0] ![512, 256] inb)) (View.ld K (Rect.unit ![p, 0] ![512, 256] inb')) a x
      = blockScore Q K ⟨o + a, by omega⟩ (q + x) := by
  subst hq
  have ha := a.isLt
  have hx := x.isLt
  rw [blockScore, dif_pos (by omega), if_pos (by show q + x.val ≤ o + a.val; omega)]
  unfold dotQK
  refine Finset.sum_congr rfl fun k _ => ?_
  pointwise

/-- A tile's scores against its own keys, masked after the diagonal, are the block's scores. -/
theorem dot_diag (o : ℕ) (inb inb' : ∀ a, (![o, 0] : Fin 2 → ℕ) a + S512x256.size a ≤ S2048x256.size a) (ho : o + 512 ≤ 2048) (q : ℕ) (hq : q = o) (a x : Fin 512) :
    (if x ≤ a then dotQK (View.ld Q (Rect.unit ![o, 0] ![512, 256] inb)) (View.ld K (Rect.unit ![o, 0] ![512, 256] inb')) a x else ⊥)
      = blockScore Q K ⟨o + a, by omega⟩ (q + x) := by
  subst hq
  have ha := a.isLt
  have hx := x.isLt
  rw [blockScore, dif_pos (by omega)]
  by_cases h : x ≤ a
  · rw [if_pos h, if_pos (by show q + x.val ≤ q + a.val; exact Nat.add_le_add_left h q)]
    unfold dotQK
    refine Finset.sum_congr rfl fun k _ => ?_
    pointwise
  · rw [if_neg h, if_neg (by show ¬(q + x.val ≤ q + a.val); exact fun h' => h (Nat.le_of_add_le_add_left h'))]

/-- A value tile's column is a part of the block's column. -/
theorem col_tile (p : ℕ) (inb : ∀ a, (![p, 0] : Fin 2 → ℕ) a + S512x128.size a ≤ S2048x128.size a) (hp : p + 512 ≤ 2048) (q : ℕ) (hq : q = p) (d : Fin 128) (x : Fin 512) :
    View.ld V (Rect.unit ![p, 0] ![512, 128] inb) (ix2 x d) = blockCol V d (q + x) := by
  subst hq
  have hx := x.isLt
  rw [blockCol, dif_pos (by omega)]
  pointwise

/-- A row of the tile at `o`, attending over its own tile and the ones before, is the block's row. -/
theorem row_eq (o N : ℕ) (inb : ∀ a, (![o, 0] : Fin 2 → ℕ) a + S512x128.size a ≤ S2048x128.size a) (a : Fin 512) (d : Fin 128)
    (ho : o + 512 ≤ 2048) (hN : N = 512 * ((o + a) / 512 + 1)) :
    attnRow (blockScore Q K ⟨o + a, by omega⟩) (blockCol V d) N * gate (View.ld Z (Rect.unit ![o, 0] ![512, 128] inb) (ix2 a d))
      = blockVal Q K V Z ⟨o + a, by omega⟩ d := by
  subst hN
  have e : View.ld Z (Rect.unit ![o, 0] ![512, 128] inb) (ix2 a d) = Z (ix2 ⟨o + a, by omega⟩ d) := by pointwise
  rw [e, blockVal]

end Reads

variable (m : (ℓ : Loc nD τ sig) → Buf (Elt Ideal) ℓ)

/-- What a grid point leaves in the output block, row by row. -/
theorem outs_apply (c : Dev nD) (t : Fin cfg0.N) (r : Fin 2048) (d : Fin 128) :
    outsAt0 m c t (ix2 r d) = blockVal (iblk m c 0 t) (iblk m c 1 t) (iblk m c 2 t) (iblk m c 3 t) r d := by
  unfold outsAt0 out0_A_4
  rw [View.read_writes_eq_canon _ _ _ (cover0_A_4 c _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  refine canon_tiles _ _ _ _ _ _ _ _ (blockVal (iblk m c 0 t) (iblk m c 1 t) (iblk m c 2 t) (iblk m c 3 t)) (fun a d => ?_) (fun a d => ?_) (fun a d => ?_) (fun a d => ?_) r d
  all_goals simp only [View.readCov_cons_toLoadRect, scratch_skip, Nat.reduceAdd, Nat.reduceLeDiff, or_true, true_or]
  · refine (tile0 _ _ _ _ a d (blockScore (iblk m c 0 t) (iblk m c 1 t) ⟨0 + a, by omega⟩) (blockCol (iblk m c 2 t) d)
      (fun x => ?_) (fun x => ?_)).trans (row_eq _ _ _ _ 0 512 _ _ _ (by omega) (by omega))
    · exact (dot_diag _ _ _ _ _ (by omega) 0 rfl a x).trans (congrArg _ (Nat.zero_add _))
    · exact (col_tile _ _ _ (by omega) 0 rfl d x).trans (congrArg _ (Nat.zero_add _))
  · refine (tile1 _ _ _ _ _ _ a d (blockScore (iblk m c 0 t) (iblk m c 1 t) ⟨512 + a, by omega⟩) (blockCol (iblk m c 2 t) d)
      (fun x => ?_) (fun x => ?_) (fun x => ?_) (fun x => ?_)).trans (row_eq _ _ _ _ 512 _ _ _ _ (by omega) (by omega))
    · exact (dot_before _ _ _ _ _ _ (by omega) (by omega) 0 rfl a x).trans (congrArg _ (Nat.zero_add _))
    · exact dot_diag _ _ _ _ _ (by omega) 512 rfl a x
    · exact (col_tile _ _ _ (by omega) 0 rfl d x).trans (congrArg _ (Nat.zero_add _))
    · exact col_tile _ _ _ (by omega) 512 rfl d x
  · refine (tile2 _ _ _ _ _ _ _ _ a d (blockScore (iblk m c 0 t) (iblk m c 1 t) ⟨1024 + a, by omega⟩) (blockCol (iblk m c 2 t) d)
      (fun x => ?_) (fun x => ?_) (fun x => ?_) (fun x => ?_) (fun x => ?_) (fun x => ?_)).trans (row_eq _ _ _ _ 1024 _ _ _ _ (by omega) (by omega))
    · exact (dot_before _ _ _ _ _ _ (by omega) (by omega) 0 rfl a x).trans (congrArg _ (Nat.zero_add _))
    · exact dot_before _ _ _ _ _ _ (by omega) (by omega) 512 rfl a x
    · exact dot_diag _ _ _ _ _ (by omega) (512 + 512) rfl a x
    · exact (col_tile _ _ _ (by omega) 0 rfl d x).trans (congrArg _ (Nat.zero_add _))
    · exact col_tile _ _ _ (by omega) 512 rfl d x
    · exact col_tile _ _ _ (by omega) (512 + 512) rfl d x
  · refine (tile3 _ _ _ _ _ _ _ _ _ _ a d (blockScore (iblk m c 0 t) (iblk m c 1 t) ⟨1536 + a, by omega⟩) (blockCol (iblk m c 2 t) d)
      (fun x => ?_) (fun x => ?_) (fun x => ?_) (fun x => ?_) (fun x => ?_) (fun x => ?_) (fun x => ?_) (fun x => ?_)).trans
        (row_eq _ _ _ _ 1536 _ _ _ _ (by omega) (by omega))
    · exact (dot_before _ _ _ _ _ _ (by omega) (by omega) 0 rfl a x).trans (congrArg _ (Nat.zero_add _))
    · exact dot_before _ _ _ _ _ _ (by omega) (by omega) 512 rfl a x
    · exact dot_before _ _ _ _ _ _ (by omega) (by omega) (512 + 512) rfl a x
    · exact dot_diag _ _ _ _ _ (by omega) (512 + 512 + 512) rfl a x
    · exact (col_tile _ _ _ (by omega) 0 rfl d x).trans (congrArg _ (Nat.zero_add _))
    · exact col_tile _ _ _ (by omega) 512 rfl d x
    · exact col_tile _ _ _ (by omega) (512 + 512) rfl d x
    · exact col_tile _ _ _ (by omega) (512 + 512 + 512) rfl d x

end Cert.Attn

end
-- ==== Proof.Array.lean ====
/- The attention kernel's result array: the block of batch entry `b` and head `h` is the block value of the rows
   `2048 b …` and the columns of head `h`. -/
module

public import proofs.«01_k».proof.Proof.Block
public import Idealize.ShloMosaic.Lib.Pipeline.ValueKit.Geometry
public import Idealize.ShloMosaic.Lib.Pipeline.ValueKit.Acc

@[expose] public section

set_option maxRecDepth 16384

noncomputable section

namespace Cert.Attn

open Cert.KernelIdeal Cert.KernelIdeal.Gen Cert.KernelIdeal.Value Idealize.ShloMosaic Idealize.ShloMosaic.TcCoe Idealize.SL.Sem

/-- The queries, or the keys, of one batch entry and head. -/
def rows256 (X : Vec Ideal S8192x8192 .bf16) (b : Fin 4) (h : Fin 32) : Vec Ideal S2048x256 .bf16 := fun i =>
  X (ix2 ⟨b * 2048 + (i 0).val, by have := (i 0).isLt; have : S2048x256.size 0 = 2048 := rfl; omega⟩
    ⟨h * 256 + (i 1).val, by have := (i 1).isLt; have : S2048x256.size 1 = 256 := rfl; omega⟩)

/-- The values, or the gates, of one batch entry and head. -/
def rows128 (X : Vec Ideal S8192x4096 .bf16) (b : Fin 4) (h : Fin 32) : Vec Ideal S2048x128 .bf16 := fun i =>
  X (ix2 ⟨b * 2048 + (i 0).val, by have := (i 0).isLt; have : S2048x128.size 0 = 2048 := rfl; omega⟩
    ⟨h * 128 + (i 1).val, by have := (i 1).isLt; have : S2048x128.size 1 = 128 := rfl; omega⟩)

/-- The attention of every batch entry and head, gated. -/
def G (q k : Vec Ideal S8192x8192 .bf16) (v z : Vec Ideal S8192x4096 .bf16) : Vec Ideal S8192x4096 .bf16 := fun i =>
  have h0 : (i 0).val < 8192 := (i 0).isLt
  have h1 : (i 1).val < 4096 := (i 1).isLt
  blockVal (rows256 q ⟨(i 0).val / 2048, by omega⟩ ⟨(i 1).val / 128, by omega⟩) (rows256 k ⟨(i 0).val / 2048, by omega⟩ ⟨(i 1).val / 128, by omega⟩)
    (rows128 v ⟨(i 0).val / 2048, by omega⟩ ⟨(i 1).val / 128, by omega⟩) (rows128 z ⟨(i 0).val / 2048, by omega⟩ ⟨(i 1).val / 128, by omega⟩)
    ⟨(i 0).val % 2048, by omega⟩ ⟨(i 1).val % 128, by omega⟩

/-- The result at a place of the block of batch entry `b` and head `h`. -/
theorem G_apply (q k : Vec Ideal S8192x8192 .bf16) (v z : Vec Ideal S8192x4096 .bf16) (b : Fin 4) (h : Fin 32) (r : Fin 2048) (d : Fin 128)
    (i : S8192x4096.Idx) (h0 : (i 0).val = b * 2048 + r) (h1 : (i 1).val = h * 128 + d) :
    G q k v z i = blockVal (rows256 q b h) (rows256 k b h) (rows128 v b h) (rows128 z b h) r d := by
  have eb : (⟨(i 0).val / 2048, by omega⟩ : Fin 4) = b := Fin.ext (by show (i 0).val / 2048 = b; omega)
  have eh : (⟨(i 1).val / 128, by omega⟩ : Fin 32) = h := Fin.ext (by show (i 1).val / 128 = h; omega)
  have er : (⟨(i 0).val % 2048, by omega⟩ : Fin 2048) = r := Fin.ext (by show (i 0).val % 2048 = r; omega)
  have ed : (⟨(i 1).val % 128, by omega⟩ : Fin 128) = d := Fin.ext (by show (i 1).val % 128 = d; omega)
  unfold G
  dsimp only
  rw [eb, eh, er, ed]

variable (m : (ℓ : Loc nD τ sig) → Buf (Elt Ideal) ℓ)

/-- A grid point's batch entry and head. -/
abbrev bh (t : Fin cfg0.N) : Fin 4 × Fin 32 := (grid0.coords t 0, grid0.coords t 1)

/-- The blocks' places. -/
theorem idx0 : ∀ t : Fin cfg0.N, win0_0.index t = ![(grid0.coords t 0).val, (grid0.coords t 1).val] := (by decide +kernel : ∀ t : Fin grid0.N, _)
theorem idx1 : ∀ t : Fin cfg0.N, win0_1.index t = ![(grid0.coords t 0).val, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)
theorem idx3 : ∀ t : Fin cfg0.N, win0_3.index t = ![(grid0.coords t 0).val, (grid0.coords t 1).val] := (by decide +kernel : ∀ t : Fin grid0.N, _)
theorem idx4 : ∀ t : Fin cfg0.N, win0_4.index t = ![(grid0.coords t 0).val, (grid0.coords t 1).val] := (by decide +kernel : ∀ t : Fin grid0.N, _)

/-- The staged queries are the queries of the point's batch entry and head. -/
theorem iblk0 (c : Dev nD) (t : Fin cfg0.N) : iblk m c 0 t = rows256 (V m c main_arg0) (bh t).1 (bh t).2 := by
  funext y
  blk_simp [iblk, idx0]
  refine congrArg (V m c main_arg0) ?_
  blk_ext [idx0]

/-- The staged keys. -/
theorem iblk1 (c : Dev nD) (t : Fin cfg0.N) : iblk m c 1 t = rows256 (V m c main_arg1) (bh t).1 (bh t).2 := by
  funext y
  blk_simp [iblk, idx1]
  refine congrArg (V m c main_arg1) ?_
  blk_ext [idx1]

/-- The staged values. -/
theorem iblk2 (c : Dev nD) (t : Fin cfg0.N) : iblk m c 2 t = rows128 (V m c main_arg2) (bh t).1 (bh t).2 := by
  funext y
  blk_simp [iblk, idx2]
  refine congrArg (V m c main_arg2) ?_
  blk_ext [idx2]

/-- The staged gates. -/
theorem iblk3 (c : Dev nD) (t : Fin cfg0.N) : iblk m c 3 t = rows128 (V m c main_arg3) (bh t).1 (bh t).2 := by
  funext y
  blk_simp [iblk, idx3]
  refine congrArg (V m c main_arg3) ?_
  blk_ext [idx3]

/-- The result array after the run. -/
theorem final4 (c : Dev nD) : (dats m 0 c).arrAt 4 cfg0.N
    = G (V m c main_arg0) (V m c main_arg1) (V m c main_arg2) (V m c main_arg3) := by
  refine (dats m 0 c).arrAt_eq_of_covers 4 _ (by decide +kernel) fun t hf y => ?_
  blk_simp
  rw [after0_4]
  have hy : (y : S2048x128.Idx) = ix2 (⟨(y 0).val, (y 0).isLt⟩ : Fin 2048) (⟨(y 1).val, (y 1).isLt⟩ : Fin 128) :=
    funext fun a => by match a with | ⟨0, _⟩ => rfl | ⟨1, _⟩ => rfl
  rw [G_apply _ _ _ _ (bh t).1 (bh t).2 ⟨(y 0).val, (y 0).isLt⟩ ⟨(y 1).val, (y 1).isLt⟩ _ (by blk_simp [idx4]) (by blk_simp [idx4]),
    ← iblk0, ← iblk1, ← iblk2, ← iblk3, ← outs_apply]
  exact congrArg _ hy

end Cert.Attn

end
-- ==== Proof.RefRow.lean ====
/- What the reference's result holds at a row and a column: the row's softmax over all keys, masked after the row's own
   position, its weights summed against a column of the values, times the gate. -/
module

public import proofs.«01_k».proof.Proof.Gen.ReferenceIdeal.Read
public import proofs.«01_k».proof.Proof.Softmax
public import Idealize.ShloMosaic.Lib.Pointwise
public import Idealize.ShloMosaic.Lib.KernelVsHost

@[expose] public section

set_option maxRecDepth 16384

noncomputable section

namespace Cert.AttnRef

open Cert.ReferenceIdeal Cert.ReferenceIdeal.Read Cert.ReferenceIdeal.Gen Idealize.ShloMosaic

/-- The masked score of key `c` in row `r` of batch entry `b` and head `h`. -/
def score (x0 x1 : (⟨S8192x8192, .bf16⟩ : BufTy).Contents (Elt Ideal)) (b : Fin 4) (h : Fin 32) (r : Fin 2048) (c : ℕ) : EReal :=
  if hc : c < 2048 then (if c ≤ r then ∑ k : Fin 256, x0 (ix2 ⟨b * 2048 + r, by omega⟩ ⟨h * 256 + k, by omega⟩)
    * x1 (ix2 ⟨b * 2048 + c, by omega⟩ ⟨h * 256 + k, by omega⟩) else ⊥) else ⊥

/-- One column of the values of batch entry `b`, by key. -/
def col (x2 : (⟨S8192x4096, .bf16⟩ : BufTy).Contents (Elt Ideal)) (b : Fin 4) (j : Fin 4096) (c : ℕ) : EReal :=
  if hc : c < 2048 then x2 (ix2 ⟨b * 2048 + c, by omega⟩ j) else 0

/-- The reference's masked scores. -/
theorem scores_apply (x0 x1 : (⟨S8192x8192, .bf16⟩ : BufTy).Contents (Elt Ideal)) (b : Fin 4) (h : Fin 32) (r c : Fin 2048) :
    val_main_v13 (F := Ideal) x0 x1 (ix4 b h r c) = score x0 x1 b h r c := by
  pointwise [val_main_v13, val_main_call0_v1, val_main_call0_v2, val_main_call0_v0, val_main_v12, val_main_v11, val_main_v10, val_main_v9, val_main_v8, val_main_v7, val_main_v6, val_main_v3, val_main_v2, val_main_v1, val_main_v0, val_main_cst]
  rw [Attn.select_sle (by decide), score, dif_pos c.isLt]
  exact if_congr Iff.rfl rfl Attn.ofBits_neg_inf

/-- The reference's row maximum. -/
theorem max_apply (x0 x1 : (⟨S8192x8192, .bf16⟩ : BufTy).Contents (Elt Ideal)) (b : Fin 4) (h : Fin 32) (r : Fin 2048) :
    val_main_v14 (F := Ideal) x0 x1 (ix3 b h r) = (Finset.range 2048).sup (score x0 x1 b h r) := by
  have e : ∀ c : Fin 2048, val_main_v13 (F := Ideal) x0 x1 (ix4 b h r c) = score x0 x1 b h r c := scores_apply x0 x1 b h r
  unfold val_main_v14 val_main_cst_0
  generalize val_main_v13 (F := Ideal) x0 x1 = y at e ⊢
  have e0 := congrFun (hostReduce_maximumf_eq_multiReduction (F := Ideal) (φ := .f32) y 0xFF800000#32 reducesTo_S4x32x2048x2048_S4x32x2048_d3 h_S_ (by decide) (.inl rfl) rfl) (ix3 b h r)
  refine e0.trans ((Ideal.multiReduction_maximumf_single _ _ _ _ _ _).trans ?_)
  rw [← Attn.fold_max_eq_sup]
  have hb : FloatOps.ofBits (F := Ideal) FTy.f32 0xFF800000#32 = (⊥ : EReal) := Attn.ofBits_neg_inf
  rw [hb]
  refine congrArg (fun g => Finset.fold max ⊥ g (Finset.univ : Finset (Fin 2048))) (funext fun c => ?_)
  rw [← e c]
  exact congrArg y (funext fun a => Fin.ext (by match a with | ⟨0, _⟩ => rfl | ⟨1, _⟩ => rfl | ⟨2, _⟩ => rfl | ⟨3, _⟩ => rfl))

/-- The reference's unnormalised weights. -/
theorem exp_apply (x0 x1 : (⟨S8192x8192, .bf16⟩ : BufTy).Contents (Elt Ideal)) (b : Fin 4) (h : Fin 32) (r c : Fin 2048) :
    val_main_v20 (F := Ideal) x0 x1 (ix4 b h r c)
      = Ideal.exp (score x0 x1 b h r c - (Finset.range 2048).sup (score x0 x1 b h r)) := by
  have e : val_main_v13 (F := Ideal) x0 x1 (ix4 b h r c) = score x0 x1 b h r c := scores_apply x0 x1 b h r c
  have e' : val_main_v14 (F := Ideal) x0 x1 (ix3 b h r) = (Finset.range 2048).sup (score x0 x1 b h r) := max_apply x0 x1 b h r
  rw [val_main_v20_apply, val_main_v19_apply, val_main_v18_apply, val_main_v17_apply, val_main_v16_apply, val_main_v15_apply,
    show idx_main_v17 (idx_main_v18 (ix4 b h r c)) = ix3 b h r from
      funext fun a => Fin.ext (by match a with | ⟨0, _⟩ => rfl | ⟨1, _⟩ => rfl | ⟨2, _⟩ => rfl), e, e']
  have hb : val_main_cst_1 (F := Ideal) (idx_main_v15 (ix3 b h r)) = (⊥ : EReal) := Attn.ofBits_neg_inf
  rw [hb]
  refine congrArg (fun z => Ideal.exp (score x0 x1 b h r c - z)) ?_
  exact max_eq_right bot_le

/-- The reference's row sums. -/
theorem sum_apply (x0 x1 : (⟨S8192x8192, .bf16⟩ : BufTy).Contents (Elt Ideal)) (b : Fin 4) (h : Fin 32) (r : Fin 2048) :
    val_main_v21 (F := Ideal) x0 x1 (ix3 b h r)
      = ∑ c ∈ Finset.range 2048, Ideal.exp (score x0 x1 b h r c - (Finset.range 2048).sup (score x0 x1 b h r)) := by
  have e : ∀ c : Fin 2048, val_main_v20 (F := Ideal) x0 x1 (ix4 b h r c) = Ideal.exp (score x0 x1 b h r c - (Finset.range 2048).sup (score x0 x1 b h r)) :=
    exp_apply x0 x1 b h r
  rw [val_main_v21_apply, Finset.sum_range]
  generalize val_main_v20 (F := Ideal) x0 x1 = y at e ⊢
  have hz : val_main_cst_2 (F := Ideal) (Shape.Idx.first h_S_) = 0 := by
    pointwise [val_main_cst_2]
  rw [hz, zero_add]
  refine Finset.sum_congr rfl fun c _ => ?_
  rw [← e]
  exact congrArg _ (funext fun a => Fin.ext (by match a with | ⟨0, _⟩ => rfl | ⟨1, _⟩ => rfl | ⟨2, _⟩ => rfl | ⟨3, _⟩ => rfl))

/-- The weight of key `c` in a row: its share of the row's sum. -/
def weight (x0 x1 : (⟨S8192x8192, .bf16⟩ : BufTy).Contents (Elt Ideal)) (b : Fin 4) (h : Fin 32) (r : Fin 2048) (c : ℕ) : EReal :=
  Ideal.div (Ideal.exp (score x0 x1 b h r c - (Finset.range 2048).sup (score x0 x1 b h r)))
    (∑ c ∈ Finset.range 2048, Ideal.exp (score x0 x1 b h r c - (Finset.range 2048).sup (score x0 x1 b h r)))

/-- The reference's weights. -/
theorem weights_apply (x0 x1 : (⟨S8192x8192, .bf16⟩ : BufTy).Contents (Elt Ideal)) (b : Fin 4) (h : Fin 32) (r c : Fin 2048) :
    val_main_v24 (F := Ideal) x0 x1 (ix4 b h r c) = weight x0 x1 b h r c := by
  have e : val_main_v20 (F := Ideal) x0 x1 (ix4 b h r c) = _ := exp_apply x0 x1 b h r c
  have e' : val_main_v21 (F := Ideal) x0 x1 (ix3 b h r) = _ := sum_apply x0 x1 b h r
  rw [val_main_v24_apply, val_main_v23_apply, val_main_v22_apply,
    show idx_main_v22 (idx_main_v23 (ix4 b h r c)) = ix3 b h r from
      funext fun a => Fin.ext (by match a with | ⟨0, _⟩ => rfl | ⟨1, _⟩ => rfl | ⟨2, _⟩ => rfl), e, e']
  rfl

/-- The weighted sum of the values, row and column of the result. -/
theorem sum_values (x0 x1 : (⟨S8192x8192, .bf16⟩ : BufTy).Contents (Elt Ideal)) (x2) (r : Fin 8192) (j : Fin 4096) :
    val_main_v27 (F := Ideal) x0 x1 x2 (ix2 r j) =
      ∑ c ∈ Finset.range 2048, col x2 ⟨r / 2048, by omega⟩ j c * weight x0 x1 ⟨r / 2048, by omega⟩ ⟨j / 128, by omega⟩ ⟨r % 2048, by omega⟩ c := by
  have e : ∀ b h r c, val_main_v24 (F := Ideal) x0 x1 (ix4 b h r c) = weight x0 x1 b h r c := weights_apply x0 x1
  unfold val_main_v27 val_main_v26 val_main_v25
  generalize val_main_v24 (F := Ideal) x0 x1 = y at e ⊢
  rw [Finset.sum_range]
  pointwise [val_main_v5, val_main_v4]
  refine Finset.sum_congr rfl fun c _ => ?_
  rw [e, col, dif_pos c.isLt]

/-- The reference's result. -/
theorem result_apply (x0 x1 : (⟨S8192x8192, .bf16⟩ : BufTy).Contents (Elt Ideal)) (x2 x3) (r : Fin 8192) (j : Fin 4096) :
    val_main_v31 (F := Ideal) x0 x1 x2 x3 (ix2 r j) =
      (∑ c ∈ Finset.range 2048, col x2 ⟨r / 2048, by omega⟩ j c * weight x0 x1 ⟨r / 2048, by omega⟩ ⟨j / 128, by omega⟩ ⟨r % 2048, by omega⟩ c)
      * Attn.gate (x3 (ix2 r j)) := by
  have e := sum_values x0 x1 x2 r j
  unfold val_main_v31 val_main_v30
  generalize val_main_v27 (F := Ideal) x0 x1 x2 = y at e ⊢
  rw [← e, Attn.gate_neg]
  pointwise [val_main_v29, val_main_v28, val_main_call1_v0, val_main_call1_v1, val_main_call1_v2, val_main_call1_v3, val_main_call1_v4, val_main_call1_v5, val_main_call1_cst, val_main_call1_cst_0]

end Cert.AttnRef

end
-- ==== Proof.Equation.lean ====
/- The attention kernel's result array is the reference's, for queries and keys without infinities. -/
module

public import proofs.«01_k».proof.Proof.Array
public import proofs.«01_k».proof.Proof.RefRow
public import proofs.«01_k».proof.Pre_finite_scores

@[expose] public section

set_option maxRecDepth 16384

noncomputable section

namespace Cert.Attn

open Idealize.ShloMosaic Cert.ReferenceIdeal.Read

/-- The precondition's side conditions. -/
instance preFacts : Cert.Pre_finite_scores.Facts where
  bitsLt_bf16_f32 := by decide
  bcast_S_S8192x8192 := by decide

/-- A number whose absolute value is below +∞ is a real. -/
theorem real_of_abs_lt (x : EReal) (h : Ideal.cmp .olt (max x (-x)) (Ideal.ofBits .f32 0x7F800000#32) = 1#1) : ∃ r : ℝ, x = r := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

variable (q k : Vec Ideal Cert.KernelIdeal.S8192x8192 .bf16) (v z : Vec Ideal Cert.KernelIdeal.S8192x4096 .bf16)

/-- The precondition makes every query a real. -/
theorem real_q (h : (Cert.Pre_finite_scores.fn (F := Ideal) q k v z).1 = fun _ => 1#1) (i) : ∃ r : ℝ, q i = r :=
  real_of_abs_lt _ (congrFun h i)

/-- The precondition makes every key a real. -/
theorem real_k (h : (Cert.Pre_finite_scores.fn (F := Ideal) q k v z).2 = fun _ => 1#1) (i) : ∃ r : ℝ, k i = r :=
  real_of_abs_lt _ (congrFun h i)

/-- A score of real queries and keys is a real. -/
theorem real_dot (hq : ∀ i, ∃ r : ℝ, q i = r) (hk : ∀ i, ∃ r : ℝ, k i = r) (f g : Fin 256 → Cert.KernelIdeal.S8192x8192.Idx) :
    ∃ r : ℝ, ∑ x : Fin 256, q (f x) * k (g x) = (r : EReal) :=
  exists_sum_coe _ _ fun x _ => by
    obtain ⟨a, ha⟩ := hq (f x)
    obtain ⟨b, hb⟩ := hk (g x)
    exact ⟨a * b, by rw [ha, hb, EReal.coe_mul]⟩

/-- The block's scores are the reference's. -/
theorem score_eq (b : Fin 4) (h : Fin 32) (r : Fin 2048) :
    blockScore (rows256 q b h) (rows256 k b h) r = AttnRef.score q k b h r := rfl

/-- The block's values are the reference's. -/
theorem col_eq (b : Fin 4) (j : Fin 4096) :
    blockCol (rows128 v b ⟨j / 128, by omega⟩) ⟨j % 128, by omega⟩ = AttnRef.col v b j := by
  funext c
  unfold blockCol AttnRef.col
  by_cases hc : c < 2048
  · rw [dif_pos hc, dif_pos hc]
    refine congrArg v (funext fun a => Fin.ext ?_)
    match a with
    | ⟨0, _⟩ => rfl
    | ⟨1, _⟩ => show (j : ℕ) / 128 * 128 + j % 128 = j; omega
  · rw [dif_neg hc, dif_neg hc]

/-- The kernel's result is the reference's. -/
theorem G_eq (hq : ∀ i, ∃ r : ℝ, q i = r) (hk : ∀ i, ∃ r : ℝ, k i = r) : G q k v z = val_main_v31 (F := Ideal) q k v z := by
  funext i
  obtain ⟨r, j, rfl⟩ : ∃ (r : Fin 8192) (j : Fin 4096), i = ix2 r j :=
    ⟨⟨(i 0).val, (i 0).isLt⟩, ⟨(i 1).val, (i 1).isLt⟩, funext fun a => by match a with | ⟨0, _⟩ => rfl | ⟨1, _⟩ => rfl⟩
  rw [AttnRef.result_apply, G_apply q k v z ⟨r / 2048, by omega⟩ ⟨j / 128, by omega⟩ ⟨r % 2048, by omega⟩ ⟨j % 128, by omega⟩ (ix2 r j)
    (show (r : ℕ) = r / 2048 * 2048 + r % 2048 by omega) (show (j : ℕ) = j / 128 * 128 + j % 128 by omega), blockVal, score_eq, col_eq]
  have hz : rows128 z ⟨r / 2048, by omega⟩ ⟨j / 128, by omega⟩ (ix2 ⟨r % 2048, by omega⟩ ⟨j % 128, by omega⟩) = z (ix2 r j) := by
    refine congrArg z (funext fun a => Fin.ext ?_)
    match a with
    | ⟨0, _⟩ => show (r : ℕ) / 2048 * 2048 + r % 2048 = r; omega
    | ⟨1, _⟩ => show (j : ℕ) / 128 * 128 + j % 128 = j; omega
  rw [hz]
  refine congrArg (· * gate (z (ix2 r j))) (attnRow_eq _ _ _ 2048 ?_ ?_ ?_ ?_ ?_)
  · show 512 * ((r : ℕ) % 2048 / 512 + 1) ≤ 2048; omega
  · omega
  · intro c hc
    have hc' : 512 * ((r : ℕ) % 2048 / 512 + 1) ≤ c := hc
    unfold AttnRef.score
    by_cases h : c < 2048
    · rw [dif_pos h, if_neg (by show ¬(c ≤ (r : ℕ) % 2048); omega)]
    · rw [dif_neg h]
  · unfold AttnRef.score
    rw [dif_pos (by omega), if_pos (Nat.zero_le _)]
    obtain ⟨s, hs⟩ := real_dot q k hq hk (fun x => ix2 ⟨(r : ℕ) / 2048 * 2048 + (r : ℕ) % 2048, by omega⟩ ⟨(j : ℕ) / 128 * 256 + x, by omega⟩)
      (fun x => ix2 ⟨(r : ℕ) / 2048 * 2048 + 0, by omega⟩ ⟨(j : ℕ) / 128 * 256 + x, by omega⟩)
    rw [hs]
    exact EReal.coe_ne_bot s
  · intro c
    unfold AttnRef.score
    by_cases h : c < 2048
    · rw [dif_pos h]
      by_cases hle : c ≤ (r : ℕ) % 2048
      · rw [if_pos hle]
        obtain ⟨s, hs⟩ := real_dot q k hq hk (fun x => ix2 ⟨(r : ℕ) / 2048 * 2048 + (r : ℕ) % 2048, by omega⟩ ⟨(j : ℕ) / 128 * 256 + x, by omega⟩)
          (fun x => ix2 ⟨(r : ℕ) / 2048 * 2048 + c, by omega⟩ ⟨(j : ℕ) / 128 * 256 + x, by omega⟩)
        rw [hs]
        exact EReal.coe_ne_top s
      · rw [if_neg hle]; exact bot_ne_top
    · rw [dif_neg h]; exact bot_ne_top

end Cert.Attn

end
-- ==== Proof.InA.lean ====
/- The input projection's columns for the state-space branch (its gate and its convolved input): one matrix product of the normalised rows with a column range of
   the weights. -/
module

public import proofs.«01_k».proof.Proof.Gen.KernelInAIdeal.Value
public import proofs.«01_k».proof.Proof.Gen.ReferenceInAIdeal.Read
public import proofs.«01_k».proof.Proof.Gen.ReferenceInAIdeal.Run
public import proofs.«01_k».proof.Defs
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

namespace Cert.InA

open Cert.KernelInAIdeal Cert.KernelInAIdeal.Gen Cert.KernelInAIdeal.Value Idealize.ShloMosaic Idealize.ShloMosaic.TcCoe Idealize.SL.Sem

/-- A block of the result: the products of a block of rows and a block of columns. -/
theorem pay_apply (x : Vec Ideal S1024x4096 .bf16) (w : Vec Ideal S1x4096x512 .bf16) (r : Fin 1024) (j : Fin 512) :
    k0_pay1 x w (ix2 r j) = ∑ k : Fin 4096, x (ix2 r k) * w (ix3 0 k j) := by
  pointwise [k0_pay1]

/-- The reference's result. -/
theorem ref_apply (x : (⟨S8192x4096, .bf16⟩ : BufTy).Contents (Elt Ideal)) (w : (⟨S4x4096x23936, .f32⟩ : BufTy).Contents (Elt Ideal)) (r : Fin 8192) (j : Fin 10240) :
    Cert.ReferenceInAIdeal.Read.val_main_v3 (F := Ideal) x w (ix2 r j) = ∑ k : Fin 4096, x (ix2 r k) * w (ix3 0 k ⟨j, by omega⟩) := by
  pointwise [Cert.ReferenceInAIdeal.Read.val_main_v3, Cert.ReferenceInAIdeal.Read.val_main_v2, Cert.ReferenceInAIdeal.Read.val_main_v1, Cert.ReferenceInAIdeal.Read.val_main_v0]

variable (m : (ℓ : Loc nD τ sig) → Buf (Elt Ideal) ℓ)

/-- The blocks' places. -/
theorem idx0 : ∀ t : Fin cfg0.N, win0_0.index t = ![(grid0.coords t 0).val, 0] := (by decide +kernel : ∀ t : Fin grid0.N, _)
theorem idx1 : ∀ t : Fin cfg0.N, win0_1.index t = ![0, 0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

/-- The weights as the call reads them. -/
theorem V_weights (c : Dev nD) (k : Fin 4096) (j : Fin 23936) : V m c main_v0 (ix3 0 k j) = m ((c : Thread nD τ).loc main_arg1) (ix3 0 k ⟨j, by omega⟩) := by
  unfold V hostOps0
  after_results
  pointwise

/-- The staged rows. -/
theorem iblk0_apply (c : Dev nD) (t : Fin cfg0.N) (r : Fin 1024) (k : Fin 4096) : iblk m c 0 t (ix2 r k)
    = m ((c : Thread nD τ).loc main_arg0) (ix2 ⟨(grid0.coords t 0).val * 1024 + r, by have : (grid0.coords t 0).val < 8 := (grid0.coords t 0).isLt; omega⟩ k) := by
  rw [← V_main_arg0 m c]
  blk_simp [iblk, idx0]
  refine congrArg (V m c main_arg0) ?_
  blk_ext [idx0]

/-- The staged columns: every block of the weights that the grid reaches lies inside the array. -/
theorem X1_apply (c : Dev nD) (t : Fin cfg0.N) (k : Fin 4096) (j : Fin 512) : (X0_1 m c t : Vec Ideal S1x4096x512 .bf16) (ix3 0 k j)
    = m ((c : Thread nD τ).loc main_arg1) (ix3 0 k ⟨(grid0.coords t 1).val * 512 + j, by have : (grid0.coords t 1).val < 20 := (grid0.coords t 1).isLt; omega⟩) := by
  refine Eq.trans ?_ (V_weights m c k ⟨(grid0.coords t 1).val * 512 + j, by have : (grid0.coords t 1).val < 20 := (grid0.coords t 1).isLt; omega⟩)
  unfold X0_1 Pipeline.Window.fill
  rw [dif_pos (moved0_1 t _)]
  blk_simp [iblk, idx1]
  refine congrArg (V m c main_v0) ?_
  blk_ext [idx1]

/-- A place of a block of the result is the reference's. -/
theorem point_eq (c : Dev nD) (t : Fin cfg0.N) (r : Fin 1024) (j : Fin 512) (hr : (grid0.coords t 0).val * 1024 + r.val < 8192)
    (hj : (grid0.coords t 1).val * 512 + j.val < 10240) : k0_pay1 (iblk m c 0 t) (X0_1 m c t) (ix2 r j)
    = Cert.ReferenceInAIdeal.Read.val_main_v3 (F := Ideal) (m ((c : Thread nD τ).loc main_arg0)) (m ((c : Thread nD τ).loc main_arg1))
      (ix2 ⟨(grid0.coords t 0).val * 1024 + r, hr⟩ ⟨(grid0.coords t 1).val * 512 + j, hj⟩) := by
  rw [pay_apply, ref_apply]
  exact Finset.sum_congr rfl fun k _ => congrArg₂ (· * ·) (iblk0_apply m c t _ k) (X1_apply m c t k _)

/-- The result array after the run is the reference's. -/
theorem final (c : Dev nD) : (dats m 0 c).arrAt 2 cfg0.N
    = Cert.ReferenceInAIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, outsAt0]
  frame_out
  have hy : (y : S1024x512.Idx) = ix2 (⟨(y 0).val, (y 0).isLt⟩ : Fin 1024) (⟨(y 1).val, (y 1).isLt⟩ : Fin 512) :=
    funext fun a => by match a with | ⟨0, _⟩ => rfl | ⟨1, _⟩ => rfl
  have h0 : (grid0.coords t 0).val < 8 := (grid0.coords t 0).isLt
  have h1 : (grid0.coords t 1).val < 20 := (grid0.coords t 1).isLt
  have hr : (grid0.coords t 0).val * 1024 + (y 0).val < 8192 := by have : (y 0).val < 1024 := (y 0).isLt; omega
  have hj : (grid0.coords t 1).val * 512 + (y 1).val < 10240 := by have : (y 1).val < 512 := (y 1).isLt; omega
  have he : ((View.whole main_v1).slice (win0_2.rect t)).emb (ix2 (⟨(y 0).val, (y 0).isLt⟩ : Fin 1024) (⟨(y 1).val, (y 1).isLt⟩ : Fin 512))
      = (ix2 (⟨_, hr⟩ : Fin 8192) (⟨_, hj⟩ : Fin 10240) : S8192x10240.Idx) := by
    blk_ext [idx2]
  rw [hy, he]
  exact point_eq m c t _ _ hr hj

/-- The call and its reference end with the same result. -/
theorem value : algebraic_KernelInAIdeal_ReferenceInAIdeal := fun m ρ m' ρ' _ hag =>
  ⟨fun c => Cert.ReferenceInAIdeal.Read.val_main_v3 (F := Ideal) (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans ((Cert.ReferenceInAIdeal.Read.val_main_v3_eq _ _).trans
        (by rw [(hag c).1, (hag c).2])), (h c).2⟩)
      (Cert.ReferenceInAIdeal.Value.run m' ρ')⟩

end Cert.InA

end
-- ==== Proof.InZ.lean ====
/- The input projection's columns for the attention's gate: one matrix product of the normalised rows with a column range of
   the weights. -/
module

public import proofs.«01_k».proof.Proof.Gen.KernelInZIdeal.Value
public import proofs.«01_k».proof.Proof.Gen.ReferenceInZIdeal.Read
public import proofs.«01_k».proof.Proof.Gen.ReferenceInZIdeal.Run
public import proofs.«01_k».proof.Defs
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

namespace Cert.InZ

open Cert.KernelInZIdeal Cert.KernelInZIdeal.Gen Cert.KernelInZIdeal.Value Idealize.ShloMosaic Idealize.ShloMosaic.TcCoe Idealize.SL.Sem

/-- A block of the result: the products of a block of rows and a block of columns. -/
theorem pay_apply (x : Vec Ideal S1024x4096 .bf16) (w : Vec Ideal S1x4096x512 .bf16) (r : Fin 1024) (j : Fin 512) :
    k0_pay1 x w (ix2 r j) = ∑ k : Fin 4096, x (ix2 r k) * w (ix3 0 k j) := by
  pointwise [k0_pay1]

/-- The reference's result. -/
theorem ref_apply (x : (⟨S8192x4096, .bf16⟩ : BufTy).Contents (Elt Ideal)) (w : (⟨S4x4096x23936, .f32⟩ : BufTy).Contents (Elt Ideal)) (r : Fin 8192) (j : Fin 4096) :
    Cert.ReferenceInZIdeal.Read.val_main_v4 (F := Ideal) x w (ix2 r j) = ∑ k : Fin 4096, x (ix2 r k) * w (ix3 0 k ⟨10304 + j, by omega⟩) := by
  pointwise [Cert.ReferenceInZIdeal.Read.val_main_v4, Cert.ReferenceInZIdeal.Read.val_main_v3, Cert.ReferenceInZIdeal.Read.val_main_v2, Cert.ReferenceInZIdeal.Read.val_main_v1, Cert.ReferenceInZIdeal.Read.val_main_v0]

variable (m : (ℓ : Loc nD τ sig) → Buf (Elt Ideal) ℓ)

/-- The blocks' places. -/
theorem idx0 : ∀ t : Fin cfg0.N, win0_0.index t = ![(grid0.coords t 0).val, 0] := (by decide +kernel : ∀ t : Fin grid0.N, _)
theorem idx1 : ∀ t : Fin cfg0.N, win0_1.index t = ![0, 0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

/-- The weights as the call reads them. -/
theorem V_weights (c : Dev nD) (k j : Fin 4096) : V m c main_v1 (ix3 0 k j) = m ((c : Thread nD τ).loc main_arg1) (ix3 0 k ⟨10304 + j, by omega⟩) := by
  unfold V hostOps0
  after_results
  pointwise

/-- The staged rows. -/
theorem iblk0_apply (c : Dev nD) (t : Fin cfg0.N) (r : Fin 1024) (k : Fin 4096) : iblk m c 0 t (ix2 r k)
    = m ((c : Thread nD τ).loc main_arg0) (ix2 ⟨(grid0.coords t 0).val * 1024 + r, by have : (grid0.coords t 0).val < 8 := (grid0.coords t 0).isLt; omega⟩ k) := by
  rw [← V_main_arg0 m c]
  blk_simp [iblk, idx0]
  refine congrArg (V m c main_arg0) ?_
  blk_ext [idx0]

/-- The staged columns. -/
theorem iblk1_apply (c : Dev nD) (t : Fin cfg0.N) (k : Fin 4096) (j : Fin 512) : iblk m c 1 t (ix3 0 k j)
    = m ((c : Thread nD τ).loc main_arg1) (ix3 0 k ⟨10304 + ((grid0.coords t 1).val * 512 + j), by have : (grid0.coords t 1).val < 8 := (grid0.coords t 1).isLt; omega⟩) := by
  have e : iblk m c 1 t (ix3 0 k j) = V m c main_v1 (ix3 0 k ⟨(grid0.coords t 1).val * 512 + j, by have : (grid0.coords t 1).val < 8 := (grid0.coords t 1).isLt; omega⟩) := by
    blk_simp [iblk, idx1]
    refine congrArg (V m c main_v1) ?_
    blk_ext [idx1]
  exact e.trans (V_weights m c _ _)

/-- A place of a block of the result is the reference's. -/
theorem point_eq (c : Dev nD) (t : Fin cfg0.N) (r : Fin 1024) (j : Fin 512) (hr : (grid0.coords t 0).val * 1024 + r.val < 8192)
    (hj : (grid0.coords t 1).val * 512 + j.val < 4096) : k0_pay1 (iblk m c 0 t) (iblk m c 1 t) (ix2 r j)
    = Cert.ReferenceInZIdeal.Read.val_main_v4 (F := Ideal) (m ((c : Thread nD τ).loc main_arg0)) (m ((c : Thread nD τ).loc main_arg1))
      (ix2 ⟨(grid0.coords t 0).val * 1024 + r, hr⟩ ⟨(grid0.coords t 1).val * 512 + j, hj⟩) := by
  rw [pay_apply, ref_apply]
  exact Finset.sum_congr rfl fun k _ => congrArg₂ (· * ·) (iblk0_apply m c t _ k) (iblk1_apply m c t k _)

/-- The result array after the run is the reference's. -/
theorem final (c : Dev nD) : (dats m 0 c).arrAt 2 cfg0.N
    = Cert.ReferenceInZIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have hy : (y : S1024x512.Idx) = ix2 (⟨(y 0).val, (y 0).isLt⟩ : Fin 1024) (⟨(y 1).val, (y 1).isLt⟩ : Fin 512) :=
    funext fun a => by match a with | ⟨0, _⟩ => rfl | ⟨1, _⟩ => rfl
  have h0 : (grid0.coords t 0).val < 8 := (grid0.coords t 0).isLt
  have h1 : (grid0.coords t 1).val < 8 := (grid0.coords t 1).isLt
  have hr : (grid0.coords t 0).val * 1024 + (y 0).val < 8192 := by have : (y 0).val < 1024 := (y 0).isLt; omega
  have hj : (grid0.coords t 1).val * 512 + (y 1).val < 4096 := by have : (y 1).val < 512 := (y 1).isLt; omega
  have he : ((View.whole main_v2).slice (win0_2.rect t)).emb (ix2 (⟨(y 0).val, (y 0).isLt⟩ : Fin 1024) (⟨(y 1).val, (y 1).isLt⟩ : Fin 512))
      = (ix2 (⟨_, hr⟩ : Fin 8192) (⟨_, hj⟩ : Fin 4096) : S8192x4096.Idx) := by
    blk_ext [idx2]
  rw [hy, he]
  exact point_eq m c t _ _ hr hj

/-- The call and its reference end with the same result. -/
theorem value : algebraic_KernelInZIdeal_ReferenceInZIdeal := fun m ρ m' ρ' _ hag =>
  ⟨fun c => Cert.ReferenceInZIdeal.Read.val_main_v4 (F := Ideal) (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans ((Cert.ReferenceInZIdeal.Read.val_main_v4_eq _ _).trans
        (by rw [(hag c).1, (hag c).2])), (h c).2⟩)
      (Cert.ReferenceInZIdeal.Value.run m' ρ')⟩

end Cert.InZ

end
-- ==== Proof.InG.lean ====
/- The input projection's columns for the two merge gates: one matrix product of the normalised rows with a column range of
   the weights. -/
module

public import proofs.«01_k».proof.Proof.Gen.KernelInGIdeal.Value
public import proofs.«01_k».proof.Proof.Gen.ReferenceInGIdeal.Read
public import proofs.«01_k».proof.Proof.Gen.ReferenceInGIdeal.Run
public import proofs.«01_k».proof.Defs
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

namespace Cert.InG

open Cert.KernelInGIdeal Cert.KernelInGIdeal.Gen Cert.KernelInGIdeal.Value Idealize.ShloMosaic Idealize.ShloMosaic.TcCoe Idealize.SL.Sem

/-- A block of the result: the products of a block of rows and a block of columns. -/
theorem pay_apply (x : Vec Ideal S1024x4096 .bf16) (w : Vec Ideal S1x4096x512 .bf16) (r : Fin 1024) (j : Fin 512) :
    k0_pay1 x w (ix2 r j) = ∑ k : Fin 4096, x (ix2 r k) * w (ix3 0 k j) := by
  pointwise [k0_pay1]

/-- The reference's result. -/
theorem ref_apply (x : (⟨S8192x4096, .bf16⟩ : BufTy).Contents (Elt Ideal)) (w : (⟨S4x4096x23936, .f32⟩ : BufTy).Contents (Elt Ideal)) (r : Fin 8192) (j : Fin 8192) :
    Cert.ReferenceInGIdeal.Read.val_main_v4 (F := Ideal) x w (ix2 r j) = ∑ k : Fin 4096, x (ix2 r k) * w (ix3 0 k ⟨15744 + j, by omega⟩) := by
  pointwise [Cert.ReferenceInGIdeal.Read.val_main_v4, Cert.ReferenceInGIdeal.Read.val_main_v3, Cert.ReferenceInGIdeal.Read.val_main_v2, Cert.ReferenceInGIdeal.Read.val_main_v1, Cert.ReferenceInGIdeal.Read.val_main_v0]

variable (m : (ℓ : Loc nD τ sig) → Buf (Elt Ideal) ℓ)

/-- The blocks' places. -/
theorem idx0 : ∀ t : Fin cfg0.N, win0_0.index t = ![(grid0.coords t 0).val, 0] := (by decide +kernel : ∀ t : Fin grid0.N, _)
theorem idx1 : ∀ t : Fin cfg0.N, win0_1.index t = ![0, 0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

/-- The weights as the call reads them. -/
theorem V_weights (c : Dev nD) (k : Fin 4096) (j : Fin 8192) : V m c main_v1 (ix3 0 k j) = m ((c : Thread nD τ).loc main_arg1) (ix3 0 k ⟨15744 + j, by omega⟩) := by
  unfold V hostOps0
  after_results
  pointwise

/-- The staged rows. -/
theorem iblk0_apply (c : Dev nD) (t : Fin cfg0.N) (r : Fin 1024) (k : Fin 4096) : iblk m c 0 t (ix2 r k)
    = m ((c : Thread nD τ).loc main_arg0) (ix2 ⟨(grid0.coords t 0).val * 1024 + r, by have : (grid0.coords t 0).val < 8 := (grid0.coords t 0).isLt; omega⟩ k) := by
  rw [← V_main_arg0 m c]
  blk_simp [iblk, idx0]
  refine congrArg (V m c main_arg0) ?_
  blk_ext [idx0]

/-- The staged columns. -/
theorem iblk1_apply (c : Dev nD) (t : Fin cfg0.N) (k : Fin 4096) (j : Fin 512) : iblk m c 1 t (ix3 0 k j)
    = m ((c : Thread nD τ).loc main_arg1) (ix3 0 k ⟨15744 + ((grid0.coords t 1).val * 512 + j), by have : (grid0.coords t 1).val < 16 := (grid0.coords t 1).isLt; omega⟩) := by
  have e : iblk m c 1 t (ix3 0 k j) = V m c main_v1 (ix3 0 k ⟨(grid0.coords t 1).val * 512 + j, by have : (grid0.coords t 1).val < 16 := (grid0.coords t 1).isLt; omega⟩) := by
    blk_simp [iblk, idx1]
    refine congrArg (V m c main_v1) ?_
    blk_ext [idx1]
  exact e.trans (V_weights m c _ _)

/-- A place of a block of the result is the reference's. -/
theorem point_eq (c : Dev nD) (t : Fin cfg0.N) (r : Fin 1024) (j : Fin 512) (hr : (grid0.coords t 0).val * 1024 + r.val < 8192)
    (hj : (grid0.coords t 1).val * 512 + j.val < 8192) : k0_pay1 (iblk m c 0 t) (iblk m c 1 t) (ix2 r j)
    = Cert.ReferenceInGIdeal.Read.val_main_v4 (F := Ideal) (m ((c : Thread nD τ).loc main_arg0)) (m ((c : Thread nD τ).loc main_arg1))
      (ix2 ⟨(grid0.coords t 0).val * 1024 + r, hr⟩ ⟨(grid0.coords t 1).val * 512 + j, hj⟩) := by
  rw [pay_apply, ref_apply]
  exact Finset.sum_congr rfl fun k _ => congrArg₂ (· * ·) (iblk0_apply m c t _ k) (iblk1_apply m c t k _)

/-- The result array after the run is the reference's. -/
theorem final (c : Dev nD) : (dats m 0 c).arrAt 2 cfg0.N
    = Cert.ReferenceInGIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have hy : (y : S1024x512.Idx) = ix2 (⟨(y 0).val, (y 0).isLt⟩ : Fin 1024) (⟨(y 1).val, (y 1).isLt⟩ : Fin 512) :=
    funext fun a => by match a with | ⟨0, _⟩ => rfl | ⟨1, _⟩ => rfl
  have h0 : (grid0.coords t 0).val < 8 := (grid0.coords t 0).isLt
  have h1 : (grid0.coords t 1).val < 16 := (grid0.coords t 1).isLt
  have hr : (grid0.coords t 0).val * 1024 + (y 0).val < 8192 := by have : (y 0).val < 1024 := (y 0).isLt; omega
  have hj : (grid0.coords t 1).val * 512 + (y 1).val < 8192 := by have : (y 1).val < 512 := (y 1).isLt; omega
  have he : ((View.whole main_v2).slice (win0_2.rect t)).emb (ix2 (⟨(y 0).val, (y 0).isLt⟩ : Fin 1024) (⟨(y 1).val, (y 1).isLt⟩ : Fin 512))
      = (ix2 (⟨_, hr⟩ : Fin 8192) (⟨_, hj⟩ : Fin 8192) : S8192x8192.Idx) := by
    blk_ext [idx2]
  rw [hy, he]
  exact point_eq m c t _ _ hr hj

/-- The call and its reference end with the same result. -/
theorem value : algebraic_KernelInGIdeal_ReferenceInGIdeal := fun m ρ m' ρ' _ hag =>
  ⟨fun c => Cert.ReferenceInGIdeal.Read.val_main_v4 (F := Ideal) (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans ((Cert.ReferenceInGIdeal.Read.val_main_v4_eq _ _).trans
        (by rw [(hag c).1, (hag c).2])), (h c).2⟩)
      (Cert.ReferenceInGIdeal.Value.run m' ρ')⟩

end Cert.InG

end
-- ==== Proof.Common.lean ====
/- What the calls' proofs share: an index of a matrix by its coordinates, and the logistic gate as the programs spell it. -/
module

public import Idealize.ShloMosaic.Lib.Pointwise

@[expose] public section

noncomputable section

namespace Cert.Common

open Idealize.ShloMosaic

/-- A matrix index is its two coordinates. -/
theorem eta2 {a b : ℕ} (y : (⟨2, ![a, b]⟩ : Shape).Idx) :
    y = ix2 (⟨(y 0).val, (y 0).isLt⟩ : Fin a) (⟨(y 1).val, (y 1).isLt⟩ : Fin b) :=
  funext fun i => by match i with | ⟨0, _⟩ => rfl | ⟨1, _⟩ => rfl

/-- The logistic function. -/
def gate (u : EReal) : EReal := Ideal.div 1 (1 + Ideal.exp (-u))

/-- The kernels negate by subtracting from zero. -/
theorem gate_sub (u : EReal) : Ideal.div 1 (1 + Ideal.exp (0 - u)) = gate u := by
  rw [gate, sub_eq_add_neg, zero_add]

end Cert.Common

end
-- ==== Proof.SsdO.lean ====
/- The state-space branch's output projection, scaled by its merge gate. -/
module

public import proofs.«01_k».proof.Defs
public import proofs.«01_k».proof.Proof.Common
public import proofs.«01_k».proof.Proof.Gen.KernelSsdOIdeal.Value
public import proofs.«01_k».proof.Proof.Gen.ReferenceSsdOIdeal.Run
public import proofs.«01_k».proof.Proof.Gen.ReferenceSsdOIdeal.Read
public import Idealize.ShloMosaic.Lib.Pipeline.ValueKit.Geometry
public import Idealize.ShloMosaic.Lib.Pipeline.ValueKit.Acc

@[expose] public section

set_option maxRecDepth 16384

noncomputable section

namespace Cert.SsdO

open Cert.KernelSsdOIdeal Cert.KernelSsdOIdeal.Gen Cert.KernelSsdOIdeal.Value Cert.Common Idealize.ShloMosaic Idealize.ShloMosaic.TcCoe Idealize.SL.Sem

/-- A block of the result: the products of a block of rows and a block of columns, gated. -/
theorem pay_apply (x : Vec Ideal S1024x4096 .bf16) (w : Vec Ideal S1x4096x512 .bf16) (g : Vec Ideal S1024x512 .bf16) (r : Fin 1024) (j : Fin 512) :
    k0_pay1 x w g (ix2 r j) = gate (g (ix2 r j)) * ∑ k : Fin 4096, x (ix2 r k) * w (ix3 0 k j) := by
  pointwise [k0_pay1]
  rw [gate_sub]

open Cert.ReferenceSsdOIdeal.Read in
/-- The reference's result. -/
theorem ref_apply (x : (⟨S8192x4096, .bf16⟩ : BufTy).Contents (Elt Ideal)) (w : (⟨S4x4096x4096, .f32⟩ : BufTy).Contents (Elt Ideal))
    (u : (⟨S8192x8192, .bf16⟩ : BufTy).Contents (Elt Ideal)) (r : Fin 8192) (j : Fin 4096) :
    val_main_v13 (F := Ideal) x w u (ix2 r j) = gate (u (ix2 r ⟨j, by omega⟩)) * ∑ k : Fin 4096, x (ix2 r k) * w (ix3 0 k j) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, gate]

variable (m : (ℓ : Loc nD τ sig) → Buf (Elt Ideal) ℓ)

/-- Where the row blocks lie. -/
theorem idx0 : ∀ t : Fin cfg0.N, win0_0.index t = ![(grid0.coords t 0).val, 0] := (by decide +kernel : ∀ t : Fin grid0.N, _)
/-- Where the column blocks lie. -/
theorem idx1 : ∀ t : Fin cfg0.N, win0_1.index t = ![0, 0, (grid0.coords t 1).val] := (by decide +kernel : ∀ t : Fin grid0.N, _)
/-- Where the gate blocks lie. -/
theorem idx2 : ∀ t : Fin cfg0.N, win0_2.index t = ![(grid0.coords t 0).val, (grid0.coords t 1).val] := (by decide +kernel : ∀ t : Fin grid0.N, _)
/-- Where the result blocks lie. -/
theorem idx3 : ∀ t : Fin cfg0.N, win0_3.index t = ![(grid0.coords t 0).val, (grid0.coords t 1).val] := (by decide +kernel : ∀ t : Fin grid0.N, _)

/-- The weights as the call reads them. -/
theorem V_weights (c : Dev nD) (k j : Fin 4096) : V m c main_v0 (ix3 0 k j) = m ((c : Thread nD τ).loc main_arg1) (ix3 0 k j) := by
  unfold V hostOps0
  after_results
  pointwise

/-- The staged rows. -/
theorem iblk0_apply (c : Dev nD) (t : Fin cfg0.N) (r : Fin 1024) (k : Fin 4096) (hr : (grid0.coords t 0).val * 1024 + r.val < 8192) :
    iblk m c 0 t (ix2 r k) = m ((c : Thread nD τ).loc main_arg0) (ix2 ⟨(grid0.coords t 0).val * 1024 + r, hr⟩ k) := by
  rw [← V_main_arg0 m c]
  blk_simp [iblk, idx0]
  refine congrArg (V m c main_arg0) ?_
  blk_ext [idx0]

/-- The staged columns. -/
theorem iblk1_apply (c : Dev nD) (t : Fin cfg0.N) (k : Fin 4096) (j : Fin 512) (hj : (grid0.coords t 1).val * 512 + j.val < 4096) :
    iblk m c 1 t (ix3 0 k j) = m ((c : Thread nD τ).loc main_arg1) (ix3 0 k ⟨(grid0.coords t 1).val * 512 + j, hj⟩) := by
  refine Eq.trans ?_ (V_weights m c k ⟨(grid0.coords t 1).val * 512 + j, hj⟩)
  blk_simp [iblk, idx1]
  refine congrArg (V m c main_v0) ?_
  blk_ext [idx1]

/-- The staged gates. -/
theorem iblk2_apply (c : Dev nD) (t : Fin cfg0.N) (r : Fin 1024) (j : Fin 512) (hr : (grid0.coords t 0).val * 1024 + r.val < 8192)
    (hj : (grid0.coords t 1).val * 512 + j.val < 8192) :
    iblk m c 2 t (ix2 r j) = m ((c : Thread nD τ).loc main_arg2) (ix2 ⟨(grid0.coords t 0).val * 1024 + r, hr⟩ ⟨(grid0.coords t 1).val * 512 + j, hj⟩) := by
  rw [← V_main_arg2 m c]
  blk_simp [iblk, idx2]
  refine congrArg (V m c main_arg2) ?_
  blk_ext [idx2]

/-- A place of a block of the result is the reference's. -/
theorem point_eq (c : Dev nD) (t : Fin cfg0.N) (r : Fin 1024) (j : Fin 512) (hr : (grid0.coords t 0).val * 1024 + r.val < 8192)
    (hj : (grid0.coords t 1).val * 512 + j.val < 4096) : k0_pay1 (iblk m c 0 t) (iblk m c 1 t) (iblk m c 2 t) (ix2 r j)
    = Cert.ReferenceSsdOIdeal.Read.val_main_v13 (F := Ideal) (m ((c : Thread nD τ).loc main_arg0)) (m ((c : Thread nD τ).loc main_arg1)) (m ((c : Thread nD τ).loc main_arg2))
      (ix2 ⟨(grid0.coords t 0).val * 1024 + r, hr⟩ ⟨(grid0.coords t 1).val * 512 + j, hj⟩) := by
  rw [pay_apply, ref_apply, iblk2_apply m c t r j hr (by omega)]
  refine congrArg (fun s : EReal => (gate _ : EReal) * s) ?_
  exact Finset.sum_congr rfl fun k _ => congrArg₂ (· * ·) (iblk0_apply m c t _ k hr) (iblk1_apply m c t k _ hj)

/-- The result array after the run is the reference's. -/
theorem final (c : Dev nD) : (dats m 0 c).arrAt 3 cfg0.N
    = Cert.ReferenceSsdOIdeal.Read.val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have h0 : (grid0.coords t 0).val < 8 := (grid0.coords t 0).isLt
  have h1 : (grid0.coords t 1).val < 8 := (grid0.coords t 1).isLt
  have hr : (grid0.coords t 0).val * 1024 + (y 0).val < 8192 := by have : (y 0).val < 1024 := (y 0).isLt; omega
  have hj : (grid0.coords t 1).val * 512 + (y 1).val < 4096 := by have : (y 1).val < 512 := (y 1).isLt; omega
  have he : ((View.whole main_v1).slice (win0_3.rect t)).emb (ix2 (⟨(y 0).val, (y 0).isLt⟩ : Fin 1024) (⟨(y 1).val, (y 1).isLt⟩ : Fin 512))
      = (ix2 (⟨_, hr⟩ : Fin 8192) (⟨_, hj⟩ : Fin 4096) : S8192x4096.Idx) := by
    blk_ext [idx3]
  rw [eta2 (a := 1024) (b := 512) y, he]
  exact point_eq m c t _ _ hr hj

/-- The call and its reference end with the same result. -/
theorem value : algebraic_KernelSsdOIdeal_ReferenceSsdOIdeal := fun m ρ m' ρ' _ hag =>
  ⟨fun c => Cert.ReferenceSsdOIdeal.Read.val_main_v13 (F := Ideal) (m ((c : Thread nD τ).loc main_arg0)) (m ((c : Thread nD τ).loc main_arg1)) (m ((c : Thread nD τ).loc main_arg2)),
    (θ_run _ _ _).mono (fun _ h c => ⟨(h c).1.trans (final m c), (h c).2⟩) (run_blocks m ρ),
    (θ_run _ _ _).mono (fun _ h c => ⟨(h c).1.trans ((Cert.ReferenceSsdOIdeal.Read.val_main_v13_eq _ _ _).trans
        (by rw [(hag c).1, (hag c).2.1, (hag c).2.2])), (h c).2⟩)
      (Cert.ReferenceSsdOIdeal.Value.run m' ρ')⟩

end Cert.SsdO

end
-- ==== Proof.MlaO.lean ====
/- The attention branch's output projection, scaled by its merge gate, added to the other branch. -/
module

public import proofs.«01_k».proof.Defs
public import proofs.«01_k».proof.Proof.Common
public import proofs.«01_k».proof.Proof.Gen.KernelMlaOIdeal.Value
public import proofs.«01_k».proof.Proof.Gen.ReferenceMlaOIdeal.Run
public import proofs.«01_k».proof.Proof.Gen.ReferenceMlaOIdeal.Read
public import Idealize.ShloMosaic.Lib.Pipeline.ValueKit.Geometry
public import Idealize.ShloMosaic.Lib.Pipeline.ValueKit.Acc

@[expose] public section

set_option maxRecDepth 16384

noncomputable section

namespace Cert.MlaO

open Cert.KernelMlaOIdeal Cert.KernelMlaOIdeal.Gen Cert.KernelMlaOIdeal.Value Cert.Common Idealize.ShloMosaic Idealize.ShloMosaic.TcCoe Idealize.SL.Sem

/-- A block of the result: the products of a block of rows and a block of columns, gated, added to the other branch. -/
theorem pay_apply (x : Vec Ideal S1024x4096 .bf16) (w : Vec Ideal S1x4096x512 .bf16) (g y : Vec Ideal S1024x512 .bf16) (r : Fin 1024) (j : Fin 512) :
    k0_pay1 x w g y (ix2 r j) = y (ix2 r j) + gate (g (ix2 r j)) * ∑ k : Fin 4096, x (ix2 r k) * w (ix3 0 k j) := by
  pointwise [k0_pay1]
  rw [gate_sub, add_comm]

open Cert.ReferenceMlaOIdeal.Read in
/-- The reference's result. -/
theorem ref_apply (x : (⟨S8192x4096, .bf16⟩ : BufTy).Contents (Elt Ideal)) (w : (⟨S4x4096x4096, .f32⟩ : BufTy).Contents (Elt Ideal))
    (u : (⟨S8192x8192, .bf16⟩ : BufTy).Contents (Elt Ideal)) (y : (⟨S8192x4096, .bf16⟩ : BufTy).Contents (Elt Ideal)) (r : Fin 8192) (j : Fin 4096) :
    val_main_v15 (F := Ideal) x w u y (ix2 r j) = y (ix2 r j) + gate (u (ix2 r ⟨4096 + j, by omega⟩)) * ∑ k : Fin 4096, x (ix2 r k) * w (ix3 0 k j) := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, gate]

variable (m : (ℓ : Loc nD τ sig) → Buf (Elt Ideal) ℓ)

/-- Where the row blocks lie. -/
theorem idx0 : ∀ t : Fin cfg0.N, win0_0.index t = ![(grid0.coords t 0).val, 0] := (by decide +kernel : ∀ t : Fin grid0.N, _)
/-- Where the column blocks lie. -/
theorem idx1 : ∀ t : Fin cfg0.N, win0_1.index t = ![0, 0, (grid0.coords t 1).val] := (by decide +kernel : ∀ t : Fin grid0.N, _)
/-- Where the gate blocks lie. -/
theorem idx2 : ∀ t : Fin cfg0.N, win0_2.index t = ![(grid0.coords t 0).val, (grid0.coords t 1).val + 8] := (by decide +kernel : ∀ t : Fin grid0.N, _)
/-- Where the other branch's blocks lie. -/
theorem idx3 : ∀ t : Fin cfg0.N, win0_3.index t = ![(grid0.coords t 0).val, (grid0.coords t 1).val] := (by decide +kernel : ∀ t : Fin grid0.N, _)
/-- Where the result blocks lie. -/
theorem idx4 : ∀ t : Fin cfg0.N, win0_4.index t = ![(grid0.coords t 0).val, (grid0.coords t 1).val] := (by decide +kernel : ∀ t : Fin grid0.N, _)

/-- The weights as the call reads them. -/
theorem V_weights (c : Dev nD) (k j : Fin 4096) : V m c main_v0 (ix3 0 k j) = m ((c : Thread nD τ).loc main_arg1) (ix3 0 k j) := by
  unfold V hostOps0
  after_results
  pointwise

/-- The staged rows. -/
theorem iblk0_apply (c : Dev nD) (t : Fin cfg0.N) (r : Fin 1024) (k : Fin 4096) (hr : (grid0.coords t 0).val * 1024 + r.val < 8192) :
    iblk m c 0 t (ix2 r k) = m ((c : Thread nD τ).loc main_arg0) (ix2 ⟨(grid0.coords t 0).val * 1024 + r, hr⟩ k) := by
  rw [← V_main_arg0 m c]
  blk_simp [iblk, idx0]
  refine congrArg (V m c main_arg0) ?_
  blk_ext [idx0]

/-- The staged columns. -/
theorem iblk1_apply (c : Dev nD) (t : Fin cfg0.N) (k : Fin 4096) (j : Fin 512) (hj : (grid0.coords t 1).val * 512 + j.val < 4096) :
    iblk m c 1 t (ix3 0 k j) = m ((c : Thread nD τ).loc main_arg1) (ix3 0 k ⟨(grid0.coords t 1).val * 512 + j, hj⟩) := by
  refine Eq.trans ?_ (V_weights m c k ⟨(grid0.coords t 1).val * 512 + j, hj⟩)
  blk_simp [iblk, idx1]
  refine congrArg (V m c main_v0) ?_
  blk_ext [idx1]

/-- The staged gates. -/
theorem iblk2_apply (c : Dev nD) (t : Fin cfg0.N) (r : Fin 1024) (j : Fin 512) (hr : (grid0.coords t 0).val * 1024 + r.val < 8192)
    (hj : 4096 + ((grid0.coords t 1).val * 512 + j.val) < 8192) :
    iblk m c 2 t (ix2 r j) = m ((c : Thread nD τ).loc main_arg2) (ix2 ⟨(grid0.coords t 0).val * 1024 + r, hr⟩ ⟨4096 + ((grid0.coords t 1).val * 512 + j), hj⟩) := by
  rw [← V_main_arg2 m c]
  blk_simp [iblk, idx2]
  refine congrArg (V m c main_arg2) ?_
  blk_ext [idx2]

/-- The staged blocks of the other branch. -/
theorem iblk3_apply (c : Dev nD) (t : Fin cfg0.N) (r : Fin 1024) (j : Fin 512) (hr : (grid0.coords t 0).val * 1024 + r.val < 8192)
    (hj : (grid0.coords t 1).val * 512 + j.val < 4096) :
    iblk m c 3 t (ix2 r j) = m ((c : Thread nD τ).loc main_arg3) (ix2 ⟨(grid0.coords t 0).val * 1024 + r, hr⟩ ⟨(grid0.coords t 1).val * 512 + j, hj⟩) := by
  rw [← V_main_arg3 m c]
  blk_simp [iblk, idx3]
  refine congrArg (V m c main_arg3) ?_
  blk_ext [idx3]

/-- A place of a block of the result is the reference's. -/
theorem point_eq (c : Dev nD) (t : Fin cfg0.N) (r : Fin 1024) (j : Fin 512) (hr : (grid0.coords t 0).val * 1024 + r.val < 8192)
    (hj : (grid0.coords t 1).val * 512 + j.val < 4096) : k0_pay1 (iblk m c 0 t) (iblk m c 1 t) (iblk m c 2 t) (iblk m c 3 t) (ix2 r j)
    = Cert.ReferenceMlaOIdeal.Read.val_main_v15 (F := Ideal) (m ((c : Thread nD τ).loc main_arg0)) (m ((c : Thread nD τ).loc main_arg1)) (m ((c : Thread nD τ).loc main_arg2)) (m ((c : Thread nD τ).loc main_arg3))
      (ix2 ⟨(grid0.coords t 0).val * 1024 + r, hr⟩ ⟨(grid0.coords t 1).val * 512 + j, hj⟩) := by
  rw [pay_apply, ref_apply, iblk2_apply m c t r j hr (by omega), iblk3_apply m c t r j hr hj]
  refine congrArg (fun s : EReal => (_ : EReal) + (gate _ : EReal) * s) ?_
  exact Finset.sum_congr rfl fun k _ => congrArg₂ (· * ·) (iblk0_apply m c t _ k hr) (iblk1_apply m c t k _ hj)

/-- The result array after the run is the reference's. -/
theorem final (c : Dev nD) : (dats m 0 c).arrAt 4 cfg0.N
    = Cert.ReferenceMlaOIdeal.Read.val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  have h0 : (grid0.coords t 0).val < 8 := (grid0.coords t 0).isLt
  have h1 : (grid0.coords t 1).val < 8 := (grid0.coords t 1).isLt
  have hr : (grid0.coords t 0).val * 1024 + (y 0).val < 8192 := by have : (y 0).val < 1024 := (y 0).isLt; omega
  have hj : (grid0.coords t 1).val * 512 + (y 1).val < 4096 := by have : (y 1).val < 512 := (y 1).isLt; omega
  have he : ((View.whole main_v1).slice (win0_4.rect t)).emb (ix2 (⟨(y 0).val, (y 0).isLt⟩ : Fin 1024) (⟨(y 1).val, (y 1).isLt⟩ : Fin 512))
      = (ix2 (⟨_, hr⟩ : Fin 8192) (⟨_, hj⟩ : Fin 4096) : S8192x4096.Idx) := by
    blk_ext [idx4]
  rw [eta2 (a := 1024) (b := 512) y, he]
  exact point_eq m c t _ _ hr hj

/-- The call and its reference end with the same result. -/
theorem value : algebraic_KernelMlaOIdeal_ReferenceMlaOIdeal := fun m ρ m' ρ' _ hag =>
  ⟨fun c => Cert.ReferenceMlaOIdeal.Read.val_main_v15 (F := Ideal) (m ((c : Thread nD τ).loc main_arg0)) (m ((c : Thread nD τ).loc main_arg1)) (m ((c : Thread nD τ).loc main_arg2)) (m ((c : Thread nD τ).loc main_arg3)),
    (θ_run _ _ _).mono (fun _ h c => ⟨(h c).1.trans (final m c), (h c).2⟩) (run_blocks m ρ),
    (θ_run _ _ _).mono (fun _ h c => ⟨(h c).1.trans ((Cert.ReferenceMlaOIdeal.Read.val_main_v15_eq _ _ _ _).trans
        (by rw [(hag c).1, (hag c).2.1, (hag c).2.2.1, (hag c).2.2.2])), (h c).2⟩)
      (Cert.ReferenceMlaOIdeal.Value.run m' ρ')⟩

end Cert.MlaO

end
-- ==== Proof.Out.lean ====
/- The output projection of the merged branches, added to the residual stream. -/
module

public import proofs.«01_k».proof.Defs
public import proofs.«01_k».proof.Proof.Common
public import proofs.«01_k».proof.Proof.Gen.KernelOutIdeal.Value
public import proofs.«01_k».proof.Proof.Gen.ReferenceOutIdeal.Run
public import proofs.«01_k».proof.Proof.Gen.ReferenceOutIdeal.Read
public import Idealize.ShloMosaic.Lib.Pipeline.ValueKit.Geometry
public import Idealize.ShloMosaic.Lib.Pipeline.ValueKit.Acc

@[expose] public section

set_option maxRecDepth 16384

noncomputable section

namespace Cert.Out

open Cert.KernelOutIdeal Cert.KernelOutIdeal.Gen Cert.KernelOutIdeal.Value Cert.Common Idealize.ShloMosaic Idealize.ShloMosaic.TcCoe Idealize.SL.Sem

/-- A block of the result: the products of a block of rows and a block of columns, added to the residual stream. -/
theorem pay_apply (x : Vec Ideal S1024x4096 .bf16) (w : Vec Ideal S1x4096x512 .bf16) (g : Vec Ideal S1024x512 .f32) (r : Fin 1024) (j : Fin 512) :
    k0_pay1 x w g (ix2 r j) = g (ix2 r j) + ∑ k : Fin 4096, x (ix2 r k) * w (ix3 0 k j) := by
  pointwise [k0_pay1]

open Cert.ReferenceOutIdeal.Read in
/-- The reference's result. -/
theorem ref_apply (x : (⟨S8192x4096, .bf16⟩ : BufTy).Contents (Elt Ideal)) (w : (⟨S4x4096x4096, .f32⟩ : BufTy).Contents (Elt Ideal))
    (u : (⟨S8192x4096, .f32⟩ : BufTy).Contents (Elt Ideal)) (r : Fin 8192) (j : Fin 4096) :
    val_main_v4 (F := Ideal) x w u (ix2 r j) = u (ix2 r j) + ∑ k : Fin 4096, x (ix2 r k) * w (ix3 0 k j) := by
  pointwise [val_main_v4, val_main_v3, val_main_v2, val_main_v1, val_main_v0]

variable (m : (ℓ : Loc nD τ sig) → Buf (Elt Ideal) ℓ)

/-- Where the row blocks lie. -/
theorem idx0 : ∀ t : Fin cfg0.N, win0_0.index t = ![(grid0.coords t 0).val, 0] := (by decide +kernel : ∀ t : Fin grid0.N, _)
/-- Where the column blocks lie. -/
theorem idx1 : ∀ t : Fin cfg0.N, win0_1.index t = ![0, 0, (grid0.coords t 1).val] := (by decide +kernel : ∀ t : Fin grid0.N, _)
/-- Where the residual blocks lie. -/
theorem idx2 : ∀ t : Fin cfg0.N, win0_2.index t = ![(grid0.coords t 0).val, (grid0.coords t 1).val] := (by decide +kernel : ∀ t : Fin grid0.N, _)
/-- Where the result blocks lie. -/
theorem idx3 : ∀ t : Fin cfg0.N, win0_3.index t = ![(grid0.coords t 0).val, (grid0.coords t 1).val] := (by decide +kernel : ∀ t : Fin grid0.N, _)

/-- The weights as the call reads them. -/
theorem V_weights (c : Dev nD) (k j : Fin 4096) : V m c main_v0 (ix3 0 k j) = m ((c : Thread nD τ).loc main_arg1) (ix3 0 k j) := by
  unfold V hostOps0
  after_results
  pointwise

/-- The staged rows. -/
theorem iblk0_apply (c : Dev nD) (t : Fin cfg0.N) (r : Fin 1024) (k : Fin 4096) (hr : (grid0.coords t 0).val * 1024 + r.val < 8192) :
    iblk m c 0 t (ix2 r k) = m ((c : Thread nD τ).loc main_arg0) (ix2 ⟨(grid0.coords t 0).val * 1024 + r, hr⟩ k) := by
  rw [← V_main_arg0 m c]
  blk_simp [iblk, idx0]
  refine congrArg (V m c main_arg0) ?_
  blk_ext [idx0]

/-- The staged columns. -/
theorem iblk1_apply (c : Dev nD) (t : Fin cfg0.N) (k : Fin 4096) (j : Fin 512) (hj : (grid0.coords t 1).val * 512 + j.val < 4096) :
    iblk m c 1 t (ix3 0 k j) = m ((c : Thread nD τ).loc main_arg1) (ix3 0 k ⟨(grid0.coords t 1).val * 512 + j, hj⟩) := by
  refine Eq.trans ?_ (V_weights m c k ⟨(grid0.coords t 1).val * 512 + j, hj⟩)
  blk_simp [iblk, idx1]
  refine congrArg (V m c main_v0) ?_
  blk_ext [idx1]

/-- The staged residual stream. -/
theorem iblk2_apply (c : Dev nD) (t : Fin cfg0.N) (r : Fin 1024) (j : Fin 512) (hr : (grid0.coords t 0).val * 1024 + r.val < 8192)
    (hj : (grid0.coords t 1).val * 512 + j.val < 4096) :
    iblk m c 2 t (ix2 r j) = m ((c : Thread nD τ).loc main_arg2) (ix2 ⟨(grid0.coords t 0).val * 1024 + r, hr⟩ ⟨(grid0.coords t 1).val * 512 + j, hj⟩) := by
  rw [← V_main_arg2 m c]
  blk_simp [iblk, idx2]
  refine congrArg (V m c main_arg2) ?_
  blk_ext [idx2]

/-- A place of a block of the result is the reference's. -/
theorem point_eq (c : Dev nD) (t : Fin cfg0.N) (r : Fin 1024) (j : Fin 512) (hr : (grid0.coords t 0).val * 1024 + r.val < 8192)
    (hj : (grid0.coords t 1).val * 512 + j.val < 4096) : k0_pay1 (iblk m c 0 t) (iblk m c 1 t) (iblk m c 2 t) (ix2 r j)
    = Cert.ReferenceOutIdeal.Read.val_main_v4 (F := Ideal) (m ((c : Thread nD τ).loc main_arg0)) (m ((c : Thread nD τ).loc main_arg1)) (m ((c : Thread nD τ).loc main_arg2))
      (ix2 ⟨(grid0.coords t 0).val * 1024 + r, hr⟩ ⟨(grid0.coords t 1).val * 512 + j, hj⟩) := by
  rw [pay_apply, ref_apply, iblk2_apply m c t r j hr hj]
  refine congrArg (fun s : EReal => (_ : EReal) + s) ?_
  exact Finset.sum_congr rfl fun k _ => congrArg₂ (· * ·) (iblk0_apply m c t _ k hr) (iblk1_apply m c t k _ hj)

/-- The result array after the run is the reference's. -/
theorem final (c : Dev nD) : (dats m 0 c).arrAt 3 cfg0.N
    = Cert.ReferenceOutIdeal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have h0 : (grid0.coords t 0).val < 8 := (grid0.coords t 0).isLt
  have h1 : (grid0.coords t 1).val < 8 := (grid0.coords t 1).isLt
  have hr : (grid0.coords t 0).val * 1024 + (y 0).val < 8192 := by have : (y 0).val < 1024 := (y 0).isLt; omega
  have hj : (grid0.coords t 1).val * 512 + (y 1).val < 4096 := by have : (y 1).val < 512 := (y 1).isLt; omega
  have he : ((View.whole main_v1).slice (win0_3.rect t)).emb (ix2 (⟨(y 0).val, (y 0).isLt⟩ : Fin 1024) (⟨(y 1).val, (y 1).isLt⟩ : Fin 512))
      = (ix2 (⟨_, hr⟩ : Fin 8192) (⟨_, hj⟩ : Fin 4096) : S8192x4096.Idx) := by
    blk_ext [idx3]
  rw [eta2 (a := 1024) (b := 512) y, he]
  exact point_eq m c t _ _ hr hj

/-- The call and its reference end with the same result. -/
theorem value : algebraic_KernelOutIdeal_ReferenceOutIdeal := fun m ρ m' ρ' _ hag =>
  ⟨fun c => Cert.ReferenceOutIdeal.Read.val_main_v4 (F := Ideal) (m ((c : Thread nD τ).loc main_arg0)) (m ((c : Thread nD τ).loc main_arg1)) (m ((c : Thread nD τ).loc main_arg2)),
    (θ_run _ _ _).mono (fun _ h c => ⟨(h c).1.trans (final m c), (h c).2⟩) (run_blocks m ρ),
    (θ_run _ _ _).mono (fun _ h c => ⟨(h c).1.trans ((Cert.ReferenceOutIdeal.Read.val_main_v4_eq _ _ _).trans
        (by rw [(hag c).1, (hag c).2.1, (hag c).2.2])), (h c).2⟩)
      (Cert.ReferenceOutIdeal.Value.run m' ρ')⟩

end Cert.Out

end
-- ==== Proof.Gelu.lean ====
/- The per-layer gate's down projection with its activation. -/
module

public import proofs.«01_k».proof.Defs
public import proofs.«01_k».proof.Proof.Common
public import proofs.«01_k».proof.Proof.Gen.KernelGeluIdeal.Value
public import proofs.«01_k».proof.Proof.Gen.ReferenceGeluIdeal.Run
public import proofs.«01_k».proof.Proof.Gen.ReferenceGeluIdeal.Read
public import Idealize.ShloMosaic.Lib.Pipeline.ValueKit.Geometry
public import Idealize.ShloMosaic.Lib.Pipeline.ValueKit.Acc

@[expose] public section

set_option maxRecDepth 16384

noncomputable section

namespace Cert.Gelu

open Cert.KernelGeluIdeal Cert.KernelGeluIdeal.Gen Cert.KernelGeluIdeal.Value Cert.Common Idealize.ShloMosaic Idealize.ShloMosaic.TcCoe Idealize.SL.Sem

/-- The tanh form of the Gaussian error linear unit. -/
def gelu (s : EReal) : EReal :=
  s * (Ideal.ofBits FTy.f32 1056964608#32 * (1 + Ideal.tanh (Ideal.ofBits FTy.f32 1061962282#32 *
    (s + Ideal.ofBits FTy.f32 1027024659#32 * (s * (s * s))))))

/-- The cube bracketed the other way. -/
theorem gelu_eq (s : EReal) : gelu s = s * (Ideal.ofBits FTy.f32 1056964608#32 * (1 + Ideal.tanh (Ideal.ofBits FTy.f32 1061962282#32 *
    (s + Ideal.ofBits FTy.f32 1027024659#32 * (s * s * s))))) := by
  rw [gelu, mul_assoc s s s]

/-- A block of the result: the products of a block of rows and a block of columns. -/
theorem pay_apply (x : Vec Ideal S1024x4096 .bf16) (w : Vec Ideal S1x4096x256 .bf16) (r : Fin 1024) (j : Fin 256) :
    k0_pay1 x w (ix2 r j) = gelu (∑ k : Fin 4096, x (ix2 r k) * w (ix3 0 k j)) := by
  pointwise [k0_pay1, gelu]

open Cert.ReferenceGeluIdeal.Read in
/-- The reference's result. -/
theorem ref_apply (x : (⟨S8192x4096, .bf16⟩ : BufTy).Contents (Elt Ideal)) (w : (⟨S4x4096x256, .f32⟩ : BufTy).Contents (Elt Ideal)) (r : Fin 8192) (j : Fin 256) :
    val_main_v17 (F := Ideal) x w (ix2 r j) = gelu (∑ k : Fin 4096, x (ix2 r k) * w (ix3 0 k j)) := by
  rw [gelu_eq]
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

variable (m : (ℓ : Loc nD τ sig) → Buf (Elt Ideal) ℓ)

/-- Where the row blocks lie. -/
theorem idx0 : ∀ t : Fin cfg0.N, win0_0.index t = ![(grid0.coords t 0).val, 0] := (by decide +kernel : ∀ t : Fin grid0.N, _)
/-- Where the column blocks lie. -/
theorem idx1 : ∀ t : Fin cfg0.N, win0_1.index t = ![0, 0, (grid0.coords t 1).val] := (by decide +kernel : ∀ t : Fin grid0.N, _)
/-- Where the result blocks lie. -/
theorem idx2 : ∀ t : Fin cfg0.N, win0_2.index t = ![(grid0.coords t 0).val, (grid0.coords t 1).val] := (by decide +kernel : ∀ t : Fin grid0.N, _)

/-- The weights as the call reads them. -/
theorem V_weights (c : Dev nD) (k : Fin 4096) (j : Fin 256) : V m c main_v0 (ix3 0 k j) = m ((c : Thread nD τ).loc main_arg1) (ix3 0 k j) := by
  unfold V hostOps0
  after_results
  pointwise

/-- The staged rows. -/
theorem iblk0_apply (c : Dev nD) (t : Fin cfg0.N) (r : Fin 1024) (k : Fin 4096) (hr : (grid0.coords t 0).val * 1024 + r.val < 8192) :
    iblk m c 0 t (ix2 r k) = m ((c : Thread nD τ).loc main_arg0) (ix2 ⟨(grid0.coords t 0).val * 1024 + r, hr⟩ k) := by
  rw [← V_main_arg0 m c]
  blk_simp [iblk, idx0]
  refine congrArg (V m c main_arg0) ?_
  blk_ext [idx0]

/-- The staged columns. -/
theorem iblk1_apply (c : Dev nD) (t : Fin cfg0.N) (k : Fin 4096) (j : Fin 256) (hj : (grid0.coords t 1).val * 256 + j.val < 256) :
    iblk m c 1 t (ix3 0 k j) = m ((c : Thread nD τ).loc main_arg1) (ix3 0 k ⟨(grid0.coords t 1).val * 256 + j, hj⟩) := by
  refine Eq.trans ?_ (V_weights m c k ⟨(grid0.coords t 1).val * 256 + j, hj⟩)
  blk_simp [iblk, idx1]
  refine congrArg (V m c main_v0) ?_
  blk_ext [idx1]

/-- A place of a block of the result is the reference's. -/
theorem point_eq (c : Dev nD) (t : Fin cfg0.N) (r : Fin 1024) (j : Fin 256) (hr : (grid0.coords t 0).val * 1024 + r.val < 8192)
    (hj : (grid0.coords t 1).val * 256 + j.val < 256) : k0_pay1 (iblk m c 0 t) (iblk m c 1 t) (ix2 r j)
    = Cert.ReferenceGeluIdeal.Read.val_main_v17 (F := Ideal) (m ((c : Thread nD τ).loc main_arg0)) (m ((c : Thread nD τ).loc main_arg1))
      (ix2 ⟨(grid0.coords t 0).val * 1024 + r, hr⟩ ⟨(grid0.coords t 1).val * 256 + j, hj⟩) := by
  rw [pay_apply, ref_apply]
  refine congrArg gelu ?_
  exact Finset.sum_congr rfl fun k _ => congrArg₂ (· * ·) (iblk0_apply m c t _ k hr) (iblk1_apply m c t k _ hj)

/-- The result array after the run is the reference's. -/
theorem final (c : Dev nD) : (dats m 0 c).arrAt 2 cfg0.N
    = Cert.ReferenceGeluIdeal.Read.val_main_v17 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have h0 : (grid0.coords t 0).val < 8 := (grid0.coords t 0).isLt
  have h1 : (grid0.coords t 1).val < 1 := (grid0.coords t 1).isLt
  have hr : (grid0.coords t 0).val * 1024 + (y 0).val < 8192 := by have : (y 0).val < 1024 := (y 0).isLt; omega
  have hj : (grid0.coords t 1).val * 256 + (y 1).val < 256 := by have : (y 1).val < 256 := (y 1).isLt; omega
  have he : ((View.whole main_v1).slice (win0_2.rect t)).emb (ix2 (⟨(y 0).val, (y 0).isLt⟩ : Fin 1024) (⟨(y 1).val, (y 1).isLt⟩ : Fin 256))
      = (ix2 (⟨_, hr⟩ : Fin 8192) (⟨_, hj⟩ : Fin 256) : S8192x256.Idx) := by
    blk_ext [idx2]
  rw [eta2 (a := 1024) (b := 256) y, he]
  exact point_eq m c t _ _ hr hj

/-- The call and its reference end with the same result. -/
theorem value : algebraic_KernelGeluIdeal_ReferenceGeluIdeal := fun m ρ m' ρ' _ hag =>
  ⟨fun c => Cert.ReferenceGeluIdeal.Read.val_main_v17 (F := Ideal) (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans ((Cert.ReferenceGeluIdeal.Read.val_main_v17_eq _ _).trans
        (by rw [(hag c).1, (hag c).2])), (h c).2⟩)
      (Cert.ReferenceGeluIdeal.Value.run m' ρ')⟩

end Cert.Gelu

end
-- ==== Proof.Ple.lean ====
/- The per-layer embedding, gated, added to the residual stream. -/
module

public import proofs.«01_k».proof.Defs
public import proofs.«01_k».proof.Proof.Common
public import proofs.«01_k».proof.Proof.Gen.KernelPleIdeal.Value
public import proofs.«01_k».proof.Proof.Gen.ReferencePleIdeal.Run
public import proofs.«01_k».proof.Proof.Gen.ReferencePleIdeal.Read
public import Idealize.ShloMosaic.Lib.Pipeline.ValueKit.Geometry
public import Idealize.ShloMosaic.Lib.Pipeline.ValueKit.Acc

@[expose] public section

set_option maxRecDepth 16384

noncomputable section

namespace Cert.Ple

open Cert.KernelPleIdeal Cert.KernelPleIdeal.Gen Cert.KernelPleIdeal.Value Cert.Common Idealize.ShloMosaic Idealize.ShloMosaic.TcCoe Idealize.SL.Sem

/-- A block of the result: the residual stream and the gated embedding. -/
theorem pay_apply (e : Vec Ideal S512x256 .bf16) (wu : Vec Ideal S1x256x1024 .bf16) (p : Vec Ideal S512x256 .f32) (wp : Vec Ideal S1x256x1024 .bf16)
    (x : Vec Ideal S512x1024 .f32) (r : Fin 512) (j : Fin 1024) :
    k0_pay1 e wu p wp x (ix2 r j) = x (ix2 r j) + gate (∑ k : Fin 256, e (ix2 r k) * wu (ix3 0 k j)) * ∑ k : Fin 256, p (ix2 r k) * wp (ix3 0 k j) := by
  pointwise [k0_pay1]
  rw [gate_sub]

open Cert.ReferencePleIdeal.Read in
/-- The reference's result. -/
theorem ref_apply (e : (⟨S8192x256, .bf16⟩ : BufTy).Contents (Elt Ideal)) (p : (⟨S8192x256, .f32⟩ : BufTy).Contents (Elt Ideal))
    (wu wp : (⟨S4x256x4096, .f32⟩ : BufTy).Contents (Elt Ideal)) (x : (⟨S8192x4096, .f32⟩ : BufTy).Contents (Elt Ideal)) (r : Fin 8192) (j : Fin 4096) :
    val_main_v14 (F := Ideal) e p wu wp x (ix2 r j)
      = x (ix2 r j) + gate (∑ k : Fin 256, e (ix2 r k) * wu (ix3 0 k j)) * ∑ k : Fin 256, p (ix2 r k) * wp (ix3 0 k j) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, gate]

variable (m : (ℓ : Loc nD τ sig) → Buf (Elt Ideal) ℓ)

/-- Where the gate's row blocks lie. -/
theorem idx0 : ∀ t : Fin cfg0.N, win0_0.index t = ![(grid0.coords t 0).val, 0] := (by decide +kernel : ∀ t : Fin grid0.N, _)
/-- Where the embedding's row blocks lie. -/
theorem idx1 : ∀ t : Fin cfg0.N, win0_1.index t = ![(grid0.coords t 0).val, 0] := (by decide +kernel : ∀ t : Fin grid0.N, _)
/-- Where the gate's column blocks lie. -/
theorem idx2 : ∀ t : Fin cfg0.N, win0_2.index t = ![0, 0, (grid0.coords t 1).val] := (by decide +kernel : ∀ t : Fin grid0.N, _)
/-- Where the embedding's column blocks lie. -/
theorem idx3 : ∀ t : Fin cfg0.N, win0_3.index t = ![0, 0, (grid0.coords t 1).val] := (by decide +kernel : ∀ t : Fin grid0.N, _)
/-- Where the residual blocks lie. -/
theorem idx4 : ∀ t : Fin cfg0.N, win0_4.index t = ![(grid0.coords t 0).val, (grid0.coords t 1).val] := (by decide +kernel : ∀ t : Fin grid0.N, _)
/-- Where the result blocks lie. -/
theorem idx5 : ∀ t : Fin cfg0.N, win0_5.index t = ![(grid0.coords t 0).val, (grid0.coords t 1).val] := (by decide +kernel : ∀ t : Fin grid0.N, _)

/-- The gate's weights as the call reads them. -/
theorem V_up (c : Dev nD) (k : Fin 256) (j : Fin 4096) : V m c main_v0 (ix3 0 k j) = m ((c : Thread nD τ).loc main_arg2) (ix3 0 k j) := by
  unfold V hostOps0
  after_results
  pointwise

/-- The embedding's weights as the call reads them. -/
theorem V_ple (c : Dev nD) (k : Fin 256) (j : Fin 4096) : V m c main_v1 (ix3 0 k j) = m ((c : Thread nD τ).loc main_arg3) (ix3 0 k j) := by
  unfold V hostOps0
  after_results
  pointwise

/-- The gate's staged rows. -/
theorem iblk0_apply (c : Dev nD) (t : Fin cfg0.N) (r : Fin 512) (k : Fin 256) (hr : (grid0.coords t 0).val * 512 + r.val < 8192) :
    iblk m c 0 t (ix2 r k) = m ((c : Thread nD τ).loc main_arg0) (ix2 ⟨(grid0.coords t 0).val * 512 + r, hr⟩ k) := by
  rw [← V_main_arg0 m c]
  blk_simp [iblk, idx0]
  refine congrArg (V m c main_arg0) ?_
  blk_ext [idx0]

/-- The embedding's staged rows. -/
theorem iblk1_apply (c : Dev nD) (t : Fin cfg0.N) (r : Fin 512) (k : Fin 256) (hr : (grid0.coords t 0).val * 512 + r.val < 8192) :
    iblk m c 1 t (ix2 r k) = m ((c : Thread nD τ).loc main_arg1) (ix2 ⟨(grid0.coords t 0).val * 512 + r, hr⟩ k) := by
  rw [← V_main_arg1 m c]
  blk_simp [iblk, idx1]
  refine congrArg (V m c main_arg1) ?_
  blk_ext [idx1]

/-- The gate's staged columns. -/
theorem iblk2_apply (c : Dev nD) (t : Fin cfg0.N) (k : Fin 256) (j : Fin 1024) (hj : (grid0.coords t 1).val * 1024 + j.val < 4096) :
    iblk m c 2 t (ix3 0 k j) = m ((c : Thread nD τ).loc main_arg2) (ix3 0 k ⟨(grid0.coords t 1).val * 1024 + j, hj⟩) := by
  refine Eq.trans ?_ (V_up m c k ⟨(grid0.coords t 1).val * 1024 + j, hj⟩)
  blk_simp [iblk, idx2]
  refine congrArg (V m c main_v0) ?_
  blk_ext [idx2]

/-- The embedding's staged columns. -/
theorem iblk3_apply (c : Dev nD) (t : Fin cfg0.N) (k : Fin 256) (j : Fin 1024) (hj : (grid0.coords t 1).val * 1024 + j.val < 4096) :
    iblk m c 3 t (ix3 0 k j) = m ((c : Thread nD τ).loc main_arg3) (ix3 0 k ⟨(grid0.coords t 1).val * 1024 + j, hj⟩) := by
  refine Eq.trans ?_ (V_ple m c k ⟨(grid0.coords t 1).val * 1024 + j, hj⟩)
  blk_simp [iblk, idx3]
  refine congrArg (V m c main_v1) ?_
  blk_ext [idx3]

/-- The staged residual stream. -/
theorem iblk4_apply (c : Dev nD) (t : Fin cfg0.N) (r : Fin 512) (j : Fin 1024) (hr : (grid0.coords t 0).val * 512 + r.val < 8192)
    (hj : (grid0.coords t 1).val * 1024 + j.val < 4096) :
    iblk m c 4 t (ix2 r j) = m ((c : Thread nD τ).loc main_arg4) (ix2 ⟨(grid0.coords t 0).val * 512 + r, hr⟩ ⟨(grid0.coords t 1).val * 1024 + j, hj⟩) := by
  rw [← V_main_arg4 m c]
  blk_simp [iblk, idx4]
  refine congrArg (V m c main_arg4) ?_
  blk_ext [idx4]

/-- A place of a block of the result is the reference's. -/
theorem point_eq (c : Dev nD) (t : Fin cfg0.N) (r : Fin 512) (j : Fin 1024) (hr : (grid0.coords t 0).val * 512 + r.val < 8192)
    (hj : (grid0.coords t 1).val * 1024 + j.val < 4096) :
    k0_pay1 (iblk m c 0 t) (iblk m c 2 t) (iblk m c 1 t) (iblk m c 3 t) (iblk m c 4 t) (ix2 r j)
    = Cert.ReferencePleIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (ix2 ⟨(grid0.coords t 0).val * 512 + r, hr⟩ ⟨(grid0.coords t 1).val * 1024 + j, hj⟩) := by
  rw [pay_apply, ref_apply, iblk4_apply m c t r j hr hj]
  refine congrArg₂ (fun s u : EReal => (_ : EReal) + gate s * u) ?_ ?_
  · exact Finset.sum_congr rfl fun k _ => congrArg₂ (· * ·) (iblk0_apply m c t _ k hr) (iblk2_apply m c t k _ hj)
  · exact Finset.sum_congr rfl fun k _ => congrArg₂ (· * ·) (iblk1_apply m c t _ k hr) (iblk3_apply m c t k _ hj)

/-- The result array after the run is the reference's. -/
theorem final (c : Dev nD) : (dats m 0 c).arrAt 5 cfg0.N
    = Cert.ReferencePleIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  have h0 : (grid0.coords t 0).val < 16 := (grid0.coords t 0).isLt
  have h1 : (grid0.coords t 1).val < 4 := (grid0.coords t 1).isLt
  have hr : (grid0.coords t 0).val * 512 + (y 0).val < 8192 := by have : (y 0).val < 512 := (y 0).isLt; omega
  have hj : (grid0.coords t 1).val * 1024 + (y 1).val < 4096 := by have : (y 1).val < 1024 := (y 1).isLt; omega
  have he : ((View.whole main_v2).slice (win0_5.rect t)).emb (ix2 (⟨(y 0).val, (y 0).isLt⟩ : Fin 512) (⟨(y 1).val, (y 1).isLt⟩ : Fin 1024))
      = (ix2 (⟨_, hr⟩ : Fin 8192) (⟨_, hj⟩ : Fin 4096) : S8192x4096.Idx) := by
    blk_ext [idx5]
  rw [eta2 (a := 512) (b := 1024) y, he]
  exact point_eq m c t _ _ hr hj

/-- The call and its reference end with the same result. -/
theorem value : algebraic_KernelPleIdeal_ReferencePleIdeal := fun m ρ m' ρ' _ hag =>
  ⟨fun c => Cert.ReferencePleIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    (θ_run _ _ _).mono (fun _ h c => ⟨(h c).1.trans (final m c), (h c).2⟩) (run_blocks m ρ),
    (θ_run _ _ _).mono (fun _ h c => ⟨(h c).1.trans ((Cert.ReferencePleIdeal.Read.val_main_v14_eq _ _ _ _ _).trans
        (by rw [(hag c).1, (hag c).2.1, (hag c).2.2.1, (hag c).2.2.2.1, (hag c).2.2.2.2])), (h c).2⟩)
      (Cert.ReferencePleIdeal.Value.run m' ρ')⟩

end Cert.Ple

end
-- ==== Proof.Q.lean ====
/- The queries of the attention: the products of the latent rows, scaled, each head's last lanes rotated. -/
module

public import proofs.«01_k».proof.Defs
public import proofs.«01_k».proof.Proof.Common
public import proofs.«01_k».proof.Proof.Gen.KernelQIdeal.Value
public import proofs.«01_k».proof.Proof.Gen.ReferenceQIdeal.Run
public import proofs.«01_k».proof.Proof.Gen.ReferenceQIdeal.Read
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Q

open Cert.KernelQIdeal Cert.KernelQIdeal.Gen Cert.KernelQIdeal.Value Cert.Common Idealize.ShloMosaic Idealize.ShloMosaic.TcCoe Idealize.SL.Sem

open Idealize.ShloMosaic.ValueKit

/-- A scaled product of a row and a weight column of a block. -/
def acc (x : Vec Ideal S1024x768 .bf16) (w : Vec Ideal S1x768x512 .bf16) (r : Fin 1024) (c : Fin 512) : EReal :=
  (∑ k : Fin 768, x (ix2 r k) * w (ix3 0 k c)) * Ideal.ofBits FTy.f32 1033096506#32

/-- A rotated place, the chunk's columns beginning at `q`. -/
def rope (x : Vec Ideal S1024x768 .bf16) (w : Vec Ideal S1x768x512 .bf16) (a b : Vec Ideal S1024x128 .f32) (r : Fin 1024) (q : ℕ) (hq : q < 385) (j : Fin 128) : EReal :=
  acc x w r ⟨q + j, by omega⟩ * a (ix2 r j)
    + (if j.val < 32 then 0 - acc x w r ⟨q + (j + 128 - 96) % 128, by omega⟩ else acc x w r ⟨q + (j + 128 - 32) % 128, by omega⟩) * b (ix2 r j)

/-- A block of the queries: each head's products, then its rotated chunk. -/
def blockVal (x : Vec Ideal S1024x768 .bf16) (w : Vec Ideal S1x768x512 .bf16) (a b : Vec Ideal S1024x128 .f32) (r : Fin 1024) (c : Fin 512) : EReal :=
  if _ : c.val % 256 < 128 then acc x w r c
  else rope x w a b r (c.val / 256 * 256 + 128) (by omega) ⟨c.val % 256 - 128, by omega⟩

/-- The kernel's test of a lane. -/
theorem lane : ∀ j : Fin 128, IntOp.cmpi CmpIPredicate.slt (BitVec.ofNat 32 j.val) 32#32 = if j.val < 32 then 1#1 else 0#1 := by decide +kernel

/-- The kernel's choice by lane. -/
theorem choose (j : Fin 128) (u v : EReal) :
    Scalar.select (IntOp.cmpi CmpIPredicate.slt (BitVec.ofNat 32 j.val) 32#32) u v = if j.val < 32 then u else v := by
  rw [lane]
  by_cases h : j.val < 32
  · rw [if_pos h, if_pos h]; rfl
  · rw [if_neg h, if_neg h]; rfl

/-- A head's products. -/
theorem pay5_apply (x : Vec Ideal S1024x768 .bf16) (w : Vec Ideal S1x768x512 .bf16) (r : Fin 1024) (j : Fin 128) :
    k0_pay5 x w (ix2 r j) = acc x w r ⟨0 + j, by omega⟩ := by
  simp only [zero_add]
  unfold acc
  pointwise [k0_pay5, k0_pay4]
/-- The next head's. -/
theorem pay7_apply (x : Vec Ideal S1024x768 .bf16) (w : Vec Ideal S1x768x512 .bf16) (r : Fin 1024) (j : Fin 128) :
    k0_pay7 x w (ix2 r j) = acc x w r ⟨256 + j, by omega⟩ := by
  unfold acc
  pointwise [k0_pay7, k0_pay4]
/-- A head's rotated chunk. -/
theorem pay6_apply (x : Vec Ideal S1024x768 .bf16) (w : Vec Ideal S1x768x512 .bf16) (a b : Vec Ideal S1024x128 .f32) (r : Fin 1024) (j : Fin 128) :
    k0_pay6 x w a b (ix2 r j) = rope x w a b r 128 (by omega) j := by
  unfold rope
  rw [← choose]
  unfold acc
  pointwise [k0_pay6, k0_pay4, k0_pay2, k0_pay3]
/-- The next head's. -/
theorem pay1_apply (x : Vec Ideal S1024x768 .bf16) (w : Vec Ideal S1x768x512 .bf16) (a b : Vec Ideal S1024x128 .f32) (r : Fin 1024) (j : Fin 128) :
    k0_pay1 (k0_pay2 a) (k0_pay3 b) (k0_pay8 x w) (iota .tc S1024x128 32 [1] iota_S1024x128_d1_w32) k0_pay9 (ix2 r j)
      = rope x w a b r 384 (by omega) j := by
  unfold rope
  rw [← choose]
  unfold acc
  pointwise [k0_pay1, k0_pay4, k0_pay2, k0_pay3, k0_pay8, k0_pay9]

section Tiles
variable (x : Vec Ideal S1024x768 .bf16) (w : Vec Ideal S1x768x512 .bf16) (a b : Vec Ideal S1024x128 .f32)

/-- Where a head's products are stored the block has them. -/
theorem tile_nope (q : ℕ) (hq : q % 256 = 0) (hq' : q < 385) (p : S1024x128.Idx → Elt Ideal .bf16)
    (hp : ∀ (r : Fin 1024) (j : Fin 128), p (ix2 r j) = acc x w r ⟨q + j, by omega⟩) (r : Fin 1024) (c : Fin 512) :
    View.TileAt (Val := Elt Ideal) (S := S1024x512) (e := .bf16) (ix2 r c) ![0, q] ![1024, 128] p (blockVal x w a b r c) := by
  intro y hy
  have h0 : r.val = 0 + (y 0).val := hy 0
  have h1 : c.val = q + (y 1).val := hy 1
  have hb : (y 1).val < 128 := (y 1).isLt
  have hr : (⟨(y 0).val, (y 0).isLt⟩ : Fin 1024) = r := Fin.ext (by simp only; omega)
  refine (congrArg p (eta2 (a := 1024) (b := 128) y)).trans ?_
  rw [hp, hr, blockVal, dif_pos (by omega)]
  exact congrArg (acc x w r) (Fin.ext h1.symm)

/-- Where a rotated chunk is stored the block has it. -/
theorem tile_rope (q : ℕ) (hq : q % 256 = 128) (hq' : q < 385) (p : S1024x128.Idx → Elt Ideal .bf16)
    (hp : ∀ (r : Fin 1024) (j : Fin 128), p (ix2 r j) = rope x w a b r q hq' j) (r : Fin 1024) (c : Fin 512) :
    View.TileAt (Val := Elt Ideal) (S := S1024x512) (e := .bf16) (ix2 r c) ![0, q] ![1024, 128] p (blockVal x w a b r c) := by
  intro y hy
  have h0 : r.val = 0 + (y 0).val := hy 0
  have h1 : c.val = q + (y 1).val := hy 1
  have hb : (y 1).val < 128 := (y 1).isLt
  have hr : (⟨(y 0).val, (y 0).isLt⟩ : Fin 1024) = r := Fin.ext (by simp only; omega)
  refine (congrArg p (eta2 (a := 1024) (b := 128) y)).trans ?_
  rw [hp, hr, blockVal, dif_neg (by omega)]
  have e1 : q = c.val / 256 * 256 + 128 := by omega
  have e2 : (⟨(y 1).val, (y 1).isLt⟩ : Fin 128) = ⟨c.val % 256 - 128, by omega⟩ := Fin.ext (by simp only; omega)
  rw [e2]
  congr 1

/-- What a grid point leaves in its block. -/
theorem out_apply (r : Fin 1024) (c : Fin 512) : out0_4 x w a b (ix2 r c) = blockVal x w a b r c := by
  have e0 : View.ld x r0_0 = x := View.ld_unit_zero (by decide) _ x
  have e1 : View.ld w r0_1 = w := View.ld_unit_zero (by decide) _ w
  have e2 : View.ld a r0_2 = a := View.ld_unit_zero (by decide) _ a
  have e3 : View.ld b r0_2 = b := View.ld_unit_zero (by decide) _ b
  unfold out0_4
  rw [e0, e1, e2, e3]
  refine View.canon_eq_of_allAt _ _ _ (cover0_4 _ _ _ _ _) ?_
  refine View.allAt_cons_unit _ _ _ _ _ ?_ ?_
  · exact tile_rope x w a b 384 (by norm_num) (by norm_num) _ (pay1_apply x w a b) r c
  refine View.allAt_cons_unit _ _ _ _ _ ?_ ?_
  · exact tile_nope x w a b 256 (by norm_num) (by norm_num) _ (pay7_apply x w) r c
  refine View.allAt_cons_unit _ _ _ _ _ ?_ ?_
  · exact tile_rope x w a b 128 (by norm_num) (by norm_num) _ (pay6_apply x w a b) r c
  refine View.allAt_cons_unit _ _ _ _ _ ?_ ?_
  · exact tile_nope x w a b 0 (by norm_num) (by norm_num) _ (pay5_apply x w) r c
  exact View.allAt_nil _ _

end Tiles

/-- A scaled product of a row and a weight column of the whole arrays. -/
def dot (x : (⟨S8192x768, .bf16⟩ : BufTy).Contents (Elt Ideal)) (w : (⟨S4x768x6144, .f32⟩ : BufTy).Contents (Elt Ideal)) (r : Fin 8192) (c : Fin 6144) : EReal :=
  (∑ k : Fin 768, x (ix2 r k) * w (ix3 0 k c)) * Ideal.ofBits FTy.f32 1033096506#32

open Cert.ReferenceQIdeal.Read in
/-- A place of the reference's array. -/
theorem ref_apply (x : (⟨S8192x768, .bf16⟩ : BufTy).Contents (Elt Ideal)) (w : (⟨S4x768x6144, .f32⟩ : BufTy).Contents (Elt Ideal))
    (z z' : (⟨S2048x32, .f32⟩ : BufTy).Contents (Elt Ideal)) (r j : Fin 8192) :
    val_main_v31 (F := Ideal) x w z z' (ix2 r j) = if _ : j.val % 256 < 128 then dot x w r ⟨j.val / 256 * 192 + j.val % 256, by omega⟩
      else if _ : j.val % 256 - 128 < 64 then
        if _ : j.val % 256 - 128 < 32 then
          dot x w r ⟨j.val / 256 * 192 + (128 + (j.val % 256 - 128)), by omega⟩ * z (ix2 ⟨r.val % 2048, by omega⟩ ⟨j.val % 256 - 128, by omega⟩)
            - dot x w r ⟨j.val / 256 * 192 + (128 + (32 + (j.val % 256 - 128))), by omega⟩ * z' (ix2 ⟨r.val % 2048, by omega⟩ ⟨j.val % 256 - 128, by omega⟩)
        else
          dot x w r ⟨j.val / 256 * 192 + (128 + (32 + (j.val % 256 - 128 - 32))), by omega⟩ * z (ix2 ⟨r.val % 2048, by omega⟩ ⟨j.val % 256 - 128 - 32, by omega⟩)
            + dot x w r ⟨j.val / 256 * 192 + (128 + (j.val % 256 - 128 - 32)), by omega⟩ * z' (ix2 ⟨r.val % 2048, by omega⟩ ⟨j.val % 256 - 128 - 32, by omega⟩)
      else 0 := by
  unfold dot
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]

variable (m : (ℓ : Loc nD τ sig) → Buf (Elt Ideal) ℓ) (ρ : Dev nD → Nat)

/-- Where the rows' blocks lie. -/
theorem idx0 : ∀ t : Fin cfg0.N, win0_0.index t = ![(grid0.coords t 0).val, 0] := (by decide +kernel : ∀ t : Fin grid0.N, _)
/-- Where the columns' blocks lie. -/
theorem idx1 : ∀ t : Fin cfg0.N, win0_1.index t = ![0, 0, (grid0.coords t 1).val] := (by decide +kernel : ∀ t : Fin grid0.N, _)
/-- Where the cosines' blocks lie. -/
theorem idx2 : ∀ t : Fin cfg0.N, win0_2.index t = ![(grid0.coords t 0).val % 2, 0] := (by decide +kernel : ∀ t : Fin grid0.N, _)
/-- Where the sines' blocks lie. -/
theorem idx3 : ∀ t : Fin cfg0.N, win0_3.index t = ![(grid0.coords t 0).val % 2, 0] := (by decide +kernel : ∀ t : Fin grid0.N, _)
/-- Where the result blocks lie. -/
theorem idx4 : ∀ t : Fin cfg0.N, win0_4.index t = ![(grid0.coords t 0).val, (grid0.coords t 1).val] := (by decide +kernel : ∀ t : Fin grid0.N, _)

/-- A lane of the host's table: the argument's lanes twice, then zeros. -/
def lanes (z : (⟨S2048x32, .f32⟩ : BufTy).Contents (Elt Ideal)) (k : Fin 2048) (j : Fin 128) : EReal :=
  if _ : j.val < 32 then z (ix2 k ⟨j.val, by omega⟩) else if _ : j.val - 32 < 32 then z (ix2 k ⟨j.val - 32, by omega⟩) else 0

/-- The host's table of cosines. -/
theorem V_cos (c : Dev nD) (k : Fin 2048) (j : Fin 128) : V m c main_v1 (ix2 k j) = lanes (m ((c : Thread nD τ).loc main_arg2)) k j := by
  unfold V hostOps0 hostOps0_1 hostOps0_2
  simp only [List.flatten_cons, List.flatten_nil, List.append_nil, List.cons_append, List.nil_append]
  after_results
  pointwise
  after_results_simp
  unfold lanes
  pointwise

/-- The host's table of sines. -/
theorem V_sin (c : Dev nD) (k : Fin 2048) (j : Fin 128) : V m c main_v2 (ix2 k j) = lanes (m ((c : Thread nD τ).loc main_arg3)) k j := by
  unfold V hostOps0 hostOps0_1 hostOps0_2
  simp only [List.flatten_cons, List.flatten_nil, List.append_nil, List.cons_append, List.nil_append]
  after_results
  pointwise
  after_results_simp
  unfold lanes
  pointwise

/-- A column of the host's widened weights which is not padding. -/
theorem V_weights (c : Dev nD) (k : Fin 768) (j : Fin 8192) (h : j.val % 256 < 192) :
    V m c main_v6 (ix3 0 k j) = (m ((c : Thread nD τ).loc main_arg1)) (ix3 0 k ⟨j.val / 256 * 192 + j.val % 256, by omega⟩) := by
  unfold V hostOps0 hostOps0_1 hostOps0_2
  simp only [List.flatten_cons, List.flatten_nil, List.append_nil, List.cons_append, List.nil_append]
  after_results
  simp only [StableHlo.TRef.toBuf, StableHlo.TRef.ofBuf, castRfl]
  have hj : j.val / 256 < 32 ∧ j.val % 256 < 192 := ⟨by omega, h⟩
  pointwise
  rw [dif_pos hj]

/-- The staged rows. -/
theorem iblk0_apply (c : Dev nD) (t : Fin cfg0.N) (r : Fin 1024) (k : Fin 768) (hr : (grid0.coords t 0).val * 1024 + r.val < 8192) :
    iblk m c 0 t (ix2 r k) = (m ((c : Thread nD τ).loc main_arg0)) (ix2 (⟨(grid0.coords t 0).val * 1024 + r, hr⟩ : Fin 8192) k) := by
  rw [← V_main_arg0 m c]
  blk_simp [iblk, idx0]
  refine congrArg (V m c main_arg0) ?_
  blk_ext [idx0]

/-- The staged columns. -/
theorem iblk1_apply (c : Dev nD) (t : Fin cfg0.N) (k : Fin 768) (j : Fin 512) (hj : (grid0.coords t 1).val * 512 + j.val < 8192) :
    iblk m c 1 t (ix3 0 k j) = V m c main_v6 (ix3 0 k ⟨(grid0.coords t 1).val * 512 + j, hj⟩) := by
  blk_simp [iblk, idx1]
  refine congrArg (V m c main_v6) ?_
  blk_ext [idx1]

/-- The staged cosines. -/
theorem iblk2_apply (c : Dev nD) (t : Fin cfg0.N) (r : Fin 1024) (k : Fin 128) :
    iblk m c 2 t (ix2 r k) = lanes (m ((c : Thread nD τ).loc main_arg2)) ⟨((grid0.coords t 0).val * 1024 + r) % 2048, by omega⟩ k := by
  rw [← V_cos m c]
  blk_simp [iblk, idx2]
  refine congrArg (V m c main_v1) ?_
  blk_ext [idx2]

/-- The staged sines. -/
theorem iblk3_apply (c : Dev nD) (t : Fin cfg0.N) (r : Fin 1024) (k : Fin 128) :
    iblk m c 3 t (ix2 r k) = lanes (m ((c : Thread nD τ).loc main_arg3)) ⟨((grid0.coords t 0).val * 1024 + r) % 2048, by omega⟩ k := by
  rw [← V_sin m c]
  blk_simp [iblk, idx3]
  refine congrArg (V m c main_v2) ?_
  blk_ext [idx3]

/-- A product of the staged rows and columns is one of the whole arrays'. -/
theorem acc_eq (c : Dev nD) (t : Fin cfg0.N) (r : Fin 1024) (j : Fin 512) (hr : (grid0.coords t 0).val * 1024 + r.val < 8192)
    (d : Fin 6144) (h : j.val % 256 < 192) (hd : d.val = ((grid0.coords t 1).val * 512 + j.val) / 256 * 192 + j.val % 256) :
    acc (iblk m c 0 t) (iblk m c 1 t) r j = dot (m ((c : Thread nD τ).loc main_arg0)) (m ((c : Thread nD τ).loc main_arg1)) (⟨(grid0.coords t 0).val * 1024 + r, hr⟩ : Fin 8192) d := by
  have h1 : (grid0.coords t 1).val < 16 := (grid0.coords t 1).isLt
  refine congrArg (fun s : EReal => s * Ideal.ofBits FTy.f32 1033096506#32) (Finset.sum_congr rfl fun k _ => congrArg₂ (· * ·) (iblk0_apply m c t r k hr)
    ((iblk1_apply m c t k j (by omega)).trans ((V_weights m c k _ (by simp only; omega)).trans ?_)))
  refine congrArg (fun i => (m ((c : Thread nD τ).loc main_arg1)) (ix3 0 k i)) (Fin.ext ?_)
  simp only
  omega

/-- A place of a block of the result is the reference's. -/
theorem point_eq (c : Dev nD) (t : Fin cfg0.N) (r : Fin 1024) (j : Fin 512) (hr : (grid0.coords t 0).val * 1024 + r.val < 8192)
    (hj : (grid0.coords t 1).val * 512 + j.val < 8192) : out0_4 (iblk m c 0 t) (iblk m c 1 t) (iblk m c 2 t) (iblk m c 3 t) (ix2 r j)
    = Cert.ReferenceQIdeal.Read.val_main_v31 (F := Ideal) (m ((c : Thread nD τ).loc main_arg0)) (m ((c : Thread nD τ).loc main_arg1)) (m ((c : Thread nD τ).loc main_arg2)) (m ((c : Thread nD τ).loc main_arg3))
      (ix2 (⟨(grid0.coords t 0).val * 1024 + r, hr⟩ : Fin 8192) ⟨(grid0.coords t 1).val * 512 + j, hj⟩) := by
  rw [out_apply, ref_apply, blockVal]
  have hm : ((grid0.coords t 1).val * 512 + j.val) % 256 = j.val % 256 := by omega
  by_cases h : j.val % 256 < 128
  · rw [dif_pos h, dif_pos (by show ((grid0.coords t 1).val * 512 + j.val) % 256 < 128; omega)]
    exact acc_eq m c t r j hr _ (by omega) (by simp only; omega)
  rw [dif_neg h, dif_neg (by show ¬ ((grid0.coords t 1).val * 512 + j.val) % 256 < 128; omega), rope, iblk2_apply, iblk3_apply]
  unfold lanes
  by_cases h32 : j.val % 256 - 128 < 32
  · rw [dif_pos h32, dif_pos h32, if_pos h32, dif_pos (by show ((grid0.coords t 1).val * 512 + j.val) % 256 - 128 < 64; omega),
      dif_pos (by show ((grid0.coords t 1).val * 512 + j.val) % 256 - 128 < 32; omega), zero_sub, EReal.neg_mul, ← sub_eq_add_neg]
    refine congrArg₂ (· - ·) (congrArg₂ (· * ·) (acc_eq m c t r _ hr _ (by simp only; omega) (by simp only; omega)) ?_)
      (congrArg₂ (· * ·) (acc_eq m c t r _ hr _ (by simp only; omega) (by simp only; omega)) ?_)
    · exact congrArg (fun i => (m ((c : Thread nD τ).loc main_arg2)) (ix2 _ i)) (Fin.ext (by simp only; omega))
    · exact congrArg (fun i => (m ((c : Thread nD τ).loc main_arg3)) (ix2 _ i)) (Fin.ext (by simp only; omega))
  by_cases h64 : j.val % 256 - 128 < 64
  · rw [dif_neg h32, dif_neg h32, if_neg h32, dif_pos (by show j.val % 256 - 128 - 32 < 32; omega), dif_pos (by show j.val % 256 - 128 - 32 < 32; omega),
      dif_pos (by show ((grid0.coords t 1).val * 512 + j.val) % 256 - 128 < 64; omega),
      dif_neg (by show ¬ ((grid0.coords t 1).val * 512 + j.val) % 256 - 128 < 32; omega)]
    refine congrArg₂ (· + ·) (congrArg₂ (· * ·) (acc_eq m c t r _ hr _ (by simp only; omega) (by simp only; omega)) ?_)
      (congrArg₂ (· * ·) (acc_eq m c t r _ hr _ (by simp only; omega) (by simp only; omega)) ?_)
    · exact congrArg (fun i => (m ((c : Thread nD τ).loc main_arg2)) (ix2 _ i)) (Fin.ext (by simp only; omega))
    · exact congrArg (fun i => (m ((c : Thread nD τ).loc main_arg3)) (ix2 _ i)) (Fin.ext (by simp only; omega))
  rw [dif_neg h32, dif_neg h32, if_neg h32, dif_neg (by show ¬ j.val % 256 - 128 - 32 < 32; omega), dif_neg (by show ¬ j.val % 256 - 128 - 32 < 32; omega),
    dif_neg (by show ¬ ((grid0.coords t 1).val * 512 + j.val) % 256 - 128 < 64; omega), mul_zero, mul_zero, add_zero]

/-- The result array after the run is the reference's. -/
theorem final (c : Dev nD) : (dats m 0 c).arrAt 4 cfg0.N
    = Cert.ReferenceQIdeal.Read.val_main_v31 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have h0 : (grid0.coords t 0).val < 8 := (grid0.coords t 0).isLt
  have h1 : (grid0.coords t 1).val < 16 := (grid0.coords t 1).isLt
  have hr : (grid0.coords t 0).val * 1024 + (y 0).val < 8192 := by have : (y 0).val < 1024 := (y 0).isLt; omega
  have hj : (grid0.coords t 1).val * 512 + (y 1).val < 8192 := by have : (y 1).val < 512 := (y 1).isLt; omega
  have he : ((View.whole main_v7).slice (win0_4.rect t)).emb (ix2 (⟨(y 0).val, (y 0).isLt⟩ : Fin 1024) (⟨(y 1).val, (y 1).isLt⟩ : Fin 512))
      = (ix2 (⟨_, hr⟩ : Fin 8192) (⟨_, hj⟩ : Fin 8192) : S8192x8192.Idx) := by
    blk_ext [idx4]
  rw [eta2 (a := 1024) (b := 512) y, he]
  exact point_eq m c t _ _ hr hj

/-- The call and its reference end with the same result. -/
theorem value : algebraic_KernelQIdeal_ReferenceQIdeal := fun m ρ m' ρ' _ hag =>
  ⟨fun c => Cert.ReferenceQIdeal.Read.val_main_v31 (F := Ideal) (m ((c : Thread nD τ).loc main_arg0)) (m ((c : Thread nD τ).loc main_arg1)) (m ((c : Thread nD τ).loc main_arg2)) (m ((c : Thread nD τ).loc main_arg3)),
    (θ_run _ _ _).mono (fun _ h c => ⟨(h c).1.trans (final m c), (h c).2⟩) (run_blocks m ρ),
    (θ_run _ _ _).mono (fun _ h c => ⟨(h c).1.trans ((Cert.ReferenceQIdeal.Read.val_main_v31_eq _ _).trans
        (by rw [(hag c).1, (hag c).2.1, (hag c).2.2.1, (hag c).2.2.2])), (h c).2⟩)
      (Cert.ReferenceQIdeal.Value.run m' ρ')⟩

end Cert.Q

end
-- ==== Proof.Kcat.lean ====
/- The keys of the attention: the products of the latent rows, joined with the rope key. -/
module

public import proofs.«01_k».proof.Defs
public import proofs.«01_k».proof.Proof.Common
public import proofs.«01_k».proof.Proof.Gen.KernelKcatIdeal.Value
public import proofs.«01_k».proof.Proof.Gen.ReferenceKcatIdeal.Run
public import proofs.«01_k».proof.Proof.Gen.ReferenceKcatIdeal.Read
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kcat

open Cert.KernelKcatIdeal Cert.KernelKcatIdeal.Gen Cert.KernelKcatIdeal.Value Cert.Common Idealize.ShloMosaic Idealize.ShloMosaic.TcCoe Idealize.SL.Sem

/-- A head's part of a block of the keys: 128 products, then the rope key. -/
def blockVal (x : Vec Ideal S1024x512 .bf16) (w : Vec Ideal S1x512x512 .bf16) (z : Vec Ideal S1024x128 .bf16) (r c : Fin 1024) : EReal :=
  if _ : c.val % 256 < 128 then ∑ k : Fin 512, x (ix2 r k) * w (ix3 0 k ⟨c.val / 256 * 128 + c.val % 256, by omega⟩)
  else z (ix2 r ⟨c.val % 256 - 128, by omega⟩)

/-- A head's products. -/
theorem pay2_apply (x : Vec Ideal S1024x512 .bf16) (w : Vec Ideal S1x512x512 .bf16) (r : Fin 1024) (j : Fin 128) :
    k0_pay2 x w (ix2 r j) = ∑ k : Fin 512, x (ix2 r k) * w (ix3 0 k ⟨0 + j, by omega⟩) := by
  simp only [zero_add]
  pointwise [k0_pay2, k0_pay1]
/-- The next head's. -/
theorem pay3_apply (x : Vec Ideal S1024x512 .bf16) (w : Vec Ideal S1x512x512 .bf16) (r : Fin 1024) (j : Fin 128) :
    k0_pay3 x w (ix2 r j) = ∑ k : Fin 512, x (ix2 r k) * w (ix3 0 k ⟨128 + j, by omega⟩) := by
  pointwise [k0_pay3, k0_pay1]
/-- The third head's. -/
theorem pay4_apply (x : Vec Ideal S1024x512 .bf16) (w : Vec Ideal S1x512x512 .bf16) (r : Fin 1024) (j : Fin 128) :
    k0_pay4 x w (ix2 r j) = ∑ k : Fin 512, x (ix2 r k) * w (ix3 0 k ⟨256 + j, by omega⟩) := by
  pointwise [k0_pay4, k0_pay1]
/-- The fourth head's. -/
theorem pay5_apply (x : Vec Ideal S1024x512 .bf16) (w : Vec Ideal S1x512x512 .bf16) (r : Fin 1024) (j : Fin 128) :
    k0_pay5 x w (ix2 r j) = ∑ k : Fin 512, x (ix2 r k) * w (ix3 0 k ⟨384 + j, by omega⟩) := by
  pointwise [k0_pay5, k0_pay1]

section Tiles
variable (x : Vec Ideal S1024x512 .bf16) (w : Vec Ideal S1x512x512 .bf16) (z : Vec Ideal S1024x128 .bf16)

/-- Where a head's products are stored the block has them. -/
theorem tile_nope (q o : ℕ) (hq : q % 128 = 0) (hq' : q < 512) (ho : o = 2 * q) (p : S1024x128.Idx → Elt Ideal .bf16)
    (hp : ∀ (r : Fin 1024) (j : Fin 128), p (ix2 r j) = ∑ k : Fin 512, x (ix2 r k) * w (ix3 0 k ⟨q + j, by omega⟩)) (r c : Fin 1024) :
    View.TileAt (Val := Elt Ideal) (S := S1024x1024) (e := .bf16) (ix2 r c) ![0, o] ![1024, 128] p (blockVal x w z r c) := by
  intro y hy
  have h0 : r.val = 0 + (y 0).val := hy 0
  have h1 : c.val = o + (y 1).val := hy 1
  have hb : (y 1).val < 128 := (y 1).isLt
  have hr : (⟨(y 0).val, (y 0).isLt⟩ : Fin 1024) = r := Fin.ext (by simp only; omega)
  refine (congrArg p (eta2 (a := 1024) (b := 128) y)).trans ?_
  rw [hp, hr, blockVal, dif_pos (by omega)]
  refine Finset.sum_congr rfl fun k _ => congrArg (fun i => x (ix2 r k) * w (ix3 0 k i)) (Fin.ext ?_)
  show q + (y 1).val = c.val / 256 * 128 + c.val % 256
  omega

/-- Where the rope key is stored the block has it. -/
theorem tile_rope (o : ℕ) (ho : o % 256 = 128) (p : S1024x128.Idx → Elt Ideal .bf16)
    (hp : ∀ (r : Fin 1024) (j : Fin 128), p (ix2 r j) = z (ix2 r j)) (r c : Fin 1024) :
    View.TileAt (Val := Elt Ideal) (S := S1024x1024) (e := .bf16) (ix2 r c) ![0, o] ![1024, 128] p (blockVal x w z r c) := by
  intro y hy
  have h0 : r.val = 0 + (y 0).val := hy 0
  have h1 : c.val = o + (y 1).val := hy 1
  have hb : (y 1).val < 128 := (y 1).isLt
  have hr : (⟨(y 0).val, (y 0).isLt⟩ : Fin 1024) = r := Fin.ext (by simp only; omega)
  refine (congrArg p (eta2 (a := 1024) (b := 128) y)).trans ?_
  rw [hp, hr, blockVal, dif_neg (by omega)]
  refine congrArg (fun i => z (ix2 r i)) (Fin.ext ?_)
  show (y 1).val = c.val % 256 - 128
  omega

/-- What a grid point leaves in its block. -/
theorem out_apply (r c : Fin 1024) : out0_3 x w z (ix2 r c) = blockVal x w z r c := by
  have e0 : View.ld x r0_0 = x := View.ld_unit_zero (by decide) _ x
  have e1 : View.ld w r0_1 = w := View.ld_unit_zero (by decide) _ w
  have e2 : View.ld z r0_2 = z := View.ld_unit_zero (by decide) _ z
  unfold out0_3
  rw [e0, e1, e2]
  refine View.canon_eq_of_allAt _ _ _ (cover0_3 _ _ _ _ _ _ _ _ _) ?_
  refine View.allAt_cons_unit _ _ _ _ _ ?_ ?_
  · exact tile_rope x w z 896 (by norm_num) _ (fun _ _ => rfl) r c
  refine View.allAt_cons_unit _ _ _ _ _ ?_ ?_
  · exact tile_nope x w z 384 768 (by norm_num) (by norm_num) (by norm_num) _ (pay5_apply x w) r c
  refine View.allAt_cons_unit _ _ _ _ _ ?_ ?_
  · exact tile_rope x w z 640 (by norm_num) _ (fun _ _ => rfl) r c
  refine View.allAt_cons_unit _ _ _ _ _ ?_ ?_
  · exact tile_nope x w z 256 512 (by norm_num) (by norm_num) (by norm_num) _ (pay4_apply x w) r c
  refine View.allAt_cons_unit _ _ _ _ _ ?_ ?_
  · exact tile_rope x w z 384 (by norm_num) _ (fun _ _ => rfl) r c
  refine View.allAt_cons_unit _ _ _ _ _ ?_ ?_
  · exact tile_nope x w z 128 256 (by norm_num) (by norm_num) (by norm_num) _ (pay3_apply x w) r c
  refine View.allAt_cons_unit _ _ _ _ _ ?_ ?_
  · exact tile_rope x w z 128 (by norm_num) _ (fun _ _ => rfl) r c
  refine View.allAt_cons_unit _ _ _ _ _ ?_ ?_
  · exact tile_nope x w z 0 0 (by norm_num) (by norm_num) (by norm_num) _ (pay2_apply x w) r c
  exact View.allAt_nil _ _

end Tiles

open Cert.ReferenceKcatIdeal.Read in
/-- The reference's result. -/
theorem ref_apply (x : (⟨S8192x512, .bf16⟩ : BufTy).Contents (Elt Ideal)) (w : (⟨S4x512x8192, .f32⟩ : BufTy).Contents (Elt Ideal))
    (z : (⟨S8192x128, .bf16⟩ : BufTy).Contents (Elt Ideal)) (r j : Fin 8192) :
    val_main_v10 (F := Ideal) x w z (ix2 r j) = if _ : j.val % 256 < 128 then ∑ k : Fin 512, x (ix2 r k) * w (ix3 0 k j)
      else z (ix2 r ⟨j.val % 256 - 128, by omega⟩) := by
  pointwise [val_main_v10, val_main_v9, val_main_v8, val_main_v7, val_main_v6, val_main_v5, val_main_v4, val_main_v3, val_main_v2, val_main_v1, val_main_v0]

variable (m : (ℓ : Loc nD τ sig) → Buf (Elt Ideal) ℓ)

/-- Where the row blocks lie. -/
theorem idx0 : ∀ t : Fin cfg0.N, win0_0.index t = ![(grid0.coords t 0).val, 0] := (by decide +kernel : ∀ t : Fin grid0.N, _)
/-- Where the column blocks lie. -/
theorem idx1 : ∀ t : Fin cfg0.N, win0_1.index t = ![0, 0, (grid0.coords t 1).val] := (by decide +kernel : ∀ t : Fin grid0.N, _)
/-- Where the rope key's blocks lie. -/
theorem idx2 : ∀ t : Fin cfg0.N, win0_2.index t = ![(grid0.coords t 0).val, 0] := (by decide +kernel : ∀ t : Fin grid0.N, _)
/-- Where the result blocks lie. -/
theorem idx3 : ∀ t : Fin cfg0.N, win0_3.index t = ![(grid0.coords t 0).val, (grid0.coords t 1).val] := (by decide +kernel : ∀ t : Fin grid0.N, _)

/-- The weights as the call reads them. -/
theorem V_weights (c : Dev nD) (k : Fin 512) (j : Fin 4096) : V m c main_v3 (ix3 0 k j) = m ((c : Thread nD τ).loc main_arg1) (ix3 0 k ⟨j.val / 128 * 256 + j.val % 128, by omega⟩) := by
  unfold V hostOps0
  after_results
  pointwise

/-- The staged rows. -/
theorem iblk0_apply (c : Dev nD) (t : Fin cfg0.N) (r : Fin 1024) (k : Fin 512) (hr : (grid0.coords t 0).val * 1024 + r.val < 8192) :
    iblk m c 0 t (ix2 r k) = m ((c : Thread nD τ).loc main_arg0) (ix2 ⟨(grid0.coords t 0).val * 1024 + r, hr⟩ k) := by
  rw [← V_main_arg0 m c]
  blk_simp [iblk, idx0]
  refine congrArg (V m c main_arg0) ?_
  blk_ext [idx0]

/-- The staged columns. -/
theorem iblk1_apply (c : Dev nD) (t : Fin cfg0.N) (k : Fin 512) (j : Fin 512) (hj : (grid0.coords t 1).val * 512 + j.val < 4096) :
    iblk m c 1 t (ix3 0 k j) = m ((c : Thread nD τ).loc main_arg1) (ix3 0 k ⟨((grid0.coords t 1).val * 512 + j.val) / 128 * 256 + ((grid0.coords t 1).val * 512 + j.val) % 128, by omega⟩) := by
  refine Eq.trans ?_ (V_weights m c k ⟨(grid0.coords t 1).val * 512 + j, hj⟩)
  blk_simp [iblk, idx1]
  refine congrArg (V m c main_v3) ?_
  blk_ext [idx1]

/-- The staged rope keys. -/
theorem iblk2_apply (c : Dev nD) (t : Fin cfg0.N) (r : Fin 1024) (k : Fin 128) (hr : (grid0.coords t 0).val * 1024 + r.val < 8192) :
    iblk m c 2 t (ix2 r k) = m ((c : Thread nD τ).loc main_arg2) (ix2 ⟨(grid0.coords t 0).val * 1024 + r, hr⟩ k) := by
  rw [← V_main_arg2 m c]
  blk_simp [iblk, idx2]
  refine congrArg (V m c main_arg2) ?_
  blk_ext [idx2]

/-- A place of a block of the result is the reference's. -/
theorem point_eq (c : Dev nD) (t : Fin cfg0.N) (r j : Fin 1024) (hr : (grid0.coords t 0).val * 1024 + r.val < 8192)
    (hj : (grid0.coords t 1).val * 1024 + j.val < 8192) : out0_3 (iblk m c 0 t) (iblk m c 1 t) (iblk m c 2 t) (ix2 r j)
    = Cert.ReferenceKcatIdeal.Read.val_main_v10 (F := Ideal) (m ((c : Thread nD τ).loc main_arg0)) (m ((c : Thread nD τ).loc main_arg1)) (m ((c : Thread nD τ).loc main_arg2))
      (ix2 ⟨(grid0.coords t 0).val * 1024 + r, hr⟩ ⟨(grid0.coords t 1).val * 1024 + j, hj⟩) := by
  rw [out_apply, ref_apply, blockVal]
  by_cases h : j.val % 256 < 128
  · rw [dif_pos h, dif_pos (by show ((grid0.coords t 1).val * 1024 + j.val) % 256 < 128; omega)]
    refine Finset.sum_congr rfl fun k _ => congrArg₂ (· * ·) (iblk0_apply m c t _ k hr) ((iblk1_apply m c t k _ (by simp only; omega)).trans ?_)
    refine congrArg (fun i => m ((c : Thread nD τ).loc main_arg1) (ix3 0 k i)) (Fin.ext ?_)
    simp only
    omega
  · rw [dif_neg h, dif_neg (by show ¬ ((grid0.coords t 1).val * 1024 + j.val) % 256 < 128; omega), iblk2_apply m c t r _ hr]
    refine congrArg (fun i => m ((c : Thread nD τ).loc main_arg2) (ix2 ⟨(grid0.coords t 0).val * 1024 + r, hr⟩ i)) (Fin.ext ?_)
    simp only
    omega

/-- The result array after the run is the reference's. -/
theorem final (c : Dev nD) : (dats m 0 c).arrAt 3 cfg0.N
    = Cert.ReferenceKcatIdeal.Read.val_main_v10 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have h0 : (grid0.coords t 0).val < 8 := (grid0.coords t 0).isLt
  have h1 : (grid0.coords t 1).val < 8 := (grid0.coords t 1).isLt
  have hr : (grid0.coords t 0).val * 1024 + (y 0).val < 8192 := by have : (y 0).val < 1024 := (y 0).isLt; omega
  have hj : (grid0.coords t 1).val * 1024 + (y 1).val < 8192 := by have : (y 1).val < 1024 := (y 1).isLt; omega
  have he : ((View.whole main_v4).slice (win0_3.rect t)).emb (ix2 (⟨(y 0).val, (y 0).isLt⟩ : Fin 1024) (⟨(y 1).val, (y 1).isLt⟩ : Fin 1024))
      = (ix2 (⟨_, hr⟩ : Fin 8192) (⟨_, hj⟩ : Fin 8192) : S8192x8192.Idx) := by
    blk_ext [idx3]
  rw [eta2 (a := 1024) (b := 1024) y, he]
  exact point_eq m c t _ _ hr hj

/-- The call and its reference end with the same result. -/
theorem value : algebraic_KernelKcatIdeal_ReferenceKcatIdeal := fun m ρ m' ρ' _ hag =>
  ⟨fun c => Cert.ReferenceKcatIdeal.Read.val_main_v10 (F := Ideal) (m ((c : Thread nD τ).loc main_arg0)) (m ((c : Thread nD τ).loc main_arg1)) (m ((c : Thread nD τ).loc main_arg2)),
    (θ_run _ _ _).mono (fun _ h c => ⟨(h c).1.trans (final m c), (h c).2⟩) (run_blocks m ρ),
    (θ_run _ _ _).mono (fun _ h c => ⟨(h c).1.trans ((Cert.ReferenceKcatIdeal.Read.val_main_v10_eq _ _ _).trans
        (by rw [(hag c).1, (hag c).2.1, (hag c).2.2])), (h c).2⟩)
      (Cert.ReferenceKcatIdeal.Value.run m' ρ')⟩

end Cert.Kcat

end
-- ==== Proof.V.lean ====
/- The values of the attention out of the latent rows. -/
module

public import proofs.«01_k».proof.Defs
public import proofs.«01_k».proof.Proof.Common
public import proofs.«01_k».proof.Proof.Gen.KernelVIdeal.Value
public import proofs.«01_k».proof.Proof.Gen.ReferenceVIdeal.Run
public import proofs.«01_k».proof.Proof.Gen.ReferenceVIdeal.Read
public import Idealize.ShloMosaic.Lib.Pipeline.ValueKit.Geometry
public import Idealize.ShloMosaic.Lib.Pipeline.ValueKit.Acc

@[expose] public section

set_option maxRecDepth 16384

noncomputable section

namespace Cert.V

open Cert.KernelVIdeal Cert.KernelVIdeal.Gen Cert.KernelVIdeal.Value Cert.Common Idealize.ShloMosaic Idealize.ShloMosaic.TcCoe Idealize.SL.Sem

/-- A block of the result: the products of a block of rows and a block of columns. -/
theorem pay_apply (x : Vec Ideal S1024x512 .bf16) (w : Vec Ideal S1x512x512 .bf16) (r : Fin 1024) (j : Fin 512) :
    k0_pay1 x w (ix2 r j) = ∑ k : Fin 512, x (ix2 r k) * w (ix3 0 k j) := by
  pointwise [k0_pay1]

open Cert.ReferenceVIdeal.Read in
/-- The reference's result. -/
theorem ref_apply (x : (⟨S8192x512, .bf16⟩ : BufTy).Contents (Elt Ideal)) (w : (⟨S4x512x8192, .f32⟩ : BufTy).Contents (Elt Ideal)) (r : Fin 8192) (j : Fin 4096) :
    val_main_v7 (F := Ideal) x w (ix2 r j) = ∑ k : Fin 512, x (ix2 r k) * w (ix3 0 k ⟨j.val / 128 * 256 + (128 + j.val % 128), by omega⟩) := by
  pointwise [val_main_v7, val_main_v6, val_main_v5, val_main_v4, val_main_v3, val_main_v2, val_main_v1, val_main_v0]

variable (m : (ℓ : Loc nD τ sig) → Buf (Elt Ideal) ℓ)

/-- Where the row blocks lie. -/
theorem idx0 : ∀ t : Fin cfg0.N, win0_0.index t = ![(grid0.coords t 0).val, 0] := (by decide +kernel : ∀ t : Fin grid0.N, _)
/-- Where the column blocks lie. -/
theorem idx1 : ∀ t : Fin cfg0.N, win0_1.index t = ![0, 0, (grid0.coords t 1).val] := (by decide +kernel : ∀ t : Fin grid0.N, _)
/-- Where the result blocks lie. -/
theorem idx2 : ∀ t : Fin cfg0.N, win0_2.index t = ![(grid0.coords t 0).val, (grid0.coords t 1).val] := (by decide +kernel : ∀ t : Fin grid0.N, _)

/-- The weights as the call reads them. -/
theorem V_weights (c : Dev nD) (k : Fin 512) (j : Fin 4096) : V m c main_v3 (ix3 0 k j) = m ((c : Thread nD τ).loc main_arg1) (ix3 0 k ⟨j.val / 128 * 256 + (128 + j.val % 128), by omega⟩) := by
  unfold V hostOps0
  after_results
  pointwise

/-- The staged rows. -/
theorem iblk0_apply (c : Dev nD) (t : Fin cfg0.N) (r : Fin 1024) (k : Fin 512) (hr : (grid0.coords t 0).val * 1024 + r.val < 8192) :
    iblk m c 0 t (ix2 r k) = m ((c : Thread nD τ).loc main_arg0) (ix2 ⟨(grid0.coords t 0).val * 1024 + r, hr⟩ k) := by
  rw [← V_main_arg0 m c]
  blk_simp [iblk, idx0]
  refine congrArg (V m c main_arg0) ?_
  blk_ext [idx0]

/-- The staged columns. -/
theorem iblk1_apply (c : Dev nD) (t : Fin cfg0.N) (k : Fin 512) (j : Fin 512) (hj : (grid0.coords t 1).val * 512 + j.val < 4096) :
    iblk m c 1 t (ix3 0 k j) = m ((c : Thread nD τ).loc main_arg1) (ix3 0 k ⟨((grid0.coords t 1).val * 512 + j.val) / 128 * 256 + (128 + ((grid0.coords t 1).val * 512 + j.val) % 128), by omega⟩) := by
  refine Eq.trans ?_ (V_weights m c k ⟨(grid0.coords t 1).val * 512 + j, hj⟩)
  blk_simp [iblk, idx1]
  refine congrArg (V m c main_v3) ?_
  blk_ext [idx1]

/-- A place of a block of the result is the reference's. -/
theorem point_eq (c : Dev nD) (t : Fin cfg0.N) (r : Fin 1024) (j : Fin 512) (hr : (grid0.coords t 0).val * 1024 + r.val < 8192)
    (hj : (grid0.coords t 1).val * 512 + j.val < 4096) : k0_pay1 (iblk m c 0 t) (iblk m c 1 t) (ix2 r j)
    = Cert.ReferenceVIdeal.Read.val_main_v7 (F := Ideal) (m ((c : Thread nD τ).loc main_arg0)) (m ((c : Thread nD τ).loc main_arg1))
      (ix2 ⟨(grid0.coords t 0).val * 1024 + r, hr⟩ ⟨(grid0.coords t 1).val * 512 + j, hj⟩) := by
  rw [pay_apply, ref_apply]
  exact Finset.sum_congr rfl fun k _ => congrArg₂ (· * ·) (iblk0_apply m c t _ k hr) (iblk1_apply m c t k _ hj)

/-- The result array after the run is the reference's. -/
theorem final (c : Dev nD) : (dats m 0 c).arrAt 2 cfg0.N
    = Cert.ReferenceVIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have h0 : (grid0.coords t 0).val < 8 := (grid0.coords t 0).isLt
  have h1 : (grid0.coords t 1).val < 8 := (grid0.coords t 1).isLt
  have hr : (grid0.coords t 0).val * 1024 + (y 0).val < 8192 := by have : (y 0).val < 1024 := (y 0).isLt; omega
  have hj : (grid0.coords t 1).val * 512 + (y 1).val < 4096 := by have : (y 1).val < 512 := (y 1).isLt; omega
  have he : ((View.whole main_v4).slice (win0_2.rect t)).emb (ix2 (⟨(y 0).val, (y 0).isLt⟩ : Fin 1024) (⟨(y 1).val, (y 1).isLt⟩ : Fin 512))
      = (ix2 (⟨_, hr⟩ : Fin 8192) (⟨_, hj⟩ : Fin 4096) : S8192x4096.Idx) := by
    blk_ext [idx2]
  rw [eta2 (a := 1024) (b := 512) y, he]
  exact point_eq m c t _ _ hr hj

/-- The call and its reference end with the same result. -/
theorem value : algebraic_KernelVIdeal_ReferenceVIdeal := fun m ρ m' ρ' _ hag =>
  ⟨fun c => Cert.ReferenceVIdeal.Read.val_main_v7 (F := Ideal) (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans ((Cert.ReferenceVIdeal.Read.val_main_v7_eq _ _).trans
        (by rw [(hag c).1, (hag c).2])), (h c).2⟩)
      (Cert.ReferenceVIdeal.Value.run m' ρ')⟩

end Cert.V

end
-- ==== Proof.Final.lean ====
/- The last norm of the prompts' residual stream. -/
module

public import proofs.«01_k».proof.Defs
public import proofs.«01_k».proof.Proof.Common
public import proofs.«01_k».proof.Proof.Gen.KernelFinalIdeal.Value
public import proofs.«01_k».proof.Proof.Gen.ReferenceFinalIdeal.Run
public import proofs.«01_k».proof.Proof.Gen.ReferenceFinalIdeal.Read
public import Idealize.ShloMosaic.Lib.Pipeline.ValueKit.Geometry
public import Idealize.ShloMosaic.Lib.Pipeline.ValueKit.Acc

@[expose] public section

set_option maxRecDepth 16384

noncomputable section

namespace Cert.Final

open Cert.KernelFinalIdeal Cert.KernelFinalIdeal.Gen Cert.KernelFinalIdeal.Value Cert.Common Idealize.ShloMosaic Idealize.ShloMosaic.TcCoe Idealize.SL.Sem

/-- A block of the result: rows scaled by the root of their mean square, times the gain. -/
theorem pay_apply (x : Vec Ideal S256x4096 .f32) (w : Vec Ideal S1x4096 .f32) (r : Fin 256) (j : Fin 4096) :
    k0_pay1 x w (ix2 r j) = x (ix2 r j) * Ideal.rsqrt (Ideal.div (∑ k : Fin 4096, x (ix2 r k) * x (ix2 r k)) (Ideal.ofBits FTy.f32 1166016512#32)
      + Ideal.ofBits FTy.f32 897988541#32) * w (ix2 0 j) := by
  pointwise [k0_pay1]

open Cert.ReferenceFinalIdeal.Read in
/-- The reference's result. -/
theorem ref_apply (x : (⟨S8192x4096, .f32⟩ : BufTy).Contents (Elt Ideal)) (w : (⟨S4096, .f32⟩ : BufTy).Contents (Elt Ideal)) (r : Fin 8192) (j : Fin 4096) :
    val_main_v12 (F := Ideal) x w (ix2 r j) = x (ix2 r j) * Ideal.rsqrt (Ideal.div (∑ k : Fin 4096, x (ix2 r k) * x (ix2 r k)) (Ideal.ofBits FTy.f32 1166016512#32)
      + Ideal.ofBits FTy.f32 897988541#32) * w (ix1 j) := by
  have hz : ∀ h, val_main_cst (F := Ideal) (Shape.Idx.first h) = 0 := fun h => by pointwise [val_main_cst]
  have h1 : val_main_v1 (F := Ideal) x (ix1 r) = ∑ k : Fin 4096, x (ix2 r k) * x (ix2 r k) := by
    rw [val_main_v1_apply, hz]
    have hi : ∀ k : Fin 4096, idx_main_v1 (ix1 r) k = ix2 r k := fun k => funext fun a => by match a with | ⟨0, _⟩ => rfl | ⟨1, _⟩ => rfl
    pointwise [val_main_v0, hi]
  rw [← h1]
  pointwise [val_main_v12, val_main_v11, val_main_v10, val_main_v9, val_main_v8, val_main_v7, val_main_v6, val_main_v5, val_main_v4, val_main_v3,
    val_main_v2, val_main_cst_0, val_main_cst_1]

variable (m : (ℓ : Loc nD τ sig) → Buf (Elt Ideal) ℓ)

/-- Where the row blocks lie. -/
theorem idx0 : ∀ t : Fin cfg0.N, win0_0.index t = ![(grid0.coords t 0).val, 0] := (by decide +kernel : ∀ t : Fin grid0.N, _)
/-- The gain is one block. -/
theorem idx1 : ∀ t : Fin cfg0.N, win0_1.index t = ![0, 0] := (by decide +kernel : ∀ t : Fin grid0.N, _)
/-- Where the result blocks lie. -/
theorem idx2 : ∀ t : Fin cfg0.N, win0_2.index t = ![(grid0.coords t 0).val, 0] := (by decide +kernel : ∀ t : Fin grid0.N, _)

/-- The gain as the call reads it. -/
theorem V_gain (c : Dev nD) (j : Fin 4096) : V m c main_v0 (ix2 0 j) = m ((c : Thread nD τ).loc main_arg1) (ix1 j) := by
  unfold V hostOps0
  after_results
  pointwise

/-- The staged rows. -/
theorem iblk0_apply (c : Dev nD) (t : Fin cfg0.N) (r : Fin 256) (k : Fin 4096) (hr : (grid0.coords t 0).val * 256 + r.val < 8192) :
    iblk m c 0 t (ix2 r k) = m ((c : Thread nD τ).loc main_arg0) (ix2 ⟨(grid0.coords t 0).val * 256 + r, hr⟩ k) := by
  rw [← V_main_arg0 m c]
  blk_simp [iblk, idx0]
  refine congrArg (V m c main_arg0) ?_
  blk_ext [idx0]

/-- The staged gain. -/
theorem iblk1_apply (c : Dev nD) (t : Fin cfg0.N) (j : Fin 4096) : iblk m c 1 t (ix2 0 j) = m ((c : Thread nD τ).loc main_arg1) (ix1 j) := by
  rw [← V_gain m c]
  blk_simp [iblk, idx1]
  refine congrArg (V m c main_v0) ?_
  blk_ext [idx1]

/-- A place of a block of the result is the reference's. -/
theorem point_eq (c : Dev nD) (t : Fin cfg0.N) (r : Fin 256) (j : Fin 4096) (hr : (grid0.coords t 0).val * 256 + r.val < 8192) :
    k0_pay1 (iblk m c 0 t) (iblk m c 1 t) (ix2 r j)
    = Cert.ReferenceFinalIdeal.Read.val_main_v12 (F := Ideal) (m ((c : Thread nD τ).loc main_arg0)) (m ((c : Thread nD τ).loc main_arg1))
      (ix2 ⟨(grid0.coords t 0).val * 256 + r, hr⟩ j) := by
  rw [pay_apply, ref_apply, iblk0_apply m c t r j hr, iblk1_apply m c t j]
  refine congrArg (fun s : EReal => (_ : EReal) * Ideal.rsqrt (Ideal.div s _ + _) * (_ : EReal)) ?_
  exact Finset.sum_congr rfl fun k _ => congrArg₂ (· * ·) (iblk0_apply m c t r k hr) (iblk0_apply m c t r k hr)

/-- The result array after the run is the reference's. -/
theorem final (c : Dev nD) : (dats m 0 c).arrAt 2 cfg0.N
    = Cert.ReferenceFinalIdeal.Read.val_main_v12 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have h0 : (grid0.coords t 0).val < 32 := (grid0.coords t 0).isLt
  have hr : (grid0.coords t 0).val * 256 + (y 0).val < 8192 := by have : (y 0).val < 256 := (y 0).isLt; omega
  have he : ((View.whole main_v1).slice (win0_2.rect t)).emb (ix2 (⟨(y 0).val, (y 0).isLt⟩ : Fin 256) (⟨(y 1).val, (y 1).isLt⟩ : Fin 4096))
      = (ix2 (⟨_, hr⟩ : Fin 8192) (⟨(y 1).val, (y 1).isLt⟩ : Fin 4096) : S8192x4096.Idx) := by
    blk_ext [idx2]
  rw [eta2 (a := 256) (b := 4096) y, he]
  exact point_eq m c t _ _ hr

/-- The call and its reference end with the same result. -/
theorem value : algebraic_KernelFinalIdeal_ReferenceFinalIdeal := fun m ρ m' ρ' _ hag =>
  ⟨fun c => Cert.ReferenceFinalIdeal.Read.val_main_v12 (F := Ideal) (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans ((Cert.ReferenceFinalIdeal.Read.val_main_v12_eq _ _).trans
        (by rw [(hag c).1, (hag c).2])), (h c).2⟩)
      (Cert.ReferenceFinalIdeal.Value.run m' ρ')⟩

end Cert.Final

end
-- ==== Proof.FinalS.lean ====
/- The last norm of the samples' residual stream. -/
module

public import proofs.«01_k».proof.Defs
public import proofs.«01_k».proof.Proof.Common
public import proofs.«01_k».proof.Proof.Gen.KernelFinalSIdeal.Value
public import proofs.«01_k».proof.Proof.Gen.ReferenceFinalSIdeal.Run
public import proofs.«01_k».proof.Proof.Gen.ReferenceFinalSIdeal.Read
public import Idealize.ShloMosaic.Lib.Pipeline.ValueKit.Geometry
public import Idealize.ShloMosaic.Lib.Pipeline.ValueKit.Acc

@[expose] public section

set_option maxRecDepth 16384

noncomputable section

namespace Cert.FinalS

open Cert.KernelFinalSIdeal Cert.KernelFinalSIdeal.Gen Cert.KernelFinalSIdeal.Value Cert.Common Idealize.ShloMosaic Idealize.ShloMosaic.TcCoe Idealize.SL.Sem

/-- A block of the result: rows scaled by the root of their mean square, times the gain. -/
theorem pay_apply (x : Vec Ideal S128x4096 .f32) (w : Vec Ideal S1x4096 .f32) (r : Fin 128) (j : Fin 4096) :
    k0_pay1 x w (ix2 r j) = x (ix2 r j) * Ideal.rsqrt (Ideal.div (∑ k : Fin 4096, x (ix2 r k) * x (ix2 r k)) (Ideal.ofBits FTy.f32 1166016512#32)
      + Ideal.ofBits FTy.f32 897988541#32) * w (ix2 0 j) := by
  pointwise [k0_pay1]

open Cert.ReferenceFinalSIdeal.Read in
/-- The reference's result. -/
theorem ref_apply (x : (⟨S128x4096, .f32⟩ : BufTy).Contents (Elt Ideal)) (w : (⟨S4096, .f32⟩ : BufTy).Contents (Elt Ideal)) (r : Fin 128) (j : Fin 4096) :
    val_main_v12 (F := Ideal) x w (ix2 r j) = x (ix2 r j) * Ideal.rsqrt (Ideal.div (∑ k : Fin 4096, x (ix2 r k) * x (ix2 r k)) (Ideal.ofBits FTy.f32 1166016512#32)
      + Ideal.ofBits FTy.f32 897988541#32) * w (ix1 j) := by
  have hz : ∀ h, val_main_cst (F := Ideal) (Shape.Idx.first h) = 0 := fun h => by pointwise [val_main_cst]
  have h1 : val_main_v1 (F := Ideal) x (ix1 r) = ∑ k : Fin 4096, x (ix2 r k) * x (ix2 r k) := by
    rw [val_main_v1_apply, hz]
    have hi : ∀ k : Fin 4096, idx_main_v1 (ix1 r) k = ix2 r k := fun k => funext fun a => by match a with | ⟨0, _⟩ => rfl | ⟨1, _⟩ => rfl
    pointwise [val_main_v0, hi]
  rw [← h1]
  pointwise [val_main_v12, val_main_v11, val_main_v10, val_main_v9, val_main_v8, val_main_v7, val_main_v6, val_main_v5, val_main_v4, val_main_v3,
    val_main_v2, val_main_cst_0, val_main_cst_1]

variable (m : (ℓ : Loc nD τ sig) → Buf (Elt Ideal) ℓ)

/-- Where the row blocks lie. -/
theorem idx0 : ∀ t : Fin cfg0.N, win0_0.index t = ![(grid0.coords t 0).val, 0] := (by decide +kernel : ∀ t : Fin grid0.N, _)
/-- The gain is one block. -/
theorem idx1 : ∀ t : Fin cfg0.N, win0_1.index t = ![0, 0] := (by decide +kernel : ∀ t : Fin grid0.N, _)
/-- Where the result blocks lie. -/
theorem idx2 : ∀ t : Fin cfg0.N, win0_2.index t = ![(grid0.coords t 0).val, 0] := (by decide +kernel : ∀ t : Fin grid0.N, _)

/-- The gain as the call reads it. -/
theorem V_gain (c : Dev nD) (j : Fin 4096) : V m c main_v0 (ix2 0 j) = m ((c : Thread nD τ).loc main_arg1) (ix1 j) := by
  unfold V hostOps0
  after_results
  pointwise

/-- The staged rows. -/
theorem iblk0_apply (c : Dev nD) (t : Fin cfg0.N) (r : Fin 128) (k : Fin 4096) (hr : (grid0.coords t 0).val * 128 + r.val < 128) :
    iblk m c 0 t (ix2 r k) = m ((c : Thread nD τ).loc main_arg0) (ix2 ⟨(grid0.coords t 0).val * 128 + r, hr⟩ k) := by
  rw [← V_main_arg0 m c]
  blk_simp [iblk, idx0]
  refine congrArg (V m c main_arg0) ?_
  blk_ext [idx0]

/-- The staged gain. -/
theorem iblk1_apply (c : Dev nD) (t : Fin cfg0.N) (j : Fin 4096) : iblk m c 1 t (ix2 0 j) = m ((c : Thread nD τ).loc main_arg1) (ix1 j) := by
  rw [← V_gain m c]
  blk_simp [iblk, idx1]
  refine congrArg (V m c main_v0) ?_
  blk_ext [idx1]

/-- A place of a block of the result is the reference's. -/
theorem point_eq (c : Dev nD) (t : Fin cfg0.N) (r : Fin 128) (j : Fin 4096) (hr : (grid0.coords t 0).val * 128 + r.val < 128) :
    k0_pay1 (iblk m c 0 t) (iblk m c 1 t) (ix2 r j)
    = Cert.ReferenceFinalSIdeal.Read.val_main_v12 (F := Ideal) (m ((c : Thread nD τ).loc main_arg0)) (m ((c : Thread nD τ).loc main_arg1))
      (ix2 ⟨(grid0.coords t 0).val * 128 + r, hr⟩ j) := by
  rw [pay_apply, ref_apply, iblk0_apply m c t r j hr, iblk1_apply m c t j]
  refine congrArg (fun s : EReal => (_ : EReal) * Ideal.rsqrt (Ideal.div s _ + _) * (_ : EReal)) ?_
  exact Finset.sum_congr rfl fun k _ => congrArg₂ (· * ·) (iblk0_apply m c t r k hr) (iblk0_apply m c t r k hr)

/-- The result array after the run is the reference's. -/
theorem final (c : Dev nD) : (dats m 0 c).arrAt 2 cfg0.N
    = Cert.ReferenceFinalSIdeal.Read.val_main_v12 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have h0 : (grid0.coords t 0).val < 1 := (grid0.coords t 0).isLt
  have hr : (grid0.coords t 0).val * 128 + (y 0).val < 128 := by have : (y 0).val < 128 := (y 0).isLt; omega
  have he : ((View.whole main_v1).slice (win0_2.rect t)).emb (ix2 (⟨(y 0).val, (y 0).isLt⟩ : Fin 128) (⟨(y 1).val, (y 1).isLt⟩ : Fin 4096))
      = (ix2 (⟨_, hr⟩ : Fin 128) (⟨(y 1).val, (y 1).isLt⟩ : Fin 4096) : S128x4096.Idx) := by
    blk_ext [idx2]
  rw [eta2 (a := 128) (b := 4096) y, he]
  exact point_eq m c t _ _ hr

/-- The call and its reference end with the same result. -/
theorem value : algebraic_KernelFinalSIdeal_ReferenceFinalSIdeal := fun m ρ m' ρ' _ hag =>
  ⟨fun c => Cert.ReferenceFinalSIdeal.Read.val_main_v12 (F := Ideal) (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans ((Cert.ReferenceFinalSIdeal.Read.val_main_v12_eq _ _).trans
        (by rw [(hag c).1, (hag c).2])), (h c).2⟩)
      (Cert.ReferenceFinalSIdeal.Value.run m' ρ')⟩

end Cert.FinalS

end
-- ==== Proof.Norm.lean ====
/- The norm before the input projection. -/
module

public import proofs.«01_k».proof.Defs
public import proofs.«01_k».proof.Proof.Common
public import proofs.«01_k».proof.Proof.Gen.KernelNormIdeal.Value
public import proofs.«01_k».proof.Proof.Gen.ReferenceNormIdeal.Run
public import proofs.«01_k».proof.Proof.Gen.ReferenceNormIdeal.Read
public import Idealize.ShloMosaic.Lib.Pipeline.ValueKit.Geometry
public import Idealize.ShloMosaic.Lib.Pipeline.ValueKit.Acc

@[expose] public section

set_option maxRecDepth 16384

noncomputable section

namespace Cert.Norm

open Cert.KernelNormIdeal Cert.KernelNormIdeal.Gen Cert.KernelNormIdeal.Value Cert.Common Idealize.ShloMosaic Idealize.ShloMosaic.TcCoe Idealize.SL.Sem

/-- A block of the result: rows scaled by the root of their mean square, times the gain. -/
theorem pay_apply (x : Vec Ideal S256x4096 .f32) (w : Vec Ideal S1x4096 .f32) (r : Fin 256) (j : Fin 4096) :
    k0_pay1 x w (ix2 r j) = x (ix2 r j) * Ideal.rsqrt (Ideal.div (∑ k : Fin 4096, x (ix2 r k) * x (ix2 r k)) (Ideal.ofBits FTy.f32 1166016512#32)
      + Ideal.ofBits FTy.f32 897988541#32) * w (ix2 0 j) := by
  pointwise [k0_pay1]

open Cert.ReferenceNormIdeal.Read in
/-- The reference's result. -/
theorem ref_apply (x : (⟨S8192x4096, .f32⟩ : BufTy).Contents (Elt Ideal)) (w : (⟨S4096, .f32⟩ : BufTy).Contents (Elt Ideal)) (r : Fin 8192) (j : Fin 4096) :
    val_main_v13 (F := Ideal) x w (ix2 r j) = x (ix2 r j) * Ideal.rsqrt (Ideal.div (∑ k : Fin 4096, x (ix2 r k) * x (ix2 r k)) (Ideal.ofBits FTy.f32 1166016512#32)
      + Ideal.ofBits FTy.f32 897988541#32) * w (ix1 j) := by
  have hz : ∀ h, val_main_cst (F := Ideal) (Shape.Idx.first h) = 0 := fun h => by pointwise [val_main_cst]
  have h1 : val_main_v1 (F := Ideal) x (ix1 r) = ∑ k : Fin 4096, x (ix2 r k) * x (ix2 r k) := by
    rw [val_main_v1_apply, hz]
    have hi : ∀ k : Fin 4096, idx_main_v1 (ix1 r) k = ix2 r k := fun k => funext fun a => by match a with | ⟨0, _⟩ => rfl | ⟨1, _⟩ => rfl
    pointwise [val_main_v0, hi]
  rw [← h1]
  pointwise [val_main_v13, val_main_v12, val_main_v11, val_main_v10, val_main_v9, val_main_v8, val_main_v7, val_main_v6, val_main_v5, val_main_v4, val_main_v3,
    val_main_v2, val_main_cst_0, val_main_cst_1]

variable (m : (ℓ : Loc nD τ sig) → Buf (Elt Ideal) ℓ)

/-- Where the row blocks lie. -/
theorem idx0 : ∀ t : Fin cfg0.N, win0_0.index t = ![(grid0.coords t 0).val, 0] := (by decide +kernel : ∀ t : Fin grid0.N, _)
/-- The gain is one block. -/
theorem idx1 : ∀ t : Fin cfg0.N, win0_1.index t = ![0, 0] := (by decide +kernel : ∀ t : Fin grid0.N, _)
/-- Where the result blocks lie. -/
theorem idx2 : ∀ t : Fin cfg0.N, win0_2.index t = ![(grid0.coords t 0).val, 0] := (by decide +kernel : ∀ t : Fin grid0.N, _)

/-- The gain as the call reads it. -/
theorem V_gain (c : Dev nD) (j : Fin 4096) : V m c main_v0 (ix2 0 j) = m ((c : Thread nD τ).loc main_arg1) (ix1 j) := by
  unfold V hostOps0
  after_results
  pointwise

/-- The staged rows. -/
theorem iblk0_apply (c : Dev nD) (t : Fin cfg0.N) (r : Fin 256) (k : Fin 4096) (hr : (grid0.coords t 0).val * 256 + r.val < 8192) :
    iblk m c 0 t (ix2 r k) = m ((c : Thread nD τ).loc main_arg0) (ix2 ⟨(grid0.coords t 0).val * 256 + r, hr⟩ k) := by
  rw [← V_main_arg0 m c]
  blk_simp [iblk, idx0]
  refine congrArg (V m c main_arg0) ?_
  blk_ext [idx0]

/-- The staged gain. -/
theorem iblk1_apply (c : Dev nD) (t : Fin cfg0.N) (j : Fin 4096) : iblk m c 1 t (ix2 0 j) = m ((c : Thread nD τ).loc main_arg1) (ix1 j) := by
  rw [← V_gain m c]
  blk_simp [iblk, idx1]
  refine congrArg (V m c main_v0) ?_
  blk_ext [idx1]

/-- A place of a block of the result is the reference's. -/
theorem point_eq (c : Dev nD) (t : Fin cfg0.N) (r : Fin 256) (j : Fin 4096) (hr : (grid0.coords t 0).val * 256 + r.val < 8192) :
    k0_pay1 (iblk m c 0 t) (iblk m c 1 t) (ix2 r j)
    = Cert.ReferenceNormIdeal.Read.val_main_v13 (F := Ideal) (m ((c : Thread nD τ).loc main_arg0)) (m ((c : Thread nD τ).loc main_arg1))
      (ix2 ⟨(grid0.coords t 0).val * 256 + r, hr⟩ j) := by
  rw [pay_apply, ref_apply, iblk0_apply m c t r j hr, iblk1_apply m c t j]
  refine congrArg (fun s : EReal => (_ : EReal) * Ideal.rsqrt (Ideal.div s _ + _) * (_ : EReal)) ?_
  exact Finset.sum_congr rfl fun k _ => congrArg₂ (· * ·) (iblk0_apply m c t r k hr) (iblk0_apply m c t r k hr)

/-- The result array after the run is the reference's. -/
theorem final (c : Dev nD) : (dats m 0 c).arrAt 2 cfg0.N
    = Cert.ReferenceNormIdeal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have h0 : (grid0.coords t 0).val < 32 := (grid0.coords t 0).isLt
  have hr : (grid0.coords t 0).val * 256 + (y 0).val < 8192 := by have : (y 0).val < 256 := (y 0).isLt; omega
  have he : ((View.whole main_v1).slice (win0_2.rect t)).emb (ix2 (⟨(y 0).val, (y 0).isLt⟩ : Fin 256) (⟨(y 1).val, (y 1).isLt⟩ : Fin 4096))
      = (ix2 (⟨_, hr⟩ : Fin 8192) (⟨(y 1).val, (y 1).isLt⟩ : Fin 4096) : S8192x4096.Idx) := by
    blk_ext [idx2]
  rw [eta2 (a := 256) (b := 4096) y, he]
  exact point_eq m c t _ _ hr

/-- The call and its reference end with the same result. -/
theorem value : algebraic_KernelNormIdeal_ReferenceNormIdeal := fun m ρ m' ρ' _ hag =>
  ⟨fun c => Cert.ReferenceNormIdeal.Read.val_main_v13 (F := Ideal) (m ((c : Thread nD τ).loc main_arg0)) (m ((c : Thread nD τ).loc main_arg1)),
    (θ_run _ _ _).mono (fun _ h c => ⟨(h c).1.trans (final m c), (h c).2⟩) (run_blocks m ρ),
    (θ_run _ _ _).mono (fun _ h c => ⟨(h c).1.trans ((Cert.ReferenceNormIdeal.Read.val_main_v13_eq _ _).trans
        (by rw [(hag c).1, (hag c).2])), (h c).2⟩)
      (Cert.ReferenceNormIdeal.Value.run m' ρ')⟩

end Cert.Norm

end
-- ==== Proof.Rope.lean ====
/- The norm of a row and the rotation of its lanes, as the middle calls' kernels write them, and the plain forms of the rotation. -/
module

public import proofs.«01_k».proof.Proof.Common
public import Idealize.ShloMosaic.Lib.Pipeline.ValueKit.Geometry
public import Idealize.ShloMosaic.Lib.Pipeline.ValueKit.Acc

@[expose] public section

set_option maxRecDepth 16384

noncomputable section

namespace Cert.Rope

open Idealize.ShloMosaic Idealize.ShloMosaic.ValueKit

/-- A place of a row divided by its root mean square, times a gain. -/
def rmsAt {n : ℕ} (d : BitVec 32) (x : Fin n → EReal) (g : EReal) (j : Fin n) : EReal :=
  x j * Ideal.rsqrt (Ideal.div (∑ k : Fin n, x k * x k) (Ideal.ofBits FTy.f32 d) + Ideal.ofBits FTy.f32 897988541#32) * g

/-- A lane of the first 64, zero elsewhere, as the kernel tests it. -/
def msk (x : Fin 128 → EReal) (j : Fin 128) : EReal :=
  Scalar.select (IntOp.cmpi CmpIPredicate.slt (BitVec.ofNat 32 j.val) 64#32) (x j) 0

/-- A rotated lane, as the kernel computes it. -/
def rot (x : Fin 128 → EReal) (a b : EReal) (j : Fin 128) : EReal :=
  Scalar.select (IntOp.cmpi CmpIPredicate.slt (BitVec.ofNat 32 j.val) 64#32) (x j * a) 0
    + Scalar.select (IntOp.cmpi CmpIPredicate.slt (BitVec.ofNat 32 j.val) 32#32) (0 - msk x ⟨(j + 128 - 96) % 128, by omega⟩)
        (msk x ⟨(j + 128 - 32) % 128, by omega⟩) * b

/-- The test of a lane against 32. -/
theorem lane32 : ∀ j : Fin 128, IntOp.cmpi CmpIPredicate.slt (BitVec.ofNat 32 j.val) 32#32 = if j.val < 32 then 1#1 else 0#1 := by decide +kernel
/-- The test of a lane against 64. -/
theorem lane64 : ∀ j : Fin 128, IntOp.cmpi CmpIPredicate.slt (BitVec.ofNat 32 j.val) 64#32 = if j.val < 64 then 1#1 else 0#1 := by decide +kernel

/-- The choice by a test. -/
theorem choose (p : Prop) [Decidable p] (u v : EReal) : Scalar.select (if p then 1#1 else 0#1) u v = if p then u else v := by
  by_cases h : p
  · rw [if_pos h, if_pos h]; rfl
  · rw [if_neg h, if_neg h]; rfl

/-- The kernel's masked lane. -/
theorem msk_eq (x : Fin 128 → EReal) (j : Fin 128) : msk x j = if j.val < 64 then x j else 0 := by
  rw [msk, lane64, choose]

/-- The kernel's rotated lane. -/
theorem rot_eq (x : Fin 128 → EReal) (a b : EReal) (j : Fin 128) :
    rot x a b j = (if j.val < 64 then x j * a else 0)
      + (if j.val < 32 then 0 - msk x ⟨(j + 128 - 96) % 128, by omega⟩ else msk x ⟨(j + 128 - 32) % 128, by omega⟩) * b := by
  rw [rot, lane64, lane32, choose, choose]

/-- A lane of the first half. -/
theorem rot_lo (x : Fin 128 → EReal) (a b : EReal) (j : Fin 128) (h : j.val < 32) :
    rot x a b j = x j * a - x ⟨j + 32, by omega⟩ * b := by
  have e : (⟨(j + 128 - 96) % 128, by omega⟩ : Fin 128) = ⟨j + 32, by omega⟩ := Fin.ext (by simp only; omega)
  rw [rot_eq, if_pos (by omega), if_pos h, e, msk_eq, if_pos (by simp only; omega), zero_sub, EReal.neg_mul, ← sub_eq_add_neg]

/-- A lane of the second half. -/
theorem rot_mid (x : Fin 128 → EReal) (a b : EReal) (j : Fin 128) (h : ¬ j.val < 32) (h' : j.val < 64) :
    rot x a b j = x j * a + x ⟨j - 32, by omega⟩ * b := by
  have e : (⟨(j + 128 - 32) % 128, by omega⟩ : Fin 128) = ⟨j - 32, by omega⟩ := Fin.ext (by simp only; omega)
  rw [rot_eq, if_pos h', if_neg h, e, msk_eq, if_pos (by simp only; omega)]

/-- A lane after the rotated ones. -/
theorem rot_hi (x : Fin 128 → EReal) (a : EReal) (j : Fin 128) (h : ¬ j.val < 64) : rot x a 0 j = 0 := by
  rw [rot_eq, if_neg h, mul_zero, add_zero]

end Cert.Rope

end
-- ==== Proof.Mid.lean ====
/- The step between the input projections and the attention, for the prompts: the latents' norms, the rope key, the time steps. -/
module

public import proofs.«01_k».proof.Defs
public import proofs.«01_k».proof.Proof.Common
public import proofs.«01_k».proof.Proof.Rope
public import proofs.«01_k».proof.Proof.Gen.KernelMidIdeal.Value
public import proofs.«01_k».proof.Proof.Gen.ReferenceMidIdeal.Run
public import proofs.«01_k».proof.Proof.Gen.ReferenceMidIdeal.Read
public import Idealize.ShloMosaic.Lib.Pipeline.ValueKit.Geometry
public import Idealize.ShloMosaic.Lib.Pipeline.ValueKit.Acc

@[expose] public section

set_option maxRecDepth 16384

noncomputable section

namespace Cert.Mid

open Cert.KernelMidIdeal Cert.KernelMidIdeal.Gen Cert.KernelMidIdeal.Value Cert.Common Idealize.ShloMosaic Idealize.ShloMosaic.TcCoe Idealize.SL.Sem

open Idealize.ShloMosaic.ValueKit Cert.Rope

section Body
variable (x0 : Vec Ideal S256x1408 .f32) (x1 : Vec Ideal S1x768 .f32) (x2 : Vec Ideal S1x512 .f32) (x3 x4 : Vec Ideal S256x128 .f32)

/-- The query latent's columns. -/
theorem ld0 (r : Fin 256) (k : Fin 768) : View.ld x0 r0_0 (ix2 r k) = x0 (ix2 r ⟨k.val, by omega⟩) :=
  congrArg x0 (funext fun a => Fin.ext (match a with
    | ⟨0, _⟩ => (by show 0 + 1 * r.val = r.val; omega)
    | ⟨1, _⟩ => (by show 0 + 1 * k.val = k.val; omega)))
/-- The key-value latent's columns. -/
theorem ld3 (r : Fin 256) (k : Fin 512) : View.ld x0 r0_3 (ix2 r k) = x0 (ix2 r ⟨768 + k.val, by omega⟩) :=
  congrArg x0 (funext fun a => Fin.ext (match a with
    | ⟨0, _⟩ => (by show 0 + 1 * r.val = r.val; omega)
    | ⟨1, _⟩ => (by show 768 + 1 * k.val = 768 + k.val; omega)))
/-- The last columns. -/
theorem ld6 (r : Fin 256) (k : Fin 128) : View.ld x0 r0_6 (ix2 r k) = x0 (ix2 r ⟨1280 + k.val, by omega⟩) :=
  congrArg x0 (funext fun a => Fin.ext (match a with
    | ⟨0, _⟩ => (by show 0 + 1 * r.val = r.val; omega)
    | ⟨1, _⟩ => (by show 1280 + 1 * k.val = 1280 + k.val; omega)))

/-- The query latent's payload. -/
theorem pay5_apply (u : Vec Ideal S256x768 .f32) (g : Vec Ideal S1x768 .f32) (r : Fin 256) (j : Fin 768) :
    k0_pay5 u g (ix2 r j) = rmsAt 1145044992#32 (fun k => u (ix2 r k)) (g (ix2 0 j)) j := by
  unfold rmsAt
  pointwise [k0_pay5]
/-- The key-value latent's payload. -/
theorem pay6_apply (u : Vec Ideal S256x512 .f32) (g : Vec Ideal S1x512 .f32) (r : Fin 256) (j : Fin 512) :
    k0_pay6 u g (ix2 r j) = rmsAt 1140850688#32 (fun k => u (ix2 r k)) (g (ix2 0 j)) j := by
  unfold rmsAt
  pointwise [k0_pay6]
/-- The key-value latent's second payload. -/
theorem pay7_apply (u : Vec Ideal S256x512 .f32) (g : Vec Ideal S1x512 .f32) (r : Fin 256) (j : Fin 512) :
    k0_pay7 u g (ix2 r j) = rmsAt 1140850688#32 (fun k => u (ix2 r k)) (g (ix2 0 j)) j := by
  unfold rmsAt
  pointwise [k0_pay7, k0_pay6]
/-- The rope key's payload. -/
theorem pay2_apply (x a b : Vec Ideal S256x128 .f32) (r : Fin 256) (j : Fin 64) :
    k0_pay2 x a b (ix2 r j) = rot (fun k => x (ix2 r k)) (a (ix2 r ⟨j.val, by omega⟩)) (b (ix2 r ⟨j.val, by omega⟩)) ⟨j.val, by omega⟩ := by
  unfold rot msk
  pointwise [k0_pay2, k0_pay1]
/-- The widened rope key's payload. -/
theorem pay3_apply (x a b : Vec Ideal S256x128 .f32) (r : Fin 256) (j : Fin 128) :
    k0_pay3 x a b (ix2 r j) = rot (fun k => x (ix2 r k)) (a (ix2 r j)) (b (ix2 r j)) j := by
  unfold rot msk
  pointwise [k0_pay3, k0_pay1]
/-- The time steps' payload. -/
theorem pay4_apply (x : Vec Ideal S256x128 .f32) (r : Fin 256) (j : Fin 64) :
    k0_pay4 x (ix2 r j) = x (ix2 r ⟨(j.val + 128 - 64) % 128, by omega⟩) := by
  pointwise [k0_pay4]

/-- The query latent's block. -/
theorem out5_apply (r : Fin 256) (j : Fin 768) :
    out0_5 x0 x1 x2 x3 x4 (ix2 r j) = rmsAt 1145044992#32 (fun k : Fin 768 => x0 (ix2 r ⟨k.val, by omega⟩)) (x1 (ix2 0 j)) j := by
  have e1 : View.ld x1 r0_1 = x1 := View.ld_unit_zero (by decide) _ x1
  refine (congrFun (View.canon_unit_zero (by decide) _ _) _).trans ?_
  rw [pay5_apply, e1]
  exact congrArg (fun f => rmsAt 1145044992#32 f (x1 (ix2 0 j)) j) (funext fun k => ld0 x0 r k)
/-- The key-value latent's block. -/
theorem out6_apply (r : Fin 256) (j : Fin 512) :
    out0_6 x0 x1 x2 x3 x4 (ix2 r j) = rmsAt 1140850688#32 (fun k : Fin 512 => x0 (ix2 r ⟨768 + k.val, by omega⟩)) (x2 (ix2 0 j)) j := by
  have e1 : View.ld x2 r0_4 = x2 := View.ld_unit_zero (by decide) _ x2
  refine (congrFun (View.canon_unit_zero (by decide) _ _) _).trans ?_
  rw [pay6_apply, e1]
  exact congrArg (fun f => rmsAt 1140850688#32 f (x2 (ix2 0 j)) j) (funext fun k => ld3 x0 r k)
/-- The key-value latent's second block. -/
theorem out7_apply (r : Fin 256) (j : Fin 512) :
    out0_7 x0 x1 x2 x3 x4 (ix2 r j) = rmsAt 1140850688#32 (fun k : Fin 512 => x0 (ix2 r ⟨768 + k.val, by omega⟩)) (x2 (ix2 0 j)) j := by
  have e1 : View.ld x2 r0_4 = x2 := View.ld_unit_zero (by decide) _ x2
  refine (congrFun (View.canon_unit_zero (by decide) _ _) _).trans ?_
  rw [pay7_apply, e1]
  exact congrArg (fun f => rmsAt 1140850688#32 f (x2 (ix2 0 j)) j) (funext fun k => ld3 x0 r k)
/-- The rope key's block. -/
theorem out8_apply (r : Fin 256) (j : Fin 64) :
    out0_8 x0 x1 x2 x3 x4 (ix2 r j) = rot (fun k => x0 (ix2 r ⟨1280 + k.val, by omega⟩)) (x3 (ix2 r ⟨j.val, by omega⟩)) (x4 (ix2 r ⟨j.val, by omega⟩)) ⟨j.val, by omega⟩ := by
  have e3 : View.ld x3 r0_7 = x3 := View.ld_unit_zero (by decide) _ x3
  have e4 : View.ld x4 r0_7 = x4 := View.ld_unit_zero (by decide) _ x4
  refine (congrFun (View.canon_unit_zero (by decide) _ _) _).trans ?_
  rw [pay2_apply, e3, e4]
  exact congrArg (fun f => rot f (x3 (ix2 r ⟨j.val, by omega⟩)) (x4 (ix2 r ⟨j.val, by omega⟩)) ⟨j.val, by omega⟩) (funext fun k => ld6 x0 r k)
/-- The widened rope key's block. -/
theorem out9_apply (r : Fin 256) (j : Fin 128) :
    out0_9 x0 x1 x2 x3 x4 (ix2 r j) = rot (fun k => x0 (ix2 r ⟨1280 + k.val, by omega⟩)) (x3 (ix2 r j)) (x4 (ix2 r j)) j := by
  have e3 : View.ld x3 r0_7 = x3 := View.ld_unit_zero (by decide) _ x3
  have e4 : View.ld x4 r0_7 = x4 := View.ld_unit_zero (by decide) _ x4
  refine (congrFun (View.canon_unit_zero (by decide) _ _) _).trans ?_
  rw [pay3_apply, e3, e4]
  exact congrArg (fun f => rot f (x3 (ix2 r j)) (x4 (ix2 r j)) j) (funext fun k => ld6 x0 r k)
/-- The time steps' block. -/
theorem out10_apply (r : Fin 256) (j : Fin 64) :
    out0_10 x0 x1 x2 x3 x4 (ix2 r j) = x0 (ix2 r ⟨1344 + j.val, by omega⟩) := by
  refine (congrFun (View.canon_unit_zero (by decide) _ _) _).trans ?_
  rw [pay4_apply]
  refine (ld6 x0 r _).trans (congrArg (fun i => x0 (ix2 r i)) (Fin.ext ?_))
  simp only
  omega

end Body

section Ref
open Cert.ReferenceMidIdeal.Read
variable (x : (⟨S8192x1408, .f32⟩ : BufTy).Contents (Elt Ideal)) (g : (⟨S768, .f32⟩ : BufTy).Contents (Elt Ideal))
  (g' : (⟨S512, .f32⟩ : BufTy).Contents (Elt Ideal)) (z z' : (⟨S2048x32, .f32⟩ : BufTy).Contents (Elt Ideal))

/-- The reference's query latent. -/
theorem ref50_apply (r : Fin 8192) (j : Fin 768) :
    val_main_v50 (F := Ideal) x g (ix2 r j) = rmsAt 1145044992#32 (fun k : Fin 768 => x (ix2 r ⟨k.val, by omega⟩)) (g (ix1 j)) j := by
  have hz : ∀ h, val_main_cst (F := Ideal) (Shape.Idx.first h) = 0 := fun h => by pointwise [val_main_cst]
  have h2 : val_main_v2 (F := Ideal) x (ix1 r) = ∑ k : Fin 768, x (ix2 r ⟨k.val, by omega⟩) * x (ix2 r ⟨k.val, by omega⟩) := by
    rw [val_main_v2_apply, hz]
    have hi : ∀ k : Fin 768, idx_main_v2 (ix1 r) k = ix2 r k := fun k => funext fun a => by match a with | ⟨0, _⟩ => rfl | ⟨1, _⟩ => rfl
    pointwise [val_main_v1, val_main_v0, hi]
  unfold rmsAt
  rw [← h2]
  pointwise [val_main_v50, val_main_v13, val_main_v12, val_main_v11, val_main_v10, val_main_v9, val_main_v8, val_main_v7, val_main_v6, val_main_v5,
    val_main_v4, val_main_v3, val_main_v0, val_main_cst_0, val_main_cst_1]

/-- The reference's key-value latent. -/
theorem ref27_apply (r : Fin 8192) (j : Fin 512) :
    val_main_v27 (F := Ideal) x g' (ix2 r j) = rmsAt 1140850688#32 (fun k : Fin 512 => x (ix2 r ⟨768 + k.val, by omega⟩)) (g' (ix1 j)) j := by
  have hz : ∀ h, val_main_cst_2 (F := Ideal) (Shape.Idx.first h) = 0 := fun h => by pointwise [val_main_cst_2]
  have h2 : val_main_v16 (F := Ideal) x (ix1 r) = ∑ k : Fin 512, x (ix2 r ⟨768 + k.val, by omega⟩) * x (ix2 r ⟨768 + k.val, by omega⟩) := by
    rw [val_main_v16_apply, hz]
    have hi : ∀ k : Fin 512, idx_main_v16 (ix1 r) k = ix2 r k := fun k => funext fun a => by match a with | ⟨0, _⟩ => rfl | ⟨1, _⟩ => rfl
    pointwise [val_main_v15, val_main_v14, hi]
  unfold rmsAt
  rw [← h2]
  pointwise [val_main_v27, val_main_v26, val_main_v25, val_main_v24, val_main_v23, val_main_v22, val_main_v21, val_main_v20, val_main_v19,
    val_main_v18, val_main_v17, val_main_v14, val_main_cst_3, val_main_cst_4]

/-- The same, in the second format. -/
theorem ref51_apply (r : Fin 8192) (j : Fin 512) :
    val_main_v51 (F := Ideal) x g' (ix2 r j) = rmsAt 1140850688#32 (fun k : Fin 512 => x (ix2 r ⟨768 + k.val, by omega⟩)) (g' (ix1 j)) j := by
  rw [← ref27_apply]
  pointwise [val_main_v51]

/-- The reference's rope key. -/
theorem ref47_apply (r : Fin 8192) (j : Fin 64) :
    val_main_v47 (F := Ideal) x z z' (ix2 r j) =
      if _ : j.val < 32 then x (ix2 r ⟨1280 + j.val, by omega⟩) * z (ix2 ⟨r.val % 2048, by omega⟩ ⟨j.val, by omega⟩)
        - x (ix2 r ⟨1280 + (32 + j.val), by omega⟩) * z' (ix2 ⟨r.val % 2048, by omega⟩ ⟨j.val, by omega⟩)
      else x (ix2 r ⟨1280 + (32 + (j.val - 32)), by omega⟩) * z (ix2 ⟨r.val % 2048, by omega⟩ ⟨j.val - 32, by omega⟩)
        + x (ix2 r ⟨1280 + (j.val - 32), by omega⟩) * z' (ix2 ⟨r.val % 2048, by omega⟩ ⟨j.val - 32, by omega⟩) := by
  pointwise [val_main_v47, val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_v29, val_main_v28]

/-- The reference's widened rope key. -/
theorem ref52_apply (r : Fin 8192) (j : Fin 128) :
    val_main_v52 (F := Ideal) x z z' (ix2 r j) = if _ : j.val < 64 then val_main_v47 (F := Ideal) x z z' (ix2 r ⟨j.val, by omega⟩) else 0 := by
  pointwise [val_main_v52, val_main_v49, val_main_v48, val_main_cst_5]

/-- The reference's time steps. -/
theorem ref53_apply (r : Fin 8192) (j : Fin 64) :
    val_main_v53 (F := Ideal) x (ix2 r j) = x (ix2 r ⟨1344 + j.val, by omega⟩) := by
  pointwise [val_main_v53]

/-- A lane of the host's table: the argument's lanes twice, then zeros. -/
def lanes (z : (⟨S2048x32, .f32⟩ : BufTy).Contents (Elt Ideal)) (k : Fin 2048) (j : Fin 128) : EReal :=
  if _ : j.val < 32 then z (ix2 k ⟨j.val, by omega⟩) else if _ : j.val - 32 < 32 then z (ix2 k ⟨j.val - 32, by omega⟩) else 0

/-- The kernel's rotated lane, with the host's tables, is the reference's. -/
theorem rot_ref (r : Fin 8192) (j : Fin 128) (h : j.val < 64) :
    rot (fun k => x (ix2 r ⟨1280 + k.val, by omega⟩)) (lanes z ⟨r.val % 2048, by omega⟩ j) (lanes z' ⟨r.val % 2048, by omega⟩ j) j
      = val_main_v47 (F := Ideal) x z z' (ix2 r ⟨j.val, h⟩) := by
  rw [ref47_apply]
  unfold lanes
  by_cases h32 : j.val < 32
  · rw [dif_pos h32, dif_pos h32, dif_pos h32, rot_lo _ _ _ _ h32]
    exact congrArg (fun i => _ - x (ix2 r i) * _) (Fin.ext (by simp only; omega))
  · rw [dif_neg h32, dif_neg h32, dif_neg h32, dif_pos (by omega), dif_pos (by omega), rot_mid _ _ _ _ h32 h]
    exact congrArg (fun i => x (ix2 r i) * _ + _) (Fin.ext (by simp only; omega))

end Ref

variable (m : (ℓ : Loc nD τ sig) → Buf (Elt Ideal) ℓ) (ρ : Dev nD → Nat)

/-- Where the blocks of the rows lie. -/
theorem idx0 : ∀ t : Fin cfg0.N, win0_0.index t = ![(grid0.coords t 0).val, 0] := (by decide +kernel : ∀ t : Fin grid0.N, _)
/-- Where the blocks of the query gain lie. -/
theorem idx1 : ∀ t : Fin cfg0.N, win0_1.index t = ![0, 0] := (by decide +kernel : ∀ t : Fin grid0.N, _)
/-- Where the blocks of the key-value gain lie. -/
theorem idx2 : ∀ t : Fin cfg0.N, win0_2.index t = ![0, 0] := (by decide +kernel : ∀ t : Fin grid0.N, _)
/-- Where the blocks of the cosines lie. -/
theorem idx3 : ∀ t : Fin cfg0.N, win0_3.index t = ![(grid0.coords t 0).val % 8, 0] := (by decide +kernel : ∀ t : Fin grid0.N, _)
/-- Where the blocks of the sines lie. -/
theorem idx4 : ∀ t : Fin cfg0.N, win0_4.index t = ![(grid0.coords t 0).val % 8, 0] := (by decide +kernel : ∀ t : Fin grid0.N, _)
/-- Where the blocks of the query latent lie. -/
theorem idx5 : ∀ t : Fin cfg0.N, win0_5.index t = ![(grid0.coords t 0).val, 0] := (by decide +kernel : ∀ t : Fin grid0.N, _)
/-- Where the blocks of the key-value latent lie. -/
theorem idx6 : ∀ t : Fin cfg0.N, win0_6.index t = ![(grid0.coords t 0).val, 0] := (by decide +kernel : ∀ t : Fin grid0.N, _)
/-- Where the blocks of the second key-value latent lie. -/
theorem idx7 : ∀ t : Fin cfg0.N, win0_7.index t = ![(grid0.coords t 0).val, 0] := (by decide +kernel : ∀ t : Fin grid0.N, _)
/-- Where the blocks of the rope key lie. -/
theorem idx8 : ∀ t : Fin cfg0.N, win0_8.index t = ![(grid0.coords t 0).val, 0] := (by decide +kernel : ∀ t : Fin grid0.N, _)
/-- Where the blocks of the widened rope key lie. -/
theorem idx9 : ∀ t : Fin cfg0.N, win0_9.index t = ![(grid0.coords t 0).val, 0] := (by decide +kernel : ∀ t : Fin grid0.N, _)
/-- Where the blocks of the time steps lie. -/
theorem idx10 : ∀ t : Fin cfg0.N, win0_10.index t = ![(grid0.coords t 0).val, 0] := (by decide +kernel : ∀ t : Fin grid0.N, _)

/-- The query gain the host hands over. -/
theorem V_gq (c : Dev nD) (j : Fin 768) : V m c main_v3 (ix2 0 j) = (m ((c : Thread nD τ).loc main_arg1)) (ix1 j) := by
  unfold V hostOps0
  after_results
  pointwise

/-- The key-value gain the host hands over. -/
theorem V_gkv (c : Dev nD) (j : Fin 512) : V m c main_v4 (ix2 0 j) = (m ((c : Thread nD τ).loc main_arg2)) (ix1 j) := by
  unfold V hostOps0
  after_results
  pointwise

/-- The host's table of cosines. -/
theorem V_cos (c : Dev nD) (k : Fin 2048) (j : Fin 128) : V m c main_v1 (ix2 k j) = lanes (m ((c : Thread nD τ).loc main_arg3)) k j := by
  unfold V hostOps0
  after_results
  pointwise
  after_results_simp
  unfold lanes
  pointwise

/-- The host's table of sines. -/
theorem V_sin (c : Dev nD) (k : Fin 2048) (j : Fin 128) : V m c main_v2 (ix2 k j) = lanes (m ((c : Thread nD τ).loc main_arg4)) k j := by
  unfold V hostOps0
  after_results
  pointwise
  after_results_simp
  unfold lanes
  pointwise

/-- The staged rows. -/
theorem iblk0_apply (c : Dev nD) (t : Fin cfg0.N) (r : Fin 256) (k : Fin 1408) (hr : (grid0.coords t 0).val * 256 + r.val < 8192) :
    iblk m c 0 t (ix2 r k) = (m ((c : Thread nD τ).loc main_arg0)) (ix2 (⟨(grid0.coords t 0).val * 256 + r, hr⟩ : Fin 8192) k) := by
  rw [← V_main_arg0 m c]
  blk_simp [iblk, idx0]
  refine congrArg (V m c main_arg0) ?_
  blk_ext [idx0]

/-- The staged gain. -/
theorem iblk1_apply (c : Dev nD) (t : Fin cfg0.N) (j : Fin 768) : iblk m c 1 t (ix2 0 j) = (m ((c : Thread nD τ).loc main_arg1)) (ix1 j) := by
  rw [← V_gq m c]
  blk_simp [iblk, idx1]
  refine congrArg (V m c main_v3) ?_
  blk_ext [idx1]

/-- The staged gain. -/
theorem iblk2_apply (c : Dev nD) (t : Fin cfg0.N) (j : Fin 512) : iblk m c 2 t (ix2 0 j) = (m ((c : Thread nD τ).loc main_arg2)) (ix1 j) := by
  rw [← V_gkv m c]
  blk_simp [iblk, idx2]
  refine congrArg (V m c main_v4) ?_
  blk_ext [idx2]

/-- The staged table. -/
theorem iblk3_apply (c : Dev nD) (t : Fin cfg0.N) (r : Fin 256) (k : Fin 128) :
    iblk m c 3 t (ix2 r k) = lanes (m ((c : Thread nD τ).loc main_arg3)) ⟨((grid0.coords t 0).val * 256 + r.val) % 2048, by omega⟩ k := by
  rw [← V_cos m c]
  blk_simp [iblk, idx3]
  refine congrArg (V m c main_v1) ?_
  blk_ext [idx3]

/-- The staged table. -/
theorem iblk4_apply (c : Dev nD) (t : Fin cfg0.N) (r : Fin 256) (k : Fin 128) :
    iblk m c 4 t (ix2 r k) = lanes (m ((c : Thread nD τ).loc main_arg4)) ⟨((grid0.coords t 0).val * 256 + r.val) % 2048, by omega⟩ k := by
  rw [← V_sin m c]
  blk_simp [iblk, idx4]
  refine congrArg (V m c main_v2) ?_
  blk_ext [idx4]

/-- A place of a block of the query latent is the reference's. -/
theorem point5 (c : Dev nD) (t : Fin cfg0.N) (r : Fin 256) (j : Fin 768) (hr : (grid0.coords t 0).val * 256 + r.val < 8192) :
    out0_5 (iblk m c 0 t) (iblk m c 1 t) (iblk m c 2 t) (iblk m c 3 t) (iblk m c 4 t) (ix2 r j)
    = Cert.ReferenceMidIdeal.Read.val_main_v50 (F := Ideal) (m ((c : Thread nD τ).loc main_arg0)) (m ((c : Thread nD τ).loc main_arg1)) (ix2 (⟨(grid0.coords t 0).val * 256 + r, hr⟩ : Fin 8192) j) := by
  rw [out5_apply, ref50_apply, iblk1_apply]
  exact congrArg (fun f => rmsAt 1145044992#32 f _ j) (funext fun k => iblk0_apply m c t r _ hr)

/-- The query latent after the run is the reference's. -/
theorem final5 (c : Dev nD) : (dats m 0 c).arrAt 5 cfg0.N = Cert.ReferenceMidIdeal.Read.val_main_v50 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  have h0 : (grid0.coords t 0).val < 32 := (grid0.coords t 0).isLt
  have hr : (grid0.coords t 0).val * 256 + (y 0).val < 8192 := by have : (y 0).val < 256 := (y 0).isLt; omega
  have he : ((View.whole main_v5_0).slice (win0_5.rect t)).emb (ix2 (⟨(y 0).val, (y 0).isLt⟩ : Fin 256) (⟨(y 1).val, (y 1).isLt⟩ : Fin 768))
      = (ix2 (⟨_, hr⟩ : Fin 8192) (⟨(y 1).val, (y 1).isLt⟩ : Fin 768) : S8192x768.Idx) := by
    blk_ext [idx5]
  rw [eta2 (a := 256) (b := 768) y, he]
  exact point5 m c t _ _ hr

/-- A place of a block of the key-value latent is the reference's. -/
theorem point6 (c : Dev nD) (t : Fin cfg0.N) (r : Fin 256) (j : Fin 512) (hr : (grid0.coords t 0).val * 256 + r.val < 8192) :
    out0_6 (iblk m c 0 t) (iblk m c 1 t) (iblk m c 2 t) (iblk m c 3 t) (iblk m c 4 t) (ix2 r j)
    = Cert.ReferenceMidIdeal.Read.val_main_v27 (F := Ideal) (m ((c : Thread nD τ).loc main_arg0)) (m ((c : Thread nD τ).loc main_arg2)) (ix2 (⟨(grid0.coords t 0).val * 256 + r, hr⟩ : Fin 8192) j) := by
  rw [out6_apply, ref27_apply, iblk2_apply]
  exact congrArg (fun f => rmsAt 1140850688#32 f _ j) (funext fun k => iblk0_apply m c t r _ hr)

/-- The key-value latent after the run is the reference's. -/
theorem final6 (c : Dev nD) : (dats m 0 c).arrAt 6 cfg0.N = Cert.ReferenceMidIdeal.Read.val_main_v27 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  have h0 : (grid0.coords t 0).val < 32 := (grid0.coords t 0).isLt
  have hr : (grid0.coords t 0).val * 256 + (y 0).val < 8192 := by have : (y 0).val < 256 := (y 0).isLt; omega
  have he : ((View.whole main_v5_1).slice (win0_6.rect t)).emb (ix2 (⟨(y 0).val, (y 0).isLt⟩ : Fin 256) (⟨(y 1).val, (y 1).isLt⟩ : Fin 512))
      = (ix2 (⟨_, hr⟩ : Fin 8192) (⟨(y 1).val, (y 1).isLt⟩ : Fin 512) : S8192x512.Idx) := by
    blk_ext [idx6]
  rw [eta2 (a := 256) (b := 512) y, he]
  exact point6 m c t _ _ hr

/-- A place of a block of the second key-value latent is the reference's. -/
theorem point7 (c : Dev nD) (t : Fin cfg0.N) (r : Fin 256) (j : Fin 512) (hr : (grid0.coords t 0).val * 256 + r.val < 8192) :
    out0_7 (iblk m c 0 t) (iblk m c 1 t) (iblk m c 2 t) (iblk m c 3 t) (iblk m c 4 t) (ix2 r j)
    = Cert.ReferenceMidIdeal.Read.val_main_v51 (F := Ideal) (m ((c : Thread nD τ).loc main_arg0)) (m ((c : Thread nD τ).loc main_arg2)) (ix2 (⟨(grid0.coords t 0).val * 256 + r, hr⟩ : Fin 8192) j) := by
  rw [out7_apply, ref51_apply, iblk2_apply]
  exact congrArg (fun f => rmsAt 1140850688#32 f _ j) (funext fun k => iblk0_apply m c t r _ hr)

/-- The second key-value latent after the run is the reference's. -/
theorem final7 (c : Dev nD) : (dats m 0 c).arrAt 7 cfg0.N = Cert.ReferenceMidIdeal.Read.val_main_v51 (F := Ideal) (m ((c : Thread nD τ).loc main_arg0)) (m ((c : Thread nD τ).loc main_arg2)) := by
  refine (dats m 0 c).arrAt_eq_of_covers 7 _ (by decide +kernel) fun t hf y => ?_
  blk_simp
  rw [after0_7]
  have h0 : (grid0.coords t 0).val < 32 := (grid0.coords t 0).isLt
  have hr : (grid0.coords t 0).val * 256 + (y 0).val < 8192 := by have : (y 0).val < 256 := (y 0).isLt; omega
  have he : ((View.whole main_v5_2).slice (win0_7.rect t)).emb (ix2 (⟨(y 0).val, (y 0).isLt⟩ : Fin 256) (⟨(y 1).val, (y 1).isLt⟩ : Fin 512))
      = (ix2 (⟨_, hr⟩ : Fin 8192) (⟨(y 1).val, (y 1).isLt⟩ : Fin 512) : S8192x512.Idx) := by
    blk_ext [idx7]
  rw [eta2 (a := 256) (b := 512) y, he]
  exact point7 m c t _ _ hr

/-- A place of a block of the rope key is the reference's. -/
theorem point8 (c : Dev nD) (t : Fin cfg0.N) (r : Fin 256) (j : Fin 64) (hr : (grid0.coords t 0).val * 256 + r.val < 8192) :
    out0_8 (iblk m c 0 t) (iblk m c 1 t) (iblk m c 2 t) (iblk m c 3 t) (iblk m c 4 t) (ix2 r j)
    = Cert.ReferenceMidIdeal.Read.val_main_v47 (F := Ideal) (m ((c : Thread nD τ).loc main_arg0)) (m ((c : Thread nD τ).loc main_arg3)) (m ((c : Thread nD τ).loc main_arg4)) (ix2 (⟨(grid0.coords t 0).val * 256 + r, hr⟩ : Fin 8192) j) := by
  rw [out8_apply, iblk3_apply, iblk4_apply, ← rot_ref _ _ _ (⟨(grid0.coords t 0).val * 256 + r, hr⟩ : Fin 8192) ⟨j.val, by omega⟩ j.isLt]
  exact congrArg (fun f => rot f _ _ _) (funext fun k => iblk0_apply m c t r _ hr)

/-- The rope key after the run is the reference's. -/
theorem final8 (c : Dev nD) : (dats m 0 c).arrAt 8 cfg0.N = Cert.ReferenceMidIdeal.Read.val_main_v47 (F := Ideal) (m ((c : Thread nD τ).loc main_arg0)) (m ((c : Thread nD τ).loc main_arg3)) (m ((c : Thread nD τ).loc main_arg4)) := by
  refine (dats m 0 c).arrAt_eq_of_covers 8 _ (by decide +kernel) fun t hf y => ?_
  blk_simp
  rw [after0_8]
  have h0 : (grid0.coords t 0).val < 32 := (grid0.coords t 0).isLt
  have hr : (grid0.coords t 0).val * 256 + (y 0).val < 8192 := by have : (y 0).val < 256 := (y 0).isLt; omega
  have he : ((View.whole main_v5_3).slice (win0_8.rect t)).emb (ix2 (⟨(y 0).val, (y 0).isLt⟩ : Fin 256) (⟨(y 1).val, (y 1).isLt⟩ : Fin 64))
      = (ix2 (⟨_, hr⟩ : Fin 8192) (⟨(y 1).val, (y 1).isLt⟩ : Fin 64) : S8192x64.Idx) := by
    blk_ext [idx8]
  rw [eta2 (a := 256) (b := 64) y, he]
  exact point8 m c t _ _ hr

/-- A place of a block of the widened rope key is the reference's. -/
theorem point9 (c : Dev nD) (t : Fin cfg0.N) (r : Fin 256) (j : Fin 128) (hr : (grid0.coords t 0).val * 256 + r.val < 8192) :
    out0_9 (iblk m c 0 t) (iblk m c 1 t) (iblk m c 2 t) (iblk m c 3 t) (iblk m c 4 t) (ix2 r j)
    = Cert.ReferenceMidIdeal.Read.val_main_v52 (F := Ideal) (m ((c : Thread nD τ).loc main_arg0)) (m ((c : Thread nD τ).loc main_arg3)) (m ((c : Thread nD τ).loc main_arg4)) (ix2 (⟨(grid0.coords t 0).val * 256 + r, hr⟩ : Fin 8192) j) := by
  rw [out9_apply, iblk3_apply, iblk4_apply, ref52_apply]
  by_cases h : j.val < 64
  · rw [dif_pos h, ← rot_ref _ _ _ (⟨(grid0.coords t 0).val * 256 + r, hr⟩ : Fin 8192) j h]
    exact congrArg (fun f => rot f _ _ _) (funext fun k => iblk0_apply m c t r _ hr)
  · rw [dif_neg h]
    refine (congrArg (fun s => rot _ _ s _) ?_).trans (rot_hi _ _ _ h)
    unfold lanes
    rw [dif_neg (by omega), dif_neg (by omega)]

/-- The widened rope key after the run is the reference's. -/
theorem final9 (c : Dev nD) : (dats m 0 c).arrAt 9 cfg0.N = Cert.ReferenceMidIdeal.Read.val_main_v52 (F := Ideal) (m ((c : Thread nD τ).loc main_arg0)) (m ((c : Thread nD τ).loc main_arg3)) (m ((c : Thread nD τ).loc main_arg4)) := by
  refine (dats m 0 c).arrAt_eq_of_covers 9 _ (by decide +kernel) fun t hf y => ?_
  blk_simp
  rw [after0_9]
  have h0 : (grid0.coords t 0).val < 32 := (grid0.coords t 0).isLt
  have hr : (grid0.coords t 0).val * 256 + (y 0).val < 8192 := by have : (y 0).val < 256 := (y 0).isLt; omega
  have he : ((View.whole main_v5_4).slice (win0_9.rect t)).emb (ix2 (⟨(y 0).val, (y 0).isLt⟩ : Fin 256) (⟨(y 1).val, (y 1).isLt⟩ : Fin 128))
      = (ix2 (⟨_, hr⟩ : Fin 8192) (⟨(y 1).val, (y 1).isLt⟩ : Fin 128) : S8192x128.Idx) := by
    blk_ext [idx9]
  rw [eta2 (a := 256) (b := 128) y, he]
  exact point9 m c t _ _ hr

/-- A place of a block of the time steps is the reference's. -/
theorem point10 (c : Dev nD) (t : Fin cfg0.N) (r : Fin 256) (j : Fin 64) (hr : (grid0.coords t 0).val * 256 + r.val < 8192) :
    out0_10 (iblk m c 0 t) (iblk m c 1 t) (iblk m c 2 t) (iblk m c 3 t) (iblk m c 4 t) (ix2 r j)
    = Cert.ReferenceMidIdeal.Read.val_main_v53 (F := Ideal) (m ((c : Thread nD τ).loc main_arg0)) (ix2 (⟨(grid0.coords t 0).val * 256 + r, hr⟩ : Fin 8192) j) := by
  rw [out10_apply, ref53_apply]
  exact iblk0_apply m c t r _ hr

/-- The time steps after the run is the reference's. -/
theorem final10 (c : Dev nD) : (dats m 0 c).arrAt 10 cfg0.N = Cert.ReferenceMidIdeal.Read.val_main_v53 (F := Ideal) (m ((c : Thread nD τ).loc main_arg0)) := by
  refine (dats m 0 c).arrAt_eq_of_covers 10 _ (by decide +kernel) fun t hf y => ?_
  blk_simp
  rw [after0_10]
  have h0 : (grid0.coords t 0).val < 32 := (grid0.coords t 0).isLt
  have hr : (grid0.coords t 0).val * 256 + (y 0).val < 8192 := by have : (y 0).val < 256 := (y 0).isLt; omega
  have he : ((View.whole main_v5_5).slice (win0_10.rect t)).emb (ix2 (⟨(y 0).val, (y 0).isLt⟩ : Fin 256) (⟨(y 1).val, (y 1).isLt⟩ : Fin 64))
      = (ix2 (⟨_, hr⟩ : Fin 8192) (⟨(y 1).val, (y 1).isLt⟩ : Fin 64) : S8192x64.Idx) := by
    blk_ext [idx10]
  rw [eta2 (a := 256) (b := 64) y, he]
  exact point10 m c t _ _ hr

/-- The call and its reference end with the same results. -/
theorem value : algebraic_KernelMidIdeal_ReferenceMidIdeal := fun m ρ m' ρ' _ hag =>
  ⟨fun c => Cert.ReferenceMidIdeal.Read.val_main_v50 (F := Ideal) (m ((c : Thread nD τ).loc main_arg0)) (m ((c : Thread nD τ).loc main_arg1)), fun c => Cert.ReferenceMidIdeal.Read.val_main_v27 (F := Ideal) (m ((c : Thread nD τ).loc main_arg0)) (m ((c : Thread nD τ).loc main_arg2)), fun c => Cert.ReferenceMidIdeal.Read.val_main_v51 (F := Ideal) (m ((c : Thread nD τ).loc main_arg0)) (m ((c : Thread nD τ).loc main_arg2)), fun c => Cert.ReferenceMidIdeal.Read.val_main_v47 (F := Ideal) (m ((c : Thread nD τ).loc main_arg0)) (m ((c : Thread nD τ).loc main_arg3)) (m ((c : Thread nD τ).loc main_arg4)), fun c => Cert.ReferenceMidIdeal.Read.val_main_v52 (F := Ideal) (m ((c : Thread nD τ).loc main_arg0)) (m ((c : Thread nD τ).loc main_arg3)) (m ((c : Thread nD τ).loc main_arg4)), fun c => Cert.ReferenceMidIdeal.Read.val_main_v53 (F := Ideal) (m ((c : Thread nD τ).loc main_arg0)),
    (θ_run _ _ _).mono (fun _ h c => ⟨(h c).1.trans (final5 m c), (h c).2.1.trans (final6 m c), (h c).2.2.1.trans (final7 m c), (h c).2.2.2.1.trans (final8 m c), (h c).2.2.2.2.1.trans (final9 m c), (h c).2.2.2.2.2.1.trans (final10 m c), (h c).2.2.2.2.2.2⟩) (run_blocks m ρ),
    (θ_run _ _ _).mono (fun _ h c => ⟨(h c).1.trans ((Cert.ReferenceMidIdeal.Read.val_main_v50_eq _ _).trans (by rw [(hag c).1, (hag c).2.1])), (h c).2.1.trans ((Cert.ReferenceMidIdeal.Read.val_main_v27_eq _ _).trans (by rw [(hag c).1, (hag c).2.2.1])), (h c).2.2.1.trans ((Cert.ReferenceMidIdeal.Read.val_main_v51_eq _ _).trans (by rw [(hag c).1, (hag c).2.2.1])), (h c).2.2.2.1.trans ((Cert.ReferenceMidIdeal.Read.val_main_v47_eq _ _ _).trans (by rw [(hag c).1, (hag c).2.2.2.1, (hag c).2.2.2.2])), (h c).2.2.2.2.1.trans ((Cert.ReferenceMidIdeal.Read.val_main_v52_eq _ _ _).trans (by rw [(hag c).1, (hag c).2.2.2.1, (hag c).2.2.2.2])), (h c).2.2.2.2.2.1.trans ((Cert.ReferenceMidIdeal.Read.val_main_v53_eq _).trans (by rw [(hag c).1])), (h c).2.2.2.2.2.2⟩)
      (Cert.ReferenceMidIdeal.Value.run m' ρ')⟩

end Cert.Mid

end
-- ==== Proof.MidS.lean ====
/- The step between the input projections and the attention, for the samples. -/
module

public import proofs.«01_k».proof.Defs
public import proofs.«01_k».proof.Proof.Common
public import proofs.«01_k».proof.Proof.Rope
public import proofs.«01_k».proof.Proof.Gen.KernelMidSIdeal.Value
public import proofs.«01_k».proof.Proof.Gen.ReferenceMidSIdeal.Run
public import proofs.«01_k».proof.Proof.Gen.ReferenceMidSIdeal.Read
public import Idealize.ShloMosaic.Lib.Pipeline.ValueKit.Geometry
public import Idealize.ShloMosaic.Lib.Pipeline.ValueKit.Acc

@[expose] public section

set_option maxRecDepth 16384

noncomputable section

namespace Cert.MidS

open Cert.KernelMidSIdeal Cert.KernelMidSIdeal.Gen Cert.KernelMidSIdeal.Value Cert.Common Idealize.ShloMosaic Idealize.ShloMosaic.TcCoe Idealize.SL.Sem

open Idealize.ShloMosaic.ValueKit Cert.Rope

section Body
variable (x0 : Vec Ideal S128x1408 .f32) (x1 : Vec Ideal S1x768 .f32) (x2 : Vec Ideal S1x512 .f32) (x3 x4 : Vec Ideal S128x128 .f32)

/-- The query latent's columns. -/
theorem ld0 (r : Fin 128) (k : Fin 768) : View.ld x0 r0_0 (ix2 r k) = x0 (ix2 r ⟨k.val, by omega⟩) :=
  congrArg x0 (funext fun a => Fin.ext (match a with
    | ⟨0, _⟩ => (by show 0 + 1 * r.val = r.val; omega)
    | ⟨1, _⟩ => (by show 0 + 1 * k.val = k.val; omega)))
/-- The key-value latent's columns. -/
theorem ld3 (r : Fin 128) (k : Fin 512) : View.ld x0 r0_3 (ix2 r k) = x0 (ix2 r ⟨768 + k.val, by omega⟩) :=
  congrArg x0 (funext fun a => Fin.ext (match a with
    | ⟨0, _⟩ => (by show 0 + 1 * r.val = r.val; omega)
    | ⟨1, _⟩ => (by show 768 + 1 * k.val = 768 + k.val; omega)))
/-- The last columns. -/
theorem ld6 (r : Fin 128) (k : Fin 128) : View.ld x0 r0_6 (ix2 r k) = x0 (ix2 r ⟨1280 + k.val, by omega⟩) :=
  congrArg x0 (funext fun a => Fin.ext (match a with
    | ⟨0, _⟩ => (by show 0 + 1 * r.val = r.val; omega)
    | ⟨1, _⟩ => (by show 1280 + 1 * k.val = 1280 + k.val; omega)))

/-- The query latent's payload. -/
theorem pay5_apply (u : Vec Ideal S128x768 .f32) (g : Vec Ideal S1x768 .f32) (r : Fin 128) (j : Fin 768) :
    k0_pay5 u g (ix2 r j) = rmsAt 1145044992#32 (fun k => u (ix2 r k)) (g (ix2 0 j)) j := by
  unfold rmsAt
  pointwise [k0_pay5]
/-- The key-value latent's payload. -/
theorem pay6_apply (u : Vec Ideal S128x512 .f32) (g : Vec Ideal S1x512 .f32) (r : Fin 128) (j : Fin 512) :
    k0_pay6 u g (ix2 r j) = rmsAt 1140850688#32 (fun k => u (ix2 r k)) (g (ix2 0 j)) j := by
  unfold rmsAt
  pointwise [k0_pay6]
/-- The key-value latent's second payload. -/
theorem pay7_apply (u : Vec Ideal S128x512 .f32) (g : Vec Ideal S1x512 .f32) (r : Fin 128) (j : Fin 512) :
    k0_pay7 u g (ix2 r j) = rmsAt 1140850688#32 (fun k => u (ix2 r k)) (g (ix2 0 j)) j := by
  unfold rmsAt
  pointwise [k0_pay7, k0_pay6]
/-- The rope key's payload. -/
theorem pay2_apply (x a b : Vec Ideal S128x128 .f32) (r : Fin 128) (j : Fin 64) :
    k0_pay2 x a b (ix2 r j) = rot (fun k => x (ix2 r k)) (a (ix2 r ⟨j.val, by omega⟩)) (b (ix2 r ⟨j.val, by omega⟩)) ⟨j.val, by omega⟩ := by
  unfold rot msk
  pointwise [k0_pay2, k0_pay1]
/-- The widened rope key's payload. -/
theorem pay3_apply (x a b : Vec Ideal S128x128 .f32) (r : Fin 128) (j : Fin 128) :
    k0_pay3 x a b (ix2 r j) = rot (fun k => x (ix2 r k)) (a (ix2 r j)) (b (ix2 r j)) j := by
  unfold rot msk
  pointwise [k0_pay3, k0_pay1]
/-- The time steps' payload. -/
theorem pay4_apply (x : Vec Ideal S128x128 .f32) (r : Fin 128) (j : Fin 64) :
    k0_pay4 x (ix2 r j) = x (ix2 r ⟨(j.val + 128 - 64) % 128, by omega⟩) := by
  pointwise [k0_pay4]

/-- The query latent's block. -/
theorem out5_apply (r : Fin 128) (j : Fin 768) :
    out0_5 x0 x1 x2 x3 x4 (ix2 r j) = rmsAt 1145044992#32 (fun k : Fin 768 => x0 (ix2 r ⟨k.val, by omega⟩)) (x1 (ix2 0 j)) j := by
  have e1 : View.ld x1 r0_1 = x1 := View.ld_unit_zero (by decide) _ x1
  refine (congrFun (View.canon_unit_zero (by decide) _ _) _).trans ?_
  rw [pay5_apply, e1]
  exact congrArg (fun f => rmsAt 1145044992#32 f (x1 (ix2 0 j)) j) (funext fun k => ld0 x0 r k)
/-- The key-value latent's block. -/
theorem out6_apply (r : Fin 128) (j : Fin 512) :
    out0_6 x0 x1 x2 x3 x4 (ix2 r j) = rmsAt 1140850688#32 (fun k : Fin 512 => x0 (ix2 r ⟨768 + k.val, by omega⟩)) (x2 (ix2 0 j)) j := by
  have e1 : View.ld x2 r0_4 = x2 := View.ld_unit_zero (by decide) _ x2
  refine (congrFun (View.canon_unit_zero (by decide) _ _) _).trans ?_
  rw [pay6_apply, e1]
  exact congrArg (fun f => rmsAt 1140850688#32 f (x2 (ix2 0 j)) j) (funext fun k => ld3 x0 r k)
/-- The key-value latent's second block. -/
theorem out7_apply (r : Fin 128) (j : Fin 512) :
    out0_7 x0 x1 x2 x3 x4 (ix2 r j) = rmsAt 1140850688#32 (fun k : Fin 512 => x0 (ix2 r ⟨768 + k.val, by omega⟩)) (x2 (ix2 0 j)) j := by
  have e1 : View.ld x2 r0_4 = x2 := View.ld_unit_zero (by decide) _ x2
  refine (congrFun (View.canon_unit_zero (by decide) _ _) _).trans ?_
  rw [pay7_apply, e1]
  exact congrArg (fun f => rmsAt 1140850688#32 f (x2 (ix2 0 j)) j) (funext fun k => ld3 x0 r k)
/-- The rope key's block. -/
theorem out8_apply (r : Fin 128) (j : Fin 64) :
    out0_8 x0 x1 x2 x3 x4 (ix2 r j) = rot (fun k => x0 (ix2 r ⟨1280 + k.val, by omega⟩)) (x3 (ix2 r ⟨j.val, by omega⟩)) (x4 (ix2 r ⟨j.val, by omega⟩)) ⟨j.val, by omega⟩ := by
  have e3 : View.ld x3 r0_7 = x3 := View.ld_unit_zero (by decide) _ x3
  have e4 : View.ld x4 r0_7 = x4 := View.ld_unit_zero (by decide) _ x4
  refine (congrFun (View.canon_unit_zero (by decide) _ _) _).trans ?_
  rw [pay2_apply, e3, e4]
  exact congrArg (fun f => rot f (x3 (ix2 r ⟨j.val, by omega⟩)) (x4 (ix2 r ⟨j.val, by omega⟩)) ⟨j.val, by omega⟩) (funext fun k => ld6 x0 r k)
/-- The widened rope key's block. -/
theorem out9_apply (r : Fin 128) (j : Fin 128) :
    out0_9 x0 x1 x2 x3 x4 (ix2 r j) = rot (fun k => x0 (ix2 r ⟨1280 + k.val, by omega⟩)) (x3 (ix2 r j)) (x4 (ix2 r j)) j := by
  have e3 : View.ld x3 r0_7 = x3 := View.ld_unit_zero (by decide) _ x3
  have e4 : View.ld x4 r0_7 = x4 := View.ld_unit_zero (by decide) _ x4
  refine (congrFun (View.canon_unit_zero (by decide) _ _) _).trans ?_
  rw [pay3_apply, e3, e4]
  exact congrArg (fun f => rot f (x3 (ix2 r j)) (x4 (ix2 r j)) j) (funext fun k => ld6 x0 r k)
/-- The time steps' block. -/
theorem out10_apply (r : Fin 128) (j : Fin 64) :
    out0_10 x0 x1 x2 x3 x4 (ix2 r j) = x0 (ix2 r ⟨1344 + j.val, by omega⟩) := by
  refine (congrFun (View.canon_unit_zero (by decide) _ _) _).trans ?_
  rw [pay4_apply]
  refine (ld6 x0 r _).trans (congrArg (fun i => x0 (ix2 r i)) (Fin.ext ?_))
  simp only
  omega

end Body

section Ref
open Cert.ReferenceMidSIdeal.Read
variable (x : (⟨S128x1408, .f32⟩ : BufTy).Contents (Elt Ideal)) (g : (⟨S768, .f32⟩ : BufTy).Contents (Elt Ideal))
  (g' : (⟨S512, .f32⟩ : BufTy).Contents (Elt Ideal)) (z z' : (⟨S1x32, .f32⟩ : BufTy).Contents (Elt Ideal))

/-- The reference's query latent. -/
theorem ref50_apply (r : Fin 128) (j : Fin 768) :
    val_main_v50 (F := Ideal) x g (ix2 r j) = rmsAt 1145044992#32 (fun k : Fin 768 => x (ix2 r ⟨k.val, by omega⟩)) (g (ix1 j)) j := by
  have hz : ∀ h, val_main_cst (F := Ideal) (Shape.Idx.first h) = 0 := fun h => by pointwise [val_main_cst]
  have h2 : val_main_v2 (F := Ideal) x (ix1 r) = ∑ k : Fin 768, x (ix2 r ⟨k.val, by omega⟩) * x (ix2 r ⟨k.val, by omega⟩) := by
    rw [val_main_v2_apply, hz]
    have hi : ∀ k : Fin 768, idx_main_v2 (ix1 r) k = ix2 r k := fun k => funext fun a => by match a with | ⟨0, _⟩ => rfl | ⟨1, _⟩ => rfl
    pointwise [val_main_v1, val_main_v0, hi]
  unfold rmsAt
  rw [← h2]
  pointwise [val_main_v50, val_main_v13, val_main_v12, val_main_v11, val_main_v10, val_main_v9, val_main_v8, val_main_v7, val_main_v6, val_main_v5,
    val_main_v4, val_main_v3, val_main_v0, val_main_cst_0, val_main_cst_1]

/-- The reference's key-value latent. -/
theorem ref27_apply (r : Fin 128) (j : Fin 512) :
    val_main_v27 (F := Ideal) x g' (ix2 r j) = rmsAt 1140850688#32 (fun k : Fin 512 => x (ix2 r ⟨768 + k.val, by omega⟩)) (g' (ix1 j)) j := by
  have hz : ∀ h, val_main_cst_2 (F := Ideal) (Shape.Idx.first h) = 0 := fun h => by pointwise [val_main_cst_2]
  have h2 : val_main_v16 (F := Ideal) x (ix1 r) = ∑ k : Fin 512, x (ix2 r ⟨768 + k.val, by omega⟩) * x (ix2 r ⟨768 + k.val, by omega⟩) := by
    rw [val_main_v16_apply, hz]
    have hi : ∀ k : Fin 512, idx_main_v16 (ix1 r) k = ix2 r k := fun k => funext fun a => by match a with | ⟨0, _⟩ => rfl | ⟨1, _⟩ => rfl
    pointwise [val_main_v15, val_main_v14, hi]
  unfold rmsAt
  rw [← h2]
  pointwise [val_main_v27, val_main_v26, val_main_v25, val_main_v24, val_main_v23, val_main_v22, val_main_v21, val_main_v20, val_main_v19,
    val_main_v18, val_main_v17, val_main_v14, val_main_cst_3, val_main_cst_4]

/-- The same, in the second format. -/
theorem ref51_apply (r : Fin 128) (j : Fin 512) :
    val_main_v51 (F := Ideal) x g' (ix2 r j) = rmsAt 1140850688#32 (fun k : Fin 512 => x (ix2 r ⟨768 + k.val, by omega⟩)) (g' (ix1 j)) j := by
  rw [← ref27_apply]
  pointwise [val_main_v51]

/-- The reference's rope key. -/
theorem ref47_apply (r : Fin 128) (j : Fin 64) :
    val_main_v47 (F := Ideal) x z z' (ix2 r j) =
      if _ : j.val < 32 then x (ix2 r ⟨1280 + j.val, by omega⟩) * z (ix2 0 ⟨j.val, by omega⟩)
        - x (ix2 r ⟨1280 + (32 + j.val), by omega⟩) * z' (ix2 0 ⟨j.val, by omega⟩)
      else x (ix2 r ⟨1280 + (32 + (j.val - 32)), by omega⟩) * z (ix2 0 ⟨j.val - 32, by omega⟩)
        + x (ix2 r ⟨1280 + (j.val - 32), by omega⟩) * z' (ix2 0 ⟨j.val - 32, by omega⟩) := by
  pointwise [val_main_v47, val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_v29, val_main_v28]

/-- The reference's widened rope key. -/
theorem ref52_apply (r : Fin 128) (j : Fin 128) :
    val_main_v52 (F := Ideal) x z z' (ix2 r j) = if _ : j.val < 64 then val_main_v47 (F := Ideal) x z z' (ix2 r ⟨j.val, by omega⟩) else 0 := by
  pointwise [val_main_v52, val_main_v49, val_main_v48, val_main_cst_5]

/-- The reference's time steps. -/
theorem ref53_apply (r : Fin 128) (j : Fin 64) :
    val_main_v53 (F := Ideal) x (ix2 r j) = x (ix2 r ⟨1344 + j.val, by omega⟩) := by
  pointwise [val_main_v53]

/-- A lane of the host's table: the argument's lanes twice, then zeros. -/
def lanes (z : (⟨S1x32, .f32⟩ : BufTy).Contents (Elt Ideal)) (k : Fin 1) (j : Fin 128) : EReal :=
  if _ : j.val < 32 then z (ix2 k ⟨j.val, by omega⟩) else if _ : j.val - 32 < 32 then z (ix2 k ⟨j.val - 32, by omega⟩) else 0

/-- The kernel's rotated lane, with the host's tables, is the reference's. -/
theorem rot_ref (r : Fin 128) (j : Fin 128) (h : j.val < 64) :
    rot (fun k => x (ix2 r ⟨1280 + k.val, by omega⟩)) (lanes z 0 j) (lanes z' 0 j) j
      = val_main_v47 (F := Ideal) x z z' (ix2 r ⟨j.val, h⟩) := by
  rw [ref47_apply]
  unfold lanes
  by_cases h32 : j.val < 32
  · rw [dif_pos h32, dif_pos h32, dif_pos h32, rot_lo _ _ _ _ h32]
    exact congrArg (fun i => _ - x (ix2 r i) * _) (Fin.ext (by simp only; omega))
  · rw [dif_neg h32, dif_neg h32, dif_neg h32, dif_pos (by omega), dif_pos (by omega), rot_mid _ _ _ _ h32 h]
    exact congrArg (fun i => x (ix2 r i) * _ + _) (Fin.ext (by simp only; omega))

end Ref

variable (m : (ℓ : Loc nD τ sig) → Buf (Elt Ideal) ℓ) (ρ : Dev nD → Nat)

/-- Where the blocks of the rows lie. -/
theorem idx0 : ∀ t : Fin cfg0.N, win0_0.index t = ![(grid0.coords t 0).val, 0] := (by decide +kernel : ∀ t : Fin grid0.N, _)
/-- Where the blocks of the query gain lie. -/
theorem idx1 : ∀ t : Fin cfg0.N, win0_1.index t = ![0, 0] := (by decide +kernel : ∀ t : Fin grid0.N, _)
/-- Where the blocks of the key-value gain lie. -/
theorem idx2 : ∀ t : Fin cfg0.N, win0_2.index t = ![0, 0] := (by decide +kernel : ∀ t : Fin grid0.N, _)
/-- Where the blocks of the cosines lie. -/
theorem idx3 : ∀ t : Fin cfg0.N, win0_3.index t = ![0, 0] := (by decide +kernel : ∀ t : Fin grid0.N, _)
/-- Where the blocks of the sines lie. -/
theorem idx4 : ∀ t : Fin cfg0.N, win0_4.index t = ![0, 0] := (by decide +kernel : ∀ t : Fin grid0.N, _)
/-- Where the blocks of the query latent lie. -/
theorem idx5 : ∀ t : Fin cfg0.N, win0_5.index t = ![(grid0.coords t 0).val, 0] := (by decide +kernel : ∀ t : Fin grid0.N, _)
/-- Where the blocks of the key-value latent lie. -/
theorem idx6 : ∀ t : Fin cfg0.N, win0_6.index t = ![(grid0.coords t 0).val, 0] := (by decide +kernel : ∀ t : Fin grid0.N, _)
/-- Where the blocks of the second key-value latent lie. -/
theorem idx7 : ∀ t : Fin cfg0.N, win0_7.index t = ![(grid0.coords t 0).val, 0] := (by decide +kernel : ∀ t : Fin grid0.N, _)
/-- Where the blocks of the rope key lie. -/
theorem idx8 : ∀ t : Fin cfg0.N, win0_8.index t = ![(grid0.coords t 0).val, 0] := (by decide +kernel : ∀ t : Fin grid0.N, _)
/-- Where the blocks of the widened rope key lie. -/
theorem idx9 : ∀ t : Fin cfg0.N, win0_9.index t = ![(grid0.coords t 0).val, 0] := (by decide +kernel : ∀ t : Fin grid0.N, _)
/-- Where the blocks of the time steps lie. -/
theorem idx10 : ∀ t : Fin cfg0.N, win0_10.index t = ![(grid0.coords t 0).val, 0] := (by decide +kernel : ∀ t : Fin grid0.N, _)

/-- The query gain the host hands over. -/
theorem V_gq (c : Dev nD) (j : Fin 768) : V m c main_v7 (ix2 0 j) = (m ((c : Thread nD τ).loc main_arg1)) (ix1 j) := by
  unfold V hostOps0
  after_results
  pointwise

/-- The key-value gain the host hands over. -/
theorem V_gkv (c : Dev nD) (j : Fin 512) : V m c main_v8 (ix2 0 j) = (m ((c : Thread nD τ).loc main_arg2)) (ix1 j) := by
  unfold V hostOps0
  after_results
  pointwise

/-- The host's table of cosines. -/
theorem V_cos (c : Dev nD) (k : Fin 128) (j : Fin 128) : V m c main_v5 (ix2 k j) = lanes (m ((c : Thread nD τ).loc main_arg3)) 0 j := by
  unfold V hostOps0
  after_results
  pointwise
  after_results_simp
  unfold lanes
  pointwise

/-- The host's table of sines. -/
theorem V_sin (c : Dev nD) (k : Fin 128) (j : Fin 128) : V m c main_v6 (ix2 k j) = lanes (m ((c : Thread nD τ).loc main_arg4)) 0 j := by
  unfold V hostOps0
  after_results
  pointwise
  after_results_simp
  unfold lanes
  pointwise

/-- The staged rows. -/
theorem iblk0_apply (c : Dev nD) (t : Fin cfg0.N) (r : Fin 128) (k : Fin 1408) (hr : (grid0.coords t 0).val * 128 + r.val < 128) :
    iblk m c 0 t (ix2 r k) = (m ((c : Thread nD τ).loc main_arg0)) (ix2 (⟨(grid0.coords t 0).val * 128 + r, hr⟩ : Fin 128) k) := by
  rw [← V_main_arg0 m c]
  blk_simp [iblk, idx0]
  refine congrArg (V m c main_arg0) ?_
  blk_ext [idx0]

/-- The staged gain. -/
theorem iblk1_apply (c : Dev nD) (t : Fin cfg0.N) (j : Fin 768) : iblk m c 1 t (ix2 0 j) = (m ((c : Thread nD τ).loc main_arg1)) (ix1 j) := by
  rw [← V_gq m c]
  blk_simp [iblk, idx1]
  refine congrArg (V m c main_v7) ?_
  blk_ext [idx1]

/-- The staged gain. -/
theorem iblk2_apply (c : Dev nD) (t : Fin cfg0.N) (j : Fin 512) : iblk m c 2 t (ix2 0 j) = (m ((c : Thread nD τ).loc main_arg2)) (ix1 j) := by
  rw [← V_gkv m c]
  blk_simp [iblk, idx2]
  refine congrArg (V m c main_v8) ?_
  blk_ext [idx2]

/-- The staged table. -/
theorem iblk3_apply (c : Dev nD) (t : Fin cfg0.N) (r : Fin 128) (k : Fin 128) :
    iblk m c 3 t (ix2 r k) = lanes (m ((c : Thread nD τ).loc main_arg3)) 0 k := by
  refine Eq.trans ?_ (V_cos m c r k)
  blk_simp [iblk, idx3]
  refine congrArg (V m c main_v5) ?_
  blk_ext [idx3]

/-- The staged table. -/
theorem iblk4_apply (c : Dev nD) (t : Fin cfg0.N) (r : Fin 128) (k : Fin 128) :
    iblk m c 4 t (ix2 r k) = lanes (m ((c : Thread nD τ).loc main_arg4)) 0 k := by
  refine Eq.trans ?_ (V_sin m c r k)
  blk_simp [iblk, idx4]
  refine congrArg (V m c main_v6) ?_
  blk_ext [idx4]

/-- A place of a block of the query latent is the reference's. -/
theorem point5 (c : Dev nD) (t : Fin cfg0.N) (r : Fin 128) (j : Fin 768) (hr : (grid0.coords t 0).val * 128 + r.val < 128) :
    out0_5 (iblk m c 0 t) (iblk m c 1 t) (iblk m c 2 t) (iblk m c 3 t) (iblk m c 4 t) (ix2 r j)
    = Cert.ReferenceMidSIdeal.Read.val_main_v50 (F := Ideal) (m ((c : Thread nD τ).loc main_arg0)) (m ((c : Thread nD τ).loc main_arg1)) (ix2 (⟨(grid0.coords t 0).val * 128 + r, hr⟩ : Fin 128) j) := by
  rw [out5_apply, ref50_apply, iblk1_apply]
  exact congrArg (fun f => rmsAt 1145044992#32 f _ j) (funext fun k => iblk0_apply m c t r _ hr)

/-- The query latent after the run is the reference's. -/
theorem final5 (c : Dev nD) : (dats m 0 c).arrAt 5 cfg0.N = Cert.ReferenceMidSIdeal.Read.val_main_v50 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  have h0 : (grid0.coords t 0).val < 1 := (grid0.coords t 0).isLt
  have hr : (grid0.coords t 0).val * 128 + (y 0).val < 128 := by have : (y 0).val < 128 := (y 0).isLt; omega
  have he : ((View.whole main_v9_0).slice (win0_5.rect t)).emb (ix2 (⟨(y 0).val, (y 0).isLt⟩ : Fin 128) (⟨(y 1).val, (y 1).isLt⟩ : Fin 768))
      = (ix2 (⟨_, hr⟩ : Fin 128) (⟨(y 1).val, (y 1).isLt⟩ : Fin 768) : S128x768.Idx) := by
    blk_ext [idx5]
  rw [eta2 (a := 128) (b := 768) y, he]
  exact point5 m c t _ _ hr

/-- A place of a block of the key-value latent is the reference's. -/
theorem point6 (c : Dev nD) (t : Fin cfg0.N) (r : Fin 128) (j : Fin 512) (hr : (grid0.coords t 0).val * 128 + r.val < 128) :
    out0_6 (iblk m c 0 t) (iblk m c 1 t) (iblk m c 2 t) (iblk m c 3 t) (iblk m c 4 t) (ix2 r j)
    = Cert.ReferenceMidSIdeal.Read.val_main_v27 (F := Ideal) (m ((c : Thread nD τ).loc main_arg0)) (m ((c : Thread nD τ).loc main_arg2)) (ix2 (⟨(grid0.coords t 0).val * 128 + r, hr⟩ : Fin 128) j) := by
  rw [out6_apply, ref27_apply, iblk2_apply]
  exact congrArg (fun f => rmsAt 1140850688#32 f _ j) (funext fun k => iblk0_apply m c t r _ hr)

/-- The key-value latent after the run is the reference's. -/
theorem final6 (c : Dev nD) : (dats m 0 c).arrAt 6 cfg0.N = Cert.ReferenceMidSIdeal.Read.val_main_v27 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  have h0 : (grid0.coords t 0).val < 1 := (grid0.coords t 0).isLt
  have hr : (grid0.coords t 0).val * 128 + (y 0).val < 128 := by have : (y 0).val < 128 := (y 0).isLt; omega
  have he : ((View.whole main_v9_1).slice (win0_6.rect t)).emb (ix2 (⟨(y 0).val, (y 0).isLt⟩ : Fin 128) (⟨(y 1).val, (y 1).isLt⟩ : Fin 512))
      = (ix2 (⟨_, hr⟩ : Fin 128) (⟨(y 1).val, (y 1).isLt⟩ : Fin 512) : S128x512.Idx) := by
    blk_ext [idx6]
  rw [eta2 (a := 128) (b := 512) y, he]
  exact point6 m c t _ _ hr

/-- A place of a block of the second key-value latent is the reference's. -/
theorem point7 (c : Dev nD) (t : Fin cfg0.N) (r : Fin 128) (j : Fin 512) (hr : (grid0.coords t 0).val * 128 + r.val < 128) :
    out0_7 (iblk m c 0 t) (iblk m c 1 t) (iblk m c 2 t) (iblk m c 3 t) (iblk m c 4 t) (ix2 r j)
    = Cert.ReferenceMidSIdeal.Read.val_main_v51 (F := Ideal) (m ((c : Thread nD τ).loc main_arg0)) (m ((c : Thread nD τ).loc main_arg2)) (ix2 (⟨(grid0.coords t 0).val * 128 + r, hr⟩ : Fin 128) j) := by
  rw [out7_apply, ref51_apply, iblk2_apply]
  exact congrArg (fun f => rmsAt 1140850688#32 f _ j) (funext fun k => iblk0_apply m c t r _ hr)

/-- The second key-value latent after the run is the reference's. -/
theorem final7 (c : Dev nD) : (dats m 0 c).arrAt 7 cfg0.N = Cert.ReferenceMidSIdeal.Read.val_main_v51 (F := Ideal) (m ((c : Thread nD τ).loc main_arg0)) (m ((c : Thread nD τ).loc main_arg2)) := by
  refine (dats m 0 c).arrAt_eq_of_covers 7 _ (by decide +kernel) fun t hf y => ?_
  blk_simp
  rw [after0_7]
  have h0 : (grid0.coords t 0).val < 1 := (grid0.coords t 0).isLt
  have hr : (grid0.coords t 0).val * 128 + (y 0).val < 128 := by have : (y 0).val < 128 := (y 0).isLt; omega
  have he : ((View.whole main_v9_2).slice (win0_7.rect t)).emb (ix2 (⟨(y 0).val, (y 0).isLt⟩ : Fin 128) (⟨(y 1).val, (y 1).isLt⟩ : Fin 512))
      = (ix2 (⟨_, hr⟩ : Fin 128) (⟨(y 1).val, (y 1).isLt⟩ : Fin 512) : S128x512.Idx) := by
    blk_ext [idx7]
  rw [eta2 (a := 128) (b := 512) y, he]
  exact point7 m c t _ _ hr

/-- A place of a block of the rope key is the reference's. -/
theorem point8 (c : Dev nD) (t : Fin cfg0.N) (r : Fin 128) (j : Fin 64) (hr : (grid0.coords t 0).val * 128 + r.val < 128) :
    out0_8 (iblk m c 0 t) (iblk m c 1 t) (iblk m c 2 t) (iblk m c 3 t) (iblk m c 4 t) (ix2 r j)
    = Cert.ReferenceMidSIdeal.Read.val_main_v47 (F := Ideal) (m ((c : Thread nD τ).loc main_arg0)) (m ((c : Thread nD τ).loc main_arg3)) (m ((c : Thread nD τ).loc main_arg4)) (ix2 (⟨(grid0.coords t 0).val * 128 + r, hr⟩ : Fin 128) j) := by
  rw [out8_apply, iblk3_apply, iblk4_apply, ← rot_ref _ _ _ (⟨(grid0.coords t 0).val * 128 + r, hr⟩ : Fin 128) ⟨j.val, by omega⟩ j.isLt]
  exact congrArg (fun f => rot f _ _ _) (funext fun k => iblk0_apply m c t r _ hr)

/-- The rope key after the run is the reference's. -/
theorem final8 (c : Dev nD) : (dats m 0 c).arrAt 8 cfg0.N = Cert.ReferenceMidSIdeal.Read.val_main_v47 (F := Ideal) (m ((c : Thread nD τ).loc main_arg0)) (m ((c : Thread nD τ).loc main_arg3)) (m ((c : Thread nD τ).loc main_arg4)) := by
  refine (dats m 0 c).arrAt_eq_of_covers 8 _ (by decide +kernel) fun t hf y => ?_
  blk_simp
  rw [after0_8]
  have h0 : (grid0.coords t 0).val < 1 := (grid0.coords t 0).isLt
  have hr : (grid0.coords t 0).val * 128 + (y 0).val < 128 := by have : (y 0).val < 128 := (y 0).isLt; omega
  have he : ((View.whole main_v9_3).slice (win0_8.rect t)).emb (ix2 (⟨(y 0).val, (y 0).isLt⟩ : Fin 128) (⟨(y 1).val, (y 1).isLt⟩ : Fin 64))
      = (ix2 (⟨_, hr⟩ : Fin 128) (⟨(y 1).val, (y 1).isLt⟩ : Fin 64) : S128x64.Idx) := by
    blk_ext [idx8]
  rw [eta2 (a := 128) (b := 64) y, he]
  exact point8 m c t _ _ hr

/-- A place of a block of the widened rope key is the reference's. -/
theorem point9 (c : Dev nD) (t : Fin cfg0.N) (r : Fin 128) (j : Fin 128) (hr : (grid0.coords t 0).val * 128 + r.val < 128) :
    out0_9 (iblk m c 0 t) (iblk m c 1 t) (iblk m c 2 t) (iblk m c 3 t) (iblk m c 4 t) (ix2 r j)
    = Cert.ReferenceMidSIdeal.Read.val_main_v52 (F := Ideal) (m ((c : Thread nD τ).loc main_arg0)) (m ((c : Thread nD τ).loc main_arg3)) (m ((c : Thread nD τ).loc main_arg4)) (ix2 (⟨(grid0.coords t 0).val * 128 + r, hr⟩ : Fin 128) j) := by
  rw [out9_apply, iblk3_apply, iblk4_apply, ref52_apply]
  by_cases h : j.val < 64
  · rw [dif_pos h, ← rot_ref _ _ _ (⟨(grid0.coords t 0).val * 128 + r, hr⟩ : Fin 128) j h]
    exact congrArg (fun f => rot f _ _ _) (funext fun k => iblk0_apply m c t r _ hr)
  · rw [dif_neg h]
    refine (congrArg (fun s => rot _ _ s _) ?_).trans (rot_hi _ _ _ h)
    unfold lanes
    rw [dif_neg (by omega), dif_neg (by omega)]

/-- The widened rope key after the run is the reference's. -/
theorem final9 (c : Dev nD) : (dats m 0 c).arrAt 9 cfg0.N = Cert.ReferenceMidSIdeal.Read.val_main_v52 (F := Ideal) (m ((c : Thread nD τ).loc main_arg0)) (m ((c : Thread nD τ).loc main_arg3)) (m ((c : Thread nD τ).loc main_arg4)) := by
  refine (dats m 0 c).arrAt_eq_of_covers 9 _ (by decide +kernel) fun t hf y => ?_
  blk_simp
  rw [after0_9]
  have h0 : (grid0.coords t 0).val < 1 := (grid0.coords t 0).isLt
  have hr : (grid0.coords t 0).val * 128 + (y 0).val < 128 := by have : (y 0).val < 128 := (y 0).isLt; omega
  have he : ((View.whole main_v9_4).slice (win0_9.rect t)).emb (ix2 (⟨(y 0).val, (y 0).isLt⟩ : Fin 128) (⟨(y 1).val, (y 1).isLt⟩ : Fin 128))
      = (ix2 (⟨_, hr⟩ : Fin 128) (⟨(y 1).val, (y 1).isLt⟩ : Fin 128) : S128x128.Idx) := by
    blk_ext [idx9]
  rw [eta2 (a := 128) (b := 128) y, he]
  exact point9 m c t _ _ hr

/-- A place of a block of the time steps is the reference's. -/
theorem point10 (c : Dev nD) (t : Fin cfg0.N) (r : Fin 128) (j : Fin 64) (hr : (grid0.coords t 0).val * 128 + r.val < 128) :
    out0_10 (iblk m c 0 t) (iblk m c 1 t) (iblk m c 2 t) (iblk m c 3 t) (iblk m c 4 t) (ix2 r j)
    = Cert.ReferenceMidSIdeal.Read.val_main_v53 (F := Ideal) (m ((c : Thread nD τ).loc main_arg0)) (ix2 (⟨(grid0.coords t 0).val * 128 + r, hr⟩ : Fin 128) j) := by
  rw [out10_apply, ref53_apply]
  exact iblk0_apply m c t r _ hr

/-- The time steps after the run is the reference's. -/
theorem final10 (c : Dev nD) : (dats m 0 c).arrAt 10 cfg0.N = Cert.ReferenceMidSIdeal.Read.val_main_v53 (F := Ideal) (m ((c : Thread nD τ).loc main_arg0)) := by
  refine (dats m 0 c).arrAt_eq_of_covers 10 _ (by decide +kernel) fun t hf y => ?_
  blk_simp
  rw [after0_10]
  have h0 : (grid0.coords t 0).val < 1 := (grid0.coords t 0).isLt
  have hr : (grid0.coords t 0).val * 128 + (y 0).val < 128 := by have : (y 0).val < 128 := (y 0).isLt; omega
  have he : ((View.whole main_v9_5).slice (win0_10.rect t)).emb (ix2 (⟨(y 0).val, (y 0).isLt⟩ : Fin 128) (⟨(y 1).val, (y 1).isLt⟩ : Fin 64))
      = (ix2 (⟨_, hr⟩ : Fin 128) (⟨(y 1).val, (y 1).isLt⟩ : Fin 64) : S128x64.Idx) := by
    blk_ext [idx10]
  rw [eta2 (a := 128) (b := 64) y, he]
  exact point10 m c t _ _ hr

/-- The call and its reference end with the same results. -/
theorem value : algebraic_KernelMidSIdeal_ReferenceMidSIdeal := fun m ρ m' ρ' _ hag =>
  ⟨fun c => Cert.ReferenceMidSIdeal.Read.val_main_v50 (F := Ideal) (m ((c : Thread nD τ).loc main_arg0)) (m ((c : Thread nD τ).loc main_arg1)), fun c => Cert.ReferenceMidSIdeal.Read.val_main_v27 (F := Ideal) (m ((c : Thread nD τ).loc main_arg0)) (m ((c : Thread nD τ).loc main_arg2)), fun c => Cert.ReferenceMidSIdeal.Read.val_main_v51 (F := Ideal) (m ((c : Thread nD τ).loc main_arg0)) (m ((c : Thread nD τ).loc main_arg2)), fun c => Cert.ReferenceMidSIdeal.Read.val_main_v47 (F := Ideal) (m ((c : Thread nD τ).loc main_arg0)) (m ((c : Thread nD τ).loc main_arg3)) (m ((c : Thread nD τ).loc main_arg4)), fun c => Cert.ReferenceMidSIdeal.Read.val_main_v52 (F := Ideal) (m ((c : Thread nD τ).loc main_arg0)) (m ((c : Thread nD τ).loc main_arg3)) (m ((c : Thread nD τ).loc main_arg4)), fun c => Cert.ReferenceMidSIdeal.Read.val_main_v53 (F := Ideal) (m ((c : Thread nD τ).loc main_arg0)),
    (θ_run _ _ _).mono (fun _ h c => ⟨(h c).1.trans (final5 m c), (h c).2.1.trans (final6 m c), (h c).2.2.1.trans (final7 m c), (h c).2.2.2.1.trans (final8 m c), (h c).2.2.2.2.1.trans (final9 m c), (h c).2.2.2.2.2.1.trans (final10 m c), (h c).2.2.2.2.2.2⟩) (run_blocks m ρ),
    (θ_run _ _ _).mono (fun _ h c => ⟨(h c).1.trans ((Cert.ReferenceMidSIdeal.Read.val_main_v50_eq _ _).trans (by rw [(hag c).1, (hag c).2.1])), (h c).2.1.trans ((Cert.ReferenceMidSIdeal.Read.val_main_v27_eq _ _).trans (by rw [(hag c).1, (hag c).2.2.1])), (h c).2.2.1.trans ((Cert.ReferenceMidSIdeal.Read.val_main_v51_eq _ _).trans (by rw [(hag c).1, (hag c).2.2.1])), (h c).2.2.2.1.trans ((Cert.ReferenceMidSIdeal.Read.val_main_v47_eq _ _ _).trans (by rw [(hag c).1, (hag c).2.2.2.1, (hag c).2.2.2.2])), (h c).2.2.2.2.1.trans ((Cert.ReferenceMidSIdeal.Read.val_main_v52_eq _ _ _).trans (by rw [(hag c).1, (hag c).2.2.2.1, (hag c).2.2.2.2])), (h c).2.2.2.2.2.1.trans ((Cert.ReferenceMidSIdeal.Read.val_main_v53_eq _).trans (by rw [(hag c).1])), (h c).2.2.2.2.2.2⟩)
      (Cert.ReferenceMidSIdeal.Value.run m' ρ')⟩

end Cert.MidS

end
-- ==== Proof.StepBody.lean ====
/- One step of the state, on one sample: what a group's tile of the new state holds. -/
module

public import proofs.«01_k».proof.Defs
public import proofs.«01_k».proof.Proof.Common
public import proofs.«01_k».proof.Proof.Gen.KernelStepIdeal.Value
public import Idealize.ShloMosaic.Lib.Pipeline.ValueKit.Geometry
public import Idealize.ShloMosaic.Lib.Pipeline.ValueKit.Tiles
public import Idealize.ShloMosaic.Lib.WordCmp

@[expose] public section

set_option maxRecDepth 16384

noncomputable section

namespace Cert.Step

open Cert.KernelStepIdeal Cert.KernelStepIdeal.Gen Cert.KernelStepIdeal.Value Cert.Common Idealize.ShloMosaic Idealize.ShloMosaic.TcCoe Idealize.ShloMosaic.WordCmp Idealize.SL.Sem

/-- A row's 64 inputs from column `o`, on the diagonal of the even half. -/
def evenA (X : FVec Ideal S1x4096 .f32) (o : ℕ) (hs : Shape.Slices S1x4096 ![0, o] S1x128) : FVec Ideal S64x128 .bf16 :=
  truncf .bf16 (select k0_pay17 (broadcastTo S64x128 (shapeCast S1x128 (extractStridedSlice S1x128 ![0, o] X hs) shapeCasts_S1x128_S1x128)
    broadcasts_S1x128_S64x128) (broadcast S64x128 (Scalar.ofBits .f32 0x00000000#32))) bitsLt_bf16_f32

/-- The same on the diagonal of the odd half. -/
def oddA (X : FVec Ideal S1x4096 .f32) (o : ℕ) (hs : Shape.Slices S1x4096 ![0, o] S1x128) : FVec Ideal S64x128 .bf16 :=
  truncf .bf16 (select k0_pay18 (broadcastTo S64x128 (shapeCast S1x128 (extractStridedSlice S1x128 ![0, o] X hs) shapeCasts_S1x128_S1x128)
    broadcasts_S1x128_S64x128) (broadcast S64x128 (Scalar.ofBits .f32 0x00000000#32))) bitsLt_bf16_f32

/-- A head's decay on all its rows. -/
def rowD (D : FVec Ideal S64x128 .f32) (h : ℕ) (hs : Shape.Slices S64x128 ![h, 0] S1x128) : FVec Ideal S64x128 .f32 :=
  broadcastTo S64x128 (shapeCast S1x128 (extractStridedSlice S1x128 ![h, 0] D hs) shapeCasts_S1x128_S1x128) broadcasts_S1x128_S64x128

/-- A group's input direction on all rows. -/
def rowB (Y : FVec Ideal S1x6144 .f32) (o : ℕ) (hs : Shape.Slices S1x6144 ![0, o] S1x128) : FVec Ideal S128x128 .bf16 :=
  truncf .bf16 (broadcastTo S128x128 (shapeCast S1x128 (extractStridedSlice S1x128 ![0, o] Y hs) shapeCasts_S1x128_S1x128) broadcasts_S1x128_S128x128) bitsLt_bf16_f32

/-- A choice by the equality of two places. -/
theorem sel_eq (a b : ℕ) (ha : a < 2 ^ 32) (hb : b < 2 ^ 32) (x y : EReal) :
    Scalar.select (IntOp.cmpi .eq (BitVec.ofNat 32 a) (BitVec.ofNat 32 b)) x y = if a = b then x else y := by
  rw [cmpi_eq_ofNat ha hb]
  by_cases h : a = b <;> simp [h, Scalar.select]

/-- An even head's 64 rows: row p holds the head's p-th input at column p and zeros elsewhere. -/
theorem evenA_apply (X : FVec Ideal S1x4096 .f32) (o : ℕ) (hs : Shape.Slices S1x4096 ![0, o] S1x128) (p : Fin 64) (c : Fin 128) (ho : o + 128 ≤ 4096) :
    evenA X o hs (ix2 p c) = if c = ⟨p.val, by omega⟩ then X (ix2 0 ⟨o + c.val, by omega⟩) else 0 := by
  pointwise [evenA, k0_pay17]
  rw [sel_eq _ _ (by omega) (by omega)]
  exact if_congr ⟨fun h => Fin.ext h.symm, fun h => (congrArg Fin.val h).symm⟩ rfl rfl

/-- An odd head's 64 rows: row p holds the head's p-th input at column p + 64 and zeros elsewhere. -/
theorem oddA_apply (X : FVec Ideal S1x4096 .f32) (o : ℕ) (hs : Shape.Slices S1x4096 ![0, o] S1x128) (p : Fin 64) (c : Fin 128) (ho : o + 128 ≤ 4096) :
    oddA X o hs (ix2 p c) = if c = ⟨p.val + 64, by omega⟩ then X (ix2 0 ⟨o + c.val, by omega⟩) else 0 := by
  pointwise [oddA, k0_pay18]
  rw [show IntOp.addi (BitVec.ofNat 32 p.val) 64#32 = BitVec.ofNat 32 (p.val + 64) from (BitVec.ofNat_add _ _).symm, sel_eq _ _ (by omega) (by omega)]
  exact if_congr ⟨fun h => Fin.ext h.symm, fun h => (congrArg Fin.val h).symm⟩ rfl rfl

/-- A head's decay row repeated over its 64 channels. -/
theorem rowD_apply (D : FVec Ideal S64x128 .f32) (h : ℕ) (hs : Shape.Slices S64x128 ![h, 0] S1x128) (p : Fin 64) (c : Fin 128) (hh : h < 64) :
    rowD D h hs (ix2 p c) = D (ix2 ⟨h, hh⟩ c) := by
  pointwise [rowD]

/-- A group's input direction repeated over the rows. -/
theorem rowB_apply (Y : FVec Ideal S1x6144 .f32) (o : ℕ) (hs : Shape.Slices S1x6144 ![0, o] S1x128) (k c : Fin 128) (ho : o + 128 ≤ 6144) :
    rowB Y o hs (ix2 k c) = Y (ix2 0 ⟨o + c.val, by omega⟩) := by
  pointwise [rowB]

/-- The heads' decays, one row each: the product with the identity leaves them. -/
theorem decay_apply (P Q : FVec Ideal S1x64 .f32) (h : Fin 64) (d : Fin 128) :
    k0_pay16 P Q (Scalar.ofBits .f32 0x00000000#32) (ix2 h d) = Ideal.exp (P (ix2 0 h) * (0 - Q (ix2 0 h))) := by
  pointwise [k0_pay16]
  rw [Finset.sum_eq_single h (fun x _ hx => ?_) (fun hx => absurd (Finset.mem_univ _) hx)]
  · rw [cmpi_eq_ofNat (by omega) (by omega), decide_eq_true rfl]
    show ((((1#32 : BitVec 32).toInt : ℤ) : ℝ) : EReal) * _ = _
    simp
  · rw [cmpi_eq_ofNat (by omega) (by omega), decide_eq_false (fun he => hx (Fin.ext he.symm))]
    show ((((0#32 : BitVec 32).toInt : ℤ) : ℝ) : EReal) * _ = _
    simp

/-- A place of eight stacked parts is a place of one of them. -/
theorem cat8 {α : Type} (p : Fin 8 → S64x128.Idx → α)
    (h : Shape.Concatenates [S64x128, S64x128, S64x128, S64x128, S64x128, S64x128, S64x128, S64x128] S512x128 0) (d : Fin 128)
    (v : Fin 512 → α) (hv : ∀ (i : Fin 8) (q : Fin 64), p i (ix2 q d) = v ⟨64 * i.val + q.val, by omega⟩) (r : Fin 512) :
    concatenate S512x128 0 [⟨S64x128, p 0⟩, ⟨S64x128, p 1⟩, ⟨S64x128, p 2⟩, ⟨S64x128, p 3⟩, ⟨S64x128, p 4⟩, ⟨S64x128, p 5⟩, ⟨S64x128, p 6⟩, ⟨S64x128, p 7⟩] h
      (ix2 r d) = v r := by
  pointwise
  simp only [hv]
  split_ifs <;> refine congrArg v (Fin.ext ?_) <;> (show _ = r.val) <;> (try simp) <;> omega

/-- The input's part of the stacked rows: row `q` of part `i` carries one of the row's inputs. -/
def partsA (X : FVec Ideal S1x4096 .f32) (o : ℕ) (h0 : Shape.Slices S1x4096 ![0, o] S1x128) (h1 : Shape.Slices S1x4096 ![0, o + 128] S1x128)
    (h2 : Shape.Slices S1x4096 ![0, o + 256] S1x128) (h3 : Shape.Slices S1x4096 ![0, o + 384] S1x128) : Fin 8 → FVec Ideal S64x128 .bf16 :=
  ![evenA X o h0, oddA X o h0, evenA X (o + 128) h1, oddA X (o + 128) h1, evenA X (o + 256) h2, oddA X (o + 256) h2, evenA X (o + 384) h3, oddA X (o + 384) h3]

/-- The eight diagonal parts of a group: row r of the 512 has its scaled input at column r mod 128 only. -/
theorem partsA_apply (X : FVec Ideal S1x4096 .f32) (o : ℕ) (ho : o + 512 ≤ 4096) (h0 : Shape.Slices S1x4096 ![0, o] S1x128)
    (h1 : Shape.Slices S1x4096 ![0, o + 128] S1x128) (h2 : Shape.Slices S1x4096 ![0, o + 256] S1x128) (h3 : Shape.Slices S1x4096 ![0, o + 384] S1x128)
    (i : Fin 8) (q : Fin 64) (c : Fin 128) :
    partsA X o h0 h1 h2 h3 i (ix2 q c) = if c.val = (64 * i.val + q.val) % 128 then X (ix2 0 ⟨o + (64 * i.val + q.val), by omega⟩) else 0 := by
  have ev : ∀ (o' : ℕ) (hs : Shape.Slices S1x4096 ![0, o'] S1x128) (ho' : o' + 128 ≤ 4096) (n : ℕ) (hn : n < 512), n % 128 = q.val →
      ∀ hX : o + n < 4096, o' + q.val = o + n → evenA X o' hs (ix2 q c) = if c.val = n % 128 then X (ix2 0 ⟨o + n, hX⟩) else 0 := by
    intro o' hs ho' n hn hq hX he
    rw [evenA_apply X o' hs q c ho', hq]
    by_cases h : c.val = q.val
    · rw [if_pos (Fin.ext h), if_pos h]
      exact congrArg (fun k => X (ix2 0 k)) (Fin.ext (by show o' + c.val = o + n; omega))
    · rw [if_neg (fun hc => h (congrArg Fin.val hc)), if_neg h]
  have od : ∀ (o' : ℕ) (hs : Shape.Slices S1x4096 ![0, o'] S1x128) (ho' : o' + 128 ≤ 4096) (n : ℕ) (hn : n < 512), n % 128 = q.val + 64 →
      ∀ hX : o + n < 4096, o' + q.val + 64 = o + n → oddA X o' hs (ix2 q c) = if c.val = n % 128 then X (ix2 0 ⟨o + n, hX⟩) else 0 := by
    intro o' hs ho' n hn hq hX he
    rw [oddA_apply X o' hs q c ho', hq]
    by_cases h : c.val = q.val + 64
    · rw [if_pos (Fin.ext h), if_pos h]
      exact congrArg (fun k => X (ix2 0 k)) (Fin.ext (by show o' + c.val = o + n; omega))
    · rw [if_neg (fun hc => h (congrArg Fin.val hc)), if_neg h]
  have hq := q.isLt
  match i with
  | ⟨0, _⟩ => exact ev o h0 (by omega) _ (by dsimp only; omega) (by dsimp only; omega) _ (by dsimp only; omega)
  | ⟨1, _⟩ => exact od o h0 (by omega) _ (by dsimp only; omega) (by dsimp only; omega) _ (by dsimp only; omega)
  | ⟨2, _⟩ => exact ev (o + 128) h1 (by omega) _ (by dsimp only; omega) (by dsimp only; omega) _ (by dsimp only; omega)
  | ⟨3, _⟩ => exact od (o + 128) h1 (by omega) _ (by dsimp only; omega) (by dsimp only; omega) _ (by dsimp only; omega)
  | ⟨4, _⟩ => exact ev (o + 256) h2 (by omega) _ (by dsimp only; omega) (by dsimp only; omega) _ (by dsimp only; omega)
  | ⟨5, _⟩ => exact od (o + 256) h2 (by omega) _ (by dsimp only; omega) (by dsimp only; omega) _ (by dsimp only; omega)
  | ⟨6, _⟩ => exact ev (o + 384) h3 (by omega) _ (by dsimp only; omega) (by dsimp only; omega) _ (by dsimp only; omega)
  | ⟨7, _⟩ => exact od (o + 384) h3 (by omega) _ (by dsimp only; omega) (by dsimp only; omega) _ (by dsimp only; omega)

/-- The decays of eight heads, stacked. -/
def partsD (D : FVec Ideal S64x128 .f32) (h : ℕ) (h0 : Shape.Slices S64x128 ![h, 0] S1x128) (h1 : Shape.Slices S64x128 ![h + 1, 0] S1x128)
    (h2 : Shape.Slices S64x128 ![h + 2, 0] S1x128) (h3 : Shape.Slices S64x128 ![h + 3, 0] S1x128) (h4 : Shape.Slices S64x128 ![h + 4, 0] S1x128)
    (h5 : Shape.Slices S64x128 ![h + 5, 0] S1x128) (h6 : Shape.Slices S64x128 ![h + 6, 0] S1x128) (h7 : Shape.Slices S64x128 ![h + 7, 0] S1x128) :
    Fin 8 → FVec Ideal S64x128 .f32 :=
  ![rowD D h h0, rowD D (h + 1) h1, rowD D (h + 2) h2, rowD D (h + 3) h3, rowD D (h + 4) h4, rowD D (h + 5) h5, rowD D (h + 6) h6, rowD D (h + 7) h7]

/-- The eight decay parts of a group: row r of the 512 has the decay of head h + r / 64. -/
theorem partsD_apply (D : FVec Ideal S64x128 .f32) (h : ℕ) (hh : h + 8 ≤ 64) (h0 : Shape.Slices S64x128 ![h, 0] S1x128) (h1 : Shape.Slices S64x128 ![h + 1, 0] S1x128)
    (h2 : Shape.Slices S64x128 ![h + 2, 0] S1x128) (h3 : Shape.Slices S64x128 ![h + 3, 0] S1x128) (h4 : Shape.Slices S64x128 ![h + 4, 0] S1x128)
    (h5 : Shape.Slices S64x128 ![h + 5, 0] S1x128) (h6 : Shape.Slices S64x128 ![h + 6, 0] S1x128) (h7 : Shape.Slices S64x128 ![h + 7, 0] S1x128)
    (i : Fin 8) (q : Fin 64) (d : Fin 128) : partsD D h h0 h1 h2 h3 h4 h5 h6 h7 i (ix2 q d) = D (ix2 ⟨h + (64 * i.val + q.val) / 64, by omega⟩ d) := by
  have key : ∀ (h' : ℕ) (hs : Shape.Slices S64x128 ![h', 0] S1x128) (n : ℕ) (hn : n < 64), h' = n → rowD D h' hs (ix2 q d) = D (ix2 ⟨n, hn⟩ d) := by
    intro h' hs n hn he
    subst he
    exact rowD_apply D h' hs q d hn
  have hq := q.isLt
  match i with
  | ⟨0, _⟩ => exact key _ h0 _ _ (by dsimp only; omega)
  | ⟨1, _⟩ => exact key _ h1 _ _ (by dsimp only; omega)
  | ⟨2, _⟩ => exact key _ h2 _ _ (by dsimp only; omega)
  | ⟨3, _⟩ => exact key _ h3 _ _ (by dsimp only; omega)
  | ⟨4, _⟩ => exact key _ h4 _ _ (by dsimp only; omega)
  | ⟨5, _⟩ => exact key _ h5 _ _ (by dsimp only; omega)
  | ⟨6, _⟩ => exact key _ h6 _ _ (by dsimp only; omega)
  | ⟨7, _⟩ => exact key _ h7 _ _ (by dsimp only; omega)

/-- A group's tile of the new state, from the stacked parts. -/
def tile (pA : Fin 8 → FVec Ideal S64x128 .bf16) (pD : Fin 8 → FVec Ideal S64x128 .f32) (B : FVec Ideal S128x128 .bf16) (old : Vec Ideal S1x1x512x128 .f32) :
    FVec Ideal S1x1x512x128 .f32 :=
  shapeCast S1x1x512x128 (addf (mulf (shapeCast S512x128 old shapeCasts_S1x1x512x128_S512x128)
      (concatenate S512x128 0 [⟨S64x128, pD 0⟩, ⟨S64x128, pD 1⟩, ⟨S64x128, pD 2⟩, ⟨S64x128, pD 3⟩, ⟨S64x128, pD 4⟩, ⟨S64x128, pD 5⟩, ⟨S64x128, pD 6⟩, ⟨S64x128, pD 7⟩]
        concatenates_S64x128_S64x128_S64x128_S64x128_S64x128_S64x128_S64x128_S64x128_S512x128_d0))
    (matmul dot_S512x128_S128x128_S512x128_1_0_0_1_n_n none
      (concatenate S512x128 0 [⟨S64x128, pA 0⟩, ⟨S64x128, pA 1⟩, ⟨S64x128, pA 2⟩, ⟨S64x128, pA 3⟩, ⟨S64x128, pA 4⟩, ⟨S64x128, pA 5⟩, ⟨S64x128, pA 6⟩, ⟨S64x128, pA 7⟩]
        concatenates_S64x128_S64x128_S64x128_S64x128_S64x128_S64x128_S64x128_S64x128_S512x128_d0) B (constant S512x128 .f32 0x00000000#32)))
    shapeCasts_S512x128_S1x1x512x128

/-- A group's new state: the old state times the decay, plus the scaled input times the input direction; of the product's 128 terms one is not zero. -/
theorem tile_apply (pA : Fin 8 → FVec Ideal S64x128 .bf16) (pD : Fin 8 → FVec Ideal S64x128 .f32) (B : FVec Ideal S128x128 .bf16) (old : Vec Ideal S1x1x512x128 .f32)
    (a : Fin 512 → EReal) (dv : Fin 128 → Fin 512 → EReal) (r : Fin 512) (d : Fin 128)
    (hA : ∀ (i : Fin 8) (q : Fin 64) (c : Fin 128), pA i (ix2 q c) = if c.val = (64 * i.val + q.val) % 128 then a ⟨64 * i.val + q.val, by omega⟩ else 0)
    (hD : ∀ (i : Fin 8) (q : Fin 64), pD i (ix2 q d) = dv d ⟨64 * i.val + q.val, by omega⟩)
    (be : EReal) (hB : ∀ c : Fin 128, B (ix2 c d) = be) :
    tile pA pD B old (ix4 0 0 r d) = old (ix4 0 0 r d) * dv d r + a r * be := by
  have hcA : ∀ c : Fin 128, concatenate S512x128 0 [⟨S64x128, pA 0⟩, ⟨S64x128, pA 1⟩, ⟨S64x128, pA 2⟩, ⟨S64x128, pA 3⟩, ⟨S64x128, pA 4⟩, ⟨S64x128, pA 5⟩, ⟨S64x128, pA 6⟩, ⟨S64x128, pA 7⟩]
        concatenates_S64x128_S64x128_S64x128_S64x128_S64x128_S64x128_S64x128_S64x128_S512x128_d0 (ix2 r c) = if c.val = r.val % 128 then a r else 0 := fun c =>
    cat8 pA _ c (fun r => if c.val = r.val % 128 then a r else 0) (fun i q => hA i q c) r
  have hcD := cat8 pD concatenates_S64x128_S64x128_S64x128_S64x128_S64x128_S64x128_S64x128_S64x128_S512x128_d0 d (dv d) hD r
  unfold tile
  generalize concatenate S512x128 0 [⟨S64x128, pA 0⟩, ⟨S64x128, pA 1⟩, ⟨S64x128, pA 2⟩, ⟨S64x128, pA 3⟩, ⟨S64x128, pA 4⟩, ⟨S64x128, pA 5⟩, ⟨S64x128, pA 6⟩, ⟨S64x128, pA 7⟩] _ = cA at *
  generalize concatenate S512x128 0 [⟨S64x128, pD 0⟩, ⟨S64x128, pD 1⟩, ⟨S64x128, pD 2⟩, ⟨S64x128, pD 3⟩, ⟨S64x128, pD 4⟩, ⟨S64x128, pD 5⟩, ⟨S64x128, pD 6⟩, ⟨S64x128, pD 7⟩] _ = cD at *
  pointwise [hcA, hcD, hB]
  rw [Finset.sum_eq_single (⟨r.val % 128, by omega⟩ : Fin 128)]
  · simp
  · intro c _ hc
    rw [if_neg (fun h => hc (Fin.ext h)), zero_mul]
  · exact fun h => absurd (Finset.mem_univ _) h

end Cert.Step

end
-- ==== Proof.StepState.lean ====
/- One step of the state, on one sample: the blocks the body leaves. -/
module

public import proofs.«01_k».proof.Defs
public import proofs.«01_k».proof.Proof.Common
public import proofs.«01_k».proof.Proof.StepBody
public import proofs.«01_k».proof.Proof.Gen.KernelStepIdeal.Value
public import Idealize.ShloMosaic.Lib.Pipeline.ValueKit.Geometry
public import Idealize.ShloMosaic.Lib.Pipeline.ValueKit.Tiles

@[expose] public section

set_option maxRecDepth 16384

noncomputable section

namespace Cert.Step

open Cert.KernelStepIdeal Cert.KernelStepIdeal.Gen Cert.KernelStepIdeal.Value Cert.Common Idealize.ShloMosaic Idealize.ShloMosaic.TcCoe Idealize.SL.Sem

/-- A place of the new state of one sample: row `k` of head `k / 64`, whose input direction is that of group `k / 512`. -/
def newAt (X : FVec Ideal S1x4096 .f32) (Y : FVec Ideal S1x6144 .f32) (P Q : FVec Ideal S1x64 .f32) (old : Vec Ideal S1x1x4096x128 .f32) (k : Fin 4096) (d : Fin 128) : EReal :=
  old (ix4 0 0 k d) * Ideal.exp (P (ix2 0 ⟨k.val / 64, by omega⟩) * (0 - Q (ix2 0 ⟨k.val / 64, by omega⟩)))
    + X (ix2 0 k) * Y (ix2 0 ⟨4096 + 128 * (k.val / 512) + d.val, by omega⟩)

/-- A group's tile holds the new state's rows. -/
theorem group (X : FVec Ideal S1x4096 .f32) (Y : FVec Ideal S1x6144 .f32) (P Q : FVec Ideal S1x64 .f32) (old : Vec Ideal S1x1x4096x128 .f32) (k : Fin 4096) (d : Fin 128)
    (o h b g : ℕ) (ho : o = 512 * g) (hh : h = 8 * g) (hb : b = 4096 + 128 * g) (hg : g < 8) (s0 s1 s2 s3 t0 t1 t2 t3 t4 t5 t6 t7 u)
    (inb : ∀ a, (![0, 0, o, 0] : Fin 4 → ℕ) a + (![1, 1, 512, 128] : Fin 4 → ℕ) a ≤ S1x1x4096x128.size a) :
    View.TileAt (Val := Elt Ideal) (e := .f32) (S := S1x1x4096x128) (ix4 0 0 k d) ![0, 0, o, 0] ![1, 1, 512, 128]
      (tile (partsA X o s0 s1 s2 s3) (partsD (k0_pay16 P Q (Scalar.ofBits .f32 0x00000000#32)) h t0 t1 t2 t3 t4 t5 t6 t7) (rowB Y b u)
        (View.ld (Val := Elt Ideal) old (Rect.unit ![0, 0, o, 0] ![1, 1, 512, 128] inb))) (newAt X Y P Q old k d) := by
  intro x hx
  have hk : k.val = o + (x 2).val := hx 2
  have hd : d.val = 0 + (x 3).val := hx 3
  have hr : (x 2).val < 512 := (x 2).isLt
  have hx' : x = (ix4 0 0 (⟨(x 2).val, hr⟩ : Fin 512) d : S1x1x512x128.Idx) := funext fun a => Fin.ext (match a with
    | ⟨0, _⟩ => Nat.lt_one_iff.mp (x 0).isLt
    | ⟨1, _⟩ => Nat.lt_one_iff.mp (x 1).isLt
    | ⟨2, _⟩ => rfl
    | ⟨3, _⟩ => (by show (x 3).val = d.val; omega))
  rw [hx']
  refine (tile_apply _ _ _ _ (fun r => X (ix2 0 ⟨o + r.val, by omega⟩)) (fun d r => k0_pay16 P Q (Scalar.ofBits .f32 0x00000000#32) (ix2 ⟨h + r.val / 64, by omega⟩ d)) _ d
    (fun i q c => partsA_apply X o (by omega) s0 s1 s2 s3 i q c) (fun i q => partsD_apply _ h (by omega) t0 t1 t2 t3 t4 t5 t6 t7 i q d) _
    (fun c => rowB_apply Y b u c d (by omega))).trans ?_
  rw [newAt, decay_apply]
  have e1 : (⟨h + (x 2).val / 64, by omega⟩ : Fin 64) = ⟨k.val / 64, by omega⟩ := Fin.ext (by show h + (x 2).val / 64 = k.val / 64; omega)
  have e2 : (⟨o + (x 2).val, by omega⟩ : Fin 4096) = k := Fin.ext hk.symm
  have e3 : (⟨b + d.val, by omega⟩ : Fin 6144) = ⟨4096 + 128 * (k.val / 512) + d.val, by omega⟩ := Fin.ext (by show b + d.val = 4096 + 128 * (k.val / 512) + d.val; omega)
  have e4 : View.ld (Val := Elt Ideal) old (Rect.unit ![0, 0, o, 0] ![1, 1, 512, 128] inb) (ix4 0 0 (⟨(x 2).val, hr⟩ : Fin 512) d : S1x1x512x128.Idx)
      = old (ix4 0 0 k d) := congrArg old (funext fun a => Fin.ext (match a with
    | ⟨0, _⟩ => rfl
    | ⟨1, _⟩ => rfl
    | ⟨2, _⟩ => (by show o + 1 * (x 2).val = k.val; omega)
    | ⟨3, _⟩ => (by show 0 + 1 * d.val = d.val; omega)))
  dsimp only
  rw [e1, e2, e3]
  exact congrArg (fun s : EReal => s * _ + _) e4

/-- The new columns are loaded whole. -/
theorem whole0 (x : Vec Ideal S1x1x6144 .f32) : View.ld (Val := Elt Ideal) x (Rect.unit ![0, 0, 0] ![1, 1, 6144] inb_S1x1x6144_S1x1x6144_0_0_0) = x := View.ld_unit_zero (by decide) _ x
/-- The window is loaded whole. -/
theorem whole1 (x : Vec Ideal S1x3x6144 .f32) : View.ld (Val := Elt Ideal) x (Rect.unit ![0, 0, 0] ![1, 3, 6144] inb_S1x3x6144_S1x3x6144_0_0_0) = x := View.ld_unit_zero (by decide) _ x
/-- The time steps are loaded whole. -/
theorem whole6 (x : Vec Ideal S1x1x64 .f32) : View.ld (Val := Elt Ideal) x (Rect.unit ![0, 0, 0] ![1, 1, 64] inb_S1x1x64_S1x1x64_0_0_0) = x := View.ld_unit_zero (by decide) _ x
/-- The repeated time steps are loaded whole. -/
theorem whole7 (x : Vec Ideal S1x1x4096 .f32) : View.ld (Val := Elt Ideal) x (Rect.unit ![0, 0, 0] ![1, 1, 4096] inb_S1x1x4096_S1x1x4096_0_0_0) = x := View.ld_unit_zero (by decide) _ x
/-- The convolution's weights are loaded whole. -/
theorem whole8 (x : Vec Ideal S4x6144 .f32) : View.ld (Val := Elt Ideal) x (Rect.unit ![0, 0] ![4, 6144] inb_S4x6144_S4x6144_0_0) = x := View.ld_unit_zero (by decide) _ x
/-- The convolution's bias is loaded whole. -/
theorem whole9 (x : Vec Ideal S1x6144 .f32) : View.ld (Val := Elt Ideal) x (Rect.unit ![0, 0] ![1, 6144] inb_S1x6144_S1x6144_0_0) = x := View.ld_unit_zero (by decide) _ x
/-- A row over the heads is loaded whole. -/
theorem whole12 (x : Vec Ideal S1x64 .f32) : View.ld (Val := Elt Ideal) x (Rect.unit ![0, 0] ![1, 64] inb_S1x64_S1x64_0_0) = x := View.ld_unit_zero (by decide) _ x
/-- A repeated row over the heads is loaded whole. -/
theorem whole13 (x : Vec Ideal S1x4096 .f32) : View.ld (Val := Elt Ideal) x (Rect.unit ![0, 0] ![1, 4096] inb_S1x4096_S1x4096_0_0) = x := View.ld_unit_zero (by decide) _ x

variable (m : (ℓ : Loc nD τ sig) → Buf (Elt Ideal) ℓ)

/-- The convolution of one sample's window, before the gate. -/
def convB (c : Dev nD) (t : Fin cfg0.N) : FVec Ideal S1x6144 .f32 := k0_pay4 (iblk m c 8 t) (iblk m c 0 t) (iblk m c 1 t) (iblk m c 9 t)
/-- The gated convolution of one sample's window. -/
def gatedB (c : Dev nD) (t : Fin cfg0.N) : FVec Ideal S1x6144 .f32 :=
  k0_pay9 (convB m c t) (k0_pay8 (iblk m c 8 t) (iblk m c 0 t) (iblk m c 1 t) (iblk m c 9 t))
/-- The inputs of one sample, scaled by their time steps. -/
def inputB (c : Dev nD) (t : Fin cfg0.N) : FVec Ideal S1x4096 .f32 :=
  k0_pay10 (convB m c t) (k0_pay8 (iblk m c 8 t) (iblk m c 0 t) (iblk m c 1 t) (iblk m c 9 t)) (iblk m c 7 t) (iblk m c 13 t)
/-- The time steps of one sample's heads. -/
def stepB (c : Dev nD) (t : Fin cfg0.N) : FVec Ideal S1x64 .f32 := k0_pay14 (iblk m c 6 t) (iblk m c 12 t)
/-- The heads' decay rates. -/
def rateB (c : Dev nD) (t : Fin cfg0.N) : FVec Ideal S1x64 .f32 := k0_pay15 (iblk m c 14 t)

/-- The body leaves the new state of its sample. -/
theorem s19 (c : Dev nD) (t : Fin cfg0.N) (k : Fin 4096) (d : Fin 128) :
    (outsAt0 m c t).2.1 (ix4 0 0 k d) = newAt (inputB m c t) (gatedB m c t) (stepB m c t) (rateB m c t) (iblk m c 4 t) k d := by
  unfold outsAt0 out0_A_19
  dsimp only
  rw [View.read_writes_eq_canon _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  refine View.canon_eq_of_allAt _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _) ?_
  unfold kernelRun0_A
  dsimp only
  sl_unfold_words
  unfold inputB gatedB stepB rateB convB
  simp only [View.readAt_eq_ld, (hs0_0 t).read_unread, (hs0_1 t).read_unread, (hs0_4 t).read_unread, (hs0_6 t).read_unread, (hs0_7 t).read_unread, (hs0_8 t).read_unread,
    (hs0_9 t).read_unread, (hs0_12 t).read_unread, (hs0_13 t).read_unread, (hs0_14 t).read_unread]
  simp only [whole0, whole1, whole6, whole7, whole8, whole9, whole12, whole13]
  generalize k0_pay10 (F := Ideal) _ _ _ _ = X
  generalize k0_pay9 (F := Ideal) _ _ = Y
  generalize k0_pay14 (F := Ideal) _ _ = P
  generalize k0_pay15 (F := Ideal) _ = Q
  generalize iblk m c 4 t = old
  refine View.allAt_cons_unit _ _ _ _ _ ?_ ?_
  · exact group X Y P Q old k d 3584 56 4992 7 rfl rfl rfl (by omega) (by decide) (by decide) (by decide) (by decide) (by decide) (by decide) (by decide) (by decide) (by decide) (by decide) (by decide) (by decide) (by decide) _
  refine View.allAt_cons_unit _ _ _ _ _ ?_ ?_
  · exact group X Y P Q old k d 3072 48 4864 6 rfl rfl rfl (by omega) (by decide) (by decide) (by decide) (by decide) (by decide) (by decide) (by decide) (by decide) (by decide) (by decide) (by decide) (by decide) (by decide) _
  refine View.allAt_cons_unit _ _ _ _ _ ?_ ?_
  · exact group X Y P Q old k d 2560 40 4736 5 rfl rfl rfl (by omega) (by decide) (by decide) (by decide) (by decide) (by decide) (by decide) (by decide) (by decide) (by decide) (by decide) (by decide) (by decide) (by decide) _
  refine View.allAt_cons_unit _ _ _ _ _ ?_ ?_
  · exact group X Y P Q old k d 2048 32 4608 4 rfl rfl rfl (by omega) (by decide) (by decide) (by decide) (by decide) (by decide) (by decide) (by decide) (by decide) (by decide) (by decide) (by decide) (by decide) (by decide) _
  refine View.allAt_cons_unit _ _ _ _ _ ?_ ?_
  · exact group X Y P Q old k d 1536 24 4480 3 rfl rfl rfl (by omega) (by decide) (by decide) (by decide) (by decide) (by decide) (by decide) (by decide) (by decide) (by decide) (by decide) (by decide) (by decide) (by decide) _
  refine View.allAt_cons_unit _ _ _ _ _ ?_ ?_
  · exact group X Y P Q old k d 1024 16 4352 2 rfl rfl rfl (by omega) (by decide) (by decide) (by decide) (by decide) (by decide) (by decide) (by decide) (by decide) (by decide) (by decide) (by decide) (by decide) (by decide) _
  refine View.allAt_cons_unit _ _ _ _ _ ?_ ?_
  · exact group X Y P Q old k d 512 8 4224 1 rfl rfl rfl (by omega) (by decide) (by decide) (by decide) (by decide) (by decide) (by decide) (by decide) (by decide) (by decide) (by decide) (by decide) (by decide) (by decide) _
  refine View.allAt_cons_unit _ _ _ _ _ ?_ ?_
  · exact group X Y P Q old k d 0 0 4096 0 rfl rfl rfl (by omega) (by decide) (by decide) (by decide) (by decide) (by decide) (by decide) (by decide) (by decide) (by decide) (by decide) (by decide) (by decide) (by decide) _
  exact View.allAt_nil _ _

/-- The body leaves the window moved on by one: its two later rows, then the new columns. -/
theorem s18 (c : Dev nD) (t : Fin cfg0.N) (k : Fin 3) (d : Fin 6144) :
    (outsAt0 m c t).1 (ix3 0 k d) = if h : k.val < 2 then iblk m c 1 t (ix3 0 ⟨k.val + 1, by omega⟩ d) else iblk m c 0 t (ix3 0 0 d) := by
  unfold outsAt0 out0_A_18
  dsimp only
  rw [View.read_writes_eq_canon _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  refine View.canon_eq_of_allAt _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _) ?_
  unfold kernelRun0_A
  dsimp only
  sl_unfold_words
  simp only [View.readAt_eq_ld, (hs0_0 t).read_unread, (hs0_1 t).read_unread, (hs0_4 t).read_unread, (hs0_6 t).read_unread, (hs0_7 t).read_unread, (hs0_8 t).read_unread,
    (hs0_9 t).read_unread, (hs0_12 t).read_unread, (hs0_13 t).read_unread, (hs0_14 t).read_unread]
  simp only [whole0, whole1]
  generalize iblk m c 0 t = new
  generalize iblk m c 1 t = win
  have row : ∀ (o : ℕ) (w : S1x1x6144.Idx → EReal) (v : EReal), (k.val = o → w (ix3 0 0 d) = v) →
      View.TileAt (Val := Elt Ideal) (e := .f32) (S := S1x3x6144) (ix3 0 k d) ![0, o, 0] ![1, 1, 6144] w v := by
    intro o w v hv x hx
    have h1 : k.val = o + (x 1).val := hx 1
    have h2 : d.val = 0 + (x 2).val := hx 2
    have h3 : (x 1).val < 1 := (x 1).isLt
    rw [← hv (by omega)]
    exact congrArg w (funext fun a => Fin.ext (match a with
      | ⟨0, _⟩ => Nat.lt_one_iff.mp (x 0).isLt
      | ⟨1, _⟩ => Nat.lt_one_iff.mp (x 1).isLt
      | ⟨2, _⟩ => (by show (x 2).val = d.val; omega)))
  refine View.allAt_cons_unit _ _ _ _ _ (row 2 _ _ fun h => ?_) ?_
  · rw [dif_neg (by omega)]
    pointwise [k0_pay7, k0_pay2]
  refine View.allAt_cons_unit _ _ _ _ _ (row 1 _ _ fun h => ?_) ?_
  · rw [dif_pos (by omega)]
    obtain rfl : k = 1 := Fin.ext h
    pointwise [k0_pay6, k0_pay3]
  refine View.allAt_cons_unit _ _ _ _ _ (row 0 _ _ fun h => ?_) ?_
  · rw [dif_pos (by omega)]
    obtain rfl : k = 0 := Fin.ext h
    pointwise [k0_pay5, k0_pay3]
  exact View.allAt_nil _ _

end Cert.Step

end
-- ==== Proof.StepRef.lean ====
/- One step of the state: what the reference's results hold. -/
module

public import proofs.«01_k».proof.Defs
public import proofs.«01_k».proof.Proof.Common
public import proofs.«01_k».proof.Proof.Gen.ReferenceStepIdeal.Run
public import proofs.«01_k».proof.Proof.Gen.ReferenceStepIdeal.Read
public import Idealize.ShloMosaic.Lib.Pipeline.ValueKit.Geometry
public import Idealize.ShloMosaic.Lib.Pipeline.ValueKit.Acc

@[expose] public section

set_option maxRecDepth 16384

noncomputable section

namespace Cert.Step

open Cert.ReferenceStepIdeal Cert.ReferenceStepIdeal.Read Cert.Common Idealize.ShloMosaic Idealize.ShloMosaic.TcCoe Idealize.SL.Sem

/-- The softened positive part. -/
def softAt (s : EReal) : EReal := max s 0 + Ideal.log (1 + Ideal.exp (-(FloatOps.absf (F := Ideal) (φ := .f32) s)))

section
variable (x0 : FVec Ideal S128x6144 .f32) (x1 : FVec Ideal S128x3x6144 .f32) (x2 x3 : FVec Ideal S4x128x4096x128 .f32) (x5 : FVec Ideal S128x64 .f32)
  (x6 : FVec Ideal S4x6144 .f32) (x7 : FVec Ideal S6144 .f32) (x8 x9 : FVec Ideal S64 .f32)

/-- The convolution of a sample's four columns. -/
def convAt (p : Fin 128) (j : Fin 6144) : EReal :=
  x7 (ix1 j) + (x1 (ix3 p 0 j) * x6 (ix2 0 j) + x1 (ix3 p 1 j) * x6 (ix2 1 j) + x1 (ix3 p 2 j) * x6 (ix2 2 j) + x0 (ix2 p j) * x6 (ix2 3 j))

/-- The gated convolution. -/
def gatedAt (p : Fin 128) (j : Fin 6144) : EReal := convAt x0 x1 x6 x7 p j * gate (convAt x0 x1 x6 x7 p j)

/-- The new state at a place: the old one's decay and the scaled input along its direction. -/
def newRef (p : Fin 128) (k : Fin 4096) (d : Fin 128) : EReal :=
  x2 (ix4 0 p k d) * Ideal.exp (softAt (x5 (ix2 p ⟨k.val / 64, by omega⟩) + x8 (ix1 ⟨k.val / 64, by omega⟩)) * -(Ideal.exp (x9 (ix1 ⟨k.val / 64, by omega⟩))))
    + gatedAt x0 x1 x6 x7 p ⟨k.val, by omega⟩ * softAt (x5 (ix2 p ⟨k.val / 64, by omega⟩) + x8 (ix1 ⟨k.val / 64, by omega⟩))
      * gatedAt x0 x1 x6 x7 p ⟨4096 + 128 * (k.val / 512) + d.val, by omega⟩

/-- The reference's convolution. -/
theorem conv_ref (p : Fin 128) (j : Fin 6144) : val_main_v8 (F := Ideal) x0 x1 x6 x7 (ix2 p j) = convAt x0 x1 x6 x7 p j := by
  have hz : ∀ h, val_main_cst (F := Ideal) (Shape.Idx.first h) = 0 := fun h => by pointwise [val_main_cst]
  have hi : ∀ k : Fin 4, idx_main_v5 (ix2 p j) k = ix3 p k j := fun k => funext fun a => by match a with | ⟨0, _⟩ => rfl | ⟨1, _⟩ => rfl | ⟨2, _⟩ => rfl
  unfold val_main_v8
  rw [addf_apply, val_main_v5_apply, hz]
  pointwise [val_main_v7, val_main_v6, val_main_v4, val_main_v3, val_main_v2, val_main_v1, val_main_v0, hi, convAt, Fin.sum_univ_four]

/-- The reference's gated convolution. -/
theorem gated_ref (p : Fin 128) (j : Fin 6144) : val_main_v9 (F := Ideal) x0 x1 x6 x7 (ix2 p j) = gatedAt x0 x1 x6 x7 p j := by
  pointwise [val_main_v9, val_main_call0_v5, val_main_call0_v4, val_main_call0_v3, val_main_call0_v2, val_main_call0_v1, val_main_call0_v0, val_main_call0_cst,
    val_main_call0_cst_0, gatedAt, gate, conv_ref]

/-- The reference's time steps. -/
theorem soft_ref (p : Fin 128) (h : Fin 64) : val_main_v19 (F := Ideal) x5 x8 (ix2 p h) = softAt (x5 (ix2 p h) + x8 (ix1 h)) := by
  pointwise [val_main_v19, val_main_call1_v11, val_main_call1_v10, val_main_call1_v9, val_main_call1_v8, val_main_call1_v7, val_main_call1_v6, val_main_call1_v5,
    val_main_call1_v4, val_main_call1_v3, val_main_call1_v2, val_main_call1_v1, val_main_call1_v0, val_main_call1_cst, val_main_v18, val_main_v17, val_main_v16, softAt]
  rw [if_neg (fun h => h rfl)]
  rfl

/-- The reference's input directions, a group's for each of its heads. -/
theorem dir_ref (p : Fin 128) (h : Fin 64) (d : Fin 128) :
    val_main_v15 (F := Ideal) x0 x1 x6 x7 (ix3 p h d) = gatedAt x0 x1 x6 x7 p ⟨4096 + 128 * (h.val / 8) + d.val, by omega⟩ := by
  rw [← gated_ref]
  pointwise [val_main_v15, val_main_v14, val_main_v13, val_main_v12]
  exact congrArg (fun j => val_main_v9 (F := Ideal) x0 x1 x6 x7 (ix2 p j)) (Fin.ext (by show 4096 + (h.val / 8 * 128 + d.val) = 4096 + 128 * (h.val / 8) + d.val; omega))

/-- The reference's new state. -/
theorem new_ref (p : Fin 128) (k : Fin 4096) (d : Fin 128) :
    val_main_v41 (F := Ideal) x0 x1 x2 x5 x6 x7 x8 x9 (ix4 0 p k d) = newRef x0 x1 x2 x5 x6 x7 x8 x9 p k d := by
  pointwise [val_main_v41, val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v21, val_main_v20, val_main_v11,
    val_main_v10, dir_ref, soft_ref, gated_ref, newRef]
  exact congrArg (fun j => (_ : EReal) + (_ : EReal) * gatedAt x0 x1 x6 x7 p j)
    (Fin.ext (by show 4096 + 128 * (k.val / 64 / 8) + d.val = 4096 + 128 * (k.val / 512) + d.val; omega))

/-- The reference's stack of states: the first layer's is the new one. -/
theorem stack_ref (l : Fin 4) (p : Fin 128) (k : Fin 4096) (d : Fin 128) :
    val_main_v43 (F := Ideal) x0 x1 x2 x3 x5 x6 x7 x8 x9 (ix4 l p k d)
      = if l.val = 0 then newRef x0 x1 x2 x5 x6 x7 x8 x9 p k d else x3 (ix4 l p k d) := by
  rw [← new_ref]
  pointwise [val_main_v43, val_main_v42]
  by_cases h : l.val = 0
  · rw [dif_pos (by omega), if_pos h]
    exact congrArg (fun l => val_main_v41 (F := Ideal) x0 x1 x2 x5 x6 x7 x8 x9 (ix4 l p k d)) (Fin.ext h)
  · rw [dif_neg (by omega), if_neg h]
    exact congrArg (fun l => x3 (ix4 l p k d)) (Fin.ext (by show 1 + (l.val - 1) = l.val; omega))

/-- The reference's window, moved on by one. -/
theorem window_ref (p : Fin 128) (k : Fin 3) (j : Fin 6144) :
    val_main_v44 (F := Ideal) x0 x1 (ix3 p k j) = if h : k.val < 2 then x1 (ix3 p ⟨k.val + 1, by omega⟩ j) else x0 (ix2 p j) := by
  pointwise [val_main_v44, val_main_v1, val_main_v0]
  by_cases h : k.val < 2
  · rw [dif_pos (by omega), dif_pos h]
    exact congrArg (fun k => x1 (ix3 p k j)) (Fin.ext (Nat.add_comm _ _))
  · rw [dif_neg (by omega), dif_neg h]

end

end Cert.Step

end
-- ==== Proof.Step.lean ====
/- One step of the layer's state on the samples' new columns: the new state and the new window. -/
module

public import proofs.«01_k».proof.Defs
public import proofs.«01_k».proof.Proof.Common
public import proofs.«01_k».proof.Proof.StepState
public import proofs.«01_k».proof.Proof.StepRef
public import Idealize.ShloMosaic.Lib.Pipeline.ValueKit.Geometry
public import Idealize.ShloMosaic.Lib.Pipeline.ValueKit.Partial

@[expose] public section

set_option maxRecDepth 16384

noncomputable section

namespace Cert.Step

open Cert.KernelStepIdeal Cert.KernelStepIdeal.Gen Cert.KernelStepIdeal.Value Cert.Common Idealize.ShloMosaic Idealize.ShloMosaic.TcCoe Idealize.SL.Sem

/-- The kernel's convolution of a window. -/
theorem pay4_apply (w : Vec Ideal S4x6144 .f32) (x : Vec Ideal S1x1x6144 .f32) (s : Vec Ideal S1x3x6144 .f32) (b : Vec Ideal S1x6144 .f32) (j : Fin 6144) :
    k0_pay4 w x s b (ix2 0 j) = b (ix2 0 j) + (s (ix3 0 0 j) * w (ix2 0 j) + s (ix3 0 1 j) * w (ix2 1 j) + s (ix3 0 2 j) * w (ix2 2 j) + x (ix3 0 0 j) * w (ix2 3 j)) := by
  pointwise [k0_pay4, k0_pay3, k0_pay2]
  rw [add_assoc, add_assoc, add_assoc]
  refine congrArg (_ + ·) ?_
  rw [add_comm (x (ix3 0 0 j) * w (ix2 3 j)), ← add_assoc]

/-- The kernel's gate. -/
theorem pay9_apply (u : FVec Ideal S1x6144 .f32) (w : Vec Ideal S4x6144 .f32) (x : Vec Ideal S1x1x6144 .f32) (s : Vec Ideal S1x3x6144 .f32) (b : Vec Ideal S1x6144 .f32) (j : Fin 6144) :
    k0_pay9 u (k0_pay8 w x s b) (ix2 0 j) = u (ix2 0 j) * gate (k0_pay4 w x s b (ix2 0 j)) := by
  rw [← gate_sub]
  pointwise [k0_pay9, k0_pay8]

/-- The kernel's scaled inputs. -/
theorem pay10_apply (u v : FVec Ideal S1x6144 .f32) (a : Vec Ideal S1x1x4096 .f32) (b : Vec Ideal S1x4096 .f32) (k : Fin 4096) :
    k0_pay10 u v a b (ix2 0 k) = k0_pay9 u v (ix2 0 ⟨k.val, by omega⟩) * softAt (a (ix3 0 0 k) + b (ix2 0 k)) := by
  rw [softAt, ← zero_sub]
  pointwise [k0_pay10]

/-- The kernel's time steps. -/
theorem pay14_apply (a : Vec Ideal S1x1x64 .f32) (b : Vec Ideal S1x64 .f32) (h : Fin 64) :
    k0_pay14 a b (ix2 0 h) = softAt (a (ix3 0 0 h) + b (ix2 0 h)) := by
  rw [softAt, ← zero_sub]
  pointwise [k0_pay14]

/-- The kernel's rates. -/
theorem pay15_apply (a : Vec Ideal S1x64 .f32) (h : Fin 64) : k0_pay15 a (ix2 0 h) = Ideal.exp (a (ix2 0 h)) := by
  pointwise [k0_pay15]

variable (m : (ℓ : Loc nD τ sig) → Buf (Elt Ideal) ℓ)

/-- The new columns as the call reads them. -/
theorem V_new (c : Dev nD) (p : Fin 128) (j : Fin 6144) : V m c main_v0 (ix3 p 0 j) = m ((c : Thread nD τ).loc main_arg0) (ix2 p j) := by
  unfold V hostOps0
  after_results
  pointwise

/-- The raw time steps as the call reads them. -/
theorem V_step (c : Dev nD) (p : Fin 128) (h : Fin 64) : V m c main_v9 (ix3 p 0 h) = m ((c : Thread nD τ).loc main_arg5) (ix2 p h) := by
  unfold V hostOps0
  after_results
  pointwise

/-- The raw time steps, repeated over a head's rows. -/
theorem V_stepx (c : Dev nD) (p : Fin 128) (k : Fin 4096) :
    V m c main_v12 (ix3 p 0 k) = m ((c : Thread nD τ).loc main_arg5) (ix2 p ⟨k.val / 64, by omega⟩) := by
  unfold V hostOps0
  after_results
  pointwise

/-- The convolution's bias as the call reads it. -/
theorem V_bias (c : Dev nD) (j : Fin 6144) : V m c main_v13 (ix2 0 j) = m ((c : Thread nD τ).loc main_arg7) (ix1 j) := by
  unfold V hostOps0
  after_results
  pointwise

/-- The time steps' bias as the call reads it. -/
theorem V_dtb (c : Dev nD) (h : Fin 64) : V m c main_v20 (ix2 0 h) = m ((c : Thread nD τ).loc main_arg8) (ix1 h) := by
  unfold V hostOps0
  after_results
  pointwise

/-- The time steps' bias, repeated over a head's rows. -/
theorem V_dtbx (c : Dev nD) (k : Fin 4096) : V m c main_v23 (ix2 0 k) = m ((c : Thread nD τ).loc main_arg8) (ix1 ⟨k.val / 64, by omega⟩) := by
  unfold V hostOps0
  after_results
  pointwise

/-- The rates' logarithms as the call reads them. -/
theorem V_alog (c : Dev nD) (h : Fin 64) : V m c main_v24 (ix2 0 h) = m ((c : Thread nD τ).loc main_arg9) (ix1 h) := by
  unfold V hostOps0
  after_results
  pointwise

/-- Where the blocks of the new columns lie. -/
theorem idx0 : ∀ t : Fin cfg0.N, win0_0.index t = ![(grid0.coords t 0).val, 0, 0] := (by decide +kernel : ∀ t : Fin grid0.N, _)
/-- Where the blocks of the windows lie. -/
theorem idx1 : ∀ t : Fin cfg0.N, win0_1.index t = ![(grid0.coords t 0).val, 0, 0] := (by decide +kernel : ∀ t : Fin grid0.N, _)
/-- Where the blocks of the states lie. -/
theorem idx4 : ∀ t : Fin cfg0.N, win0_4.index t = ![0, (grid0.coords t 0).val, 0, 0] := (by decide +kernel : ∀ t : Fin grid0.N, _)
/-- Where the blocks of the time steps lie. -/
theorem idx6 : ∀ t : Fin cfg0.N, win0_6.index t = ![(grid0.coords t 0).val, 0, 0] := (by decide +kernel : ∀ t : Fin grid0.N, _)
/-- Where the blocks of the repeated time steps lie. -/
theorem idx7 : ∀ t : Fin cfg0.N, win0_7.index t = ![(grid0.coords t 0).val, 0, 0] := (by decide +kernel : ∀ t : Fin grid0.N, _)
/-- Where the blocks of the convolution's weights lie. -/
theorem idx8 : ∀ t : Fin cfg0.N, win0_8.index t = ![0, 0] := (by decide +kernel : ∀ t : Fin grid0.N, _)
/-- Where the blocks of the convolution's bias lie. -/
theorem idx9 : ∀ t : Fin cfg0.N, win0_9.index t = ![0, 0] := (by decide +kernel : ∀ t : Fin grid0.N, _)
/-- Where the blocks of the time steps' bias lie. -/
theorem idx12 : ∀ t : Fin cfg0.N, win0_12.index t = ![0, 0] := (by decide +kernel : ∀ t : Fin grid0.N, _)
/-- Where the blocks of the repeated bias lie. -/
theorem idx13 : ∀ t : Fin cfg0.N, win0_13.index t = ![0, 0] := (by decide +kernel : ∀ t : Fin grid0.N, _)
/-- Where the blocks of the rates' logarithms lie. -/
theorem idx14 : ∀ t : Fin cfg0.N, win0_14.index t = ![0, 0] := (by decide +kernel : ∀ t : Fin grid0.N, _)
/-- Where the blocks of the new windows lie. -/
theorem idx18 : ∀ t : Fin cfg0.N, win0_18.index t = ![(grid0.coords t 0).val, 0, 0] := (by decide +kernel : ∀ t : Fin grid0.N, _)
/-- Where the blocks of the new states lie. -/
theorem idx19 : ∀ t : Fin cfg0.N, win0_19.index t = ![0, (grid0.coords t 0).val, 0, 0] := (by decide +kernel : ∀ t : Fin grid0.N, _)

/-- The staged new columns. -/
theorem iblk0_apply (c : Dev nD) (t : Fin cfg0.N) (j : Fin 6144) : iblk m c 0 t (ix3 0 0 j) = m ((c : Thread nD τ).loc main_arg0) (ix2 ⟨(grid0.coords t 0).val, (grid0.coords t 0).isLt⟩ j) := by
  rw [← V_new m c]
  blk_simp [iblk, idx0]
  refine congrArg (V m c main_v0) ?_
  blk_ext [idx0]

/-- The staged windows. -/
theorem iblk1_apply (c : Dev nD) (t : Fin cfg0.N) (k : Fin 3) (j : Fin 6144) : iblk m c 1 t (ix3 0 k j) = m ((c : Thread nD τ).loc main_arg1) (ix3 ⟨(grid0.coords t 0).val, (grid0.coords t 0).isLt⟩ k j) := by
  rw [← V_main_arg1 m c]
  blk_simp [iblk, idx1]
  refine congrArg (V m c main_arg1) ?_
  blk_ext [idx1]

/-- The staged states. -/
theorem iblk4_apply (c : Dev nD) (t : Fin cfg0.N) (k : Fin 4096) (d : Fin 128) : iblk m c 4 t (ix4 0 0 k d) = m ((c : Thread nD τ).loc main_arg2) (ix4 0 ⟨(grid0.coords t 0).val, (grid0.coords t 0).isLt⟩ k d) := by
  rw [← V_main_arg2 m c]
  blk_simp [iblk, idx4]
  refine congrArg (V m c main_arg2) ?_
  blk_ext [idx4]

/-- The staged time steps. -/
theorem iblk6_apply (c : Dev nD) (t : Fin cfg0.N) (h : Fin 64) : iblk m c 6 t (ix3 0 0 h) = m ((c : Thread nD τ).loc main_arg5) (ix2 ⟨(grid0.coords t 0).val, (grid0.coords t 0).isLt⟩ h) := by
  rw [← V_step m c]
  blk_simp [iblk, idx6]
  refine congrArg (V m c main_v9) ?_
  blk_ext [idx6]

/-- The staged repeated time steps. -/
theorem iblk7_apply (c : Dev nD) (t : Fin cfg0.N) (k : Fin 4096) : iblk m c 7 t (ix3 0 0 k) = m ((c : Thread nD τ).loc main_arg5) (ix2 ⟨(grid0.coords t 0).val, (grid0.coords t 0).isLt⟩ ⟨k.val / 64, by omega⟩) := by
  rw [← V_stepx m c]
  blk_simp [iblk, idx7]
  refine congrArg (V m c main_v12) ?_
  blk_ext [idx7]

/-- The staged convolution's weights. -/
theorem iblk8_apply (c : Dev nD) (t : Fin cfg0.N) (q : Fin 4) (j : Fin 6144) : iblk m c 8 t (ix2 q j) = m ((c : Thread nD τ).loc main_arg6) (ix2 q j) := by
  rw [← V_main_arg6 m c]
  blk_simp [iblk, idx8]
  refine congrArg (V m c main_arg6) ?_
  blk_ext [idx8]

/-- The staged convolution's bias. -/
theorem iblk9_apply (c : Dev nD) (t : Fin cfg0.N) (j : Fin 6144) : iblk m c 9 t (ix2 0 j) = m ((c : Thread nD τ).loc main_arg7) (ix1 j) := by
  rw [← V_bias m c]
  blk_simp [iblk, idx9]
  refine congrArg (V m c main_v13) ?_
  blk_ext [idx9]

/-- The staged time steps' bias. -/
theorem iblk12_apply (c : Dev nD) (t : Fin cfg0.N) (h : Fin 64) : iblk m c 12 t (ix2 0 h) = m ((c : Thread nD τ).loc main_arg8) (ix1 h) := by
  rw [← V_dtb m c]
  blk_simp [iblk, idx12]
  refine congrArg (V m c main_v20) ?_
  blk_ext [idx12]

/-- The staged repeated bias. -/
theorem iblk13_apply (c : Dev nD) (t : Fin cfg0.N) (k : Fin 4096) : iblk m c 13 t (ix2 0 k) = m ((c : Thread nD τ).loc main_arg8) (ix1 ⟨k.val / 64, by omega⟩) := by
  rw [← V_dtbx m c]
  blk_simp [iblk, idx13]
  refine congrArg (V m c main_v23) ?_
  blk_ext [idx13]

/-- The staged rates' logarithms. -/
theorem iblk14_apply (c : Dev nD) (t : Fin cfg0.N) (h : Fin 64) : iblk m c 14 t (ix2 0 h) = m ((c : Thread nD τ).loc main_arg9) (ix1 h) := by
  rw [← V_alog m c]
  blk_simp [iblk, idx14]
  refine congrArg (V m c main_v24) ?_
  blk_ext [idx14]

/-- The convolution of a sample's window is the reference's. -/
theorem conv_eq (c : Dev nD) (t : Fin cfg0.N) (j : Fin 6144) :
    convB m c t (ix2 0 j) = convAt (m ((c : Thread nD τ).loc main_arg0)) (m ((c : Thread nD τ).loc main_arg1)) (m ((c : Thread nD τ).loc main_arg6)) (m ((c : Thread nD τ).loc main_arg7)) ⟨(grid0.coords t 0).val, (grid0.coords t 0).isLt⟩ j := by
  unfold convB convAt
  rw [pay4_apply, iblk0_apply, iblk1_apply, iblk1_apply, iblk1_apply, iblk8_apply, iblk8_apply, iblk8_apply, iblk8_apply, iblk9_apply]

/-- The gated convolution is the reference's. -/
theorem gated_eq (c : Dev nD) (t : Fin cfg0.N) (j : Fin 6144) :
    gatedB m c t (ix2 0 j) = gatedAt (m ((c : Thread nD τ).loc main_arg0)) (m ((c : Thread nD τ).loc main_arg1)) (m ((c : Thread nD τ).loc main_arg6)) (m ((c : Thread nD τ).loc main_arg7)) ⟨(grid0.coords t 0).val, (grid0.coords t 0).isLt⟩ j := by
  unfold gatedB gatedAt
  rw [pay9_apply, ← conv_eq m c t j]
  rfl

/-- The scaled inputs are the reference's. -/
theorem input_eq (c : Dev nD) (t : Fin cfg0.N) (k : Fin 4096) :
    inputB m c t (ix2 0 k) = gatedAt (m ((c : Thread nD τ).loc main_arg0)) (m ((c : Thread nD τ).loc main_arg1)) (m ((c : Thread nD τ).loc main_arg6)) (m ((c : Thread nD τ).loc main_arg7)) ⟨(grid0.coords t 0).val, (grid0.coords t 0).isLt⟩ ⟨k.val, by omega⟩
      * softAt (HAdd.hAdd (α := EReal) (β := EReal) (γ := EReal) (m ((c : Thread nD τ).loc main_arg5) (ix2 ⟨(grid0.coords t 0).val, (grid0.coords t 0).isLt⟩ ⟨k.val / 64, by omega⟩)) (m ((c : Thread nD τ).loc main_arg8) (ix1 ⟨k.val / 64, by omega⟩))) := by
  rw [← gated_eq m c t]
  unfold inputB gatedB
  rw [pay10_apply, iblk7_apply, iblk13_apply]

/-- A sample's new state is the reference's. -/
theorem new_eq (c : Dev nD) (t : Fin cfg0.N) (k : Fin 4096) (d : Fin 128) :
    (outsAt0 m c t).2.1 (ix4 0 0 k d) = newRef (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) ⟨(grid0.coords t 0).val, (grid0.coords t 0).isLt⟩ k d := by
  rw [s19, newAt, newRef, iblk4_apply, input_eq, gated_eq]
  unfold stepB rateB
  rw [pay14_apply, pay15_apply, iblk6_apply, iblk12_apply, iblk14_apply, zero_sub]

/-- The stack's buffer starts as the stack the call is given. -/
theorem V_stack (c : Dev nD) : V m c main_v28_1 = m ((c : Thread nD τ).loc main_arg3) := by
  unfold V hostOps0
  after_results
  rfl

/-- A window index is its three coordinates. -/
theorem eta3w (y : S1x3x6144.Idx) : y = ix3 0 (⟨(y 1).val, (y 1).isLt⟩ : Fin 3) (⟨(y 2).val, (y 2).isLt⟩ : Fin 6144) :=
  funext fun a => Fin.ext (match a with | ⟨0, _⟩ => Nat.lt_one_iff.mp (y 0).isLt | ⟨1, _⟩ => rfl | ⟨2, _⟩ => rfl)

/-- A state index is its four coordinates. -/
theorem eta4s (y : S1x1x4096x128.Idx) : y = ix4 0 0 (⟨(y 2).val, (y 2).isLt⟩ : Fin 4096) (⟨(y 3).val, (y 3).isLt⟩ : Fin 128) :=
  funext fun a => Fin.ext (match a with | ⟨0, _⟩ => Nat.lt_one_iff.mp (y 0).isLt | ⟨1, _⟩ => Nat.lt_one_iff.mp (y 1).isLt | ⟨2, _⟩ => rfl | ⟨3, _⟩ => rfl)

/-- A stack index is its four coordinates. -/
theorem eta4 (y : S4x128x4096x128.Idx) :
    y = ix4 (⟨(y 0).val, (y 0).isLt⟩ : Fin 4) (⟨(y 1).val, (y 1).isLt⟩ : Fin 128) (⟨(y 2).val, (y 2).isLt⟩ : Fin 4096) (⟨(y 3).val, (y 3).isLt⟩ : Fin 128) :=
  funext fun a => match a with | ⟨0, _⟩ => rfl | ⟨1, _⟩ => rfl | ⟨2, _⟩ => rfl | ⟨3, _⟩ => rfl

/-- The windows after the run are the reference's. -/
theorem final_window (c : Dev nD) : (dats m 0 c).arrAt 18 cfg0.N
    = Cert.ReferenceStepIdeal.Read.val_main_v44 (F := Ideal) (m ((c : Thread nD τ).loc main_arg0)) (m ((c : Thread nD τ).loc main_arg1)) := by
  refine (dats m 0 c).arrAt_eq_of_covers 18 _ (by decide +kernel) fun t hf y => ?_
  blk_simp
  rw [after0_18]
  rw [eta3w y]
  have he : ((View.whole main_v28_0).slice (win0_18.rect t)).emb (ix3 0 (⟨(y 1).val, (y 1).isLt⟩ : Fin 3) (⟨(y 2).val, (y 2).isLt⟩ : Fin 6144))
      = (ix3 (⟨(grid0.coords t 0).val, (grid0.coords t 0).isLt⟩ : Fin 128) (⟨(y 1).val, (y 1).isLt⟩ : Fin 3) (⟨(y 2).val, (y 2).isLt⟩ : Fin 6144) : S128x3x6144.Idx) := by
    blk_ext [idx18]
  rw [he, window_ref]
  refine (s18 m c t _ _).trans ?_
  rw [iblk0_apply]
  refine dite_congr rfl (fun h => ?_) fun h => rfl
  exact iblk1_apply m c t _ _

/-- The stack of states after the run is the reference's. -/
theorem final_stack (c : Dev nD) : (dats m 0 c).arrAt 19 cfg0.N
    = Cert.ReferenceStepIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  have h := (dats m 0 c).arrAt_eq_of_coversWhere (P := fun i => (i (0 : Fin 4)).val / 1 = 0) 19
    (Cert.ReferenceStepIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)))
    (fun β => β (0 : Fin _) = 0) (by decide +kernel) (fun t hf y => by
      blk_simp
      rw [after0_19]
      rw [eta4s y]
      have he : ((View.whole main_v28_1).slice (win0_19.rect t)).emb (ix4 0 0 (⟨(y 2).val, (y 2).isLt⟩ : Fin 4096) (⟨(y 3).val, (y 3).isLt⟩ : Fin 128))
          = (ix4 0 (⟨(grid0.coords t 0).val, (grid0.coords t 0).isLt⟩ : Fin 128) (⟨(y 2).val, (y 2).isLt⟩ : Fin 4096) (⟨(y 3).val, (y 3).isLt⟩ : Fin 128) : S4x128x4096x128.Idx) := by
        blk_ext [idx19]
      rw [he, stack_ref]
      exact (new_eq m c t _ _).trans (if_pos rfl).symm) (fun j => Iff.rfl)
  refine h.trans (funext fun i => ?_)
  split
  · rfl
  · rename_i hn
    refine (congrFun (V_stack m c) i).trans ?_
    rw [eta4 i, stack_ref]
    exact (if_neg fun h0 => hn (by show (i 0).val / 1 = 0; have : (i 0).val = 0 := h0; omega)).symm

/-- The call and its reference end with the same stack of states and the same windows. -/
theorem value : algebraic_KernelStepIdeal_ReferenceStepIdeal := fun m ρ m' ρ' _ hag =>
  ⟨fun c => Cert.ReferenceStepIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)),
    fun c => Cert.ReferenceStepIdeal.Read.val_main_v44 (F := Ideal) (m ((c : Thread nD τ).loc main_arg0)) (m ((c : Thread nD τ).loc main_arg1)),
    (θ_run _ _ _).mono (fun _ h c => ⟨(h c).2.1.trans (final_stack m c), (h c).1.trans (final_window m c), (h c).2.2.2⟩) (run_blocks m ρ),
    (θ_run _ _ _).mono (fun _ h c => ⟨(h c).1.trans ((Cert.ReferenceStepIdeal.Read.val_main_v43_eq m' c).trans
        (by rw [(hag c).1, (hag c).2.1, (hag c).2.2.1, (hag c).2.2.2.1, (hag c).2.2.2.2.2.1, (hag c).2.2.2.2.2.2.1, (hag c).2.2.2.2.2.2.2.1, (hag c).2.2.2.2.2.2.2.2.1, (hag c).2.2.2.2.2.2.2.2.2.1])),
      (h c).2.1.trans ((Cert.ReferenceStepIdeal.Read.val_main_v44_eq _ _).trans (by rw [(hag c).1, (hag c).2.1])), (h c).2.2⟩)
      (Cert.ReferenceStepIdeal.Value.run m' ρ')⟩

end Cert.Step

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.Gen.KernelInA.Frame
public import proofs.«01_k».proof.Proof.Gen.KernelInAIdeal.Frame
public import proofs.«01_k».proof.Proof.InA
public import proofs.«01_k».proof.Proof.Gen.KernelInZ.Frame
public import proofs.«01_k».proof.Proof.Gen.KernelInZIdeal.Frame
public import proofs.«01_k».proof.Proof.InZ
public import proofs.«01_k».proof.Proof.Gen.KernelInG.Frame
public import proofs.«01_k».proof.Proof.Gen.KernelInGIdeal.Frame
public import proofs.«01_k».proof.Proof.InG
public import proofs.«01_k».proof.Proof.Gen.KernelSsdO.Frame
public import proofs.«01_k».proof.Proof.Gen.KernelSsdOIdeal.Frame
public import proofs.«01_k».proof.Proof.SsdO
public import proofs.«01_k».proof.Proof.Gen.KernelMlaO.Frame
public import proofs.«01_k».proof.Proof.Gen.KernelMlaOIdeal.Frame
public import proofs.«01_k».proof.Proof.MlaO
public import proofs.«01_k».proof.Proof.Gen.KernelOut.Frame
public import proofs.«01_k».proof.Proof.Gen.KernelOutIdeal.Frame
public import proofs.«01_k».proof.Proof.Out
public import proofs.«01_k».proof.Proof.Gen.KernelGelu.Frame
public import proofs.«01_k».proof.Proof.Gen.KernelGeluIdeal.Frame
public import proofs.«01_k».proof.Proof.Gelu
public import proofs.«01_k».proof.Proof.Gen.KernelPle.Frame
public import proofs.«01_k».proof.Proof.Gen.KernelPleIdeal.Frame
public import proofs.«01_k».proof.Proof.Ple
public import proofs.«01_k».proof.Proof.Gen.KernelQ.Frame
public import proofs.«01_k».proof.Proof.Gen.KernelQIdeal.Frame
public import proofs.«01_k».proof.Proof.Q
public import proofs.«01_k».proof.Proof.Gen.KernelKcat.Frame
public import proofs.«01_k».proof.Proof.Gen.KernelKcatIdeal.Frame
public import proofs.«01_k».proof.Proof.Kcat
public import proofs.«01_k».proof.Proof.Gen.KernelV.Frame
public import proofs.«01_k».proof.Proof.Gen.KernelVIdeal.Frame
public import proofs.«01_k».proof.Proof.V
public import proofs.«01_k».proof.Proof.Gen.KernelFinal.Frame
public import proofs.«01_k».proof.Proof.Gen.KernelFinalIdeal.Frame
public import proofs.«01_k».proof.Proof.Final
public import proofs.«01_k».proof.Proof.Gen.KernelFinalS.Frame
public import proofs.«01_k».proof.Proof.Gen.KernelFinalSIdeal.Frame
public import proofs.«01_k».proof.Proof.FinalS
public import proofs.«01_k».proof.Proof.Gen.KernelNorm.Frame
public import proofs.«01_k».proof.Proof.Gen.KernelNormIdeal.Frame
public import proofs.«01_k».proof.Proof.Norm
public import proofs.«01_k».proof.Proof.Gen.KernelMid.Frame
public import proofs.«01_k».proof.Proof.Gen.KernelMidIdeal.Frame
public import proofs.«01_k».proof.Proof.Mid
public import proofs.«01_k».proof.Proof.Gen.KernelMidS.Frame
public import proofs.«01_k».proof.Proof.Gen.KernelMidSIdeal.Frame
public import proofs.«01_k».proof.Proof.MidS
public import proofs.«01_k».proof.Proof.Gen.KernelStep.Frame
public import proofs.«01_k».proof.Proof.Gen.KernelStepIdeal.Frame
public import proofs.«01_k».proof.Proof.Step
public import Idealize.ShloMosaic.Adequacy
public import Idealize.ShloMosaic.Init

@[expose] public section

noncomputable section

namespace Cert.Proof

open Idealize.ShloMosaic Idealize.SL.Sem Cert.Kernel

/-- The attention call: kernel and reference end with the same result. -/
theorem attention : algebraic_KernelIdeal_ReferenceIdeal_pre_finite_scores := fun m ρ m' ρ' hpre hag =>
  ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run _ _ _).mono (fun _ h c => ⟨(h c).1.trans ((Cert.Attn.final4 m c).trans
        (by rw [Cert.KernelIdeal.Gen.V_main_arg0, Cert.KernelIdeal.Gen.V_main_arg1, Cert.KernelIdeal.Gen.V_main_arg2, Cert.KernelIdeal.Gen.V_main_arg3])), (h c).2⟩)
      (Cert.KernelIdeal.Value.run_blocks m ρ),
    (θ_run _ _ _).mono (fun _ h c => ⟨(h c).1.trans ((Cert.ReferenceIdeal.Read.val_main_v31_eq m' c).trans
        (by
          rw [(hag c).1, (hag c).2.1, (hag c).2.2.1, (hag c).2.2.2]
          exact (Cert.Attn.G_eq _ _ _ _ (Cert.Attn.real_q _ _ _ _ (hpre c).1) (Cert.Attn.real_k _ _ _ _ (hpre c).2)).symm)), (h c).2⟩)
      (Cert.ReferenceIdeal.Value.run m' ρ')⟩

/-- The attention's reference runs and leaves its arguments; it declares no semaphore. -/
theorem frame_reference : quiescent_ReferenceIdeal := fun m ρ _ =>
  (θ_run _ _ _).mono (fun r h => ⟨fun c => (h c).2, sem_eq_zero_of_no_sems (by decide) r.2⟩) (Cert.ReferenceIdeal.Value.run (F := Ideal) m ρ)

/-- The reference of InA runs and leaves its arguments; it declares no semaphore. -/
theorem frame_referenceInA : quiescent_ReferenceInAIdeal := fun m ρ _ =>
  (θ_run _ _ _).mono (fun r h => ⟨fun c => (h c).2, sem_eq_zero_of_no_sems (by decide) r.2⟩) (Cert.ReferenceInAIdeal.Value.run (F := Ideal) m ρ)

/-- The reference of InZ runs and leaves its arguments; it declares no semaphore. -/
theorem frame_referenceInZ : quiescent_ReferenceInZIdeal := fun m ρ _ =>
  (θ_run _ _ _).mono (fun r h => ⟨fun c => (h c).2, sem_eq_zero_of_no_sems (by decide) r.2⟩) (Cert.ReferenceInZIdeal.Value.run (F := Ideal) m ρ)

/-- The reference of InG runs and leaves its arguments; it declares no semaphore. -/
theorem frame_referenceInG : quiescent_ReferenceInGIdeal := fun m ρ _ =>
  (θ_run _ _ _).mono (fun r h => ⟨fun c => (h c).2, sem_eq_zero_of_no_sems (by decide) r.2⟩) (Cert.ReferenceInGIdeal.Value.run (F := Ideal) m ρ)

/-- The reference of SsdO runs and leaves its arguments; it declares no semaphore. -/
theorem frame_referenceSsdO : quiescent_ReferenceSsdOIdeal := fun m ρ _ =>
  (θ_run _ _ _).mono (fun r h => ⟨fun c => (h c).2, sem_eq_zero_of_no_sems (by decide) r.2⟩) (Cert.ReferenceSsdOIdeal.Value.run (F := Ideal) m ρ)

/-- The reference of MlaO runs and leaves its arguments; it declares no semaphore. -/
theorem frame_referenceMlaO : quiescent_ReferenceMlaOIdeal := fun m ρ _ =>
  (θ_run _ _ _).mono (fun r h => ⟨fun c => (h c).2, sem_eq_zero_of_no_sems (by decide) r.2⟩) (Cert.ReferenceMlaOIdeal.Value.run (F := Ideal) m ρ)

/-- The reference of Out runs and leaves its arguments; it declares no semaphore. -/
theorem frame_referenceOut : quiescent_ReferenceOutIdeal := fun m ρ _ =>
  (θ_run _ _ _).mono (fun r h => ⟨fun c => (h c).2, sem_eq_zero_of_no_sems (by decide) r.2⟩) (Cert.ReferenceOutIdeal.Value.run (F := Ideal) m ρ)

/-- The reference of Gelu runs and leaves its arguments; it declares no semaphore. -/
theorem frame_referenceGelu : quiescent_ReferenceGeluIdeal := fun m ρ _ =>
  (θ_run _ _ _).mono (fun r h => ⟨fun c => (h c).2, sem_eq_zero_of_no_sems (by decide) r.2⟩) (Cert.ReferenceGeluIdeal.Value.run (F := Ideal) m ρ)

/-- The reference of Ple runs and leaves its arguments; it declares no semaphore. -/
theorem frame_referencePle : quiescent_ReferencePleIdeal := fun m ρ _ =>
  (θ_run _ _ _).mono (fun r h => ⟨fun c => (h c).2, sem_eq_zero_of_no_sems (by decide) r.2⟩) (Cert.ReferencePleIdeal.Value.run (F := Ideal) m ρ)

/-- The reference of Q runs and leaves its arguments; it declares no semaphore. -/
theorem frame_referenceQ : quiescent_ReferenceQIdeal := fun m ρ _ =>
  (θ_run _ _ _).mono (fun r h => ⟨fun c => (h c).2, sem_eq_zero_of_no_sems (by decide) r.2⟩) (Cert.ReferenceQIdeal.Value.run (F := Ideal) m ρ)

/-- The reference of Kcat runs and leaves its arguments; it declares no semaphore. -/
theorem frame_referenceKcat : quiescent_ReferenceKcatIdeal := fun m ρ _ =>
  (θ_run _ _ _).mono (fun r h => ⟨fun c => (h c).2, sem_eq_zero_of_no_sems (by decide) r.2⟩) (Cert.ReferenceKcatIdeal.Value.run (F := Ideal) m ρ)

/-- The reference of V runs and leaves its arguments; it declares no semaphore. -/
theorem frame_referenceV : quiescent_ReferenceVIdeal := fun m ρ _ =>
  (θ_run _ _ _).mono (fun r h => ⟨fun c => (h c).2, sem_eq_zero_of_no_sems (by decide) r.2⟩) (Cert.ReferenceVIdeal.Value.run (F := Ideal) m ρ)

/-- The reference of Final runs and leaves its arguments; it declares no semaphore. -/
theorem frame_referenceFinal : quiescent_ReferenceFinalIdeal := fun m ρ _ =>
  (θ_run _ _ _).mono (fun r h => ⟨fun c => (h c).2, sem_eq_zero_of_no_sems (by decide) r.2⟩) (Cert.ReferenceFinalIdeal.Value.run (F := Ideal) m ρ)

/-- The reference of FinalS runs and leaves its arguments; it declares no semaphore. -/
theorem frame_referenceFinalS : quiescent_ReferenceFinalSIdeal := fun m ρ _ =>
  (θ_run _ _ _).mono (fun r h => ⟨fun c => (h c).2, sem_eq_zero_of_no_sems (by decide) r.2⟩) (Cert.ReferenceFinalSIdeal.Value.run (F := Ideal) m ρ)

/-- The reference of Norm runs and leaves its arguments; it declares no semaphore. -/
theorem frame_referenceNorm : quiescent_ReferenceNormIdeal := fun m ρ _ =>
  (θ_run _ _ _).mono (fun r h => ⟨fun c => (h c).2, sem_eq_zero_of_no_sems (by decide) r.2⟩) (Cert.ReferenceNormIdeal.Value.run (F := Ideal) m ρ)

/-- The reference of Mid runs and leaves its arguments; it declares no semaphore. -/
theorem frame_referenceMid : quiescent_ReferenceMidIdeal := fun m ρ _ =>
  (θ_run _ _ _).mono (fun r h => ⟨fun c => (h c).2.2.2.2.2.2, sem_eq_zero_of_no_sems (by decide) r.2⟩) (Cert.ReferenceMidIdeal.Value.run (F := Ideal) m ρ)

/-- The reference of MidS runs and leaves its arguments; it declares no semaphore. -/
theorem frame_referenceMidS : quiescent_ReferenceMidSIdeal := fun m ρ _ =>
  (θ_run _ _ _).mono (fun r h => ⟨fun c => (h c).2.2.2.2.2.2, sem_eq_zero_of_no_sems (by decide) r.2⟩) (Cert.ReferenceMidSIdeal.Value.run (F := Ideal) m ρ)

/-- The reference of Step runs and leaves its arguments; it declares no semaphore. -/
theorem frame_referenceStep : quiescent_ReferenceStepIdeal := fun m ρ _ =>
  (θ_run _ _ _).mono (fun r h => ⟨fun c => (h c).2.2, sem_eq_zero_of_no_sems (by decide) r.2⟩) (Cert.ReferenceStepIdeal.Value.run (F := Ideal) m ρ)

/-- Everything the certificate claims. -/
theorem claim : Cert.Claim := ⟨Cert.Kernel.Gen.facts, Cert.KernelIdeal.Gen.facts, Cert.ReferenceIdeal.Gen.facts,
  Cert.KernelInA.Gen.facts, Cert.KernelInAIdeal.Gen.facts, Cert.ReferenceInAIdeal.Gen.facts,
  Cert.KernelInZ.Gen.facts, Cert.KernelInZIdeal.Gen.facts, Cert.ReferenceInZIdeal.Gen.facts,
  Cert.KernelInG.Gen.facts, Cert.KernelInGIdeal.Gen.facts, Cert.ReferenceInGIdeal.Gen.facts,
  Cert.KernelSsdO.Gen.facts, Cert.KernelSsdOIdeal.Gen.facts, Cert.ReferenceSsdOIdeal.Gen.facts,
  Cert.KernelMlaO.Gen.facts, Cert.KernelMlaOIdeal.Gen.facts, Cert.ReferenceMlaOIdeal.Gen.facts,
  Cert.KernelOut.Gen.facts, Cert.KernelOutIdeal.Gen.facts, Cert.ReferenceOutIdeal.Gen.facts,
  Cert.KernelGelu.Gen.facts, Cert.KernelGeluIdeal.Gen.facts, Cert.ReferenceGeluIdeal.Gen.facts,
  Cert.KernelPle.Gen.facts, Cert.KernelPleIdeal.Gen.facts, Cert.ReferencePleIdeal.Gen.facts,
  Cert.KernelQ.Gen.facts, Cert.KernelQIdeal.Gen.facts, Cert.ReferenceQIdeal.Gen.facts,
  Cert.KernelKcat.Gen.facts, Cert.KernelKcatIdeal.Gen.facts, Cert.ReferenceKcatIdeal.Gen.facts,
  Cert.KernelV.Gen.facts, Cert.KernelVIdeal.Gen.facts, Cert.ReferenceVIdeal.Gen.facts,
  Cert.KernelFinal.Gen.facts, Cert.KernelFinalIdeal.Gen.facts, Cert.ReferenceFinalIdeal.Gen.facts,
  Cert.KernelFinalS.Gen.facts, Cert.KernelFinalSIdeal.Gen.facts, Cert.ReferenceFinalSIdeal.Gen.facts,
  Cert.KernelNorm.Gen.facts, Cert.KernelNormIdeal.Gen.facts, Cert.ReferenceNormIdeal.Gen.facts,
  Cert.KernelMid.Gen.facts, Cert.KernelMidIdeal.Gen.facts, Cert.ReferenceMidIdeal.Gen.facts,
  Cert.KernelMidS.Gen.facts, Cert.KernelMidSIdeal.Gen.facts, Cert.ReferenceMidSIdeal.Gen.facts,
  Cert.KernelStep.Gen.facts, Cert.KernelStepIdeal.Gen.facts, Cert.ReferenceStepIdeal.Gen.facts,
  Cert.Attn.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.KernelInA.Gen.frame m ρ, fun m ρ _ => Cert.KernelInAIdeal.Gen.frame m ρ, frame_referenceInA,
  fun m ρ _ => Cert.KernelInZ.Gen.frame m ρ, fun m ρ _ => Cert.KernelInZIdeal.Gen.frame m ρ, frame_referenceInZ,
  fun m ρ _ => Cert.KernelInG.Gen.frame m ρ, fun m ρ _ => Cert.KernelInGIdeal.Gen.frame m ρ, frame_referenceInG,
  fun m ρ _ => Cert.KernelSsdO.Gen.frame m ρ, fun m ρ _ => Cert.KernelSsdOIdeal.Gen.frame m ρ, frame_referenceSsdO,
  fun m ρ _ => Cert.KernelMlaO.Gen.frame m ρ, fun m ρ _ => Cert.KernelMlaOIdeal.Gen.frame m ρ, frame_referenceMlaO,
  fun m ρ _ => Cert.KernelOut.Gen.frame m ρ, fun m ρ _ => Cert.KernelOutIdeal.Gen.frame m ρ, frame_referenceOut,
  fun m ρ _ => Cert.KernelGelu.Gen.frame m ρ, fun m ρ _ => Cert.KernelGeluIdeal.Gen.frame m ρ, frame_referenceGelu,
  fun m ρ _ => Cert.KernelPle.Gen.frame m ρ, fun m ρ _ => Cert.KernelPleIdeal.Gen.frame m ρ, frame_referencePle,
  fun m ρ _ => Cert.KernelQ.Gen.frame m ρ, fun m ρ _ => Cert.KernelQIdeal.Gen.frame m ρ, frame_referenceQ,
  fun m ρ _ => Cert.KernelKcat.Gen.frame m ρ, fun m ρ _ => Cert.KernelKcatIdeal.Gen.frame m ρ, frame_referenceKcat,
  fun m ρ _ => Cert.KernelV.Gen.frame m ρ, fun m ρ _ => Cert.KernelVIdeal.Gen.frame m ρ, frame_referenceV,
  fun m ρ _ => Cert.KernelFinal.Gen.frame m ρ, fun m ρ _ => Cert.KernelFinalIdeal.Gen.frame m ρ, frame_referenceFinal,
  fun m ρ _ => Cert.KernelFinalS.Gen.frame m ρ, fun m ρ _ => Cert.KernelFinalSIdeal.Gen.frame m ρ, frame_referenceFinalS,
  fun m ρ _ => Cert.KernelNorm.Gen.frame m ρ, fun m ρ _ => Cert.KernelNormIdeal.Gen.frame m ρ, frame_referenceNorm,
  fun m ρ _ => Cert.KernelMid.Gen.frame m ρ, fun m ρ _ => Cert.KernelMidIdeal.Gen.frame m ρ, frame_referenceMid,
  fun m ρ _ => Cert.KernelMidS.Gen.frame m ρ, fun m ρ _ => Cert.KernelMidSIdeal.Gen.frame m ρ, frame_referenceMidS,
  fun m ρ _ => Cert.KernelStep.Gen.frame m ρ, fun m ρ _ => Cert.KernelStepIdeal.Gen.frame m ρ, frame_referenceStep,
  trivial, attention, trivial, Cert.InA.value, trivial, Cert.InZ.value, trivial, Cert.InG.value, trivial, Cert.SsdO.value, trivial, Cert.MlaO.value, trivial, Cert.Out.value, trivial, Cert.Gelu.value, trivial, Cert.Ple.value, trivial, Cert.Q.value, trivial, Cert.Kcat.value, trivial, Cert.V.value, trivial, Cert.Final.value, trivial, Cert.FinalS.value, trivial, Cert.Norm.value, trivial, Cert.Mid.value, trivial, Cert.MidS.value, trivial, Cert.Step.value⟩

end Cert.Proof

end
